-- ==== Defs.lean ====
def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinIdeal_finite [hPre_finite : Cert.Pre_finite.Facts] (m : (ℓ : Loc Cert.WinIdeal.nD Cert.WinIdeal.τ Cert.WinIdeal.sig) → Buf (Elt Ideal) ℓ) : Prop :=
  ∀ c : Dev Cert.WinIdeal.nD,
    (Cert.Pre_finite.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2)) (m ((c.tc : Thread Cert.WinIdeal.nD Cert.WinIdeal.τ).loc Cert.WinIdeal.main_arg3)) (m ((c.tc : Thread Cert.WinIdeal.nD Cert.WinIdeal.τ).loc Cert.WinIdeal.main_arg4)) (m ((c.tc : Thread Cert.WinIdeal.nD Cert.WinIdeal.τ).loc Cert.WinIdeal.main_arg5))) = (fun _ => 1#1)

def Pre_WinRefIdeal (m : (ℓ : Loc Cert.WinRefIdeal.nD Cert.WinRefIdeal.τ Cert.WinRefIdeal.sig) → Buf (Elt Ideal) ℓ) : Prop :=
  True

def Pre_WinRefIdeal_finite [hPre_finite : Cert.Pre_finite.Facts] (m : (ℓ : Loc Cert.WinRefIdeal.nD Cert.WinRefIdeal.τ Cert.WinRefIdeal.sig) → Buf (Elt Ideal) ℓ) : Prop :=
  ∀ c : Dev Cert.WinRefIdeal.nD,
    (Cert.Pre_finite.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2)) (m ((c.tc : Thread Cert.WinRefIdeal.nD Cert.WinRefIdeal.τ).loc Cert.WinRefIdeal.main_arg3)) (m ((c.tc : Thread Cert.WinRefIdeal.nD Cert.WinRefIdeal.τ).loc Cert.WinRefIdeal.main_arg4)) (m ((c.tc : Thread Cert.WinRefIdeal.nD Cert.WinRefIdeal.τ).loc Cert.WinRefIdeal.main_arg5))) = (fun _ => 1#1)

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_ProjAttn (m : (ℓ : Loc Cert.ProjAttn.nD Cert.ProjAttn.τ Cert.ProjAttn.sig) → Buf (Elt Bits) ℓ) : Prop :=
  True

def Pre_ProjAttnIdeal (m : (ℓ : Loc Cert.ProjAttnIdeal.nD Cert.ProjAttnIdeal.τ Cert.ProjAttnIdeal.sig) → Buf (Elt Ideal) ℓ) : Prop :=
  True

def Pre_ProjAttnRefIdeal (m : (ℓ : Loc Cert.ProjAttnRefIdeal.nD Cert.ProjAttnRefIdeal.τ Cert.ProjAttnRefIdeal.sig) → Buf (Elt Ideal) ℓ) : Prop :=
  True

def Pre_ProjCmp (m : (ℓ : Loc Cert.ProjCmp.nD Cert.ProjCmp.τ Cert.ProjCmp.sig) → Buf (Elt Bits) ℓ) : Prop :=
  True

def Pre_ProjCmpIdeal (m : (ℓ : Loc Cert.ProjCmpIdeal.nD Cert.ProjCmpIdeal.τ Cert.ProjCmpIdeal.sig) → Buf (Elt Ideal) ℓ) : Prop :=
  True

def Pre_ProjCmpRefIdeal (m : (ℓ : Loc Cert.ProjCmpRefIdeal.nD Cert.ProjCmpRefIdeal.τ Cert.ProjCmpRefIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_LastNorm (m : (ℓ : Loc Cert.LastNorm.nD Cert.LastNorm.τ Cert.LastNorm.sig) → Buf (Elt Bits) ℓ) : Prop :=
  True

def Pre_LastNormIdeal (m : (ℓ : Loc Cert.LastNormIdeal.nD Cert.LastNormIdeal.τ Cert.LastNormIdeal.sig) → Buf (Elt Ideal) ℓ) : Prop :=
  True

def Pre_LastNormRefIdeal (m : (ℓ : Loc Cert.LastNormRefIdeal.nD Cert.LastNormRefIdeal.τ Cert.LastNormRefIdeal.sig) → Buf (Elt Ideal) ℓ) : Prop :=
  True

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormModRefIdeal (m : (ℓ : Loc Cert.NormModRefIdeal.nD Cert.NormModRefIdeal.τ Cert.NormModRefIdeal.sig) → Buf (Elt Ideal) ℓ) : Prop :=
  True

def Pre_ProjRest (m : (ℓ : Loc Cert.ProjRest.nD Cert.ProjRest.τ Cert.ProjRest.sig) → Buf (Elt Bits) ℓ) : Prop :=
  True

def Pre_ProjRestIdeal (m : (ℓ : Loc Cert.ProjRestIdeal.nD Cert.ProjRestIdeal.τ Cert.ProjRestIdeal.sig) → Buf (Elt Ideal) ℓ) : Prop :=
  True

def Pre_ProjRestRefIdeal (m : (ℓ : Loc Cert.ProjRestRefIdeal.nD Cert.ProjRestRefIdeal.τ Cert.ProjRestRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressRefIdeal (m : (ℓ : Loc Cert.CompressRefIdeal.nD Cert.CompressRefIdeal.τ Cert.CompressRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3)
      ∧ r.2.mem ((c.tc : Thread Cert.Win.nD Cert.Win.τ).loc Cert.Win.main_arg4) = m ((c.tc : Thread Cert.Win.nD Cert.Win.τ).loc Cert.Win.main_arg4)
      ∧ r.2.mem ((c.tc : Thread Cert.Win.nD Cert.Win.τ).loc Cert.Win.main_arg5) = m ((c.tc : Thread Cert.Win.nD Cert.Win.τ).loc Cert.Win.main_arg5))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
      ∧ r.2.mem ((c.tc : Thread Cert.WinIdeal.nD Cert.WinIdeal.τ).loc Cert.WinIdeal.main_arg5) = m ((c.tc : Thread Cert.WinIdeal.nD Cert.WinIdeal.τ).loc Cert.WinIdeal.main_arg5))
      ∧ r.2.sem = fun _ => 0)

def quiescent_WinIdeal_pre_finite [hWinIdeal : Cert.WinIdeal.Facts] [hPre_finite : Cert.Pre_finite.Facts] : Prop :=
  ∀ (m : (ℓ : Loc Cert.WinIdeal.nD Cert.WinIdeal.τ Cert.WinIdeal.sig) → Buf (Elt Ideal) ℓ) (g : Dev Cert.WinIdeal.nD → PrngReg), Pre_WinIdeal_finite m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
      ∧ r.2.mem ((c.tc : Thread Cert.WinIdeal.nD Cert.WinIdeal.τ).loc Cert.WinIdeal.main_arg5) = m ((c.tc : Thread Cert.WinIdeal.nD Cert.WinIdeal.τ).loc Cert.WinIdeal.main_arg5))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4)
      ∧ r.2.mem ((c.tc : Thread Cert.WinRefIdeal.nD Cert.WinRefIdeal.τ).loc Cert.WinRefIdeal.main_arg5) = m ((c.tc : Thread Cert.WinRefIdeal.nD Cert.WinRefIdeal.τ).loc Cert.WinRefIdeal.main_arg5))
      ∧ r.2.sem = fun _ => 0)

def quiescent_WinRefIdeal_pre_finite [hWinRefIdeal : Cert.WinRefIdeal.Facts] [hPre_finite : Cert.Pre_finite.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal_finite m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4)
      ∧ r.2.mem ((c.tc : Thread Cert.WinRefIdeal.nD Cert.WinRefIdeal.τ).loc Cert.WinRefIdeal.main_arg5) = m ((c.tc : Thread Cert.WinRefIdeal.nD Cert.WinRefIdeal.τ).loc Cert.WinRefIdeal.main_arg5))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1)
      ∧ r.2.mem ((c.tc : Thread Cert.MlpUp.nD Cert.MlpUp.τ).loc Cert.MlpUp.main_arg2) = m ((c.tc : Thread Cert.MlpUp.nD Cert.MlpUp.τ).loc Cert.MlpUp.main_arg2))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
      ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1)
      ∧ r.2.mem ((c.tc : Thread Cert.MlpUpRefIdeal.nD Cert.MlpUpRefIdeal.τ).loc Cert.MlpUpRefIdeal.main_arg2) = m ((c.tc : Thread Cert.MlpUpRefIdeal.nD Cert.MlpUpRefIdeal.τ).loc Cert.MlpUpRefIdeal.main_arg2))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2)
      ∧ r.2.mem ((c.tc : Thread Cert.MlpDownRefIdeal.nD Cert.MlpDownRefIdeal.τ).loc Cert.MlpDownRefIdeal.main_arg3) = m ((c.tc : Thread Cert.MlpDownRefIdeal.nD Cert.MlpDownRefIdeal.τ).loc Cert.MlpDownRefIdeal.main_arg3))
      ∧ r.2.sem = fun _ => 0)

def quiescent_ProjAttn [hProjAttn : Cert.ProjAttn.Facts] : Prop :=
  ∀ (m : (ℓ : Loc Cert.ProjAttn.nD Cert.ProjAttn.τ Cert.ProjAttn.sig) → Buf (Elt Bits) ℓ) (g : Dev Cert.ProjAttn.nD → PrngReg), Pre_ProjAttn m →
    θ_run (Cert.ProjAttn.defs (F := Bits)) (onTc (τ := Cert.ProjAttn.τ) (Cert.ProjAttn.main (F := Bits))) ⟨m, fun _ => 0, g⟩ (fun r => (∀ c : Dev Cert.ProjAttn.nD,
      r.2.mem ((c.tc : Thread Cert.ProjAttn.nD Cert.ProjAttn.τ).loc Cert.ProjAttn.main_arg0) = m ((c.tc : Thread Cert.ProjAttn.nD Cert.ProjAttn.τ).loc Cert.ProjAttn.main_arg0)
      ∧ r.2.mem ((c.tc : Thread Cert.ProjAttn.nD Cert.ProjAttn.τ).loc Cert.ProjAttn.main_arg1) = m ((c.tc : Thread Cert.ProjAttn.nD Cert.ProjAttn.τ).loc Cert.ProjAttn.main_arg1))
      ∧ r.2.sem = fun _ => 0)

def quiescent_ProjAttnIdeal [hProjAttnIdeal : Cert.ProjAttnIdeal.Facts] : Prop :=
  ∀ (m : (ℓ : Loc Cert.ProjAttnIdeal.nD Cert.ProjAttnIdeal.τ Cert.ProjAttnIdeal.sig) → Buf (Elt Ideal) ℓ) (g : Dev Cert.ProjAttnIdeal.nD → PrngReg), Pre_ProjAttnIdeal m →
    θ_run (Cert.ProjAttnIdeal.defs (F := Ideal)) (onTc (τ := Cert.ProjAttnIdeal.τ) (Cert.ProjAttnIdeal.main (F := Ideal))) ⟨m, fun _ => 0, g⟩ (fun r => (∀ c : Dev Cert.ProjAttnIdeal.nD,
      r.2.mem ((c.tc : Thread Cert.ProjAttnIdeal.nD Cert.ProjAttnIdeal.τ).loc Cert.ProjAttnIdeal.main_arg0) = m ((c.tc : Thread Cert.ProjAttnIdeal.nD Cert.ProjAttnIdeal.τ).loc Cert.ProjAttnIdeal.main_arg0)
      ∧ r.2.mem ((c.tc : Thread Cert.ProjAttnIdeal.nD Cert.ProjAttnIdeal.τ).loc Cert.ProjAttnIdeal.main_arg1) = m ((c.tc : Thread Cert.ProjAttnIdeal.nD Cert.ProjAttnIdeal.τ).loc Cert.ProjAttnIdeal.main_arg1))
      ∧ r.2.sem = fun _ => 0)

def quiescent_ProjAttnRefIdeal [hProjAttnRefIdeal : Cert.ProjAttnRefIdeal.Facts] : Prop :=
  ∀ (m : (ℓ : Loc Cert.ProjAttnRefIdeal.nD Cert.ProjAttnRefIdeal.τ Cert.ProjAttnRefIdeal.sig) → Buf (Elt Ideal) ℓ) (g : Dev Cert.ProjAttnRefIdeal.nD → PrngReg), Pre_ProjAttnRefIdeal m →
    θ_run (Cert.ProjAttnRefIdeal.defs (F := Ideal)) (onTc (τ := Cert.ProjAttnRefIdeal.τ) (Cert.ProjAttnRefIdeal.main (F := Ideal))) ⟨m, fun _ => 0, g⟩ (fun r => (∀ c : Dev Cert.ProjAttnRefIdeal.nD,
      r.2.mem ((c.tc : Thread Cert.ProjAttnRefIdeal.nD Cert.ProjAttnRefIdeal.τ).loc Cert.ProjAttnRefIdeal.main_arg0) = m ((c.tc : Thread Cert.ProjAttnRefIdeal.nD Cert.ProjAttnRefIdeal.τ).loc Cert.ProjAttnRefIdeal.main_arg0)
      ∧ r.2.mem ((c.tc : Thread Cert.ProjAttnRefIdeal.nD Cert.ProjAttnRefIdeal.τ).loc Cert.ProjAttnRefIdeal.main_arg1) = m ((c.tc : Thread Cert.ProjAttnRefIdeal.nD Cert.ProjAttnRefIdeal.τ).loc Cert.ProjAttnRefIdeal.main_arg1))
      ∧ r.2.sem = fun _ => 0)

def quiescent_ProjCmp [hProjCmp : Cert.ProjCmp.Facts] : Prop :=
  ∀ (m : (ℓ : Loc Cert.ProjCmp.nD Cert.ProjCmp.τ Cert.ProjCmp.sig) → Buf (Elt Bits) ℓ) (g : Dev Cert.ProjCmp.nD → PrngReg), Pre_ProjCmp m →
    θ_run (Cert.ProjCmp.defs (F := Bits)) (onTc (τ := Cert.ProjCmp.τ) (Cert.ProjCmp.main (F := Bits))) ⟨m, fun _ => 0, g⟩ (fun r => (∀ c : Dev Cert.ProjCmp.nD,
      r.2.mem ((c.tc : Thread Cert.ProjCmp.nD Cert.ProjCmp.τ).loc Cert.ProjCmp.main_arg0) = m ((c.tc : Thread Cert.ProjCmp.nD Cert.ProjCmp.τ).loc Cert.ProjCmp.main_arg0)
      ∧ r.2.mem ((c.tc : Thread Cert.ProjCmp.nD Cert.ProjCmp.τ).loc Cert.ProjCmp.main_arg1) = m ((c.tc : Thread Cert.ProjCmp.nD Cert.ProjCmp.τ).loc Cert.ProjCmp.main_arg1))
      ∧ r.2.sem = fun _ => 0)

def quiescent_ProjCmpIdeal [hProjCmpIdeal : Cert.ProjCmpIdeal.Facts] : Prop :=
  ∀ (m : (ℓ : Loc Cert.ProjCmpIdeal.nD Cert.ProjCmpIdeal.τ Cert.ProjCmpIdeal.sig) → Buf (Elt Ideal) ℓ) (g : Dev Cert.ProjCmpIdeal.nD → PrngReg), Pre_ProjCmpIdeal m →
    θ_run (Cert.ProjCmpIdeal.defs (F := Ideal)) (onTc (τ := Cert.ProjCmpIdeal.τ) (Cert.ProjCmpIdeal.main (F := Ideal))) ⟨m, fun _ => 0, g⟩ (fun r => (∀ c : Dev Cert.ProjCmpIdeal.nD,
      r.2.mem ((c.tc : Thread Cert.ProjCmpIdeal.nD Cert.ProjCmpIdeal.τ).loc Cert.ProjCmpIdeal.main_arg0) = m ((c.tc : Thread Cert.ProjCmpIdeal.nD Cert.ProjCmpIdeal.τ).loc Cert.ProjCmpIdeal.main_arg0)
      ∧ r.2.mem ((c.tc : Thread Cert.ProjCmpIdeal.nD Cert.ProjCmpIdeal.τ).loc Cert.ProjCmpIdeal.main_arg1) = m ((c.tc : Thread Cert.ProjCmpIdeal.nD Cert.ProjCmpIdeal.τ).loc Cert.ProjCmpIdeal.main_arg1))
      ∧ r.2.sem = fun _ => 0)

def quiescent_ProjCmpRefIdeal [hProjCmpRefIdeal : Cert.ProjCmpRefIdeal.Facts] : Prop :=
  ∀ (m : (ℓ : Loc Cert.ProjCmpRefIdeal.nD Cert.ProjCmpRefIdeal.τ Cert.ProjCmpRefIdeal.sig) → Buf (Elt Ideal) ℓ) (g : Dev Cert.ProjCmpRefIdeal.nD → PrngReg), Pre_ProjCmpRefIdeal m →
    θ_run (Cert.ProjCmpRefIdeal.defs (F := Ideal)) (onTc (τ := Cert.ProjCmpRefIdeal.τ) (Cert.ProjCmpRefIdeal.main (F := Ideal))) ⟨m, fun _ => 0, g⟩ (fun r => (∀ c : Dev Cert.ProjCmpRefIdeal.nD,
      r.2.mem ((c.tc : Thread Cert.ProjCmpRefIdeal.nD Cert.ProjCmpRefIdeal.τ).loc Cert.ProjCmpRefIdeal.main_arg0) = m ((c.tc : Thread Cert.ProjCmpRefIdeal.nD Cert.ProjCmpRefIdeal.τ).loc Cert.ProjCmpRefIdeal.main_arg0)
      ∧ r.2.mem ((c.tc : Thread Cert.ProjCmpRefIdeal.nD Cert.ProjCmpRefIdeal.τ).loc Cert.ProjCmpRefIdeal.main_arg1) = m ((c.tc : Thread Cert.ProjCmpRefIdeal.nD Cert.ProjCmpRefIdeal.τ).loc Cert.ProjCmpRefIdeal.main_arg1))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1)
      ∧ r.2.mem ((c.tc : Thread Cert.WOut.nD Cert.WOut.τ).loc Cert.WOut.main_arg2) = m ((c.tc : Thread Cert.WOut.nD Cert.WOut.τ).loc Cert.WOut.main_arg2)
      ∧ r.2.mem ((c.tc : Thread Cert.WOut.nD Cert.WOut.τ).loc Cert.WOut.main_arg3) = m ((c.tc : Thread Cert.WOut.nD Cert.WOut.τ).loc Cert.WOut.main_arg3))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1)
      ∧ r.2.mem ((c.tc : Thread Cert.WOutIdeal.nD Cert.WOutIdeal.τ).loc Cert.WOutIdeal.main_arg2) = m ((c.tc : Thread Cert.WOutIdeal.nD Cert.WOutIdeal.τ).loc Cert.WOutIdeal.main_arg2)
      ∧ r.2.mem ((c.tc : Thread Cert.WOutIdeal.nD Cert.WOutIdeal.τ).loc Cert.WOutIdeal.main_arg3) = m ((c.tc : Thread Cert.WOutIdeal.nD Cert.WOutIdeal.τ).loc Cert.WOutIdeal.main_arg3))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1)
      ∧ r.2.mem ((c.tc : Thread Cert.WOutRefIdeal.nD Cert.WOutRefIdeal.τ).loc Cert.WOutRefIdeal.main_arg2) = m ((c.tc : Thread Cert.WOutRefIdeal.nD Cert.WOutRefIdeal.τ).loc Cert.WOutRefIdeal.main_arg2)
      ∧ r.2.mem ((c.tc : Thread Cert.WOutRefIdeal.nD Cert.WOutRefIdeal.τ).loc Cert.WOutRefIdeal.main_arg3) = m ((c.tc : Thread Cert.WOutRefIdeal.nD Cert.WOutRefIdeal.τ).loc Cert.WOutRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_LastNorm [hLastNorm : Cert.LastNorm.Facts] : Prop :=
  ∀ (m : (ℓ : Loc Cert.LastNorm.nD Cert.LastNorm.τ Cert.LastNorm.sig) → Buf (Elt Bits) ℓ) (g : Dev Cert.LastNorm.nD → PrngReg), Pre_LastNorm m →
    θ_run (Cert.LastNorm.defs (F := Bits)) (onTc (τ := Cert.LastNorm.τ) (Cert.LastNorm.main (F := Bits))) ⟨m, fun _ => 0, g⟩ (fun r => (∀ c : Dev Cert.LastNorm.nD,
      r.2.mem ((c.tc : Thread Cert.LastNorm.nD Cert.LastNorm.τ).loc Cert.LastNorm.main_arg0) = m ((c.tc : Thread Cert.LastNorm.nD Cert.LastNorm.τ).loc Cert.LastNorm.main_arg0)
      ∧ r.2.mem ((c.tc : Thread Cert.LastNorm.nD Cert.LastNorm.τ).loc Cert.LastNorm.main_arg1) = m ((c.tc : Thread Cert.LastNorm.nD Cert.LastNorm.τ).loc Cert.LastNorm.main_arg1))
      ∧ r.2.sem = fun _ => 0)

def quiescent_LastNormIdeal [hLastNormIdeal : Cert.LastNormIdeal.Facts] : Prop :=
  ∀ (m : (ℓ : Loc Cert.LastNormIdeal.nD Cert.LastNormIdeal.τ Cert.LastNormIdeal.sig) → Buf (Elt Ideal) ℓ) (g : Dev Cert.LastNormIdeal.nD → PrngReg), Pre_LastNormIdeal m →
    θ_run (Cert.LastNormIdeal.defs (F := Ideal)) (onTc (τ := Cert.LastNormIdeal.τ) (Cert.LastNormIdeal.main (F := Ideal))) ⟨m, fun _ => 0, g⟩ (fun r => (∀ c : Dev Cert.LastNormIdeal.nD,
      r.2.mem ((c.tc : Thread Cert.LastNormIdeal.nD Cert.LastNormIdeal.τ).loc Cert.LastNormIdeal.main_arg0) = m ((c.tc : Thread Cert.LastNormIdeal.nD Cert.LastNormIdeal.τ).loc Cert.LastNormIdeal.main_arg0)
      ∧ r.2.mem ((c.tc : Thread Cert.LastNormIdeal.nD Cert.LastNormIdeal.τ).loc Cert.LastNormIdeal.main_arg1) = m ((c.tc : Thread Cert.LastNormIdeal.nD Cert.LastNormIdeal.τ).loc Cert.LastNormIdeal.main_arg1))
      ∧ r.2.sem = fun _ => 0)

def quiescent_LastNormRefIdeal [hLastNormRefIdeal : Cert.LastNormRefIdeal.Facts] : Prop :=
  ∀ (m : (ℓ : Loc Cert.LastNormRefIdeal.nD Cert.LastNormRefIdeal.τ Cert.LastNormRefIdeal.sig) → Buf (Elt Ideal) ℓ) (g : Dev Cert.LastNormRefIdeal.nD → PrngReg), Pre_LastNormRefIdeal m →
    θ_run (Cert.LastNormRefIdeal.defs (F := Ideal)) (onTc (τ := Cert.LastNormRefIdeal.τ) (Cert.LastNormRefIdeal.main (F := Ideal))) ⟨m, fun _ => 0, g⟩ (fun r => (∀ c : Dev Cert.LastNormRefIdeal.nD,
      r.2.mem ((c.tc : Thread Cert.LastNormRefIdeal.nD Cert.LastNormRefIdeal.τ).loc Cert.LastNormRefIdeal.main_arg0) = m ((c.tc : Thread Cert.LastNormRefIdeal.nD Cert.LastNormRefIdeal.τ).loc Cert.LastNormRefIdeal.main_arg0)
      ∧ r.2.mem ((c.tc : Thread Cert.LastNormRefIdeal.nD Cert.LastNormRefIdeal.τ).loc Cert.LastNormRefIdeal.main_arg1) = m ((c.tc : Thread Cert.LastNormRefIdeal.nD Cert.LastNormRefIdeal.τ).loc Cert.LastNormRefIdeal.main_arg1))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2)
      ∧ r.2.mem ((c.tc : Thread Cert.NormMod.nD Cert.NormMod.τ).loc Cert.NormMod.main_arg3) = m ((c.tc : Thread Cert.NormMod.nD Cert.NormMod.τ).loc Cert.NormMod.main_arg3))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
      ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ r.2.sem = fun _ => 0)

def quiescent_NormModRefIdeal [hNormModRefIdeal : Cert.NormModRefIdeal.Facts] : Prop :=
  ∀ (m : (ℓ : Loc Cert.NormModRefIdeal.nD Cert.NormModRefIdeal.τ Cert.NormModRefIdeal.sig) → Buf (Elt Ideal) ℓ) (g : Dev Cert.NormModRefIdeal.nD → PrngReg), Pre_NormModRefIdeal m →
    θ_run (Cert.NormModRefIdeal.defs (F := Ideal)) (onTc (τ := Cert.NormModRefIdeal.τ) (Cert.NormModRefIdeal.main (F := Ideal))) ⟨m, fun _ => 0, g⟩ (fun r => (∀ c : Dev Cert.NormModRefIdeal.nD,
      r.2.mem ((c.tc : Thread Cert.NormModRefIdeal.nD Cert.NormModRefIdeal.τ).loc Cert.NormModRefIdeal.main_arg0) = m ((c.tc : Thread Cert.NormModRefIdeal.nD Cert.NormModRefIdeal.τ).loc Cert.NormModRefIdeal.main_arg0)
      ∧ r.2.mem ((c.tc : Thread Cert.NormModRefIdeal.nD Cert.NormModRefIdeal.τ).loc Cert.NormModRefIdeal.main_arg1) = m ((c.tc : Thread Cert.NormModRefIdeal.nD Cert.NormModRefIdeal.τ).loc Cert.NormModRefIdeal.main_arg1)
      ∧ r.2.mem ((c.tc : Thread Cert.NormModRefIdeal.nD Cert.NormModRefIdeal.τ).loc Cert.NormModRefIdeal.main_arg2) = m ((c.tc : Thread Cert.NormModRefIdeal.nD Cert.NormModRefIdeal.τ).loc Cert.NormModRefIdeal.main_arg2)
      ∧ r.2.mem ((c.tc : Thread Cert.NormModRefIdeal.nD Cert.NormModRefIdeal.τ).loc Cert.NormModRefIdeal.main_arg3) = m ((c.tc : Thread Cert.NormModRefIdeal.nD Cert.NormModRefIdeal.τ).loc Cert.NormModRefIdeal.main_arg3))
      ∧ r.2.sem = fun _ => 0)

def quiescent_ProjRest [hProjRest : Cert.ProjRest.Facts] : Prop :=
  ∀ (m : (ℓ : Loc Cert.ProjRest.nD Cert.ProjRest.τ Cert.ProjRest.sig) → Buf (Elt Bits) ℓ) (g : Dev Cert.ProjRest.nD → PrngReg), Pre_ProjRest m →
    θ_run (Cert.ProjRest.defs (F := Bits)) (onTc (τ := Cert.ProjRest.τ) (Cert.ProjRest.main (F := Bits))) ⟨m, fun _ => 0, g⟩ (fun r => (∀ c : Dev Cert.ProjRest.nD,
      r.2.mem ((c.tc : Thread Cert.ProjRest.nD Cert.ProjRest.τ).loc Cert.ProjRest.main_arg0) = m ((c.tc : Thread Cert.ProjRest.nD Cert.ProjRest.τ).loc Cert.ProjRest.main_arg0)
      ∧ r.2.mem ((c.tc : Thread Cert.ProjRest.nD Cert.ProjRest.τ).loc Cert.ProjRest.main_arg1) = m ((c.tc : Thread Cert.ProjRest.nD Cert.ProjRest.τ).loc Cert.ProjRest.main_arg1)
      ∧ r.2.mem ((c.tc : Thread Cert.ProjRest.nD Cert.ProjRest.τ).loc Cert.ProjRest.main_arg2) = m ((c.tc : Thread Cert.ProjRest.nD Cert.ProjRest.τ).loc Cert.ProjRest.main_arg2))
      ∧ r.2.sem = fun _ => 0)

def quiescent_ProjRestIdeal [hProjRestIdeal : Cert.ProjRestIdeal.Facts] : Prop :=
  ∀ (m : (ℓ : Loc Cert.ProjRestIdeal.nD Cert.ProjRestIdeal.τ Cert.ProjRestIdeal.sig) → Buf (Elt Ideal) ℓ) (g : Dev Cert.ProjRestIdeal.nD → PrngReg), Pre_ProjRestIdeal m →
    θ_run (Cert.ProjRestIdeal.defs (F := Ideal)) (onTc (τ := Cert.ProjRestIdeal.τ) (Cert.ProjRestIdeal.main (F := Ideal))) ⟨m, fun _ => 0, g⟩ (fun r => (∀ c : Dev Cert.ProjRestIdeal.nD,
      r.2.mem ((c.tc : Thread Cert.ProjRestIdeal.nD Cert.ProjRestIdeal.τ).loc Cert.ProjRestIdeal.main_arg0) = m ((c.tc : Thread Cert.ProjRestIdeal.nD Cert.ProjRestIdeal.τ).loc Cert.ProjRestIdeal.main_arg0)
      ∧ r.2.mem ((c.tc : Thread Cert.ProjRestIdeal.nD Cert.ProjRestIdeal.τ).loc Cert.ProjRestIdeal.main_arg1) = m ((c.tc : Thread Cert.ProjRestIdeal.nD Cert.ProjRestIdeal.τ).loc Cert.ProjRestIdeal.main_arg1)
      ∧ r.2.mem ((c.tc : Thread Cert.ProjRestIdeal.nD Cert.ProjRestIdeal.τ).loc Cert.ProjRestIdeal.main_arg2) = m ((c.tc : Thread Cert.ProjRestIdeal.nD Cert.ProjRestIdeal.τ).loc Cert.ProjRestIdeal.main_arg2))
      ∧ r.2.sem = fun _ => 0)

def quiescent_ProjRestRefIdeal [hProjRestRefIdeal : Cert.ProjRestRefIdeal.Facts] : Prop :=
  ∀ (m : (ℓ : Loc Cert.ProjRestRefIdeal.nD Cert.ProjRestRefIdeal.τ Cert.ProjRestRefIdeal.sig) → Buf (Elt Ideal) ℓ) (g : Dev Cert.ProjRestRefIdeal.nD → PrngReg), Pre_ProjRestRefIdeal m →
    θ_run (Cert.ProjRestRefIdeal.defs (F := Ideal)) (onTc (τ := Cert.ProjRestRefIdeal.τ) (Cert.ProjRestRefIdeal.main (F := Ideal))) ⟨m, fun _ => 0, g⟩ (fun r => (∀ c : Dev Cert.ProjRestRefIdeal.nD,
      r.2.mem ((c.tc : Thread Cert.ProjRestRefIdeal.nD Cert.ProjRestRefIdeal.τ).loc Cert.ProjRestRefIdeal.main_arg0) = m ((c.tc : Thread Cert.ProjRestRefIdeal.nD Cert.ProjRestRefIdeal.τ).loc Cert.ProjRestRefIdeal.main_arg0)
      ∧ r.2.mem ((c.tc : Thread Cert.ProjRestRefIdeal.nD Cert.ProjRestRefIdeal.τ).loc Cert.ProjRestRefIdeal.main_arg1) = m ((c.tc : Thread Cert.ProjRestRefIdeal.nD Cert.ProjRestRefIdeal.τ).loc Cert.ProjRestRefIdeal.main_arg1)
      ∧ r.2.mem ((c.tc : Thread Cert.ProjRestRefIdeal.nD Cert.ProjRestRefIdeal.τ).loc Cert.ProjRestRefIdeal.main_arg2) = m ((c.tc : Thread Cert.ProjRestRefIdeal.nD Cert.ProjRestRefIdeal.τ).loc Cert.ProjRestRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def preserves_Win_WinIdeal : Prop :=
  IdealRules.named_const.Statement Cert.WinIdeal.κ "scale" .f32 0x3E0293EE#32 (((Real.sqrt 128)⁻¹ * (Real.log 2)⁻¹ : ℝ) : EReal)
  ∧ IdealRules.named_const.Statement Cert.WinIdeal.κ "mask" .f32 0xF149F2CA#32 ⊥

def algebraic_WinIdeal_WinRefIdeal_pre_finite [hWinIdeal : Cert.WinIdeal.Facts] [hWinRefIdeal : Cert.WinRefIdeal.Facts] [hPre_finite : Cert.Pre_finite.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal_finite m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)
      ∧ m' ((c.tc : Thread Cert.WinRefIdeal.nD Cert.WinRefIdeal.τ).loc Cert.WinRefIdeal.main_arg3) = m ((c.tc : Thread Cert.WinIdeal.nD Cert.WinIdeal.τ).loc Cert.WinIdeal.main_arg3)
      ∧ m' ((c.tc : Thread Cert.WinRefIdeal.nD Cert.WinRefIdeal.τ).loc Cert.WinRefIdeal.main_arg4) = m ((c.tc : Thread Cert.WinIdeal.nD Cert.WinIdeal.τ).loc Cert.WinIdeal.main_arg4)
      ∧ m' ((c.tc : Thread Cert.WinRefIdeal.nD Cert.WinRefIdeal.τ).loc Cert.WinRefIdeal.main_arg5) = m ((c.tc : Thread Cert.WinIdeal.nD Cert.WinIdeal.τ).loc Cert.WinIdeal.main_arg5)) →
    ∃ (v0 : (c : Dev Cert.WinIdeal.nD) → Buf (Elt Ideal) ((c.tc : Thread Cert.WinIdeal.nD Cert.WinIdeal.τ).loc Cert.WinIdeal.main_v4)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v4) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
          ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
          ∧ r.2.mem ((c.tc : Thread Cert.WinIdeal.nD Cert.WinIdeal.τ).loc Cert.WinIdeal.main_arg5) = m ((c.tc : Thread Cert.WinIdeal.nD Cert.WinIdeal.τ).loc Cert.WinIdeal.main_arg5))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v57) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3)
          ∧ r.2.mem ((c.tc : Thread Cert.WinRefIdeal.nD Cert.WinRefIdeal.τ).loc Cert.WinRefIdeal.main_arg4) = m' ((c.tc : Thread Cert.WinRefIdeal.nD Cert.WinRefIdeal.τ).loc Cert.WinRefIdeal.main_arg4)
          ∧ r.2.mem ((c.tc : Thread Cert.WinRefIdeal.nD Cert.WinRefIdeal.τ).loc Cert.WinRefIdeal.main_arg5) = m' ((c.tc : Thread Cert.WinRefIdeal.nD Cert.WinRefIdeal.τ).loc Cert.WinRefIdeal.main_arg5))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)
      ∧ m' ((c.tc : Thread Cert.MlpUpRefIdeal.nD Cert.MlpUpRefIdeal.τ).loc Cert.MlpUpRefIdeal.main_arg2) = m ((c.tc : Thread Cert.MlpUpIdeal.nD Cert.MlpUpIdeal.τ).loc Cert.MlpUpIdeal.main_arg2)) →
    ∃ (v0 : (c : Dev Cert.MlpUpIdeal.nD) → Buf (Elt Ideal) ((c.tc : Thread Cert.MlpUpIdeal.nD Cert.MlpUpIdeal.τ).loc Cert.MlpUpIdeal.main_v0_0)) (v1 : (c : Dev Cert.MlpUpIdeal.nD) → Buf (Elt Ideal) ((c.tc : Thread Cert.MlpUpIdeal.nD Cert.MlpUpIdeal.τ).loc Cert.MlpUpIdeal.main_v0_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0_0) = v0 c
          ∧ r.2.mem ((c.tc : Thread Cert.MlpUpIdeal.nD Cert.MlpUpIdeal.τ).loc Cert.MlpUpIdeal.main_v0_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
          ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v5) = v0 c
          ∧ r.2.mem ((c.tc : Thread Cert.MlpUpRefIdeal.nD Cert.MlpUpRefIdeal.τ).loc Cert.MlpUpRefIdeal.main_v8) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1)
          ∧ r.2.mem ((c.tc : Thread Cert.MlpUpRefIdeal.nD Cert.MlpUpRefIdeal.τ).loc Cert.MlpUpRefIdeal.main_arg2) = m' ((c.tc : Thread Cert.MlpUpRefIdeal.nD Cert.MlpUpRefIdeal.τ).loc Cert.MlpUpRefIdeal.main_arg2))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)
      ∧ m' ((c.tc : Thread Cert.MlpDownRefIdeal.nD Cert.MlpDownRefIdeal.τ).loc Cert.MlpDownRefIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v0)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v0) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v8) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2)
          ∧ r.2.mem ((c.tc : Thread Cert.MlpDownRefIdeal.nD Cert.MlpDownRefIdeal.τ).loc Cert.MlpDownRefIdeal.main_arg3) = m' ((c.tc : Thread Cert.MlpDownRefIdeal.nD Cert.MlpDownRefIdeal.τ).loc Cert.MlpDownRefIdeal.main_arg3))

def preserves_ProjAttn_ProjAttnIdeal : Prop :=
  True

def algebraic_ProjAttnIdeal_ProjAttnRefIdeal [hProjAttnIdeal : Cert.ProjAttnIdeal.Facts] [hProjAttnRefIdeal : Cert.ProjAttnRefIdeal.Facts] : Prop :=
  ∀ (m : (ℓ : Loc Cert.ProjAttnIdeal.nD Cert.ProjAttnIdeal.τ Cert.ProjAttnIdeal.sig) → Buf (Elt Ideal) ℓ) (g : Dev Cert.ProjAttnIdeal.nD → PrngReg)
    (m' : (ℓ : Loc Cert.ProjAttnRefIdeal.nD Cert.ProjAttnRefIdeal.τ Cert.ProjAttnRefIdeal.sig) → Buf (Elt Ideal) ℓ) (g' : Dev Cert.ProjAttnRefIdeal.nD → PrngReg), Pre_ProjAttnIdeal m →
    (∀ c : Dev Cert.ProjAttnIdeal.nD,
      m' ((c.tc : Thread Cert.ProjAttnRefIdeal.nD Cert.ProjAttnRefIdeal.τ).loc Cert.ProjAttnRefIdeal.main_arg0) = m ((c.tc : Thread Cert.ProjAttnIdeal.nD Cert.ProjAttnIdeal.τ).loc Cert.ProjAttnIdeal.main_arg0)
      ∧ m' ((c.tc : Thread Cert.ProjAttnRefIdeal.nD Cert.ProjAttnRefIdeal.τ).loc Cert.ProjAttnRefIdeal.main_arg1) = m ((c.tc : Thread Cert.ProjAttnIdeal.nD Cert.ProjAttnIdeal.τ).loc Cert.ProjAttnIdeal.main_arg1)) →
    ∃ (v0 : (c : Dev Cert.ProjAttnIdeal.nD) → Buf (Elt Ideal) ((c.tc : Thread Cert.ProjAttnIdeal.nD Cert.ProjAttnIdeal.τ).loc Cert.ProjAttnIdeal.main_v1)),
      θ_run (Cert.ProjAttnIdeal.defs (F := Ideal)) (onTc (τ := Cert.ProjAttnIdeal.τ) (Cert.ProjAttnIdeal.main (F := Ideal))) ⟨m, fun _ => 0, g⟩ (fun r => ∀ c : Dev Cert.ProjAttnIdeal.nD,
          r.2.mem ((c.tc : Thread Cert.ProjAttnIdeal.nD Cert.ProjAttnIdeal.τ).loc Cert.ProjAttnIdeal.main_v1) = v0 c
          ∧ r.2.mem ((c.tc : Thread Cert.ProjAttnIdeal.nD Cert.ProjAttnIdeal.τ).loc Cert.ProjAttnIdeal.main_arg0) = m ((c.tc : Thread Cert.ProjAttnIdeal.nD Cert.ProjAttnIdeal.τ).loc Cert.ProjAttnIdeal.main_arg0)
          ∧ r.2.mem ((c.tc : Thread Cert.ProjAttnIdeal.nD Cert.ProjAttnIdeal.τ).loc Cert.ProjAttnIdeal.main_arg1) = m ((c.tc : Thread Cert.ProjAttnIdeal.nD Cert.ProjAttnIdeal.τ).loc Cert.ProjAttnIdeal.main_arg1))
      ∧ θ_run (Cert.ProjAttnRefIdeal.defs (F := Ideal)) (onTc (τ := Cert.ProjAttnRefIdeal.τ) (Cert.ProjAttnRefIdeal.main (F := Ideal))) ⟨m', fun _ => 0, g'⟩ (fun r => ∀ c : Dev Cert.ProjAttnRefIdeal.nD,
          r.2.mem ((c.tc : Thread Cert.ProjAttnRefIdeal.nD Cert.ProjAttnRefIdeal.τ).loc Cert.ProjAttnRefIdeal.main_v7) = v0 c
          ∧ r.2.mem ((c.tc : Thread Cert.ProjAttnRefIdeal.nD Cert.ProjAttnRefIdeal.τ).loc Cert.ProjAttnRefIdeal.main_arg0) = m' ((c.tc : Thread Cert.ProjAttnRefIdeal.nD Cert.ProjAttnRefIdeal.τ).loc Cert.ProjAttnRefIdeal.main_arg0)
          ∧ r.2.mem ((c.tc : Thread Cert.ProjAttnRefIdeal.nD Cert.ProjAttnRefIdeal.τ).loc Cert.ProjAttnRefIdeal.main_arg1) = m' ((c.tc : Thread Cert.ProjAttnRefIdeal.nD Cert.ProjAttnRefIdeal.τ).loc Cert.ProjAttnRefIdeal.main_arg1))

def preserves_ProjCmp_ProjCmpIdeal : Prop :=
  True

def algebraic_ProjCmpIdeal_ProjCmpRefIdeal [hProjCmpIdeal : Cert.ProjCmpIdeal.Facts] [hProjCmpRefIdeal : Cert.ProjCmpRefIdeal.Facts] : Prop :=
  ∀ (m : (ℓ : Loc Cert.ProjCmpIdeal.nD Cert.ProjCmpIdeal.τ Cert.ProjCmpIdeal.sig) → Buf (Elt Ideal) ℓ) (g : Dev Cert.ProjCmpIdeal.nD → PrngReg)
    (m' : (ℓ : Loc Cert.ProjCmpRefIdeal.nD Cert.ProjCmpRefIdeal.τ Cert.ProjCmpRefIdeal.sig) → Buf (Elt Ideal) ℓ) (g' : Dev Cert.ProjCmpRefIdeal.nD → PrngReg), Pre_ProjCmpIdeal m →
    (∀ c : Dev Cert.ProjCmpIdeal.nD,
      m' ((c.tc : Thread Cert.ProjCmpRefIdeal.nD Cert.ProjCmpRefIdeal.τ).loc Cert.ProjCmpRefIdeal.main_arg0) = m ((c.tc : Thread Cert.ProjCmpIdeal.nD Cert.ProjCmpIdeal.τ).loc Cert.ProjCmpIdeal.main_arg0)
      ∧ m' ((c.tc : Thread Cert.ProjCmpRefIdeal.nD Cert.ProjCmpRefIdeal.τ).loc Cert.ProjCmpRefIdeal.main_arg1) = m ((c.tc : Thread Cert.ProjCmpIdeal.nD Cert.ProjCmpIdeal.τ).loc Cert.ProjCmpIdeal.main_arg1)) →
    ∃ (v0 : (c : Dev Cert.ProjCmpIdeal.nD) → Buf (Elt Ideal) ((c.tc : Thread Cert.ProjCmpIdeal.nD Cert.ProjCmpIdeal.τ).loc Cert.ProjCmpIdeal.main_v1)),
      θ_run (Cert.ProjCmpIdeal.defs (F := Ideal)) (onTc (τ := Cert.ProjCmpIdeal.τ) (Cert.ProjCmpIdeal.main (F := Ideal))) ⟨m, fun _ => 0, g⟩ (fun r => ∀ c : Dev Cert.ProjCmpIdeal.nD,
          r.2.mem ((c.tc : Thread Cert.ProjCmpIdeal.nD Cert.ProjCmpIdeal.τ).loc Cert.ProjCmpIdeal.main_v1) = v0 c
          ∧ r.2.mem ((c.tc : Thread Cert.ProjCmpIdeal.nD Cert.ProjCmpIdeal.τ).loc Cert.ProjCmpIdeal.main_arg0) = m ((c.tc : Thread Cert.ProjCmpIdeal.nD Cert.ProjCmpIdeal.τ).loc Cert.ProjCmpIdeal.main_arg0)
          ∧ r.2.mem ((c.tc : Thread Cert.ProjCmpIdeal.nD Cert.ProjCmpIdeal.τ).loc Cert.ProjCmpIdeal.main_arg1) = m ((c.tc : Thread Cert.ProjCmpIdeal.nD Cert.ProjCmpIdeal.τ).loc Cert.ProjCmpIdeal.main_arg1))
      ∧ θ_run (Cert.ProjCmpRefIdeal.defs (F := Ideal)) (onTc (τ := Cert.ProjCmpRefIdeal.τ) (Cert.ProjCmpRefIdeal.main (F := Ideal))) ⟨m', fun _ => 0, g'⟩ (fun r => ∀ c : Dev Cert.ProjCmpRefIdeal.nD,
          r.2.mem ((c.tc : Thread Cert.ProjCmpRefIdeal.nD Cert.ProjCmpRefIdeal.τ).loc Cert.ProjCmpRefIdeal.main_v4) = v0 c
          ∧ r.2.mem ((c.tc : Thread Cert.ProjCmpRefIdeal.nD Cert.ProjCmpRefIdeal.τ).loc Cert.ProjCmpRefIdeal.main_arg0) = m' ((c.tc : Thread Cert.ProjCmpRefIdeal.nD Cert.ProjCmpRefIdeal.τ).loc Cert.ProjCmpRefIdeal.main_arg0)
          ∧ r.2.mem ((c.tc : Thread Cert.ProjCmpRefIdeal.nD Cert.ProjCmpRefIdeal.τ).loc Cert.ProjCmpRefIdeal.main_arg1) = m' ((c.tc : Thread Cert.ProjCmpRefIdeal.nD Cert.ProjCmpRefIdeal.τ).loc Cert.ProjCmpRefIdeal.main_arg1))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)
      ∧ m' ((c.tc : Thread Cert.WOutRefIdeal.nD Cert.WOutRefIdeal.τ).loc Cert.WOutRefIdeal.main_arg2) = m ((c.tc : Thread Cert.WOutIdeal.nD Cert.WOutIdeal.τ).loc Cert.WOutIdeal.main_arg2)
      ∧ m' ((c.tc : Thread Cert.WOutRefIdeal.nD Cert.WOutRefIdeal.τ).loc Cert.WOutRefIdeal.main_arg3) = m ((c.tc : Thread Cert.WOutIdeal.nD Cert.WOutIdeal.τ).loc Cert.WOutIdeal.main_arg3)) →
    ∃ (v0 : (c : Dev Cert.WOutIdeal.nD) → Buf (Elt Ideal) ((c.tc : Thread Cert.WOutIdeal.nD Cert.WOutIdeal.τ).loc Cert.WOutIdeal.main_v0)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v0) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1)
          ∧ r.2.mem ((c.tc : Thread Cert.WOutIdeal.nD Cert.WOutIdeal.τ).loc Cert.WOutIdeal.main_arg2) = m ((c.tc : Thread Cert.WOutIdeal.nD Cert.WOutIdeal.τ).loc Cert.WOutIdeal.main_arg2)
          ∧ r.2.mem ((c.tc : Thread Cert.WOutIdeal.nD Cert.WOutIdeal.τ).loc Cert.WOutIdeal.main_arg3) = m ((c.tc : Thread Cert.WOutIdeal.nD Cert.WOutIdeal.τ).loc Cert.WOutIdeal.main_arg3))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v8) = v0 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1)
          ∧ r.2.mem ((c.tc : Thread Cert.WOutRefIdeal.nD Cert.WOutRefIdeal.τ).loc Cert.WOutRefIdeal.main_arg2) = m' ((c.tc : Thread Cert.WOutRefIdeal.nD Cert.WOutRefIdeal.τ).loc Cert.WOutRefIdeal.main_arg2)
          ∧ r.2.mem ((c.tc : Thread Cert.WOutRefIdeal.nD Cert.WOutRefIdeal.τ).loc Cert.WOutRefIdeal.main_arg3) = m' ((c.tc : Thread Cert.WOutRefIdeal.nD Cert.WOutRefIdeal.τ).loc Cert.WOutRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_LastNorm_LastNormIdeal : Prop :=
  True

def algebraic_LastNormIdeal_LastNormRefIdeal [hLastNormIdeal : Cert.LastNormIdeal.Facts] [hLastNormRefIdeal : Cert.LastNormRefIdeal.Facts] : Prop :=
  ∀ (m : (ℓ : Loc Cert.LastNormIdeal.nD Cert.LastNormIdeal.τ Cert.LastNormIdeal.sig) → Buf (Elt Ideal) ℓ) (g : Dev Cert.LastNormIdeal.nD → PrngReg)
    (m' : (ℓ : Loc Cert.LastNormRefIdeal.nD Cert.LastNormRefIdeal.τ Cert.LastNormRefIdeal.sig) → Buf (Elt Ideal) ℓ) (g' : Dev Cert.LastNormRefIdeal.nD → PrngReg), Pre_LastNormIdeal m →
    (∀ c : Dev Cert.LastNormIdeal.nD,
      m' ((c.tc : Thread Cert.LastNormRefIdeal.nD Cert.LastNormRefIdeal.τ).loc Cert.LastNormRefIdeal.main_arg0) = m ((c.tc : Thread Cert.LastNormIdeal.nD Cert.LastNormIdeal.τ).loc Cert.LastNormIdeal.main_arg0)
      ∧ m' ((c.tc : Thread Cert.LastNormRefIdeal.nD Cert.LastNormRefIdeal.τ).loc Cert.LastNormRefIdeal.main_arg1) = m ((c.tc : Thread Cert.LastNormIdeal.nD Cert.LastNormIdeal.τ).loc Cert.LastNormIdeal.main_arg1)) →
    ∃ (v0 : (c : Dev Cert.LastNormIdeal.nD) → Buf (Elt Ideal) ((c.tc : Thread Cert.LastNormIdeal.nD Cert.LastNormIdeal.τ).loc Cert.LastNormIdeal.main_v1)),
      θ_run (Cert.LastNormIdeal.defs (F := Ideal)) (onTc (τ := Cert.LastNormIdeal.τ) (Cert.LastNormIdeal.main (F := Ideal))) ⟨m, fun _ => 0, g⟩ (fun r => ∀ c : Dev Cert.LastNormIdeal.nD,
          r.2.mem ((c.tc : Thread Cert.LastNormIdeal.nD Cert.LastNormIdeal.τ).loc Cert.LastNormIdeal.main_v1) = v0 c
          ∧ r.2.mem ((c.tc : Thread Cert.LastNormIdeal.nD Cert.LastNormIdeal.τ).loc Cert.LastNormIdeal.main_arg0) = m ((c.tc : Thread Cert.LastNormIdeal.nD Cert.LastNormIdeal.τ).loc Cert.LastNormIdeal.main_arg0)
          ∧ r.2.mem ((c.tc : Thread Cert.LastNormIdeal.nD Cert.LastNormIdeal.τ).loc Cert.LastNormIdeal.main_arg1) = m ((c.tc : Thread Cert.LastNormIdeal.nD Cert.LastNormIdeal.τ).loc Cert.LastNormIdeal.main_arg1))
      ∧ θ_run (Cert.LastNormRefIdeal.defs (F := Ideal)) (onTc (τ := Cert.LastNormRefIdeal.τ) (Cert.LastNormRefIdeal.main (F := Ideal))) ⟨m', fun _ => 0, g'⟩ (fun r => ∀ c : Dev Cert.LastNormRefIdeal.nD,
          r.2.mem ((c.tc : Thread Cert.LastNormRefIdeal.nD Cert.LastNormRefIdeal.τ).loc Cert.LastNormRefIdeal.main_v12) = v0 c
          ∧ r.2.mem ((c.tc : Thread Cert.LastNormRefIdeal.nD Cert.LastNormRefIdeal.τ).loc Cert.LastNormRefIdeal.main_arg0) = m' ((c.tc : Thread Cert.LastNormRefIdeal.nD Cert.LastNormRefIdeal.τ).loc Cert.LastNormRefIdeal.main_arg0)
          ∧ r.2.mem ((c.tc : Thread Cert.LastNormRefIdeal.nD Cert.LastNormRefIdeal.τ).loc Cert.LastNormRefIdeal.main_arg1) = m' ((c.tc : Thread Cert.LastNormRefIdeal.nD Cert.LastNormRefIdeal.τ).loc Cert.LastNormRefIdeal.main_arg1))

def preserves_NormMod_NormModIdeal : Prop :=
  True

def algebraic_NormModIdeal_NormModRefIdeal [hNormModIdeal : Cert.NormModIdeal.Facts] [hNormModRefIdeal : Cert.NormModRefIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormModRefIdeal.nD Cert.NormModRefIdeal.τ Cert.NormModRefIdeal.sig) → Buf (Elt Ideal) ℓ) (g' : Dev Cert.NormModRefIdeal.nD → PrngReg), Pre_NormModIdeal m →
    (∀ c : Dev Cert.NormModIdeal.nD,
      m' ((c.tc : Thread Cert.NormModRefIdeal.nD Cert.NormModRefIdeal.τ).loc Cert.NormModRefIdeal.main_arg0) = m ((c.tc : Thread Cert.NormModIdeal.nD Cert.NormModIdeal.τ).loc Cert.NormModIdeal.main_arg0)
      ∧ m' ((c.tc : Thread Cert.NormModRefIdeal.nD Cert.NormModRefIdeal.τ).loc Cert.NormModRefIdeal.main_arg1) = m ((c.tc : Thread Cert.NormModIdeal.nD Cert.NormModIdeal.τ).loc Cert.NormModIdeal.main_arg1)
      ∧ m' ((c.tc : Thread Cert.NormModRefIdeal.nD Cert.NormModRefIdeal.τ).loc Cert.NormModRefIdeal.main_arg2) = m ((c.tc : Thread Cert.NormModIdeal.nD Cert.NormModIdeal.τ).loc Cert.NormModIdeal.main_arg2)
      ∧ m' ((c.tc : Thread Cert.NormModRefIdeal.nD Cert.NormModRefIdeal.τ).loc Cert.NormModRefIdeal.main_arg3) = m ((c.tc : Thread Cert.NormModIdeal.nD Cert.NormModIdeal.τ).loc Cert.NormModIdeal.main_arg3)) →
    ∃ (v0 : (c : Dev Cert.NormModIdeal.nD) → Buf (Elt Ideal) ((c.tc : Thread Cert.NormModIdeal.nD Cert.NormModIdeal.τ).loc Cert.NormModIdeal.main_v1)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v1) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
          ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ θ_run (Cert.NormModRefIdeal.defs (F := Ideal)) (onTc (τ := Cert.NormModRefIdeal.τ) (Cert.NormModRefIdeal.main (F := Ideal))) ⟨m', fun _ => 0, g'⟩ (fun r => ∀ c : Dev Cert.NormModRefIdeal.nD,
          r.2.mem ((c.tc : Thread Cert.NormModRefIdeal.nD Cert.NormModRefIdeal.τ).loc Cert.NormModRefIdeal.main_v21) = v0 c
          ∧ r.2.mem ((c.tc : Thread Cert.NormModRefIdeal.nD Cert.NormModRefIdeal.τ).loc Cert.NormModRefIdeal.main_arg0) = m' ((c.tc : Thread Cert.NormModRefIdeal.nD Cert.NormModRefIdeal.τ).loc Cert.NormModRefIdeal.main_arg0)
          ∧ r.2.mem ((c.tc : Thread Cert.NormModRefIdeal.nD Cert.NormModRefIdeal.τ).loc Cert.NormModRefIdeal.main_arg1) = m' ((c.tc : Thread Cert.NormModRefIdeal.nD Cert.NormModRefIdeal.τ).loc Cert.NormModRefIdeal.main_arg1)
          ∧ r.2.mem ((c.tc : Thread Cert.NormModRefIdeal.nD Cert.NormModRefIdeal.τ).loc Cert.NormModRefIdeal.main_arg2) = m' ((c.tc : Thread Cert.NormModRefIdeal.nD Cert.NormModRefIdeal.τ).loc Cert.NormModRefIdeal.main_arg2)
          ∧ r.2.mem ((c.tc : Thread Cert.NormModRefIdeal.nD Cert.NormModRefIdeal.τ).loc Cert.NormModRefIdeal.main_arg3) = m' ((c.tc : Thread Cert.NormModRefIdeal.nD Cert.NormModRefIdeal.τ).loc Cert.NormModRefIdeal.main_arg3))

def preserves_ProjRest_ProjRestIdeal : Prop :=
  True

def algebraic_ProjRestIdeal_ProjRestRefIdeal [hProjRestIdeal : Cert.ProjRestIdeal.Facts] [hProjRestRefIdeal : Cert.ProjRestRefIdeal.Facts] : Prop :=
  ∀ (m : (ℓ : Loc Cert.ProjRestIdeal.nD Cert.ProjRestIdeal.τ Cert.ProjRestIdeal.sig) → Buf (Elt Ideal) ℓ) (g : Dev Cert.ProjRestIdeal.nD → PrngReg)
    (m' : (ℓ : Loc Cert.ProjRestRefIdeal.nD Cert.ProjRestRefIdeal.τ Cert.ProjRestRefIdeal.sig) → Buf (Elt Ideal) ℓ) (g' : Dev Cert.ProjRestRefIdeal.nD → PrngReg), Pre_ProjRestIdeal m →
    (∀ c : Dev Cert.ProjRestIdeal.nD,
      m' ((c.tc : Thread Cert.ProjRestRefIdeal.nD Cert.ProjRestRefIdeal.τ).loc Cert.ProjRestRefIdeal.main_arg0) = m ((c.tc : Thread Cert.ProjRestIdeal.nD Cert.ProjRestIdeal.τ).loc Cert.ProjRestIdeal.main_arg0)
      ∧ m' ((c.tc : Thread Cert.ProjRestRefIdeal.nD Cert.ProjRestRefIdeal.τ).loc Cert.ProjRestRefIdeal.main_arg1) = m ((c.tc : Thread Cert.ProjRestIdeal.nD Cert.ProjRestIdeal.τ).loc Cert.ProjRestIdeal.main_arg1)
      ∧ m' ((c.tc : Thread Cert.ProjRestRefIdeal.nD Cert.ProjRestRefIdeal.τ).loc Cert.ProjRestRefIdeal.main_arg2) = m ((c.tc : Thread Cert.ProjRestIdeal.nD Cert.ProjRestIdeal.τ).loc Cert.ProjRestIdeal.main_arg2)) →
    ∃ (v0 : (c : Dev Cert.ProjRestIdeal.nD) → Buf (Elt Ideal) ((c.tc : Thread Cert.ProjRestIdeal.nD Cert.ProjRestIdeal.τ).loc Cert.ProjRestIdeal.main_v1_0)) (v1 : (c : Dev Cert.ProjRestIdeal.nD) → Buf (Elt Ideal) ((c.tc : Thread Cert.ProjRestIdeal.nD Cert.ProjRestIdeal.τ).loc Cert.ProjRestIdeal.main_v1_1)) (v2 : (c : Dev Cert.ProjRestIdeal.nD) → Buf (Elt Ideal) ((c.tc : Thread Cert.ProjRestIdeal.nD Cert.ProjRestIdeal.τ).loc Cert.ProjRestIdeal.main_v1_2)),
      θ_run (Cert.ProjRestIdeal.defs (F := Ideal)) (onTc (τ := Cert.ProjRestIdeal.τ) (Cert.ProjRestIdeal.main (F := Ideal))) ⟨m, fun _ => 0, g⟩ (fun r => ∀ c : Dev Cert.ProjRestIdeal.nD,
          r.2.mem ((c.tc : Thread Cert.ProjRestIdeal.nD Cert.ProjRestIdeal.τ).loc Cert.ProjRestIdeal.main_v1_0) = v0 c
          ∧ r.2.mem ((c.tc : Thread Cert.ProjRestIdeal.nD Cert.ProjRestIdeal.τ).loc Cert.ProjRestIdeal.main_v1_1) = v1 c
          ∧ r.2.mem ((c.tc : Thread Cert.ProjRestIdeal.nD Cert.ProjRestIdeal.τ).loc Cert.ProjRestIdeal.main_v1_2) = v2 c
          ∧ r.2.mem ((c.tc : Thread Cert.ProjRestIdeal.nD Cert.ProjRestIdeal.τ).loc Cert.ProjRestIdeal.main_arg0) = m ((c.tc : Thread Cert.ProjRestIdeal.nD Cert.ProjRestIdeal.τ).loc Cert.ProjRestIdeal.main_arg0)
          ∧ r.2.mem ((c.tc : Thread Cert.ProjRestIdeal.nD Cert.ProjRestIdeal.τ).loc Cert.ProjRestIdeal.main_arg1) = m ((c.tc : Thread Cert.ProjRestIdeal.nD Cert.ProjRestIdeal.τ).loc Cert.ProjRestIdeal.main_arg1)
          ∧ r.2.mem ((c.tc : Thread Cert.ProjRestIdeal.nD Cert.ProjRestIdeal.τ).loc Cert.ProjRestIdeal.main_arg2) = m ((c.tc : Thread Cert.ProjRestIdeal.nD Cert.ProjRestIdeal.τ).loc Cert.ProjRestIdeal.main_arg2))
      ∧ θ_run (Cert.ProjRestRefIdeal.defs (F := Ideal)) (onTc (τ := Cert.ProjRestRefIdeal.τ) (Cert.ProjRestRefIdeal.main (F := Ideal))) ⟨m', fun _ => 0, g'⟩ (fun r => ∀ c : Dev Cert.ProjRestRefIdeal.nD,
          r.2.mem ((c.tc : Thread Cert.ProjRestRefIdeal.nD Cert.ProjRestRefIdeal.τ).loc Cert.ProjRestRefIdeal.main_v5) = v0 c
          ∧ r.2.mem ((c.tc : Thread Cert.ProjRestRefIdeal.nD Cert.ProjRestRefIdeal.τ).loc Cert.ProjRestRefIdeal.main_v6) = v1 c
          ∧ r.2.mem ((c.tc : Thread Cert.ProjRestRefIdeal.nD Cert.ProjRestRefIdeal.τ).loc Cert.ProjRestRefIdeal.main_v9) = v2 c
          ∧ r.2.mem ((c.tc : Thread Cert.ProjRestRefIdeal.nD Cert.ProjRestRefIdeal.τ).loc Cert.ProjRestRefIdeal.main_arg0) = m' ((c.tc : Thread Cert.ProjRestRefIdeal.nD Cert.ProjRestRefIdeal.τ).loc Cert.ProjRestRefIdeal.main_arg0)
          ∧ r.2.mem ((c.tc : Thread Cert.ProjRestRefIdeal.nD Cert.ProjRestRefIdeal.τ).loc Cert.ProjRestRefIdeal.main_arg1) = m' ((c.tc : Thread Cert.ProjRestRefIdeal.nD Cert.ProjRestRefIdeal.τ).loc Cert.ProjRestRefIdeal.main_arg1)
          ∧ r.2.mem ((c.tc : Thread Cert.ProjRestRefIdeal.nD Cert.ProjRestRefIdeal.τ).loc Cert.ProjRestRefIdeal.main_arg2) = m' ((c.tc : Thread Cert.ProjRestRefIdeal.nD Cert.ProjRestRefIdeal.τ).loc Cert.ProjRestRefIdeal.main_arg2))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)) →
    ∃ (v0 : (c : Dev Cert.RopeIdeal.nD) → Buf (Elt Ideal) ((c.tc : Thread Cert.RopeIdeal.nD Cert.RopeIdeal.τ).loc Cert.RopeIdeal.main_v4_0)) (v1 : (c : Dev Cert.RopeIdeal.nD) → Buf (Elt Ideal) ((c.tc : Thread Cert.RopeIdeal.nD Cert.RopeIdeal.τ).loc Cert.RopeIdeal.main_v4_1)) (v2 : (c : Dev Cert.RopeIdeal.nD) → Buf (Elt Ideal) ((c.tc : Thread Cert.RopeIdeal.nD Cert.RopeIdeal.τ).loc Cert.RopeIdeal.main_v4_2)) (v3 : (c : Dev Cert.RopeIdeal.nD) → Buf (Elt Ideal) ((c.tc : Thread Cert.RopeIdeal.nD Cert.RopeIdeal.τ).loc Cert.RopeIdeal.main_v4_3)) (v4 : (c : Dev Cert.RopeIdeal.nD) → Buf (Elt Ideal) ((c.tc : Thread Cert.RopeIdeal.nD Cert.RopeIdeal.τ).loc Cert.RopeIdeal.main_v4_4)) (v5 : (c : Dev Cert.RopeIdeal.nD) → Buf (Elt Ideal) ((c.tc : Thread Cert.RopeIdeal.nD Cert.RopeIdeal.τ).loc Cert.RopeIdeal.main_v4_5)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v4_0) = v0 c
          ∧ r.2.mem ((c.tc : Thread Cert.RopeIdeal.nD Cert.RopeIdeal.τ).loc Cert.RopeIdeal.main_v4_1) = v1 c
          ∧ r.2.mem ((c.tc : Thread Cert.RopeIdeal.nD Cert.RopeIdeal.τ).loc Cert.RopeIdeal.main_v4_2) = v2 c
          ∧ r.2.mem ((c.tc : Thread Cert.RopeIdeal.nD Cert.RopeIdeal.τ).loc Cert.RopeIdeal.main_v4_3) = v3 c
          ∧ r.2.mem ((c.tc : Thread Cert.RopeIdeal.nD Cert.RopeIdeal.τ).loc Cert.RopeIdeal.main_v4_4) = v4 c
          ∧ r.2.mem ((c.tc : Thread Cert.RopeIdeal.nD Cert.RopeIdeal.τ).loc Cert.RopeIdeal.main_v4_5) = v5 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v31) = v0 c
          ∧ r.2.mem ((c.tc : Thread Cert.RopeRefIdeal.nD Cert.RopeRefIdeal.τ).loc Cert.RopeRefIdeal.main_v35) = v1 c
          ∧ r.2.mem ((c.tc : Thread Cert.RopeRefIdeal.nD Cert.RopeRefIdeal.τ).loc Cert.RopeRefIdeal.main_v37) = v2 c
          ∧ r.2.mem ((c.tc : Thread Cert.RopeRefIdeal.nD Cert.RopeRefIdeal.τ).loc Cert.RopeRefIdeal.main_v39) = v3 c
          ∧ r.2.mem ((c.tc : Thread Cert.RopeRefIdeal.nD Cert.RopeRefIdeal.τ).loc Cert.RopeRefIdeal.main_v42) = v4 c
          ∧ r.2.mem ((c.tc : Thread Cert.RopeRefIdeal.nD Cert.RopeRefIdeal.τ).loc Cert.RopeRefIdeal.main_v45) = v5 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2))

def preserves_Compress_CompressIdeal : Prop :=
  True

def algebraic_CompressIdeal_CompressRefIdeal [hCompressIdeal : Cert.CompressIdeal.Facts] [hCompressRefIdeal : Cert.CompressRefIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)) →
    ∃ (v0 : (c : Dev Cert.CompressIdeal.nD) → Buf (Elt Ideal) ((c.tc : Thread Cert.CompressIdeal.nD Cert.CompressIdeal.τ).loc Cert.CompressIdeal.main_v0_0)) (v1 : (c : Dev Cert.CompressIdeal.nD) → Buf (Elt Ideal) ((c.tc : Thread Cert.CompressIdeal.nD Cert.CompressIdeal.τ).loc Cert.CompressIdeal.main_v0_1)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v0_0) = v0 c
          ∧ r.2.mem ((c.tc : Thread Cert.CompressIdeal.nD Cert.CompressIdeal.τ).loc Cert.CompressIdeal.main_v0_1) = v1 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v37) = v0 c
          ∧ r.2.mem ((c.tc : Thread Cert.CompressRefIdeal.nD Cert.CompressRefIdeal.τ).loc Cert.CompressRefIdeal.main_v39) = v1 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def Claim : Prop :=
  ∃ (hWin : Cert.Win.Facts) (hWinIdeal : Cert.WinIdeal.Facts) (hWinRefIdeal : Cert.WinRefIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hProjAttn : Cert.ProjAttn.Facts) (hProjAttnIdeal : Cert.ProjAttnIdeal.Facts) (hProjAttnRefIdeal : Cert.ProjAttnRefIdeal.Facts) (hProjCmp : Cert.ProjCmp.Facts) (hProjCmpIdeal : Cert.ProjCmpIdeal.Facts) (hProjCmpRefIdeal : Cert.ProjCmpRefIdeal.Facts) (hWOut : Cert.WOut.Facts) (hWOutIdeal : Cert.WOutIdeal.Facts) (hWOutRefIdeal : Cert.WOutRefIdeal.Facts) (hMerge : Cert.Merge.Facts) (hMergeIdeal : Cert.MergeIdeal.Facts) (hMergeRefIdeal : Cert.MergeRefIdeal.Facts) (hLastNorm : Cert.LastNorm.Facts) (hLastNormIdeal : Cert.LastNormIdeal.Facts) (hLastNormRefIdeal : Cert.LastNormRefIdeal.Facts) (hNormMod : Cert.NormMod.Facts) (hNormModIdeal : Cert.NormModIdeal.Facts) (hNormModRefIdeal : Cert.NormModRefIdeal.Facts) (hProjRest : Cert.ProjRest.Facts) (hProjRestIdeal : Cert.ProjRestIdeal.Facts) (hProjRestRefIdeal : Cert.ProjRestRefIdeal.Facts) (hRope : Cert.Rope.Facts) (hRopeIdeal : Cert.RopeIdeal.Facts) (hRopeRefIdeal : Cert.RopeRefIdeal.Facts) (hCompress : Cert.Compress.Facts) (hCompressIdeal : Cert.CompressIdeal.Facts) (hCompressRefIdeal : Cert.CompressRefIdeal.Facts) (hAda : Cert.Ada.Facts) (hAdaIdeal : Cert.AdaIdeal.Facts) (hAdaRefIdeal : Cert.AdaRefIdeal.Facts) (hPre_finite : Cert.Pre_finite.Facts),
    quiescent_Win (hWin := hWin)
    ∧ quiescent_WinIdeal (hWinIdeal := hWinIdeal)
    ∧ quiescent_WinIdeal_pre_finite (hWinIdeal := hWinIdeal) (hPre_finite := hPre_finite)
    ∧ quiescent_WinRefIdeal (hWinRefIdeal := hWinRefIdeal)
    ∧ quiescent_WinRefIdeal_pre_finite (hWinRefIdeal := hWinRefIdeal) (hPre_finite := hPre_finite)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_ProjAttn (hProjAttn := hProjAttn)
    ∧ quiescent_ProjAttnIdeal (hProjAttnIdeal := hProjAttnIdeal)
    ∧ quiescent_ProjAttnRefIdeal (hProjAttnRefIdeal := hProjAttnRefIdeal)
    ∧ quiescent_ProjCmp (hProjCmp := hProjCmp)
    ∧ quiescent_ProjCmpIdeal (hProjCmpIdeal := hProjCmpIdeal)
    ∧ quiescent_ProjCmpRefIdeal (hProjCmpRefIdeal := hProjCmpRefIdeal)
    ∧ quiescent_WOut (hWOut := hWOut)
    ∧ quiescent_WOutIdeal (hWOutIdeal := hWOutIdeal)
    ∧ quiescent_WOutRefIdeal (hWOutRefIdeal := hWOutRefIdeal)
    ∧ quiescent_Merge (hMerge := hMerge)
    ∧ quiescent_MergeIdeal (hMergeIdeal := hMergeIdeal)
    ∧ quiescent_MergeRefIdeal (hMergeRefIdeal := hMergeRefIdeal)
    ∧ quiescent_LastNorm (hLastNorm := hLastNorm)
    ∧ quiescent_LastNormIdeal (hLastNormIdeal := hLastNormIdeal)
    ∧ quiescent_LastNormRefIdeal (hLastNormRefIdeal := hLastNormRefIdeal)
    ∧ quiescent_NormMod (hNormMod := hNormMod)
    ∧ quiescent_NormModIdeal (hNormModIdeal := hNormModIdeal)
    ∧ quiescent_NormModRefIdeal (hNormModRefIdeal := hNormModRefIdeal)
    ∧ quiescent_ProjRest (hProjRest := hProjRest)
    ∧ quiescent_ProjRestIdeal (hProjRestIdeal := hProjRestIdeal)
    ∧ quiescent_ProjRestRefIdeal (hProjRestRefIdeal := hProjRestRefIdeal)
    ∧ quiescent_Rope (hRope := hRope)
    ∧ quiescent_RopeIdeal (hRopeIdeal := hRopeIdeal)
    ∧ quiescent_RopeRefIdeal (hRopeRefIdeal := hRopeRefIdeal)
    ∧ quiescent_Compress (hCompress := hCompress)
    ∧ quiescent_CompressIdeal (hCompressIdeal := hCompressIdeal)
    ∧ quiescent_CompressRefIdeal (hCompressRefIdeal := hCompressRefIdeal)
    ∧ quiescent_Ada (hAda := hAda)
    ∧ quiescent_AdaIdeal (hAdaIdeal := hAdaIdeal)
    ∧ quiescent_AdaRefIdeal (hAdaRefIdeal := hAdaRefIdeal)
    ∧ preserves_Win_WinIdeal
    ∧ algebraic_WinIdeal_WinRefIdeal_pre_finite (hWinIdeal := hWinIdeal) (hWinRefIdeal := hWinRefIdeal) (hPre_finite := hPre_finite)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_ProjAttn_ProjAttnIdeal
    ∧ algebraic_ProjAttnIdeal_ProjAttnRefIdeal (hProjAttnIdeal := hProjAttnIdeal) (hProjAttnRefIdeal := hProjAttnRefIdeal)
    ∧ preserves_ProjCmp_ProjCmpIdeal
    ∧ algebraic_ProjCmpIdeal_ProjCmpRefIdeal (hProjCmpIdeal := hProjCmpIdeal) (hProjCmpRefIdeal := hProjCmpRefIdeal)
    ∧ preserves_WOut_WOutIdeal
    ∧ algebraic_WOutIdeal_WOutRefIdeal (hWOutIdeal := hWOutIdeal) (hWOutRefIdeal := hWOutRefIdeal)
    ∧ preserves_Merge_MergeIdeal
    ∧ algebraic_MergeIdeal_MergeRefIdeal (hMergeIdeal := hMergeIdeal) (hMergeRefIdeal := hMergeRefIdeal)
    ∧ preserves_LastNorm_LastNormIdeal
    ∧ algebraic_LastNormIdeal_LastNormRefIdeal (hLastNormIdeal := hLastNormIdeal) (hLastNormRefIdeal := hLastNormRefIdeal)
    ∧ preserves_NormMod_NormModIdeal
    ∧ algebraic_NormModIdeal_NormModRefIdeal (hNormModIdeal := hNormModIdeal) (hNormModRefIdeal := hNormModRefIdeal)
    ∧ preserves_ProjRest_ProjRestIdeal
    ∧ algebraic_ProjRestIdeal_ProjRestRefIdeal (hProjRestIdeal := hProjRestIdeal) (hProjRestRefIdeal := hProjRestRefIdeal)
    ∧ preserves_Rope_RopeIdeal
    ∧ algebraic_RopeIdeal_RopeRefIdeal (hRopeIdeal := hRopeIdeal) (hRopeRefIdeal := hRopeRefIdeal)
    ∧ preserves_Compress_CompressIdeal
    ∧ algebraic_CompressIdeal_CompressRefIdeal (hCompressIdeal := hCompressIdeal) (hCompressRefIdeal := hCompressRefIdeal)
    ∧ preserves_Ada_AdaIdeal
    ∧ algebraic_AdaIdeal_AdaRefIdeal (hAdaIdeal := hAdaIdeal) (hAdaRefIdeal := hAdaRefIdeal)
-- ==== Pre_finite.lean ====
abbrev S8192x2048 : Shape := ⟨2, ![8192, 2048]⟩
abbrev S8192x512 : Shape := ⟨2, ![8192, 512]⟩
abbrev S8192x48 : Shape := ⟨2, ![8192, 48]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x2048 .f32) (main_arg1 : FVec F S8192x512 .bf16) (main_arg2 : FVec F S8192x512 .bf16) (main_arg3 : FVec F S8192x48 .f32) (main_arg4 : FVec F S8192x2048 .bf16) (main_arg5 : FVec F S8192x2048 .bf16) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x512 .f32 := (extf .f32 · bitsLt_bf16_f32) main_arg1
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_c_1 : IVec S_ 1 := constantI S_ 1 1#1
  let main_v8 : IVec S_ 1 := (fun x v => Host.reduce IntOp.andi x v reducesTo_S8192x512_S_d0_1 h_S_) main_v7 main_c_1
  let main_v9 : IVec S_ 1 := andi main_v3 main_v8
  main_v9
-- ==== Win.lean ====
abbrev S8192x2048 : Shape := ⟨2, ![8192, 2048]⟩
abbrev S8192x512 : Shape := ⟨2, ![8192, 512]⟩
abbrev S8192x48 : Shape := ⟨2, ![8192, 48]⟩
abbrev S2x4096x3x4x4 : Shape := ⟨5, ![2, 4096, 3, 4, 4]⟩
abbrev S3x2x4x4x4096 : Shape := ⟨5, ![3, 2, 4, 4, 4096]⟩
abbrev S_ : Shape := ⟨0, ![]⟩
abbrev S3x2x4x8x4096 : Shape := ⟨5, ![3, 2, 4, 8, 4096]⟩
abbrev S512x8192 : Shape := ⟨2, ![512, 8192]⟩
abbrev S512x512 : Shape := ⟨2, ![512, 512]⟩
abbrev S256x128 : Shape := ⟨2, ![256, 128]⟩
abbrev S128x256 : Shape := ⟨2, ![128, 256]⟩
abbrev S1x1x1x8x512 : Shape := ⟨5, ![1, 1, 1, 8, 512]⟩
abbrev S256x512 : Shape := ⟨2, ![256, 512]⟩
abbrev S1024x128 : Shape := ⟨2, ![1024, 128]⟩
abbrev S768x128 : Shape := ⟨2, ![768, 128]⟩
abbrev S128x768 : Shape := ⟨2, ![128, 768]⟩
abbrev S768x1024 : Shape := ⟨2, ![768, 1024]⟩
abbrev S768x256 : Shape := ⟨2, ![768, 256]⟩
abbrev S1024 : Shape := ⟨1, ![1024]⟩
abbrev S1x1024 : Shape := ⟨2, ![1, 1024]⟩
abbrev S16x768 : Shape := ⟨2, ![16, 768]⟩
abbrev S144x768 : Shape := ⟨2, ![144, 768]⟩
abbrev S144x1024 : Shape := ⟨2, ![144, 1024]⟩
abbrev S1x1x1x1x256 : Shape := ⟨5, ![1, 1, 1, 1, 256]⟩
abbrev S1x256 : Shape := ⟨2, ![1, 256]⟩
abbrev S128x1024 : Shape := ⟨2, ![128, 1024]⟩

abbrev nBuf : Space → Nat
  | .hbm => 13
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S8192x512, .bf16⟩
  | .hbm, ⟨2, _⟩ => ⟨S8192x512, .bf16⟩
  | .hbm, ⟨3, _⟩ => ⟨S8192x48, .f32⟩
  | .hbm, ⟨4, _⟩ => ⟨S8192x2048, .bf16⟩
  | .hbm, ⟨5, _⟩ => ⟨S8192x2048, .bf16⟩
  | .hbm, ⟨6, _⟩ => ⟨S2x4096x3x4x4, .f32⟩
  | .hbm, ⟨7, _⟩ => ⟨S3x2x4x4x4096, .f32⟩
  | .hbm, ⟨8, _⟩ => ⟨S_, .i32⟩
  | .hbm, ⟨9, _⟩ => ⟨S_, .f32⟩
  | .hbm, ⟨10, _⟩ => ⟨S3x2x4x8x4096, .f32⟩
  | .hbm, ⟨11, _⟩ => ⟨S512x8192, .bf16⟩
  | .hbm, ⟨12, _⟩ => ⟨S8192x2048, .bf16⟩
  | .local _ .vmem, ⟨0, _⟩ => ⟨S512x512, .f32⟩
  | .local _ .vmem, ⟨1, _⟩ => ⟨S512x512, .f32⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S128x256, .bf16⟩
  | .local _ .vmem, ⟨15, _⟩ => ⟨S128x256, .bf16⟩
  | .local _ .vmem, ⟨16, _⟩ => ⟨S128x256, .bf16⟩
  | .local _ .vmem, ⟨17, _⟩ => ⟨S128x256, .bf16⟩
  | .local _ .vmem, ⟨18, _⟩ => ⟨S1x1x1x8x512, .f32⟩
  | .local _ .vmem, ⟨19, _⟩ => ⟨S1x1x1x8x512, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c2_i32 : BitVec 32 := 2#32
  let v1 : BitVec 32 := Scalar.muli arg2 c2_i32
  let c2_i32_0 : BitVec 32 := 2#32
  let v2 : BitVec 32 := Scalar.subi v1 c2_i32_0
  let c0_i32 : BitVec 32 := 0#32
  let v3 : BitVec 32 := Scalar.addi v2 c0_i32
  let c0_i32_1 : BitVec 32 := 0#32
  let v4 : BitVec 32 := Scalar.maxsi v3 c0_i32_1
  let v5 : BitVec 32 := Scalar.addi v0 v4
  let c0_i32_2 : BitVec 32 := 0#32
  ![v5.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c2_i32 : BitVec 32 := 2#32
  let v1 : BitVec 32 := Scalar.muli arg2 c2_i32
  let c2_i32_0 : BitVec 32 := 2#32
  let v2 : BitVec 32 := Scalar.subi v1 c2_i32_0
  let c1_i32 : BitVec 32 := 1#32
  let v3 : BitVec 32 := Scalar.addi v2 c1_i32
  let c0_i32 : BitVec 32 := 0#32
  let v4 : BitVec 32 := Scalar.maxsi v3 c0_i32
  let v5 : BitVec 32 := Scalar.addi v0 v4
  let c0_i32_1 : BitVec 32 := 0#32
  ![v5.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c2_i32 : BitVec 32 := 2#32
  let v1 : BitVec 32 := Scalar.muli arg2 c2_i32
  let c2_i32_0 : BitVec 32 := 2#32
  let v2 : BitVec 32 := Scalar.subi v1 c2_i32_0
  let c2_i32_1 : BitVec 32 := 2#32
  let v3 : BitVec 32 := Scalar.addi v2 c2_i32_1
  let c0_i32 : BitVec 32 := 0#32
  let v4 : BitVec 32 := Scalar.maxsi v3 c0_i32
  let v5 : BitVec 32 := Scalar.addi v0 v4
  let c0_i32_2 : BitVec 32 := 0#32
  ![v5.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c2_i32 : BitVec 32 := 2#32
  let v1 : BitVec 32 := Scalar.muli arg2 c2_i32
  let c2_i32_0 : BitVec 32 := 2#32
  let v2 : BitVec 32 := Scalar.subi v1 c2_i32_0
  let c3_i32 : BitVec 32 := 3#32
  let v3 : BitVec 32 := Scalar.addi v2 c3_i32
  let c0_i32 : BitVec 32 := 0#32
  let v4 : BitVec 32 := Scalar.maxsi v3 c0_i32
  let v5 : BitVec 32 := Scalar.addi v0 v4
  let c0_i32_1 : BitVec 32 := 0#32
  ![v5.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c2_i32 : BitVec 32 := 2#32
  let v1 : BitVec 32 := Scalar.muli arg2 c2_i32
  let c2_i32_0 : BitVec 32 := 2#32
  let v2 : BitVec 32 := Scalar.subi v1 c2_i32_0
  let c0_i32 : BitVec 32 := 0#32
  let v3 : BitVec 32 := Scalar.addi v2 c0_i32
  let c0_i32_1 : BitVec 32 := 0#32
  let v4 : BitVec 32 := Scalar.maxsi v3 c0_i32_1
  let v5 : BitVec 32 := Scalar.addi v0 v4
  let c0_i32_2 : BitVec 32 := 0#32
  ![arg1.toNat, v5.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c2_i32 : BitVec 32 := 2#32
  let v1 : BitVec 32 := Scalar.muli arg2 c2_i32
  let c2_i32_0 : BitVec 32 := 2#32
  let v2 : BitVec 32 := Scalar.subi v1 c2_i32_0
  let c1_i32 : BitVec 32 := 1#32
  let v3 : BitVec 32 := Scalar.addi v2 c1_i32
  let c0_i32 : BitVec 32 := 0#32
  let v4 : BitVec 32 := Scalar.maxsi v3 c0_i32
  let v5 : BitVec 32 := Scalar.addi v0 v4
  let c0_i32_1 : BitVec 32 := 0#32
  ![arg1.toNat, v5.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c2_i32 : BitVec 32 := 2#32
  let v1 : BitVec 32 := Scalar.muli arg2 c2_i32
  let c2_i32_0 : BitVec 32 := 2#32
  let v2 : BitVec 32 := Scalar.subi v1 c2_i32_0
  let c2_i32_1 : BitVec 32 := 2#32
  let v3 : BitVec 32 := Scalar.addi v2 c2_i32_1
  let c0_i32 : BitVec 32 := 0#32
  let v4 : BitVec 32 := Scalar.maxsi v3 c0_i32
  let v5 : BitVec 32 := Scalar.addi v0 v4
  let c0_i32_2 : BitVec 32 := 0#32
  ![arg1.toNat, v5.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c2_i32 : BitVec 32 := 2#32
  let v1 : BitVec 32 := Scalar.muli arg2 c2_i32
  let c2_i32_0 : BitVec 32 := 2#32
  let v2 : BitVec 32 := Scalar.subi v1 c2_i32_0
  let c3_i32 : BitVec 32 := 3#32
  let v3 : BitVec 32 := Scalar.addi v2 c3_i32
  let c0_i32 : BitVec 32 := 0#32
  let v4 : BitVec 32 := Scalar.maxsi v3 c0_i32
  let v5 : BitVec 32 := Scalar.addi v0 v4
  let c0_i32_1 : BitVec 32 := 0#32
  ![arg1.toNat, v5.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg0.toNat, arg1.toNat, c0_i32.toNat, arg2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== WinIdeal.lean ====
variable {F : FTy → Type} [FloatOps F] [Named F]
def κ : String → Option EReal := fun
  | "mask" => some ⊥
  | "scale" => some (((Real.sqrt 128)⁻¹ * (Real.log 2)⁻¹ : ℝ) : EReal)
  | _ => none
-- ==== WinRefIdeal.lean ====
abbrev S8192x2048 : Shape := ⟨2, ![8192, 2048]⟩
abbrev S8192x512 : Shape := ⟨2, ![8192, 512]⟩
abbrev S8192x48 : Shape := ⟨2, ![8192, 48]⟩
abbrev S2x4096x4x4x128 : Shape := ⟨5, ![2, 4096, 4, 4, 128]⟩
abbrev S2x4x4x4096x128 : Shape := ⟨5, ![2, 4, 4, 4096, 128]⟩
abbrev S2x4096x4x128 : Shape := ⟨4, ![2, 4096, 4, 128]⟩
abbrev S2x4x4096x128 : Shape := ⟨4, ![2, 4, 4096, 128]⟩
abbrev S2x4x4x4096x4096 : Shape := ⟨5, ![2, 4, 4, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2x4x4x4096 : Shape := ⟨4, ![2, 4, 4, 4096]⟩
abbrev S2x4x4x4096x1 : Shape := ⟨5, ![2, 4, 4, 4096, 1]⟩
abbrev S2x4096x3x4x4 : Shape := ⟨5, ![2, 4096, 3, 4, 4]⟩
abbrev S3x2x4x4x4096 : Shape := ⟨5, ![3, 2, 4, 4, 4096]⟩
abbrev S3x2x4x4x4096x1 : Shape := ⟨6, ![3, 2, 4, 4, 4096, 1]⟩
abbrev S1x2x4x4x4096x1 : Shape := ⟨6, ![1, 2, 4, 4, 4096, 1]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .bf16⟩
  | .hbm, ⟨2, _⟩ => ⟨S8192x512, .bf16⟩
  | .hbm, ⟨3, _⟩ => ⟨S8192x48, .f32⟩
  | .hbm, ⟨4, _⟩ => ⟨S8192x2048, .bf16⟩
  | .hbm, ⟨5, _⟩ => ⟨S8192x2048, .bf16⟩
  | .hbm, ⟨6, _⟩ => ⟨S2x4096x4x4x128, .f32⟩
  | .hbm, ⟨7, _⟩ => ⟨S2x4x4x4096x128, .f32⟩
  | .hbm, ⟨8, _⟩ => ⟨S8192x512, .f32⟩
  | .hbm, ⟨9, _⟩ => ⟨S2x4096x4x128, .f32⟩
  | .hbm, ⟨10, _⟩ => ⟨S2x4x4096x128, .f32⟩
  | .hbm, ⟨11, _⟩ => ⟨S8192x512, .f32⟩
  | .hbm, ⟨12, _⟩ => ⟨S2x4096x4x128, .f32⟩
  | .hbm, ⟨13, _⟩ => ⟨S2x4x4096x128, .f32⟩
  | .hbm, ⟨14, _⟩ => ⟨S2x4x4x4096x4096, .f32⟩
  | .hbm, ⟨15, _⟩ => ⟨S_, .f32⟩
  | .hbm, ⟨16, _⟩ => ⟨S_, .f32⟩
  | .hbm, ⟨17, _⟩ => ⟨S2x4x4x4096x4096, .f32⟩
  | .hbm, ⟨18, _⟩ => ⟨S2x4x4x4096x4096, .f32⟩
  | .hbm, ⟨19, _⟩ => ⟨S4096, .i32⟩
  | .hbm, ⟨20, _⟩ => ⟨S4096x1, .i32⟩
  | .hbm, ⟨21, _⟩ => ⟨S4096, .i32⟩
  | .hbm, ⟨22, _⟩ => ⟨S1x4096, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .i32⟩
  | .hbm, ⟨27, _⟩ => ⟨S4096x1, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S4096x4096, .i1⟩
  | .hbm, ⟨33, _⟩ => ⟨S_, .f32⟩
  | .hbm, ⟨34, _⟩ => ⟨S_, .f32⟩
  | .hbm, ⟨35, _⟩ => ⟨S2x4x4x4096x4096, .i1⟩
  | .hbm, ⟨36, _⟩ => ⟨S2x4x4x4096x4096, .f32⟩
  | .hbm, ⟨37, _⟩ => ⟨S2x4x4x4096x4096, .f32⟩
  | .hbm, ⟨38, _⟩ => ⟨S_, .f32⟩
  | .hbm, ⟨39, _⟩ => ⟨S2x4x4x4096, .f32⟩
  | .hbm, ⟨40, _⟩ => ⟨S_, .f32⟩
  | .hbm, ⟨41, _⟩ => ⟨S2x4x4x4096, .f32⟩
  | .hbm, ⟨42, _⟩ => ⟨S2x4x4x4096, .f32⟩
  | .hbm, ⟨43, _⟩ => ⟨S2x4x4x4096x1, .f32⟩
  | .hbm, ⟨44, _⟩ => ⟨S2x4x4x4096x4096, .f32⟩
  | .hbm, ⟨45, _⟩ => ⟨S2x4x4x4096x4096, .f32⟩
  | .hbm, ⟨46, _⟩ => ⟨S2x4x4x4096x4096, .f32⟩
  | .hbm, ⟨47, _⟩ => ⟨S_, .f32⟩
  | .hbm, ⟨48, _⟩ => ⟨S2x4x4x4096, .f32⟩
  | .hbm, ⟨49, _⟩ => ⟨S2x4x4x4096x1, .f32⟩
  | .hbm, ⟨50, _⟩ => ⟨S2x4x4x4096x4096, .f32⟩
  | .hbm, ⟨51, _⟩ => ⟨S2x4x4x4096x4096, .f32⟩
  | .hbm, ⟨52, _⟩ => ⟨S2x4x4x4096x128, .f32⟩
  | .hbm, ⟨53, _⟩ => ⟨S8192x48, .f32⟩
  | .hbm, ⟨54, _⟩ => ⟨S8192x48, .f32⟩
  | .hbm, ⟨55, _⟩ => ⟨S_, .f32⟩
  | .hbm, ⟨56, _⟩ => ⟨S8192x48, .f32⟩
  | .hbm, ⟨57, _⟩ => ⟨S8192x48, .f32⟩
  | .hbm, ⟨58, _⟩ => ⟨S_, .f32⟩
  | .hbm, ⟨59, _⟩ => ⟨S8192x48, .f32⟩
  | .hbm, ⟨60, _⟩ => ⟨S8192x48, .f32⟩
  | .hbm, ⟨61, _⟩ => ⟨S2x4096x3x4x4, .f32⟩
  | .hbm, ⟨62, _⟩ => ⟨S3x2x4x4x4096, .f32⟩
  | .hbm, ⟨63, _⟩ => ⟨S3x2x4x4x4096x1, .f32⟩
  | .hbm, ⟨64, _⟩ => ⟨S1x2x4x4x4096x1, .f32⟩
  | .hbm, ⟨65, _⟩ => ⟨S2x4x4x4096x1, .f32⟩
  | .hbm, ⟨66, _⟩ => ⟨S2x4x4x4096x128, .f32⟩
  | .hbm, ⟨67, _⟩ => ⟨S2x4x4x4096x128, .f32⟩
  | .hbm, ⟨68, _⟩ => ⟨S2x4096x4x4x128, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== MlpUp.lean ====
abbrev S8192x4096 : Shape := ⟨2, ![8192, 4096]⟩
abbrev S4096x16384 : Shape := ⟨2, ![4096, 16384]⟩
abbrev S2x16384x4096 : Shape := ⟨3, ![2, 16384, 4096]⟩
abbrev S8192x16384 : Shape := ⟨2, ![8192, 16384]⟩
abbrev S16384x4096 : Shape := ⟨2, ![16384, 4096]⟩
abbrev S1024x4096 : Shape := ⟨2, ![1024, 4096]⟩
abbrev S4096x1024 : Shape := ⟨2, ![4096, 1024]⟩
abbrev S1x128x4096 : Shape := ⟨3, ![1, 128, 4096]⟩
abbrev S1024x1024 : Shape := ⟨2, ![1024, 1024]⟩
abbrev S128x4096 : Shape := ⟨2, ![128, 4096]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .bf16⟩
  | .hbm, ⟨2, _⟩ => ⟨S2x16384x4096, .f32⟩
  | .hbm, ⟨3, _⟩ => ⟨S8192x16384, .bf16⟩
  | .hbm, ⟨4, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x128x4096, .f32⟩
  | .local _ .vmem, ⟨5, _⟩ => ⟨S1x128x4096, .f32⟩
  | .local _ .vmem, ⟨6, _⟩ => ⟨S1024x1024, .bf16⟩
  | .local _ .vmem, ⟨7, _⟩ => ⟨S1024x1024, .bf16⟩
  | .local _ .vmem, ⟨8, _⟩ => ⟨S128x4096, .bf16⟩
  | .local _ .vmem, ⟨9, _⟩ => ⟨S128x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MlpUpRefIdeal.lean ====
abbrev S8192x4096 : Shape := ⟨2, ![8192, 4096]⟩
abbrev S4096x16384 : Shape := ⟨2, ![4096, 16384]⟩
abbrev S2x16384x4096 : Shape := ⟨3, ![2, 16384, 4096]⟩
abbrev S8192x16384 : Shape := ⟨2, ![8192, 16384]⟩
abbrev S_ : Shape := ⟨0, ![]⟩
abbrev S1x16384x4096 : Shape := ⟨3, ![1, 16384, 4096]⟩
abbrev S16384x4096 : Shape := ⟨2, ![16384, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .bf16⟩
  | .hbm, ⟨2, _⟩ => ⟨S2x16384x4096, .f32⟩
  | .hbm, ⟨3, _⟩ => ⟨S8192x4096, .f32⟩
  | .hbm, ⟨4, _⟩ => ⟨S4096x16384, .f32⟩
  | .hbm, ⟨5, _⟩ => ⟨S8192x16384, .f32⟩
  | .hbm, ⟨6, _⟩ => ⟨S_, .f32⟩
  | .hbm, ⟨7, _⟩ => ⟨S8192x16384, .f32⟩
  | .hbm, ⟨8, _⟩ => ⟨S8192x16384, .f32⟩
  | .hbm, ⟨9, _⟩ => ⟨S8192x16384, .f32⟩
  | .hbm, ⟨10, _⟩ => ⟨S8192x16384, .bf16⟩
  | .hbm, ⟨11, _⟩ => ⟨S1x16384x4096, .f32⟩
  | .hbm, ⟨12, _⟩ => ⟨S16384x4096, .f32⟩
  | .hbm, ⟨13, _⟩ => ⟨S16384x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== MlpDown.lean ====
abbrev S8192x16384 : Shape := ⟨2, ![8192, 16384]⟩
abbrev S16384x4096 : Shape := ⟨2, ![16384, 4096]⟩
abbrev S8192x4096 : Shape := ⟨2, ![8192, 4096]⟩
abbrev S2x1x4096 : Shape := ⟨3, ![2, 1, 4096]⟩
abbrev S1024x4096 : Shape := ⟨2, ![1024, 4096]⟩
abbrev S4096x1024 : Shape := ⟨2, ![4096, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x16384, .bf16⟩
  | .hbm, ⟨1, _⟩ => ⟨S16384x4096, .bf16⟩
  | .hbm, ⟨2, _⟩ => ⟨S8192x4096, .f32⟩
  | .hbm, ⟨3, _⟩ => ⟨S2x1x4096, .f32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MlpDownRefIdeal.lean ====
abbrev S8192x16384 : Shape := ⟨2, ![8192, 16384]⟩
abbrev S16384x4096 : Shape := ⟨2, ![16384, 4096]⟩
abbrev S8192x4096 : Shape := ⟨2, ![8192, 4096]⟩
abbrev S2x1x4096 : Shape := ⟨3, ![2, 1, 4096]⟩
abbrev S2x4096x4096 : Shape := ⟨3, ![2, 4096, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S16384x4096, .bf16⟩
  | .hbm, ⟨2, _⟩ => ⟨S8192x4096, .f32⟩
  | .hbm, ⟨3, _⟩ => ⟨S2x1x4096, .f32⟩
  | .hbm, ⟨4, _⟩ => ⟨S8192x16384, .f32⟩
  | .hbm, ⟨5, _⟩ => ⟨S16384x4096, .f32⟩
  | .hbm, ⟨6, _⟩ => ⟨S8192x4096, .f32⟩
  | .hbm, ⟨7, _⟩ => ⟨S2x4096x4096, .f32⟩
  | .hbm, ⟨8, _⟩ => ⟨S2x4096x4096, .f32⟩
  | .hbm, ⟨9, _⟩ => ⟨S2x4096x4096, .f32⟩
  | .hbm, ⟨10, _⟩ => ⟨S2x4096x4096, .f32⟩
  | .hbm, ⟨11, _⟩ => ⟨S2x4096x4096, .f32⟩
  | .hbm, ⟨12, _⟩ => ⟨S8192x4096, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== ProjAttn.lean ====
abbrev S8192x4096 : Shape := ⟨2, ![8192, 4096]⟩
abbrev S2x4096x21552 : Shape := ⟨3, ![2, 4096, 21552]⟩
abbrev S2x21552x4096 : Shape := ⟨3, ![2, 21552, 4096]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x21552, .f32⟩
  | .hbm, ⟨2, _⟩ => ⟨S2x21552x4096, .f32⟩
  | .hbm, ⟨3, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c2_i32 : BitVec 32 := 2#32
  let v1 : BitVec 32 := Scalar.addi arg1 c2_i32
  let v2 : BitVec 32 := Scalar.select v0 arg1 v1
  let c0_i32 : BitVec 32 := 0#32
  let v3 : BitVec 32 := Scalar.addi c0_i32 v2
  let c0_i32_0 : BitVec 32 := 0#32
  let c0_i32_1 : BitVec 32 := 0#32
  let c0_i32_2 : BitVec 32 := 0#32
  ![c0_i32_0.toNat, v3.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjAttnRefIdeal.lean ====
abbrev S8192x4096 : Shape := ⟨2, ![8192, 4096]⟩
abbrev S2x4096x21552 : Shape := ⟨3, ![2, 4096, 21552]⟩
abbrev S1x4096x21552 : Shape := ⟨3, ![1, 4096, 21552]⟩
abbrev S4096x21552 : Shape := ⟨2, ![4096, 21552]⟩
abbrev S8192x21552 : Shape := ⟨2, ![8192, 21552]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x21552, .f32⟩
  | .hbm, ⟨2, _⟩ => ⟨S8192x4096, .f32⟩
  | .hbm, ⟨3, _⟩ => ⟨S1x4096x21552, .f32⟩
  | .hbm, ⟨4, _⟩ => ⟨S4096x21552, .f32⟩
  | .hbm, ⟨5, _⟩ => ⟨S8192x21552, .f32⟩
  | .hbm, ⟨6, _⟩ => ⟨S8192x2048, .f32⟩
  | .hbm, ⟨7, _⟩ => ⟨S8192x2048, .f32⟩
  | .hbm, ⟨8, _⟩ => ⟨S8192x4096, .f32⟩
  | .hbm, ⟨9, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== ProjCmp.lean ====
abbrev S8192x4096 : Shape := ⟨2, ![8192, 4096]⟩
abbrev S2x4096x21552 : Shape := ⟨3, ![2, 4096, 21552]⟩
abbrev S2x21552x4096 : Shape := ⟨3, ![2, 21552, 4096]⟩
abbrev S8192x1024 : Shape := ⟨2, ![8192, 1024]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x21552, .f32⟩
  | .hbm, ⟨2, _⟩ => ⟨S2x21552x4096, .f32⟩
  | .hbm, ⟨3, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjCmpRefIdeal.lean ====
abbrev S8192x4096 : Shape := ⟨2, ![8192, 4096]⟩
abbrev S2x4096x21552 : Shape := ⟨3, ![2, 4096, 21552]⟩
abbrev S1x4096x21552 : Shape := ⟨3, ![1, 4096, 21552]⟩
abbrev S4096x21552 : Shape := ⟨2, ![4096, 21552]⟩
abbrev S8192x21552 : Shape := ⟨2, ![8192, 21552]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x21552, .f32⟩
  | .hbm, ⟨2, _⟩ => ⟨S8192x4096, .f32⟩
  | .hbm, ⟨3, _⟩ => ⟨S1x4096x21552, .f32⟩
  | .hbm, ⟨4, _⟩ => ⟨S4096x21552, .f32⟩
  | .hbm, ⟨5, _⟩ => ⟨S8192x21552, .f32⟩
  | .hbm, ⟨6, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== WOut.lean ====
abbrev S8192x4096 : Shape := ⟨2, ![8192, 4096]⟩
abbrev S4096x4096 : Shape := ⟨2, ![4096, 4096]⟩
abbrev S2x1x4096 : Shape := ⟨3, ![2, 1, 4096]⟩
abbrev S1024x4096 : Shape := ⟨2, ![1024, 4096]⟩
abbrev S4096x1024 : Shape := ⟨2, ![4096, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S2x1x4096, .f32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== WOutRefIdeal.lean ====
abbrev S8192x4096 : Shape := ⟨2, ![8192, 4096]⟩
abbrev S4096x4096 : Shape := ⟨2, ![4096, 4096]⟩
abbrev S2x1x4096 : Shape := ⟨3, ![2, 1, 4096]⟩
abbrev S2x4096x4096 : Shape := ⟨3, ![2, 4096, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S2x1x4096, .f32⟩
  | .hbm, ⟨4, _⟩ => ⟨S8192x4096, .f32⟩
  | .hbm, ⟨5, _⟩ => ⟨S4096x4096, .f32⟩
  | .hbm, ⟨6, _⟩ => ⟨S8192x4096, .f32⟩
  | .hbm, ⟨7, _⟩ => ⟨S2x4096x4096, .f32⟩
  | .hbm, ⟨8, _⟩ => ⟨S2x4096x4096, .f32⟩
  | .hbm, ⟨9, _⟩ => ⟨S2x4096x4096, .f32⟩
  | .hbm, ⟨10, _⟩ => ⟨S2x4096x4096, .f32⟩
  | .hbm, ⟨11, _⟩ => ⟨S2x4096x4096, .f32⟩
  | .hbm, ⟨12, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Merge.lean ====
abbrev S8192x2048 : Shape := ⟨2, ![8192, 2048]⟩
abbrev S2048x4096 : Shape := ⟨2, ![2048, 4096]⟩
abbrev S8192x16384 : Shape := ⟨2, ![8192, 16384]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x4096, .bf16⟩
  | .hbm, ⟨3, _⟩ => ⟨S2048x4096, .bf16⟩
  | .hbm, ⟨4, _⟩ => ⟨S8192x16384, .bf16⟩
  | .hbm, ⟨5, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8192x2048 : Shape := ⟨2, ![8192, 2048]⟩
abbrev S2048x4096 : Shape := ⟨2, ![2048, 4096]⟩
abbrev S8192x16384 : Shape := ⟨2, ![8192, 16384]⟩
abbrev S8192x4096 : Shape := ⟨2, ![8192, 4096]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x4096, .bf16⟩
  | .hbm, ⟨3, _⟩ => ⟨S2048x4096, .bf16⟩
  | .hbm, ⟨4, _⟩ => ⟨S8192x16384, .bf16⟩
  | .hbm, ⟨5, _⟩ => ⟨S8192x16384, .f32⟩
  | .hbm, ⟨6, _⟩ => ⟨S8192x4096, .f32⟩
  | .hbm, ⟨7, _⟩ => ⟨S8192x16384, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x2048, .f32⟩
  | .hbm, ⟨18, _⟩ => ⟨S2048x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S8192x2048, .f32⟩
  | .hbm, ⟨30, _⟩ => ⟨S2048x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== LastNorm.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LastNormRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormMod.lean ====
abbrev S8192x4096 : Shape := ⟨2, ![8192, 4096]⟩
abbrev S4096 : Shape := ⟨1, ![4096]⟩
abbrev S2x1x4096 : Shape := ⟨3, ![2, 1, 4096]⟩
abbrev S1x4096 : Shape := ⟨2, ![1, 4096]⟩
abbrev S512x4096 : Shape := ⟨2, ![512, 4096]⟩
abbrev S1x1x4096 : Shape := ⟨3, ![1, 1, 4096]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S2x1x4096, .f32⟩
  | .hbm, ⟨3, _⟩ => ⟨S2x1x4096, .f32⟩
  | .hbm, ⟨4, _⟩ => ⟨S1x4096, .f32⟩
  | .hbm, ⟨5, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S512x4096, .bf16⟩
  | .local _ .vmem, ⟨8, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormModRefIdeal.lean ====
abbrev S8192x4096 : Shape := ⟨2, ![8192, 4096]⟩
abbrev S4096 : Shape := ⟨1, ![4096]⟩
abbrev S2x1x4096 : Shape := ⟨3, ![2, 1, 4096]⟩
abbrev S2x4096x4096 : Shape := ⟨3, ![2, 4096, 4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S2x1x4096, .f32⟩
  | .hbm, ⟨3, _⟩ => ⟨S2x1x4096, .f32⟩
  | .hbm, ⟨4, _⟩ => ⟨S2x4096x4096, .f32⟩
  | .hbm, ⟨5, _⟩ => ⟨S2x4096x4096, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x4096, .f32⟩
  | .hbm, ⟨17, _⟩ => ⟨S2x4096x4096, .f32⟩
  | .hbm, ⟨18, _⟩ => ⟨S1x1x4096, .f32⟩
  | .hbm, ⟨19, _⟩ => ⟨S2x4096x4096, .f32⟩
  | .hbm, ⟨20, _⟩ => ⟨S2x4096x4096, .f32⟩
  | .hbm, ⟨21, _⟩ => ⟨S_, .f32⟩
  | .hbm, ⟨22, _⟩ => ⟨S2x1x4096, .f32⟩
  | .hbm, ⟨23, _⟩ => ⟨S2x1x4096, .f32⟩
  | .hbm, ⟨24, _⟩ => ⟨S2x4096x4096, .f32⟩
  | .hbm, ⟨25, _⟩ => ⟨S2x4096x4096, .f32⟩
  | .hbm, ⟨26, _⟩ => ⟨S2x4096x4096, .f32⟩
  | .hbm, ⟨27, _⟩ => ⟨S2x4096x4096, .f32⟩
  | .hbm, ⟨28, _⟩ => ⟨S8192x4096, .f32⟩
  | .hbm, ⟨29, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== ProjRest.lean ====
abbrev S8192x4096 : Shape := ⟨2, ![8192, 4096]⟩
abbrev S2x4096x21552 : Shape := ⟨3, ![2, 4096, 21552]⟩
abbrev S2x4096x16384 : Shape := ⟨3, ![2, 4096, 16384]⟩
abbrev S2x21552x4096 : Shape := ⟨3, ![2, 21552, 4096]⟩
abbrev S8192x16384 : Shape := ⟨2, ![8192, 16384]⟩
abbrev S8192x128 : Shape := ⟨2, ![8192, 128]⟩
abbrev S4096x16384 : Shape := ⟨2, ![4096, 16384]⟩
abbrev S1024x4096 : Shape := ⟨2, ![1024, 4096]⟩
abbrev S1x512x4096 : Shape := ⟨3, ![1, 512, 4096]⟩
abbrev S1x64x4096 : Shape := ⟨3, ![1, 64, 4096]⟩
abbrev S1x16x16384 : Shape := ⟨3, ![1, 16, 16384]⟩
abbrev S1024x512 : Shape := ⟨2, ![1024, 512]⟩
abbrev S1024x128 : Shape := ⟨2, ![1024, 128]⟩
abbrev S16x16384 : Shape := ⟨2, ![16, 16384]⟩
abbrev S1x464x4096 : Shape := ⟨3, ![1, 464, 4096]⟩
abbrev S464x4096 : Shape := ⟨2, ![464, 4096]⟩
abbrev S1x48x4096 : Shape := ⟨3, ![1, 48, 4096]⟩
abbrev S48x4096 : Shape := ⟨2, ![48, 4096]⟩
abbrev S512x4096 : Shape := ⟨2, ![512, 4096]⟩
abbrev S1x128x4096 : Shape := ⟨3, ![1, 128, 4096]⟩
abbrev S128x4096 : Shape := ⟨2, ![128, 4096]⟩

abbrev nBuf : Space → Nat
  | .hbm => 7
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S2x4096x21552, .f32⟩
  | .hbm, ⟨2, _⟩ => ⟨S2x4096x16384, .f32⟩
  | .hbm, ⟨3, _⟩ => ⟨S2x21552x4096, .f32⟩
  | .hbm, ⟨4, _⟩ => ⟨S8192x16384, .bf16⟩
  | .hbm, ⟨5, _⟩ => ⟨S8192x128, .f32⟩
  | .hbm, ⟨6, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1x64x4096, .f32⟩
  | .local _ .vmem, ⟨5, _⟩ => ⟨S1x64x4096, .f32⟩
  | .local _ .vmem, ⟨6, _⟩ => ⟨S1x16x16384, .f32⟩
  | .local _ .vmem, ⟨7, _⟩ => ⟨S1x16x16384, .f32⟩
  | .local _ .vmem, ⟨8, _⟩ => ⟨S1024x512, .bf16⟩
  | .local _ .vmem, ⟨9, _⟩ => ⟨S1024x512, .bf16⟩
  | .local _ .vmem, ⟨10, _⟩ => ⟨S1024x128, .f32⟩
  | .local _ .vmem, ⟨11, _⟩ => ⟨S1024x128, .f32⟩
  | .local _ .vmem, ⟨12, _⟩ => ⟨S16x16384, .bf16⟩
  | .local _ .vmem, ⟨13, _⟩ => ⟨S16x16384, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 32], ![false, false]⟩

def k0_cond1 (i : grid0.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c1_i32 : BitVec 32 := 1#32
  let v1 : BitVec 32 := Scalar.addi v0 c1_i32
  let c8_i32 : BitVec 32 := 8#32
  let v2 : BitVec 32 := Scalar.muli v1 c8_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x16x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x16384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjRestRefIdeal.lean ====
abbrev S8192x4096 : Shape := ⟨2, ![8192, 4096]⟩
abbrev S2x4096x21552 : Shape := ⟨3, ![2, 4096, 21552]⟩
abbrev S2x4096x16384 : Shape := ⟨3, ![2, 4096, 16384]⟩
abbrev S1x4096x21552 : Shape := ⟨3, ![1, 4096, 21552]⟩
abbrev S4096x21552 : Shape := ⟨2, ![4096, 21552]⟩
abbrev S8192x21552 : Shape := ⟨2, ![8192, 21552]⟩
abbrev S8192x16384 : Shape := ⟨2, ![8192, 16384]⟩
abbrev S8192x128 : Shape := ⟨2, ![8192, 128]⟩
abbrev S1x4096x16384 : Shape := ⟨3, ![1, 4096, 16384]⟩
abbrev S4096x16384 : Shape := ⟨2, ![4096, 16384]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x21552, .f32⟩
  | .hbm, ⟨2, _⟩ => ⟨S2x4096x16384, .f32⟩
  | .hbm, ⟨3, _⟩ => ⟨S8192x4096, .f32⟩
  | .hbm, ⟨4, _⟩ => ⟨S1x4096x21552, .f32⟩
  | .hbm, ⟨5, _⟩ => ⟨S4096x21552, .f32⟩
  | .hbm, ⟨6, _⟩ => ⟨S8192x21552, .f32⟩
  | .hbm, ⟨7, _⟩ => ⟨S8192x16384, .f32⟩
  | .hbm, ⟨8, _⟩ => ⟨S8192x16384, .bf16⟩
  | .hbm, ⟨9, _⟩ => ⟨S8192x128, .f32⟩
  | .hbm, ⟨10, _⟩ => ⟨S1x4096x16384, .f32⟩
  | .hbm, ⟨11, _⟩ => ⟨S4096x16384, .f32⟩
  | .hbm, ⟨12, _⟩ => ⟨S4096x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Rope.lean ====
abbrev S8192x4096 : Shape := ⟨2, ![8192, 4096]⟩
abbrev S2x4096 : Shape := ⟨2, ![2, 4096]⟩
abbrev S16 : Shape := ⟨1, ![16]⟩
abbrev S_ : Shape := ⟨0, ![]⟩
abbrev S96 : Shape := ⟨1, ![96]⟩
abbrev S128 : Shape := ⟨1, ![128]⟩
abbrev S1x128 : Shape := ⟨2, ![1, 128]⟩
abbrev S8192x1 : Shape := ⟨2, ![8192, 1]⟩
abbrev S8192x2048 : Shape := ⟨2, ![8192, 2048]⟩
abbrev S8192x512 : Shape := ⟨2, ![8192, 512]⟩
abbrev S512x8192 : Shape := ⟨2, ![512, 8192]⟩
abbrev S512x4096 : Shape := ⟨2, ![512, 4096]⟩
abbrev S512x1 : Shape := ⟨2, ![512, 1]⟩
abbrev S512x2048 : Shape := ⟨2, ![512, 2048]⟩
abbrev S512x512 : Shape := ⟨2, ![512, 512]⟩
abbrev S512x128 : Shape := ⟨2, ![512, 128]⟩
abbrev S128x512 : Shape := ⟨2, ![128, 512]⟩

abbrev nBuf : Space → Nat
  | .hbm => 14
  | .vmem => 17
  | .smem => 0
  | _ => 0

abbrev bufTy : (tb : Table) → Fin (tcTables nBuf tb) → BufTy
  | .hbm, ⟨0, _⟩ => ⟨S8192x4096, .bf16⟩
  | .hbm, ⟨1, _⟩ => ⟨S2x4096, .i32⟩
  | .hbm, ⟨2, _⟩ => ⟨S16, .f32⟩
  | .hbm, ⟨3, _⟩ => ⟨S_, .f32⟩
  | .hbm, ⟨4, _⟩ => ⟨S96, .f32⟩
  | .hbm, ⟨5, _⟩ => ⟨S128, .f32⟩
  | .hbm, ⟨6, _⟩ => ⟨S1x128, .f32⟩
  | .hbm, ⟨7, _⟩ => ⟨S8192x1, .i32⟩
  | .hbm, ⟨8, _⟩ => ⟨S8192x2048, .bf16⟩
  | .hbm, ⟨9, _⟩ => ⟨S8192x2048, .bf16⟩
  | .hbm, ⟨10, _⟩ => ⟨S8192x512, .bf16⟩
  | .hbm, ⟨11, _⟩ => ⟨S8192x512, .bf16⟩
  | .hbm, ⟨12, _⟩ => ⟨S512x8192, .bf16⟩
  | .hbm, ⟨13, _⟩ => ⟨S512x8192, .bf16⟩
  | .local _ .vmem, ⟨0, _⟩ => ⟨S512x4096, .bf16⟩
  | .local _ .vmem, ⟨1, _⟩ => ⟨S512x4096, .bf16⟩
  | .local _ .vmem, ⟨2, _⟩ => ⟨S512x1, .i32⟩
  | .local _ .vmem, ⟨3, _⟩ => ⟨S512x1, .i32⟩
  | .local _ .vmem, ⟨4, _⟩ => ⟨S1x128, .f32⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_v4_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RopeRefIdeal.lean ====
abbrev S8192x4096 : Shape := ⟨2, ![8192, 4096]⟩
abbrev S2x4096 : Shape := ⟨2, ![2, 4096]⟩
abbrev S16 : Shape := ⟨1, ![16]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S8192x32x128 : Shape := ⟨3, ![8192, 32, 128]⟩
abbrev S8192x32x16 : Shape := ⟨3, ![8192, 32, 16]⟩
abbrev S8192x32x96 : Shape := ⟨3, ![8192, 32, 96]⟩
abbrev S8192x2048 : Shape := ⟨2, ![8192, 2048]⟩
abbrev S_ : Shape := ⟨0, ![]⟩
abbrev S8192x512 : Shape := ⟨2, ![8192, 512]⟩
abbrev S512x8192 : Shape := ⟨2, ![512, 8192]⟩

abbrev nBuf : Space → Nat
  | .hbm => 51
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096, .i32⟩
  | .hbm, ⟨2, _⟩ => ⟨S16, .f32⟩
  | .hbm, ⟨3, _⟩ => ⟨S8192, .i32⟩
  | .hbm, ⟨4, _⟩ => ⟨S8192, .f32⟩
  | .hbm, ⟨5, _⟩ => ⟨S8192x1, .f32⟩
  | .hbm, ⟨6, _⟩ => ⟨S1x16, .f32⟩
  | .hbm, ⟨7, _⟩ => ⟨S8192x16, .f32⟩
  | .hbm, ⟨8, _⟩ => ⟨S8192x16, .f32⟩
  | .hbm, ⟨9, _⟩ => ⟨S8192x16, .f32⟩
  | .hbm, ⟨10, _⟩ => ⟨S8192x16, .f32⟩
  | .hbm, ⟨11, _⟩ => ⟨S8192x1x16, .f32⟩
  | .hbm, ⟨12, _⟩ => ⟨S8192x16, .f32⟩
  | .hbm, ⟨13, _⟩ => ⟨S8192x1x16, .f32⟩
  | .hbm, ⟨14, _⟩ => ⟨S8192x4096, .f32⟩
  | .hbm, ⟨15, _⟩ => ⟨S8192x32x128, .f32⟩
  | .hbm, ⟨16, _⟩ => ⟨S8192x32x16, .f32⟩
  | .hbm, ⟨17, _⟩ => ⟨S8192x32x16, .f32⟩
  | .hbm, ⟨18, _⟩ => ⟨S8192x32x96, .f32⟩
  | .hbm, ⟨19, _⟩ => ⟨S8192x32x16, .f32⟩
  | .hbm, ⟨20, _⟩ => ⟨S8192x32x16, .f32⟩
  | .hbm, ⟨21, _⟩ => ⟨S8192x32x16, .f32⟩
  | .hbm, ⟨22, _⟩ => ⟨S8192x32x16, .f32⟩
  | .hbm, ⟨23, _⟩ => ⟨S8192x32x16, .f32⟩
  | .hbm, ⟨24, _⟩ => ⟨S8192x32x16, .f32⟩
  | .hbm, ⟨25, _⟩ => ⟨S8192x32x16, .f32⟩
  | .hbm, ⟨26, _⟩ => ⟨S8192x32x16, .f32⟩
  | .hbm, ⟨27, _⟩ => ⟨S8192x32x16, .f32⟩
  | .hbm, ⟨28, _⟩ => ⟨S8192x32x16, .f32⟩
  | .hbm, ⟨29, _⟩ => ⟨S8192x32x128, .f32⟩
  | .hbm, ⟨30, _⟩ => ⟨S8192x4096, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .bf16⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S8192x2048, .bf16⟩
  | .hbm, ⟨41, _⟩ => ⟨S8192x512, .f32⟩
  | .hbm, ⟨42, _⟩ => ⟨S8192x512, .bf16⟩
  | .hbm, ⟨43, _⟩ => ⟨S8192x512, .f32⟩
  | .hbm, ⟨44, _⟩ => ⟨S8192x512, .bf16⟩
  | .hbm, ⟨45, _⟩ => ⟨S8192x512, .f32⟩
  | .hbm, ⟨46, _⟩ => ⟨S512x8192, .f32⟩
  | .hbm, ⟨47, _⟩ => ⟨S512x8192, .bf16⟩
  | .hbm, ⟨48, _⟩ => ⟨S8192x512, .f32⟩
  | .hbm, ⟨49, _⟩ => ⟨S512x8192, .f32⟩
  | .hbm, ⟨50, _⟩ => ⟨S512x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_cst : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_0 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩

abbrev nD : Nat := 1
abbrev τ : Topo := Topo.v7x

variable {F : FTy → Type} [FloatOps F]
-- ==== Compress.lean ====
abbrev S8192x1024 : Shape := ⟨2, ![8192, 1024]⟩
abbrev S2x32x128 : Shape := ⟨3, ![2, 32, 128]⟩
abbrev S2x32x128x128 : Shape := ⟨4, ![2, 32, 128, 128]⟩
abbrev S2x128x128 : Shape := ⟨3, ![2, 128, 128]⟩
abbrev S2x2x4x256x128 : Shape := ⟨5, ![2, 2, 4, 256, 128]⟩
abbrev S2x2x4x128x256 : Shape := ⟨5, ![2, 2, 4, 128, 256]⟩
abbrev S4096x128 : Shape := ⟨2, ![4096, 128]⟩
abbrev S1x32x128 : Shape := ⟨3, ![1, 32, 128]⟩
abbrev S1x32x128x128 : Shape := ⟨4, ![1, 32, 128, 128]⟩
abbrev S1x128x128 : Shape := ⟨3, ![1, 128, 128]⟩
abbrev S1x1x1x256x128 : Shape := ⟨5, ![1, 1, 1, 256, 128]⟩
abbrev S1x1x1x128x256 : Shape := ⟨5, ![1, 1, 1, 128, 256]⟩
abbrev S256x128 : Shape := ⟨2, ![256, 128]⟩
abbrev S1x1x128 : Shape := ⟨3, ![1, 1, 128]⟩
abbrev S1x128 : Shape := ⟨2, ![1, 128]⟩
abbrev S1x1x128x128 : Shape := ⟨4, ![1, 1, 128, 128]⟩
abbrev S128x128 : Shape := ⟨2, ![128, 128]⟩
abbrev S128x256 : Shape := ⟨2, ![128, 256]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2x32x128, .f32⟩
  | .hbm, ⟨2, _⟩ => ⟨S2x32x128x128, .f32⟩
  | .hbm, ⟨3, _⟩ => ⟨S2x128x128, .f32⟩
  | .hbm, ⟨4, _⟩ => ⟨S2x2x4x256x128, .bf16⟩
  | .hbm, ⟨5, _⟩ => ⟨S2x2x4x128x256, .bf16⟩
  | .local _ .vmem, ⟨0, _⟩ => ⟨S4096x128, .f32⟩
  | .local _ .vmem, ⟨1, _⟩ => ⟨S4096x128, .f32⟩
  | .local _ .vmem, ⟨2, _⟩ => ⟨S1x32x128, .f32⟩
  | .local _ .vmem, ⟨3, _⟩ => ⟨S1x32x128, .f32⟩
  | .local _ .vmem, ⟨4, _⟩ => ⟨S1x32x128x128, .f32⟩
  | .local _ .vmem, ⟨5, _⟩ => ⟨S1x32x128x128, .f32⟩
  | .local _ .vmem, ⟨6, _⟩ => ⟨S1x128x128, .f32⟩
  | .local _ .vmem, ⟨7, _⟩ => ⟨S1x128x128, .f32⟩
  | .local _ .vmem, ⟨8, _⟩ => ⟨S1x1x1x256x128, .bf16⟩
  | .local _ .vmem, ⟨9, _⟩ => ⟨S1x1x1x256x128, .bf16⟩
  | .local _ .vmem, ⟨10, _⟩ => ⟨S1x1x1x128x256, .bf16⟩
  | .local _ .vmem, ⟨11, _⟩ => ⟨S1x1x1x128x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x32x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== CompressRefIdeal.lean ====
abbrev S8192x1024 : Shape := ⟨2, ![8192, 1024]⟩
abbrev S2x32x128 : Shape := ⟨3, ![2, 32, 128]⟩
abbrev S2x32x128x128 : Shape := ⟨4, ![2, 32, 128, 128]⟩
abbrev S2x128x128 : Shape := ⟨3, ![2, 128, 128]⟩
abbrev S2x4096x2x4x128 : Shape := ⟨5, ![2, 4096, 2, 4, 128]⟩
abbrev S256 : Shape := ⟨1, ![256]⟩
abbrev S256x1 : Shape := ⟨2, ![256, 1]⟩
abbrev S_ : Shape := ⟨0, ![]⟩
abbrev S32 : Shape := ⟨1, ![32]⟩
abbrev S1x32 : Shape := ⟨2, ![1, 32]⟩
abbrev S256x32 : Shape := ⟨2, ![256, 32]⟩
abbrev S256x32x1 : Shape := ⟨3, ![256, 32, 1]⟩
abbrev S2x256x32x2x4x128 : Shape := ⟨6, ![2, 256, 32, 2, 4, 128]⟩
abbrev S2x2x4x256x32x128 : Shape := ⟨6, ![2, 2, 4, 256, 32, 128]⟩
abbrev S2x1x1x1x32x128 : Shape := ⟨6, ![2, 1, 1, 1, 32, 128]⟩
abbrev S2x2x4x256x128 : Shape := ⟨5, ![2, 2, 4, 256, 128]⟩
abbrev S2x2x4x128x256 : Shape := ⟨5, ![2, 2, 4, 128, 256]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x32x128, .f32⟩
  | .hbm, ⟨2, _⟩ => ⟨S2x32x128x128, .f32⟩
  | .hbm, ⟨3, _⟩ => ⟨S2x128x128, .f32⟩
  | .hbm, ⟨4, _⟩ => ⟨S2x4096x2x4x128, .f32⟩
  | .hbm, ⟨5, _⟩ => ⟨S256, .i32⟩
  | .hbm, ⟨6, _⟩ => ⟨S256x1, .i32⟩
  | .hbm, ⟨7, _⟩ => ⟨S_, .i32⟩
  | .hbm, ⟨8, _⟩ => ⟨S256x1, .i32⟩
  | .hbm, ⟨9, _⟩ => ⟨S256x1, .i32⟩
  | .hbm, ⟨10, _⟩ => ⟨S32, .i32⟩
  | .hbm, ⟨11, _⟩ => ⟨S1x32, .i32⟩
  | .hbm, ⟨12, _⟩ => ⟨S256x32, .i32⟩
  | .hbm, ⟨13, _⟩ => ⟨S256x32, .i32⟩
  | .hbm, ⟨14, _⟩ => ⟨S256x32, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S256x32, .i32⟩
  | .hbm, ⟨22, _⟩ => ⟨S256x32, .i32⟩
  | .hbm, ⟨23, _⟩ => ⟨S_, .i32⟩
  | .hbm, ⟨24, _⟩ => ⟨S256x32, .i32⟩
  | .hbm, ⟨25, _⟩ => ⟨S256x32, .i1⟩
  | .hbm, ⟨26, _⟩ => ⟨S_, .i32⟩
  | .hbm, ⟨27, _⟩ => ⟨S256x32, .i32⟩
  | .hbm, ⟨28, _⟩ => ⟨S256x32, .i1⟩
  | .hbm, ⟨29, _⟩ => ⟨S_, .i32⟩
  | .hbm, ⟨30, _⟩ => ⟨S_, .i1⟩
  | .hbm, ⟨31, _⟩ => ⟨S256x32, .i1⟩
  | .hbm, ⟨32, _⟩ => ⟨S256x32, .i1⟩
  | .hbm, ⟨33, _⟩ => ⟨S256x32, .i1⟩
  | .hbm, ⟨34, _⟩ => ⟨S256x32, .i32⟩
  | .hbm, ⟨35, _⟩ => ⟨S256x32, .i32⟩
  | .hbm, ⟨36, _⟩ => ⟨S256x32, .i32⟩
  | .hbm, ⟨37, _⟩ => ⟨S_, .i32⟩
  | .hbm, ⟨38, _⟩ => ⟨S256x32, .i32⟩
  | .hbm, ⟨39, _⟩ => ⟨S256x32, .i1⟩
  | .hbm, ⟨40, _⟩ => ⟨S_, .i32⟩
  | .hbm, ⟨41, _⟩ => ⟨S256x32, .i32⟩
  | .hbm, ⟨42, _⟩ => ⟨S256x32, .i32⟩
  | .hbm, ⟨43, _⟩ => ⟨S256x32, .i32⟩
  | .hbm, ⟨44, _⟩ => ⟨S256x32x1, .i32⟩
  | .hbm, ⟨45, _⟩ => ⟨S2x256x32x2x4x128, .f32⟩
  | .hbm, ⟨46, _⟩ => ⟨S2x2x4x256x32x128, .f32⟩
  | .hbm, ⟨47, _⟩ => ⟨S2x1x1x1x32x128, .f32⟩
  | .hbm, ⟨48, _⟩ => ⟨S2x2x4x256x32x128, .f32⟩
  | .hbm, ⟨49, _⟩ => ⟨S2x2x4x256x32x128, .f32⟩
  | .hbm, ⟨50, _⟩ => ⟨S2x2x4x256x128, .f32⟩
  | .hbm, ⟨51, _⟩ => ⟨S2x2x4x256x128, .f32⟩
  | .hbm, ⟨52, _⟩ => ⟨S2x2x4x256x128, .f32⟩
  | .hbm, ⟨53, _⟩ => ⟨S_, .f32⟩
  | .hbm, ⟨54, _⟩ => ⟨S2x2x4x256x128, .f32⟩
  | .hbm, ⟨55, _⟩ => ⟨S2x2x4x256x128, .f32⟩
  | .hbm, ⟨56, _⟩ => ⟨S2x2x4x256x128, .f32⟩
  | .hbm, ⟨57, _⟩ => ⟨S_, .f32⟩
  | .hbm, ⟨58, _⟩ => ⟨S2x2x4x256x128, .f32⟩
  | .hbm, ⟨59, _⟩ => ⟨S2x2x4x256x128, .f32⟩
  | .hbm, ⟨60, _⟩ => ⟨S2x2x4x256x128, .f32⟩
  | .hbm, ⟨61, _⟩ => ⟨S_, .f32⟩
  | .hbm, ⟨62, _⟩ => ⟨S2x2x4x256x128, .f32⟩
  | .hbm, ⟨63, _⟩ => ⟨S2x2x4x256x128, .f32⟩
  | .hbm, ⟨64, _⟩ => ⟨S_, .f32⟩
  | .hbm, ⟨65, _⟩ => ⟨S2x2x4x256x128, .f32⟩
  | .hbm, ⟨66, _⟩ => ⟨S2x2x4x256x128, .f32⟩
  | .hbm, ⟨67, _⟩ => ⟨S2x2x4x256x128, .f32⟩
  | .hbm, ⟨68, _⟩ => ⟨S2x2x4x256x128, .f32⟩
  | .hbm, ⟨69, _⟩ => ⟨S2x2x4x256x128, .bf16⟩
  | .hbm, ⟨70, _⟩ => ⟨S2x2x4x128x256, .f32⟩
  | .hbm, ⟨71, _⟩ => ⟨S2x2x4x128x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v10 : Ref sig .tc := ⟨.hbm, 36, rfl⟩
abbrev main_c_1 : Ref sig .tc := ⟨.hbm, 37, rfl⟩
abbrev main_v11 : Ref sig .tc := ⟨.hbm, 38, rfl⟩
abbrev main_v12 : Ref sig .tc := ⟨.hbm, 39, rfl⟩
abbrev main_c_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_3 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_4 : Ref sig .tc := ⟨.hbm, 61, rfl⟩
abbrev main_v31 : Ref sig .tc := ⟨.hbm, 62, rfl⟩
abbrev main_v32 : Ref sig .tc := ⟨.hbm, 63, rfl⟩
abbrev main_cst_5 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩

abbrev nD : Nat := 1
abbrev τ : Topo := Topo.v7x

variable {F : FTy → Type} [FloatOps F]
-- ==== Ada.lean ====
abbrev S2x4096 : Shape := ⟨2, ![2, 4096]⟩
abbrev S2x4096x24576 : Shape := ⟨3, ![2, 4096, 24576]⟩
abbrev S2x24576 : Shape := ⟨2, ![2, 24576]⟩
abbrev S2x4096x1 : Shape := ⟨3, ![2, 4096, 1]⟩
abbrev S2x4096x128 : Shape := ⟨3, ![2, 4096, 128]⟩
abbrev S2x1x24576 : Shape := ⟨3, ![2, 1, 24576]⟩
abbrev S2x8x24576 : Shape := ⟨3, ![2, 8, 24576]⟩
abbrev S1x4096x1024 : Shape := ⟨3, ![1, 4096, 1024]⟩
abbrev S1x1x1024 : Shape := ⟨3, ![1, 1, 1024]⟩
abbrev S1x8x1024 : Shape := ⟨3, ![1, 8, 1024]⟩
abbrev S8x1024 : Shape := ⟨2, ![8, 1024]⟩
abbrev S1x8x128 : Shape := ⟨3, ![1, 8, 128]⟩
abbrev S8x128 : Shape := ⟨2, ![8, 128]⟩
abbrev S1024 : Shape := ⟨1, ![1024]⟩
abbrev S1x1024 : Shape := ⟨2, ![1, 1024]⟩
abbrev S6x1024 : Shape := ⟨2, ![6, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2x4096, .f32⟩
  | .hbm, ⟨1, _⟩ => ⟨S2x4096x24576, .f32⟩
  | .hbm, ⟨2, _⟩ => ⟨S2x24576, .f32⟩
  | .hbm, ⟨3, _⟩ => ⟨S2x4096x1, .f32⟩
  | .hbm, ⟨4, _⟩ => ⟨S2x4096x128, .f32⟩
  | .hbm, ⟨5, _⟩ => ⟨S2x1x24576, .f32⟩
  | .hbm, ⟨6, _⟩ => ⟨S2x8x24576, .f32⟩
  | .local _ .vmem, ⟨0, _⟩ => ⟨S2x4096x128, .f32⟩
  | .local _ .vmem, ⟨1, _⟩ => ⟨S1x4096x1024, .f32⟩
  | .local _ .vmem, ⟨2, _⟩ => ⟨S1x4096x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | .local _ .vmem, ⟨7, _⟩ => ⟨S2x4096x128, .f32⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 24], ![false, false]⟩

@[reducible] def k0_t1_loop : Scf.Loop 32 :=
  let c0_i32_3 : BitVec 32 := 0#32
  let c512_i32 : BitVec 32 := 512#32
  let v7 : BitVec 32 := Scalar.addi c0_i32_3 c512_i32
  let c1_i32 : BitVec 32 := 1#32
  ⟨c0_i32_3, v7, c1_i32⟩
def k0_mult1 (k0_t1 : Fin k0_t1_loop.trips) : BitVec 32 :=
  let c0_i32_3 : BitVec 32 := 0#32
  let c1_i32 : BitVec 32 := 1#32
  let arg7 : BitVec 32 := Scf.iv c0_i32_3 c1_i32 k0_t1
  let c8_i32 : BitVec 32 := 8#32
  let v24 : BitVec 32 := Scalar.muli arg7 c8_i32
  v24
def k0_off1 (k0_t1 : Fin k0_t1_loop.trips) : Fin 3 → Nat :=
  let c0_16 : Index := 0#32
  let c0_i32_3 : BitVec 32 := 0#32
  let c1_i32 : BitVec 32 := 1#32
  let arg7 : BitVec 32 := Scf.iv c0_i32_3 c1_i32 k0_t1
  let c8_i32 : BitVec 32 := 8#32
  let v24 : BitVec 32 := Scalar.muli arg7 c8_i32
  let v25 : BitVec 32 := v24
  let v26 : Index := Scalar.indexCast v25
  let c0_17 : Index := 0#32
  ![0, v26.toNat, 0]
def k0_off2 (k0_t1 : Fin k0_t1_loop.trips) : Fin 3 → Nat :=
  let c0_18 : Index := 0#32
  let c0_i32_3 : BitVec 32 := 0#32
  let c1_i32 : BitVec 32 := 1#32
  let arg7 : BitVec 32 := Scf.iv c0_i32_3 c1_i32 k0_t1
  let c8_i32 : BitVec 32 := 8#32
  let v24 : BitVec 32 := Scalar.muli arg7 c8_i32
  let v25 : BitVec 32 := v24
  let v29 : Index := Scalar.indexCast v25
  let c0_19 : Index := 0#32
  ![0, v29.toNat, 0]
def k0_off3 (k0_t1 : Fin k0_t1_loop.trips) : Fin 3 → Nat :=
  let c1 : Index := 1#32
  let c0_i32_3 : BitVec 32 := 0#32
  let c1_i32 : BitVec 32 := 1#32
  let arg7 : BitVec 32 := Scf.iv c0_i32_3 c1_i32 k0_t1
  let c8_i32 : BitVec 32 := 8#32
  let v24 : BitVec 32 := Scalar.muli arg7 c8_i32
  let v25 : BitVec 32 := v24
  let v35 : Index := Scalar.indexCast v25
  let c0_20 : Index := 0#32
  ![1, v35.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2x4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S2x4096 : Shape := ⟨2, ![2, 4096]⟩
abbrev S2x4096x24576 : Shape := ⟨3, ![2, 4096, 24576]⟩
abbrev S2x24576 : Shape := ⟨2, ![2, 24576]⟩
abbrev S_ : Shape := ⟨0, ![]⟩
abbrev S2x24576x2 : Shape := ⟨3, ![2, 24576, 2]⟩
abbrev S2x2x24576 : Shape := ⟨3, ![2, 2, 24576]⟩
abbrev S2x1x24576 : Shape := ⟨3, ![2, 1, 24576]⟩
abbrev S2x8x24576 : Shape := ⟨3, ![2, 8, 24576]⟩

abbrev nBuf : Space → Nat
  | .hbm => 20
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S2x4096x24576, .f32⟩
  | .hbm, ⟨2, _⟩ => ⟨S2x24576, .f32⟩
  | .hbm, ⟨3, _⟩ => ⟨S2x4096, .f32⟩
  | .hbm, ⟨4, _⟩ => ⟨S2x4096, .f32⟩
  | .hbm, ⟨5, _⟩ => ⟨S_, .f32⟩
  | .hbm, ⟨6, _⟩ => ⟨S2x4096, .f32⟩
  | .hbm, ⟨7, _⟩ => ⟨S2x4096, .f32⟩
  | .hbm, ⟨8, _⟩ => ⟨S_, .f32⟩
  | .hbm, ⟨9, _⟩ => ⟨S2x4096, .f32⟩
  | .hbm, ⟨10, _⟩ => ⟨S2x4096, .f32⟩
  | .hbm, ⟨11, _⟩ => ⟨S2x4096, .f32⟩
  | .hbm, ⟨12, _⟩ => ⟨S2x24576x2, .f32⟩
  | .hbm, ⟨13, _⟩ => ⟨S2x2x24576, .f32⟩
  | .hbm, ⟨14, _⟩ => ⟨S2x1x24576, .f32⟩
  | .hbm, ⟨15, _⟩ => ⟨S2x2x24576, .f32⟩
  | .hbm, ⟨16, _⟩ => ⟨S2x2x24576, .f32⟩
  | .hbm, ⟨17, _⟩ => ⟨S_, .i32⟩
  | .hbm, ⟨18, _⟩ => ⟨S_, .f32⟩
  | .hbm, ⟨19, _⟩ => ⟨S2x8x24576, .f32⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call1_v0 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Proof.WinScores.lean ====
/-
  HALF A BLOCK OF THE WINDOW ATTENTION, FIRST PART: the scores. A grid point works on 512 query rows in two halves of 256.
  For one half: its four query heads stacked into 1024 columns (column 256 j + p is head j of query row p), its three key
  tiles stacked into 768 rows, the scores of every key row against every column, and the mask that decides which are kept.
-/
module

public import proofs.«01_k».proof.Proof.Gen.WinIdeal.Value
public import Idealize.ShloMosaic.Lib.MatmulPlain
public import Idealize.ShloMosaic.Lib.ValueIdx
public import Idealize.ShloMosaic.Lib.ValueLayout
public import Idealize.ShloMosaic.Lib.IdealHost
public import Idealize.ShloMosaic.Lib.Pipeline.Value

@[expose] public section

set_option maxRecDepth 16384

noncomputable section

open Idealize.ShloMosaic Idealize.ShloMosaic.TcCoe Idealize.SL.Sem
open Idealize.ShloMosaic.ValueIdx

namespace Cert.WinIdeal.Half

open Cert.WinIdeal Cert.WinIdeal.Gen

/-- Column of head `j`, query row `p`, in the stack of four heads. -/
def col (j : Fin 4) (p : Fin 256) : Fin 1024 := ⟨256 * j.val + p.val, by omega⟩
/-- Column of head `j`, feature `d`, in a row of 512 features. -/
def feat (j : Fin 4) (d : Fin 128) : Fin 512 := ⟨128 * j.val + d.val, by omega⟩
/-- The tile a stacked key row lies in, and the row within it. -/
def tile (kk : Fin 768) : Fin 3 := ⟨kk.val / 256, by omega⟩
def within (kk : Fin 768) : Fin 256 := ⟨kk.val % 256, by omega⟩

/-- The factor the queries carry: 1/√128 to make the scores, 1/log 2 to make powers of two of powers of e. -/
def factor : ℝ := (Real.sqrt 128)⁻¹ * (Real.log 2)⁻¹

/-- Four equal pieces laid end to end along axis 0 or 1, read at a coordinate. -/
theorem four {t s : Shape} {α : Type} (a : Fin t.rank) (f : Fin 4 → s.Idx → α)
    (h : Shape.Concatenates [s, s, s, s] t a) (hr : s.rank = t.rank) (K : Nat) (hK : s.size (a.cast hr.symm) = K) (j : t.Idx)
    (n : Fin 4) (hn : (j a).val / K = n.val) (i : s.Idx) (hia : (i (a.cast hr.symm)).val = (j a).val % K)
    (hi : ∀ b : Fin s.rank, b.cast hr ≠ a → (i b).val = (j (b.cast hr)).val) :
    concatenate t a [⟨s, f 0⟩, ⟨s, f 1⟩, ⟨s, f 2⟩, ⟨s, f 3⟩] h j = f n i :=
  concatenate_ofFn_apply a f h hr K hK j n hn i hia hi

/-- Three equal pieces laid end to end, read at a coordinate. -/
theorem three {t s : Shape} {α : Type} (a : Fin t.rank) (f : Fin 3 → s.Idx → α)
    (h : Shape.Concatenates [s, s, s] t a) (hr : s.rank = t.rank) (K : Nat) (hK : s.size (a.cast hr.symm) = K) (j : t.Idx)
    (n : Fin 3) (hn : (j a).val / K = n.val) (i : s.Idx) (hia : (i (a.cast hr.symm)).val = (j a).val % K)
    (hi : ∀ b : Fin s.rank, b.cast hr ≠ a → (i b).val = (j (b.cast hr)).val) :
    concatenate t a [⟨s, f 0⟩, ⟨s, f 1⟩, ⟨s, f 2⟩] h j = f n i :=
  concatenate_ofFn_apply a f h hr K hK j n hn i hia hi

/-- The stack of heads, scaled: entry (256 j + p, d) is feature d of head j of query row p times the factor. -/
theorem heads_apply (q : Vec Ideal S256x512 .f32) (j : Fin 4) (p : Fin 256) (d : Fin 128) :
    k0_pay13 (F := Ideal) q (ix2 (col j p) d) = q (ix2 p (feat j d)) * ((factor : ℝ) : EReal) := by
  have hs : ∀ n : Fin 4, S256x512.Slices ![0, 128 * n.val] S256x128 := by decide
  have e := four (t := S1024x128) (s := S256x128) 0
    (fun n => extractStridedSlice S256x128 ![0, 128 * n.val]
      (truncf .bf16 (mulf q (broadcast S256x512 (Named.named (F := Ideal) κ "scale" (φ := .f32) 0x3E0293EE#32))) bitsLt_bf16_f32) (hs n))
    concatenates_S256x128_S256x128_S256x128_S256x128_S1024x128_d0 rfl 256 rfl (ix2 (col j p) d) j
    (by show (256 * j.val + p.val) / 256 = _; omega) (ix2 p d) (by show p.val = (256 * j.val + p.val) % 256; omega)
    (fun b hb => match b with | ⟨0, _⟩ => absurd rfl hb | ⟨1, _⟩ => rfl)
  refine Eq.trans e ?_
  refine (extractStridedSlice_apply _ _ (hs j) (ix2 p d) (ix2 p (feat j d)) fun a =>
    match a with | ⟨0, _⟩ => (Nat.zero_add _).symm | ⟨1, _⟩ => rfl).trans ?_
  show q (ix2 p (feat j d)) * Named.named (F := Ideal) κ "scale" (φ := .f32) 0x3E0293EE#32 = _
  rw [IdealRules.named_const.ideal_named_scalar (φ := .f32) κ "scale" 0x3E0293EE#32 _ rfl]
  rfl

/-- The stack of key tiles. -/
theorem keys_apply (k : Fin 3 → Vec Ideal S256x128 .bf16) (kk : Fin 768) (d : Fin 128) :
    k0_pay14 (F := Ideal) (k 0) (k 1) (k 2) (ix2 kk d) = k (tile kk) (ix2 (within kk) d) :=
  three (t := S768x128) (s := S256x128) 0 k concatenates_S256x128_S256x128_S256x128_S768x128_d0 rfl 256 rfl (ix2 kk d)
    (tile kk) rfl (ix2 (within kk) d) rfl (fun b hb => match b with | ⟨0, _⟩ => absurd rfl hb | ⟨1, _⟩ => rfl)

/-- The stack of value tiles, which are held transposed. -/
theorem values_apply (v : Fin 3 → Vec Ideal S128x256 .bf16) (d : Fin 128) (kk : Fin 768) :
    k0_pay15 (F := Ideal) (v 0) (v 1) (v 2) (ix2 d kk) = v (tile kk) (ix2 d (within kk)) := by
  unfold k0_pay15
  simp only [shapeCast_self]
  exact three (t := S128x768) (s := S128x256) 1 v concatenates_S128x256_S128x256_S128x256_S128x768_d1 rfl 256 rfl (ix2 d kk)
    (tile kk) rfl (ix2 d (within kk)) rfl (fun b hb => match b with | ⟨0, _⟩ => rfl | ⟨1, _⟩ => absurd rfl hb)

/-- The scores of one half. -/
theorem scores_apply (q : Vec Ideal S256x512 .f32) (k : Fin 3 → Vec Ideal S256x128 .bf16) (kk : Fin 768) (j : Fin 4) (p : Fin 256) :
    k0_pay3 (F := Ideal) q (k 0) (k 1) (k 2) (ix2 kk (col j p))
      = ∑ d : Fin 128, (k (tile kk) (ix2 (within kk) d) : EReal) * (q (ix2 p (feat j d)) * ((factor : ℝ) : EReal)) := by
  have e := Ideal.matmul_transposedRhs_apply (φ₁ := .bf16) (φ₂ := .bf16) none (k0_pay14 (F := Ideal) (k 0) (k 1) (k 2))
    (k0_pay13 (F := Ideal) q) (constant (F := Ideal) S768x1024 .f32 0x00000000#32) kk (col j p)
  rw [constant_apply, Ideal.ofBits_zero_f32, zero_add] at e
  refine Eq.trans e (Finset.sum_congr rfl fun d _ => ?_)
  rw [keys_apply, heads_apply]

/-! ### The mask -/

/-- Positions of the keys of a half whose query tile is `w`: two tiles before it, then on. -/
def keyPos (w : BitVec 32) : IVec S768x256 32 :=
  addi (broadcast S768x256 (Scalar.muli (Scalar.subi w 2#32) 256#32)) (iota .tc S768x256 32 [0] iota_S768x256_d0_w32)
/-- Positions of its queries. -/
def queryPos (w : BitVec 32) : IVec S768x256 32 :=
  addi (broadcast S768x256 (Scalar.muli w 256#32)) (iota .tc S768x256 32 [1] iota_S768x256_d1_w32)
/-- Which scores are kept. -/
def keep (w : BitVec 32) : IVec S768x256 1 :=
  andi (andi (cmpi .sle (keyPos w) (queryPos w)) (cmpi .sgt (keyPos w) (subi (queryPos w) (broadcast S768x256 512#32))))
    (cmpi .sge (keyPos w) (broadcast S768x256 0#32))

/-- A key row `kk` of the stack may be seen from query row `p` of tile `T`: not later, less than 512 before, and there at all. -/
def seen (T : ℕ) (p : Fin 256) (kk : Fin 768) : Prop := p.val < kk.val ∧ kk.val ≤ p.val + 512 ∧ 512 ≤ 256 * T + kk.val

instance (T : ℕ) (p : Fin 256) : DecidablePred (seen T p) := fun kk => inferInstanceAs (Decidable (_ ∧ _ ∧ _))

/-- The mask, entry by entry: the positions are small, so the 32-bit words compare as the integers do. -/
theorem keep_apply (T : ℕ) (hT : T < 16) (kk : Fin 768) (p : Fin 256) :
    keep (BitVec.ofNat 32 T) (ix2 kk p) = if seen T p kk then 1#1 else 0#1 := by
  have hk : (keyPos (BitVec.ofNat 32 T) (ix2 kk p)).toInt = 256 * (T : ℤ) - 512 + kk.val := by
    have hkk := kk.isLt
    have e : keyPos (BitVec.ofNat 32 T) (ix2 kk p) = (BitVec.ofNat 32 T - 2#32) * 256#32 + BitVec.ofNat 32 (0 * 768 + kk.val) := rfl
    rw [e, Nat.zero_mul, Nat.zero_add, BitVec.toInt_eq_toNat_bmod]
    simp only [BitVec.toNat_add, BitVec.toNat_mul, BitVec.toNat_sub, BitVec.toNat_ofNat]
    rw [Int.bmod_def]
    split <;> omega
  have hq : (queryPos (BitVec.ofNat 32 T) (ix2 kk p)).toInt = 256 * (T : ℤ) + p.val := by
    have hp := p.isLt
    have e : queryPos (BitVec.ofNat 32 T) (ix2 kk p) = BitVec.ofNat 32 T * 256#32 + BitVec.ofNat 32 (0 * 256 + p.val) := rfl
    rw [e, Nat.zero_mul, Nat.zero_add, BitVec.toInt_eq_toNat_bmod]
    simp only [BitVec.toNat_add, BitVec.toNat_mul, BitVec.toNat_ofNat]
    rw [Int.bmod_def]
    split <;> omega
  have hq' : (queryPos (BitVec.ofNat 32 T) (ix2 kk p) - 512#32).toInt = 256 * (T : ℤ) + p.val - 512 := by
    have hp := p.isLt
    rw [BitVec.toInt_sub, hq]
    show Int.bmod (256 * (T : ℤ) + p.val - 512) (2 ^ 32) = _
    rw [Int.bmod_def]
    split <;> omega
  show (BitVec.ofBool (BitVec.sle (keyPos _ (ix2 kk p)) (queryPos _ (ix2 kk p)))
      &&& BitVec.ofBool (BitVec.slt (queryPos _ (ix2 kk p) - 512#32) (keyPos _ (ix2 kk p))))
      &&& BitVec.ofBool (BitVec.sle 0#32 (keyPos _ (ix2 kk p))) = _
  have bits : ∀ a b c : Bool, (BitVec.ofBool a &&& BitVec.ofBool b) &&& BitVec.ofBool c = if (a && b && c) = true then 1#1 else 0#1 := by
    decide
  have h0 : (0#32 : BitVec 32).toInt = 0 := rfl
  rw [BitVec.sle_eq_decide, BitVec.slt_eq_decide, BitVec.sle_eq_decide, hk, hq, hq', h0, bits]
  refine if_congr ?_ rfl rfl
  simp only [Bool.and_eq_true, decide_eq_true_eq]
  unfold seen
  omega

/-- The masked scores: −∞ where the mask is off. -/
def maskedScores (w : BitVec 32) (s : FVec Ideal S768x1024 .f32) : FVec Ideal S768x1024 .f32 :=
  concatenate S768x1024 1
    [⟨S768x256, select (keep w) (extractStridedSlice S768x256 ![0, 0] s slices_S768x1024_o0_0_S768x256) (broadcast S768x256 (Named.named (F := Ideal) κ "mask" (φ := .f32) 0xF149F2CA#32))⟩,
     ⟨S768x256, select (keep w) (extractStridedSlice S768x256 ![0, 256] s slices_S768x1024_o0_256_S768x256) (broadcast S768x256 (Named.named (F := Ideal) κ "mask" (φ := .f32) 0xF149F2CA#32))⟩,
     ⟨S768x256, select (keep w) (extractStridedSlice S768x256 ![0, 512] s slices_S768x1024_o0_512_S768x256) (broadcast S768x256 (Named.named (F := Ideal) κ "mask" (φ := .f32) 0xF149F2CA#32))⟩,
     ⟨S768x256, select (keep w) (extractStridedSlice S768x256 ![0, 768] s slices_S768x1024_o0_768_S768x256) (broadcast S768x256 (Named.named (F := Ideal) κ "mask" (φ := .f32) 0xF149F2CA#32))⟩]
    concatenates_S768x256_S768x256_S768x256_S768x256_S768x1024_d1

/-- The masked scores, entry by entry. -/
theorem maskedScores_apply (T : ℕ) (hT : T < 16) (s : FVec Ideal S768x1024 .f32) (kk : Fin 768) (j : Fin 4) (p : Fin 256) :
    maskedScores (BitVec.ofNat 32 T) s (ix2 kk (col j p)) = (if seen T p kk then s (ix2 kk (col j p)) else ⊥ : EReal) := by
  have hs : ∀ n : Fin 4, S768x1024.Slices ![0, 256 * n.val] S768x256 := by decide
  have e := four (t := S768x1024) (s := S768x256) 1
    (fun n => select (keep (BitVec.ofNat 32 T)) (extractStridedSlice S768x256 ![0, 256 * n.val] s (hs n))
      (broadcast S768x256 (Named.named (F := Ideal) κ "mask" (φ := .f32) 0xF149F2CA#32)))
    concatenates_S768x256_S768x256_S768x256_S768x256_S768x1024_d1 rfl 256 rfl (ix2 kk (col j p)) j
    (by show (256 * j.val + p.val) / 256 = _; omega) (ix2 kk p) (by show p.val = (256 * j.val + p.val) % 256; omega)
    (fun b hb => match b with | ⟨0, _⟩ => rfl | ⟨1, _⟩ => absurd rfl hb)
  refine Eq.trans e ?_
  rw [select_apply, keep_apply T hT, extractStridedSlice_apply _ _ (hs j) (ix2 kk p) (ix2 kk (col j p)) fun a =>
    match a with | ⟨0, _⟩ => (Nat.zero_add _).symm | ⟨1, _⟩ => rfl]
  have hm : broadcast S768x256 (Named.named (F := Ideal) κ "mask" (φ := .f32) 0xF149F2CA#32) (ix2 kk p) = (⊥ : EReal) :=
    IdealRules.named_const.ideal_named_scalar (φ := .f32) κ "mask" 0xF149F2CA#32 _ rfl
  rw [hm]
  split
  · rfl
  · rfl

end Cert.WinIdeal.Half

end
-- ==== Proof.WinMath.lean ====
/-
  THE ARITHMETIC OF ONE MASKED SOFTMAX ROW over the extended reals: scores that are real where a key may be seen and −∞
  where it may not, values that are arbitrary. Both spellings — powers of two with the division done once, by the gate
  (the kernel), and powers of e with every weight divided (the reference) — are brought to one form, the weighted sum over
  the keys that may be seen, in which the subtracted maximum no longer appears.
-/
module

public import Idealize.ShloMosaic.PureOps.Ideal
public import Idealize.ShloMosaic.Lib.IdealHost

@[expose] public section

noncomputable section

open Idealize.ShloMosaic

namespace Cert.Proof.Win

/-- The words of −∞ and of 128. -/
theorem neg_inf : Ideal.ofBits .f32 0xFF800000#32 = ⊥ := by simp [Ideal.ofBits, Ideal.ieee]
theorem one_two_eight : Ideal.ofBits .f32 0x43000000#32 = ((128 : ℝ) : EReal) := by
  simp [Ideal.ofBits, Ideal.ieee, -EReal.coe_mul]
  norm_num

/-- The normal form: a nonnegative factor `g` times the average of `v` over the visible keys, key `i` weighted by `exp (x i)`. -/
def average {ι : Type} [Fintype ι] (a : ι → Prop) [DecidablePred a] (x : ι → ℝ) (v : ι → EReal) (g : ℝ) : EReal :=
  ∑ i ∈ Finset.univ.filter a, v i * ((Real.exp (x i) / (∑ j ∈ Finset.univ.filter a, Real.exp (x j)) * g : ℝ) : EReal)

/-- A nonnegative real factor moves through a finite sum of extended reals. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert i s hi ih =>
    rw [Finset.sum_insert hi, Finset.sum_insert hi,
      EReal.right_distrib_of_nonneg_of_ne_top (EReal.coe_nonneg.mpr hc) (EReal.coe_ne_top c), ih]

/-- The embedding of the reals commutes with finite sums. -/
theorem sum_coe {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- A sigmoid is a real number, and not negative, whatever it is taken of. -/
theorem logistic_real (x : EReal) : ∃ g : ℝ, 0 ≤ g ∧ Ideal.logistic x = (g : EReal) := by
  induction x using EReal.rec with
  | bot => exact ⟨0, le_refl _, Ideal.logistic_bot⟩
  | top => exact ⟨1, zero_le_one, Ideal.logistic_top⟩
  | coe r => exact ⟨(1 + Real.exp (-r))⁻¹, by positivity, Ideal.logistic_coe r⟩

section
variable {ι : Type} [Fintype ι] (a : ι → Prop) [DecidablePred a] (x : ι → ℝ) (v : ι → EReal)

/-- The scores of a row: real where the key may be seen, −∞ elsewhere. -/
def masked (i : ι) : EReal := if a i then (x i : EReal) else ⊥

/-- The maximum of a row in which some key may be seen is a real number. -/
theorem max_real (i₀ : ι) (h₀ : a i₀) :
    ∃ M : ℝ, (Finset.univ : Finset ι).fold max (⊥ : EReal) (masked a x) = (M : EReal) := by
  have lo : (x i₀ : EReal) ≤ (Finset.univ : Finset ι).fold max (⊥ : EReal) (masked a x) :=
    (Finset.le_fold_max _).mpr (.inr ⟨i₀, Finset.mem_univ _, by rw [masked, if_pos h₀]⟩)
  have hi : (Finset.univ : Finset ι).fold max (⊥ : EReal) (masked a x) < ⊤ := by
    refine (Finset.fold_max_lt _).mpr ⟨bot_lt_top, fun i _ => ?_⟩
    unfold masked
    split
    · exact EReal.coe_lt_top _
    · exact bot_lt_top
  refine ⟨_, (EReal.coe_toReal hi.ne fun h => ?_).symm⟩
  rw [h] at lo
  exact absurd lo (not_le.mpr (EReal.bot_lt_coe _))

/-- The kernel's row: values weighted by powers of two of the scores less their maximum, multiplied at the end by the
    gate over the sum of the powers. -/
theorem kernel_row (i₀ : ι) (h₀ : a i₀) (M g : ℝ) (hg : 0 ≤ g) :
    (∑ i, v i * Ideal.exp2 (masked a x i - (M : EReal)))
        * Ideal.div (g : EReal) (∑ i, 1 * Ideal.exp2 (masked a x i - (M : EReal)))
      = average a (fun i => x i * Real.log 2) v g := by
  have he : ∀ i, Ideal.exp2 (masked a x i - (M : EReal))
      = if a i then ((Real.exp (x i * Real.log 2) * Real.exp (-(M * Real.log 2)) : ℝ) : EReal) else 0 := fun i => by
    unfold masked
    split
    · rw [← EReal.coe_sub, Ideal.exp2_coe, ← Real.exp_add]
      refine congrArg _ ((Real.rpow_def_of_pos two_pos _).trans (congrArg _ ?_))
      ring
    · rw [EReal.bot_sub, Ideal.exp2_bot]
  simp only [he, one_mul, mul_ite, mul_zero]
  rw [← Finset.sum_filter, ← Finset.sum_filter, sum_coe, ← Finset.sum_mul]
  have hS : 0 < ∑ i ∈ Finset.univ.filter a, Real.exp (x i * Real.log 2) :=
    Finset.sum_pos (fun _ _ => Real.exp_pos _) ⟨i₀, Finset.mem_filter.mpr ⟨Finset.mem_univ _, h₀⟩⟩
  have hE := Real.exp_pos (-(M * Real.log 2))
  rw [Ideal.div_coe (mul_pos hS hE).ne', ← EReal.coe_mul, sum_mul_coe _ _ _ (by positivity), average]
  refine Finset.sum_congr rfl fun i _ => ?_
  rw [mul_assoc, ← EReal.coe_mul]
  refine congrArg (fun r : ℝ => v i * (r : EReal)) ?_
  field_simp

/-- The reference's row: every power of e divided by their sum, then the values averaged and the gate multiplied in. -/
theorem reference_row (i₀ : ι) (h₀ : a i₀) (M g : ℝ) (hg : 0 ≤ g) :
    (g : EReal) * ∑ i, Ideal.div (Ideal.exp (masked a x i - (M : EReal)))
        (∑ j, Ideal.exp (masked a x j - (M : EReal))) * v i
      = average a x v g := by
  have he : ∀ i, Ideal.exp (masked a x i - (M : EReal))
      = if a i then ((Real.exp (x i) * Real.exp (-M) : ℝ) : EReal) else 0 := fun i => by
    unfold masked
    split
    · rw [← EReal.coe_sub, Ideal.exp_coe, ← Real.exp_add, sub_eq_add_neg]
    · rw [EReal.bot_sub, Ideal.exp_bot]
  simp only [he]
  rw [← Finset.sum_filter, sum_coe, ← Finset.sum_mul]
  have hS : 0 < ∑ i ∈ Finset.univ.filter a, Real.exp (x i) :=
    Finset.sum_pos (fun _ _ => Real.exp_pos _) ⟨i₀, Finset.mem_filter.mpr ⟨Finset.mem_univ _, h₀⟩⟩
  have hE := Real.exp_pos (-M)
  simp only [Ideal.div_coe (mul_pos hS hE).ne', ite_mul, zero_mul]
  rw [← Finset.sum_filter, mul_comm, sum_mul_coe _ _ _ hg, average]
  refine Finset.sum_congr rfl fun i _ => ?_
  rw [mul_comm _ (v i), mul_assoc, ← EReal.coe_mul, ← EReal.coe_mul]
  refine congrArg (fun r : ℝ => v i * (r : EReal)) ?_
  field_simp

end

/-- The average does not depend on how the visible keys are numbered. -/
theorem average_equiv {ι κ : Type} [Fintype ι] [Fintype κ] (a : ι → Prop) [DecidablePred a] (b : κ → Prop) [DecidablePred b]
    (x : ι → ℝ) (y : κ → ℝ) (v : ι → EReal) (w : κ → EReal) (g : ℝ) (e : ι → κ)
    (hb : ∀ i, a i → b (e i)) (inj : ∀ i j, a i → a j → e i = e j → i = j) (sur : ∀ k, b k → ∃ i, a i ∧ e i = k)
    (hx : ∀ i, a i → x i = y (e i)) (hv : ∀ i, a i → v i = w (e i)) : average a x v g = average b y w g := by
  have hden : ∑ j ∈ Finset.univ.filter a, Real.exp (x j) = ∑ k ∈ Finset.univ.filter b, Real.exp (y k) := by
    refine Finset.sum_bij (fun i _ => e i) (fun i hi => ?_) (fun i hi j hj => ?_) (fun k hk => ?_) (fun i hi => ?_)
    · exact Finset.mem_filter.mpr ⟨Finset.mem_univ _, hb i (Finset.mem_filter.mp hi).2⟩
    · exact inj i j (Finset.mem_filter.mp hi).2 (Finset.mem_filter.mp hj).2
    · obtain ⟨i, hi, h⟩ := sur k (Finset.mem_filter.mp hk).2
      exact ⟨i, Finset.mem_filter.mpr ⟨Finset.mem_univ _, hi⟩, h⟩
    · rw [hx i (Finset.mem_filter.mp hi).2]
  unfold average
  rw [hden]
  refine Finset.sum_bij (fun i _ => e i) (fun i hi => ?_) (fun i hi j hj => ?_) (fun k hk => ?_) (fun i hi => ?_)
  · exact Finset.mem_filter.mpr ⟨Finset.mem_univ _, hb i (Finset.mem_filter.mp hi).2⟩
  · exact inj i j (Finset.mem_filter.mp hi).2 (Finset.mem_filter.mp hj).2
  · obtain ⟨i, hi, h⟩ := sur k (Finset.mem_filter.mp hk).2
    exact ⟨i, Finset.mem_filter.mpr ⟨Finset.mem_univ _, hi⟩, h⟩
  · rw [hx i (Finset.mem_filter.mp hi).2, hv i (Finset.mem_filter.mp hi).2]

end Cert.Proof.Win

end
-- ==== Proof.WinHalf.lean ====
/-
  HALF A BLOCK OF THE WINDOW ATTENTION, SECOND PART: from the masked scores to the block. The values carry sixteen rows of
  ones below them, so that one product gives the weighted sums and, in row 128, the sum of the weights; the gate is divided
  by that sum, multiplied in, and the four heads are laid side by side again.
-/
module

public import proofs.«01_k».proof.Proof.WinScores
public import proofs.«01_k».proof.Proof.WinMath

@[expose] public section

set_option maxRecDepth 16384

noncomputable section

open Idealize.ShloMosaic Idealize.ShloMosaic.TcCoe Idealize.SL.Sem
open Idealize.ShloMosaic.ValueIdx

namespace Cert.WinIdeal.Half

open Cert.WinIdeal Cert.WinIdeal.Gen

/-- The values with the rows of ones below. -/
def withOnes (v : FVec Ideal S128x768 .bf16) : FVec Ideal S144x768 .bf16 :=
  concatenate S144x768 0 [⟨S128x768, v⟩, ⟨S16x768, broadcast S16x768 (Scalar.ofBits (F := Ideal) .bf16 0x3F80#16)⟩]
    concatenates_S128x768_S16x768_S144x768_d0

/-- The column maxima of the masked scores, as a row. -/
def maxRow (s : FVec Ideal S768x1024 .f32) : FVec Ideal S1x1024 .f32 :=
  shapeCast S1x1024 (multiReduction .maximumf [0] S1024 s 0xFF800000#32 reduces_S768x1024_S1024 (.inl rfl) rfl) shapeCasts_S1024_S1x1024

/-- The powers of two of the scores less their column's maximum. -/
def powers (s : FVec Ideal S768x1024 .f32) : FVec Ideal S768x1024 .bf16 :=
  truncf .bf16 (exp2 (subf s (broadcastTo S768x1024 (maxRow s) broadcasts_S1x1024_S768x1024))) bitsLt_bf16_f32

/-- The weighted sums, with the sums of the weights below. -/
def accum (v : FVec Ideal S128x768 .bf16) (s : FVec Ideal S768x1024 .f32) : FVec Ideal S144x1024 .f32 :=
  matmul dot_S144x768_S768x1024_S144x1024_1_0_0_1_n_n none (withOnes v) (powers s) (constant S144x1024 .f32 0x00000000#32)

/-- The maximum of one column. -/
def colMax (s : FVec Ideal S768x1024 .f32) (c : Fin 1024) : EReal :=
  (Finset.univ : Finset (Fin 768)).fold max (⊥ : EReal) fun kk => s (ix2 kk c)

theorem maxRow_apply (s : FVec Ideal S768x1024 .f32) (c : Fin 1024) : maxRow s (ix2 (0 : Fin 1) c) = colMax s c := by
  have e := Ideal.multiReduction_maximumf_single (φ := .f32) s 0xFF800000#32 reduces_S768x1024_S1024 (.inl rfl) rfl (ix1 c)
  refine (shapeCast_apply _ _ (ix2 (0 : Fin 1) c) (ix1 c) (by
    rw [Shape.rowMajor_val_two, Shape.rowMajor_val_one]; show c.val = 0 * 1024 + c.val; omega)).trans (Eq.trans e ?_)
  unfold colMax
  have hb : (FloatOps.ofBits (F := Ideal) .f32 0xFF800000#32 : EReal) = ⊥ := Cert.Proof.Win.neg_inf
  rw [hb]
  refine congrArg (Finset.fold max (⊥ : EReal) · Finset.univ) (funext fun kk => congrArg s (funext fun a => Fin.ext ?_))
  match a with | ⟨0, _⟩ => rfl | ⟨1, _⟩ => rfl

theorem powers_apply (s : FVec Ideal S768x1024 .f32) (kk : Fin 768) (c : Fin 1024) :
    powers s (ix2 kk c) = Ideal.exp2 ((s (ix2 kk c) : EReal) - colMax s c) := by
  show Ideal.exp2 ((s (ix2 kk c) : EReal) - broadcastTo S768x1024 (maxRow s) broadcasts_S1x1024_S768x1024 (ix2 kk c)) = _
  rw [broadcastTo_apply _ _ (ix2 kk c) (ix2 (0 : Fin 1) c) (fun a => match a with | ⟨0, _⟩ => rfl | ⟨1, _⟩ => rfl), maxRow_apply]

theorem withOnes_value (v : FVec Ideal S128x768 .bf16) (d : Fin 128) (kk : Fin 768) :
    withOnes v (ix2 (⟨d.val, by omega⟩ : Fin 144) kk) = v (ix2 d kk) :=
  concatenate_pair_apply_left (t := S144x768) 0 _ _ concatenates_S128x768_S16x768_S144x768_d0 _ rfl (ix2 d kk)
    fun a => match a with | ⟨0, _⟩ => rfl | ⟨1, _⟩ => rfl

theorem withOnes_one (v : FVec Ideal S128x768 .bf16) (kk : Fin 768) :
    withOnes v (ix2 (⟨128, by omega⟩ : Fin 144) kk) = (1 : EReal) :=
  (concatenate_pair_apply_right (t := S144x768) 0 _ _ concatenates_S128x768_S16x768_S144x768_d0 _ rfl rfl (ix2 (0 : Fin 16) kk)
    (fun a ha => match a with | ⟨0, _⟩ => absurd rfl ha | ⟨1, _⟩ => rfl) rfl).trans Ideal.ofBits_one_bf16

theorem accum_apply (v : FVec Ideal S128x768 .bf16) (s : FVec Ideal S768x1024 .f32) (r : Fin 144) (c : Fin 1024) :
    accum v s (ix2 r c)
      = ∑ kk : Fin 768, (withOnes v (ix2 r kk) : EReal) * Ideal.exp2 ((s (ix2 kk c) : EReal) - colMax s c) := by
  have e := Ideal.matmul_plain_apply (φ₁ := .bf16) (φ₂ := .bf16) none (withOnes v) (powers s)
    (constant (F := Ideal) S144x1024 .f32 0x00000000#32) r c
  rw [constant_apply, Ideal.ofBits_zero_f32, zero_add] at e
  refine Eq.trans e (Finset.sum_congr rfl fun kk _ => ?_)
  rw [powers_apply]

/-- One head's row of gates. -/
def gateRow (g : Vec Ideal S1x1x1x1x256 .f32) : FVec Ideal S1x256 .f32 := logistic (shapeCast S1x256 g shapeCasts_S1x1x1x1x256_S1x256)

theorem gateRow_apply (g : Vec Ideal S1x1x1x1x256 .f32) (p : Fin 256) :
    gateRow g (ix2 (0 : Fin 1) p) = Ideal.logistic (g (ix5 (0 : Fin 1) (0 : Fin 1) (0 : Fin 1) (0 : Fin 1) p)) := by
  show Ideal.logistic (shapeCast S1x256 g shapeCasts_S1x1x1x1x256_S1x256 (ix2 (0 : Fin 1) p)) = _
  rw [shapeCast_apply _ _ (ix2 (0 : Fin 1) p) (ix5 (0 : Fin 1) (0 : Fin 1) (0 : Fin 1) (0 : Fin 1) p) (by
    rw [Shape.rowMajor_val_two, Shape.rowMajor_val_five]
    show (((0 * 1 + 0) * 1 + 0) * 1 + 0) * 256 + p.val = 0 * 256 + p.val
    omega)]

/-- The weighted sums times the gate over the sum of the weights. -/
def gatedCols (a : FVec Ideal S144x1024 .f32) (g : Fin 4 → FVec Ideal S1x256 .f32) : FVec Ideal S128x1024 .f32 :=
  mulf (extractStridedSlice S128x1024 ![0, 0] a slices_S144x1024_o0_0_S128x1024)
    (broadcastTo S128x1024
      (divf (concatenate S1x1024 1 [⟨S1x256, g 0⟩, ⟨S1x256, g 1⟩, ⟨S1x256, g 2⟩, ⟨S1x256, g 3⟩] concatenates_S1x256_S1x256_S1x256_S1x256_S1x1024_d1)
        (extractStridedSlice S1x1024 ![128, 0] a slices_S144x1024_o128_0_S1x1024))
      broadcasts_S1x1024_S128x1024)

theorem gatedCols_apply (a : FVec Ideal S144x1024 .f32) (g : Fin 4 → FVec Ideal S1x256 .f32) (d : Fin 128) (j : Fin 4) (p : Fin 256) :
    gatedCols a g (ix2 d (col j p))
      = (a (ix2 (⟨d.val, by omega⟩ : Fin 144) (col j p)) : EReal)
        * Ideal.div (g j (ix2 (0 : Fin 1) p)) (a (ix2 (⟨128, by omega⟩ : Fin 144) (col j p))) := by
  show (extractStridedSlice S128x1024 ![0, 0] a slices_S144x1024_o0_0_S128x1024 (ix2 d (col j p)) : EReal)
    * broadcastTo S128x1024 _ broadcasts_S1x1024_S128x1024 (ix2 d (col j p)) = _
  rw [extractStridedSlice_apply _ _ slices_S144x1024_o0_0_S128x1024 (ix2 d (col j p)) (ix2 (⟨d.val, by omega⟩ : Fin 144) (col j p))
      (fun a => match a with | ⟨0, _⟩ => (Nat.zero_add _).symm | ⟨1, _⟩ => (Nat.zero_add _).symm),
    broadcastTo_apply _ _ (ix2 d (col j p)) (ix2 (0 : Fin 1) (col j p)) (fun a => match a with | ⟨0, _⟩ => rfl | ⟨1, _⟩ => rfl)]
  have e := four (t := S1x1024) (s := S1x256) 1 g concatenates_S1x256_S1x256_S1x256_S1x256_S1x1024_d1 rfl 256 rfl
    (ix2 (0 : Fin 1) (col j p)) j (by show (256 * j.val + p.val) / 256 = _; omega) (ix2 (0 : Fin 1) p)
    (by show p.val = (256 * j.val + p.val) % 256; omega) (fun b hb => match b with | ⟨0, _⟩ => rfl | ⟨1, _⟩ => absurd rfl hb)
  have e' := extractStridedSlice_apply _ a slices_S144x1024_o128_0_S1x1024 (ix2 (0 : Fin 1) (col j p))
    (ix2 (⟨128, by omega⟩ : Fin 144) (col j p)) (fun a => match a with | ⟨0, _⟩ => rfl | ⟨1, _⟩ => (Nat.zero_add _).symm)
  exact congrArg₂ (fun x y : EReal => (a (ix2 (⟨d.val, by omega⟩ : Fin 144) (col j p)) : EReal) * Ideal.div x y) e e'

/-- The four heads laid side by side. -/
def sideBySide (x : FVec Ideal S128x1024 .f32) : FVec Ideal S256x512 .f32 :=
  concatenate S256x512 1
    [⟨S256x128, transpose S256x128 [1, 0] (extractStridedSlice S128x256 ![0, 0] x slices_S128x1024_o0_0_S128x256) transposes_S128x256_p1_0_S256x128⟩,
     ⟨S256x128, transpose S256x128 [1, 0] (extractStridedSlice S128x256 ![0, 256] x slices_S128x1024_o0_256_S128x256) transposes_S128x256_p1_0_S256x128⟩,
     ⟨S256x128, transpose S256x128 [1, 0] (extractStridedSlice S128x256 ![0, 512] x slices_S128x1024_o0_512_S128x256) transposes_S128x256_p1_0_S256x128⟩,
     ⟨S256x128, transpose S256x128 [1, 0] (extractStridedSlice S128x256 ![0, 768] x slices_S128x1024_o0_768_S128x256) transposes_S128x256_p1_0_S256x128⟩]
    concatenates_S256x128_S256x128_S256x128_S256x128_S256x512_d1

theorem sideBySide_apply (x : FVec Ideal S128x1024 .f32) (p : Fin 256) (j : Fin 4) (d : Fin 128) :
    sideBySide x (ix2 p (feat j d)) = x (ix2 d (col j p)) := by
  have hs : ∀ n : Fin 4, S128x1024.Slices ![0, 256 * n.val] S128x256 := by decide
  have e := four (t := S256x512) (s := S256x128) 1
    (fun n => transpose S256x128 [1, 0] (extractStridedSlice S128x256 ![0, 256 * n.val] x (hs n)) transposes_S128x256_p1_0_S256x128)
    concatenates_S256x128_S256x128_S256x128_S256x128_S256x512_d1 rfl 128 rfl (ix2 p (feat j d)) j
    (by show (128 * j.val + d.val) / 128 = _; omega) (ix2 p d) (by show d.val = (128 * j.val + d.val) % 128; omega)
    (fun b hb => match b with | ⟨0, _⟩ => rfl | ⟨1, _⟩ => absurd rfl hb)
  refine Eq.trans e ?_
  dsimp only
  refine (transpose_ix2_apply _ transposes_S128x256_p1_0_S256x128 p d).trans ?_
  exact extractStridedSlice_apply _ _ (hs j) (ix2 d p) (ix2 d (col j p)) fun a =>
    match a with | ⟨0, _⟩ => (Nat.zero_add _).symm | ⟨1, _⟩ => rfl

/-- What one half writes, from its tile number, queries, keys, values, gates and the two other branches. -/
def half (w : BitVec 32) (q : Vec Ideal S256x512 .f32) (k : Fin 3 → Vec Ideal S256x128 .bf16) (v : Fin 3 → Vec Ideal S128x256 .bf16)
    (g : Fin 4 → Vec Ideal S1x1x1x1x256 .f32) (oc os : Vec Ideal S256x512 .bf16) : FVec Ideal S256x512 .bf16 :=
  truncf .bf16 (addf (addf (extf .f32 oc bitsLt_bf16_f32) (extf .f32 os bitsLt_bf16_f32))
    (sideBySide (gatedCols (accum (k0_pay15 (v 0) (v 1) (v 2)) (maskedScores w (k0_pay3 q (k 0) (k 1) (k 2)))) fun j => gateRow (g j))))
    bitsLt_bf16_f32

theorem half_apply (T : ℕ) (hT : T < 16) (q : Vec Ideal S256x512 .f32) (k : Fin 3 → Vec Ideal S256x128 .bf16)
    (v : Fin 3 → Vec Ideal S128x256 .bf16) (g : Fin 4 → Vec Ideal S1x1x1x1x256 .f32) (oc os : Vec Ideal S256x512 .bf16)
    (p : Fin 256) (j : Fin 4) (d : Fin 128) (s : Fin 768 → EReal)
    (hs : ∀ kk, s kk = if seen T p kk then
      ∑ e : Fin 128, (k (tile kk) (ix2 (within kk) e) : EReal) * (q (ix2 p (feat j e)) * ((factor : ℝ) : EReal)) else ⊥) :
    half (BitVec.ofNat 32 T) q k v g oc os (ix2 p (feat j d))
      = ((oc (ix2 p (feat j d)) : EReal) + os (ix2 p (feat j d)))
        + (∑ kk : Fin 768, (v (tile kk) (ix2 d (within kk)) : EReal) * Ideal.exp2 (s kk - (Finset.univ : Finset (Fin 768)).fold max ⊥ s))
          * Ideal.div (Ideal.logistic (g j (ix5 (0 : Fin 1) (0 : Fin 1) (0 : Fin 1) (0 : Fin 1) p)))
            (∑ kk : Fin 768, 1 * Ideal.exp2 (s kk - (Finset.univ : Finset (Fin 768)).fold max ⊥ s)) := by
  show ((oc (ix2 p (feat j d)) : EReal) + os (ix2 p (feat j d))) + sideBySide _ (ix2 p (feat j d)) = _
  have hS : ∀ kk, maskedScores (BitVec.ofNat 32 T) (k0_pay3 (F := Ideal) q (k 0) (k 1) (k 2)) (ix2 kk (col j p)) = s kk := fun kk => by
    rw [maskedScores_apply T hT, scores_apply, hs]
  have hM : colMax (maskedScores (BitVec.ofNat 32 T) (k0_pay3 (F := Ideal) q (k 0) (k 1) (k 2))) (col j p)
      = (Finset.univ : Finset (Fin 768)).fold max ⊥ s := by
    unfold colMax
    exact congrArg (Finset.fold max (⊥ : EReal) · Finset.univ) (funext hS)
  rw [sideBySide_apply, gatedCols_apply, accum_apply, accum_apply, hM, gateRow_apply]
  simp only [hS, withOnes_value, withOnes_one, values_apply]

/-- The first half's store of the printed body is `half` at the point's first tile, the second half's at its second. -/
theorem first_eq (i : grid0.Coords) (q : Vec Ideal S256x512 .f32) (k : Fin 3 → Vec Ideal S256x128 .bf16)
    (v : Fin 3 → Vec Ideal S128x256 .bf16) (g : Fin 4 → Vec Ideal S1x1x1x1x256 .f32) (oc os : Vec Ideal S256x512 .bf16) :
    k0_pay12 (F := Ideal) (k0_pay8 (k0_pay2 (v 0) (v 1) (v 2)) (k0_pay3 q (k 0) (k 1) (k 2)) (k0_pay4 i) (k0_pay6 i) (k0_pay7 i))
        (k0_pay9 (g 0)) (k0_pay10 (g 1)) (k0_pay11 (g 2)) (g 3) oc os
      = half (Scalar.addi (Scalar.muli (BitVec.ofNat 32 (i 2).val) 2#32) 0#32) q k v g oc os := rfl

theorem second_eq (i : grid0.Coords) (q : Vec Ideal S256x512 .f32) (k : Fin 3 → Vec Ideal S256x128 .bf16)
    (v : Fin 3 → Vec Ideal S128x256 .bf16) (g : Fin 4 → Vec Ideal S1x1x1x1x256 .f32) (oc os : Vec Ideal S256x512 .bf16) :
    k0_pay1 (F := Ideal) (k0_pay18 (k0_pay15 (v 0) (v 1) (v 2))
        (k0_pay16 (BitVec.ofNat 32 (i 2).val) (k0_pay13 q) (k0_pay14 (k 0) (k 1) (k 2)))
        (k0_pay17 (BitVec.ofNat 32 (i 2).val) (k0_pay13 q) (k0_pay14 (k 0) (k 1) (k 2))) (g 0) (g 1) (g 2) (g 3)) (k0_pay19 oc) os
      = half (Scalar.addi (Scalar.muli (BitVec.ofNat 32 (i 2).val) 2#32) 1#32) q k v g oc os := rfl

end Cert.WinIdeal.Half

end
-- ==== Proof.WinSpec.lean ====
/-
  SLIDING-WINDOW ATTENTION, ENTRY BY ENTRY: what both programs compute, in coordinates. A row is a batch and a position, a
  column a group of heads, a head in the group and a feature; a query sees the keys of its batch at its own position and
  the 511 before it.
-/
module

public import proofs.«01_k».proof.Defs
public import proofs.«01_k».proof.Proof.WinMath
public import Idealize.ShloMosaic.Lib.ValueIdx

@[expose] public section

noncomputable section

open Idealize.ShloMosaic
open Idealize.ShloMosaic.ValueIdx

namespace Cert.Proof.Win

/-- Row of batch `b`, position `t`. -/
def rowOf (b : Fin 2) (t : Fin 4096) : Fin 8192 := ⟨4096 * b.val + t.val, by omega⟩
/-- Column of group `g`, head `j`, feature `d`, among the queries and results. -/
def colOf (g j : Fin 4) (d : Fin 128) : Fin 2048 := ⟨512 * g.val + 128 * j.val + d.val, by omega⟩
/-- Column of group `g`, feature `d`, among the keys and values. -/
def keyCol (g : Fin 4) (d : Fin 128) : Fin 512 := ⟨128 * g.val + d.val, by omega⟩
/-- Column of the window branch's gate of group `g`, head `j`. -/
def gateCol (g j : Fin 4) : Fin 48 := ⟨32 + 4 * g.val + j.val, by omega⟩

/-- Which keys a query at position `t` sees. -/
def visible (t : Fin 4096) (s : Fin 4096) : Prop := s.val ≤ t.val ∧ t.val < s.val + 512

instance (t : Fin 4096) : DecidablePred (visible t) := fun s => inferInstanceAs (Decidable (_ ∧ _))

theorem visible_self (t : Fin 4096) : visible t t := ⟨le_refl _, by omega⟩

/-- Every entry of an array is a real number. -/
def Finite {s : Shape} (x : s.Idx → EReal) : Prop := ∀ i, x i = ((x i).toReal : EReal)

variable (q : (⟨2, ![8192, 2048]⟩ : Shape).Idx → EReal) (k v : (⟨2, ![8192, 512]⟩ : Shape).Idx → EReal)
variable (n : (⟨2, ![8192, 48]⟩ : Shape).Idx → EReal) (oc os : (⟨2, ![8192, 2048]⟩ : Shape).Idx → EReal)

/-- The score of the key at position `s` for the query at position `t`. -/
def score (b : Fin 2) (g j : Fin 4) (t s : Fin 4096) : ℝ :=
  (∑ d : Fin 128, (q (ix2 (rowOf b t) (colOf g j d))).toReal * (k (ix2 (rowOf b s) (keyCol g d))).toReal) * (1 / Real.sqrt 128)

/-- One entry of the result: the other two branches' sum, plus the gated average of the visible values. -/
def entry (b : Fin 2) (g j : Fin 4) (t : Fin 4096) (d : Fin 128) : EReal :=
  (oc (ix2 (rowOf b t) (colOf g j d)) + os (ix2 (rowOf b t) (colOf g j d)))
    + average (visible t) (score q k b g j t) (fun s => v (ix2 (rowOf b s) (keyCol g d)))
        (Ideal.logistic (n (ix2 (rowOf b t) (gateCol g j)))).toReal

/-- Every index of the result has such coordinates. -/
theorem exists_coords (i : (⟨2, ![8192, 2048]⟩ : Shape).Idx) :
    ∃ (b : Fin 2) (g j : Fin 4) (t : Fin 4096) (d : Fin 128), i = ix2 (rowOf b t) (colOf g j d) := by
  have h0 : (i 0).val < 8192 := (i 0).isLt
  have h1 : (i 1).val < 2048 := (i 1).isLt
  refine ⟨⟨(i 0).val / 4096, by omega⟩, ⟨(i 1).val / 512, by omega⟩, ⟨(i 1).val % 512 / 128, by omega⟩,
    ⟨(i 0).val % 4096, by omega⟩, ⟨(i 1).val % 128, by omega⟩, funext fun a => Fin.ext ?_⟩
  match a with
  | ⟨0, _⟩ => show (i 0).val = 4096 * ((i 0).val / 4096) + (i 0).val % 4096; omega
  | ⟨1, _⟩ => show (i 1).val = 512 * ((i 1).val / 512) + 128 * ((i 1).val % 512 / 128) + (i 1).val % 128; omega

/-- A gate is the real number it is. -/
theorem gate_real (x : EReal) : 0 ≤ (Ideal.logistic x).toReal ∧ Ideal.logistic x = ((Ideal.logistic x).toReal : EReal) := by
  obtain ⟨r, hr, h⟩ := logistic_real x
  rw [h, EReal.toReal_coe]
  exact ⟨hr, rfl⟩

end Cert.Proof.Win

end
-- ==== Proof.WinEq.lean ====
/-
  THE EQUATION OF THE WINDOW ATTENTION: one half block, whose three key tiles hold 768 positions of which a query sees at
  most 512, is the softmax average over all positions the query sees. Powers of two of scores that carry 1/log 2 are powers
  of e; dividing the gate by the sum of the weights at the end is dividing every weight.
-/
module

public import proofs.«01_k».proof.Proof.WinHalf
public import proofs.«01_k».proof.Proof.WinSpec

@[expose] public section

noncomputable section

open Idealize.ShloMosaic Idealize.ShloMosaic.TcCoe
open Idealize.ShloMosaic.ValueIdx

namespace Cert.WinIdeal.Half

open Cert.WinIdeal Cert.WinIdeal.Gen
open Cert.Proof.Win

/-- Position of row `p` of query tile `T`. -/
def pos (T : ℕ) (hT : T < 16) (p : Fin 256) : Fin 4096 := ⟨256 * T + p.val, by omega⟩
/-- Array row of row `w` of the `n`th key tile beside query tile `T`. -/
def keyRow (b : Fin 2) (T : ℕ) (hT : T < 16) (n : Fin 3) (w : Fin 256) : Fin 8192 := ⟨256 * (16 * b.val + (T + n.val - 2)) + w.val, by omega⟩
/-- Position of stacked key row `kk` beside query tile `T`. -/
def keyAt (T : ℕ) (hT : T < 16) (kk : Fin 768) : Fin 4096 := ⟨256 * T + kk.val - 512, by omega⟩

theorem keyRow_eq (b : Fin 2) (T : ℕ) (hT : T < 16) (p : Fin 256) (kk : Fin 768) (h : seen T p kk) :
    keyRow b T hT (tile kk) (within kk) = rowOf b (keyAt T hT kk) := by
  obtain ⟨-, -, h⟩ := h
  refine Fin.ext ?_
  show 256 * (16 * b.val + (T + kk.val / 256 - 2)) + kk.val % 256 = 4096 * b.val + (256 * T + kk.val - 512)
  omega

variable (q : (⟨2, ![8192, 2048]⟩ : Shape).Idx → EReal) (k v : (⟨2, ![8192, 512]⟩ : Shape).Idx → EReal)
variable (n : (⟨2, ![8192, 48]⟩ : Shape).Idx → EReal) (oc os : (⟨2, ![8192, 2048]⟩ : Shape).Idx → EReal)

/-- A half block over blocks of the arrays is the specification's entries. -/
theorem half_entry (hqf : Finite q) (hkf : Finite k) (b : Fin 2) (g : Fin 4) (T : ℕ) (hT : T < 16)
    (qb : Vec Ideal S256x512 .f32) (kb : Fin 3 → Vec Ideal S256x128 .bf16) (vb : Fin 3 → Vec Ideal S128x256 .bf16)
    (gb : Fin 4 → Vec Ideal S1x1x1x1x256 .f32) (ocb osb : Vec Ideal S256x512 .bf16)
    (hq : ∀ p j d, qb (ix2 p (feat j d)) = q (ix2 (rowOf b (pos T hT p)) (colOf g j d)))
    (hk : ∀ r w d, kb r (ix2 w d) = k (ix2 (keyRow b T hT r w) (keyCol g d)))
    (hv : ∀ r w d, vb r (ix2 d w) = v (ix2 (keyRow b T hT r w) (keyCol g d)))
    (hg : ∀ j p, gb j (ix5 (0 : Fin 1) (0 : Fin 1) (0 : Fin 1) (0 : Fin 1) p) = n (ix2 (rowOf b (pos T hT p)) (gateCol g j)))
    (hoc : ∀ p j d, ocb (ix2 p (feat j d)) = oc (ix2 (rowOf b (pos T hT p)) (colOf g j d)))
    (hos : ∀ p j d, osb (ix2 p (feat j d)) = os (ix2 (rowOf b (pos T hT p)) (colOf g j d)))
    (p : Fin 256) (j : Fin 4) (d : Fin 128) :
    half (BitVec.ofNat 32 T) qb kb vb gb ocb osb (ix2 p (feat j d)) = entry q k v n oc os b g j (pos T hT p) d := by
  let x : Fin 768 → ℝ := fun kk => (∑ e : Fin 128, (k (ix2 (keyRow b T hT (tile kk) (within kk)) (keyCol g e))).toReal
    * (q (ix2 (rowOf b (pos T hT p)) (colOf g j e))).toReal) * factor
  have hx : ∀ kk, masked (seen T p) x kk = if seen T p kk then
      ∑ e : Fin 128, (kb (tile kk) (ix2 (within kk) e) : EReal) * (qb (ix2 p (feat j e)) * ((factor : ℝ) : EReal)) else ⊥ := fun kk => by
    unfold masked
    refine if_congr Iff.rfl ?_ rfl
    show (((∑ e : Fin 128, _) * factor : ℝ) : EReal) = _
    rw [Finset.sum_mul, ← sum_coe]
    refine Finset.sum_congr rfl fun e _ => ?_
    rw [hk, hq, hkf, hqf, EReal.toReal_coe, EReal.toReal_coe, mul_assoc, EReal.coe_mul, EReal.coe_mul]
  have h0 : seen T p ⟨p.val + 512, by omega⟩ := ⟨by show p.val < p.val + 512; omega, le_refl _, by show 512 ≤ 256 * T + (p.val + 512); omega⟩
  obtain ⟨M, hM⟩ := max_real (seen T p) x _ h0
  obtain ⟨hg0, hgr⟩ := gate_real (n (ix2 (rowOf b (pos T hT p)) (gateCol g j)))
  rw [half_apply T hT qb kb vb gb ocb osb p j d (masked (seen T p) x) hx, hM, hg, hgr, hoc, hos]
  unfold entry
  refine congrArg (_ + ·) ((kernel_row (seen T p) x _ _ h0 M _ hg0).trans ?_)
  have hlog : factor * Real.log 2 = 1 / Real.sqrt 128 := by
    unfold factor
    rw [mul_assoc, inv_mul_cancel₀ (Real.log_pos (by norm_num)).ne', mul_one, one_div]
  refine average_equiv _ _ _ _ _ _ _ (keyAt T hT) (fun kk h => ?_) (fun kk kk' h h' e => ?_) (fun s hs => ?_) (fun kk h => ?_) (fun kk h => ?_)
  · obtain ⟨h1, h2, h3⟩ := h
    show 256 * T + kk.val - 512 ≤ 256 * T + p.val ∧ 256 * T + p.val < 256 * T + kk.val - 512 + 512
    omega
  · have e' : 256 * T + kk.val - 512 = 256 * T + kk'.val - 512 := congrArg Fin.val e
    have := h.2.2
    have := h'.2.2
    exact Fin.ext (by omega)
  · have h1 : s.val ≤ 256 * T + p.val := hs.1
    have h2 : 256 * T + p.val < s.val + 512 := hs.2
    refine ⟨⟨s.val + 512 - 256 * T, by omega⟩, ⟨?_, ?_, ?_⟩, Fin.ext ?_⟩
    · show p.val < s.val + 512 - 256 * T; omega
    · show s.val + 512 - 256 * T ≤ p.val + 512; omega
    · show 512 ≤ 256 * T + (s.val + 512 - 256 * T); omega
    · show 256 * T + (s.val + 512 - 256 * T) - 512 = s.val; omega
  · show (∑ e : Fin 128, _) * factor * Real.log 2 = (∑ e : Fin 128, _) * (1 / Real.sqrt 128)
    rw [mul_assoc, hlog, keyRow_eq b T hT p kk h]
    exact congrArg (· * _) (Finset.sum_congr rfl fun e _ => mul_comm _ _)
  · show vb (tile kk) (ix2 d (within kk)) = _
    rw [hv, keyRow_eq b T hT p kk h]

end Cert.WinIdeal.Half

end
-- ==== Proof.WinBlock.lean ====
/-
  THE WINDOW ATTENTION'S ARRAY. What the call finds of its arguments (the values transposed, the gates laid out by head), which
  part of them each grid point's blocks hold, and that the points' blocks together are the specification's entries.
-/
module

public import proofs.«01_k».proof.Proof.WinEq
public import proofs.«01_k».proof.Proof.Gen.WinIdeal.Value
public import Idealize.ShloMosaic.Lib.ValueLayout
public import Idealize.ShloMosaic.Lib.KernelVsHost
public import Idealize.ShloMosaic.Lib.Pipeline.ValueKit.Tiles
public import Idealize.ShloMosaic.Lib.Tactic

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.WinIdeal.Block

open Cert.WinIdeal Cert.WinIdeal.Gen Cert.WinIdeal.Value Cert.WinIdeal.Half
open Cert.Proof.Win

theorem off2 : (![0, 0] : Fin 2 → Nat) = fun _ => 0 := funext fun a => by fin_cases a <;> rfl

/-- A rank-2 index is known by its two coordinates, a block's coordinate by the block's number and the place in it. -/
theorem at2 {M N : ℕ} (i : (⟨2, ![M, N]⟩ : Shape).Idx) (x : Fin M) (y : Fin N) (h0 : (i 0).val = x.val) (h1 : (i 1).val = y.val) :
    i = ix2 x y := funext fun a => Fin.ext (by match a with | ⟨0, _⟩ => exact h0 | ⟨1, _⟩ => exact h1)
theorem scaled {a b c s w : ℕ} (h : a = b) (e : b * s + 1 * w = c) : a * s + 1 * w = c := h ▸ e

/-- Row `p` of the upper or lower half of a block of 512 rows. -/
def rowIn (e : Fin 2) (p : Fin 256) : Fin 512 := ⟨256 * e.val + p.val, by omega⟩
/-- Which of a point's four key tiles is the `n`th of its half `e`. -/
def tileIn (e : Fin 2) (n : Fin 3) : Fin 4 := ⟨n.val + e.val, by omega⟩

/-- The tile number the body computes. -/
theorem word_eq (i : grid0.Coords) (e : Fin 2) :
    Scalar.addi (Scalar.muli (BitVec.ofNat 32 (i 2).val) 2#32) (BitVec.ofNat 32 e.val) = BitVec.ofNat 32 (2 * (i 2).val + e.val) := by
  have h : ∀ (x : Fin 8) (e : Fin 2), Scalar.addi (Scalar.muli (BitVec.ofNat 32 x.val) 2#32) (BitVec.ofNat 32 e.val)
      = BitVec.ofNat 32 (2 * x.val + e.val) := by decide
  exact h (i 2) e

/-- The gates of one head, for the rows of one half. -/
theorem gates_inb : ∀ (e : Fin 2) (j : Fin 4) (a : Fin 5), (![0, 0, 0, j.val, 256 * e.val] : Fin 5 → ℕ) a + S1x1x1x1x256.size a ≤ S1x1x1x8x512.size a := by decide
def headGates (e : Fin 2) (x : Vec Ideal S1x1x1x8x512 .f32) (j : Fin 4) : Vec Ideal S1x1x1x1x256 .f32 :=
  View.ld x (Rect.unit (s := S1x1x1x8x512) ![0, 0, 0, j.val, 256 * e.val] S1x1x1x1x256.size (gates_inb e j))

theorem not_lower (p : Fin 256) (c : Fin 512) : (ix2 (rowIn 0 p) c : S512x512.Idx) ∉ r0_7.set := by
  rw [Rect.mem_set_unit]
  intro h
  have h0 : 256 ≤ (rowIn 0 p).val := (h 0).1
  have h1 : (rowIn 0 p).val = p.val := Nat.zero_add _
  omega

/-- The two stores of a point, read at a row of either half. -/
theorem stores_upper (w v : Vec Ideal S256x512 .bf16) (p : Fin 256) (c : Fin 512) :
    View.canon (Val := Elt Ideal) [⟨r0_7, w⟩, ⟨r0_0, v⟩] (ix2 (rowIn 0 p) c) = v (ix2 p c) := by
  have hin : (ix2 (rowIn 0 p) c : S512x512.Idx) = r0_0.emb (ix2 p c) :=
    (at2 _ _ _ (show 0 + 1 * p.val = 256 * 0 + p.val by omega) (show 0 + 1 * c.val = c.val by omega)).symm
  refine Eq.trans (View.canon_cons_of_not_mem (⟨r0_7, w⟩ : View.Piece (Elt Ideal) S512x512 .bf16) [⟨r0_0, v⟩] (not_lower p c)) ?_
  rw [hin]
  exact View.canon_cons_emb r0_0 v [] (ix2 p c)
theorem stores_lower (w v : Vec Ideal S256x512 .bf16) (p : Fin 256) (c : Fin 512) :
    View.canon (Val := Elt Ideal) [⟨r0_7, w⟩, ⟨r0_0, v⟩] (ix2 (rowIn 1 p) c) = w (ix2 p c) := by
  have hin : (ix2 (rowIn 1 p) c : S512x512.Idx) = r0_7.emb (ix2 p c) :=
    (at2 _ _ _ (show 256 + 1 * p.val = 256 * 1 + p.val by omega) (show 0 + 1 * c.val = c.val by omega)).symm
  rw [hin]
  exact View.canon_cons_emb r0_7 w _ (ix2 p c)

section Body

variable (i : grid0.Coords) (x0 : Vec Ideal S512x512 .f32) (xk : Fin 4 → Vec Ideal S256x128 .bf16) (xv : Fin 4 → Vec Ideal S128x256 .bf16)
variable (x9 : Vec Ideal S1x1x1x8x512 .f32) (x10 x11 : Vec Ideal S512x512 .bf16)

/-- What a point's body leaves in its block. -/
abbrev body : Vec Ideal S512x512 .bf16 := out0_12 i x0 (xk 0) (xk 1) (xk 2) (xk 3) (xv 0) (xv 1) (xv 2) (xv 3) x9 x10 x11

/-- Its upper half. -/
theorem body_upper (p : Fin 256) (c : Fin 512) : body i x0 xk xv x9 x10 x11 (ix2 (rowIn 0 p) c)
    = half (BitVec.ofNat 32 (2 * (i 2).val + (0 : Fin 2).val)) (View.ld x0 r0_0) (fun n => xk (tileIn 0 n)) (fun n => xv (tileIn 0 n))
        (headGates 0 x9) (View.ld x10 r0_0) (View.ld x11 r0_0) (ix2 p c) := by
  unfold body out0_12
  rw [stores_upper, ← word_eq i 0]
  simp only [View.ld_unit_zero (S := S256x128) off2, View.ld_unit_zero (S := S128x256) off2]
  exact congrFun (first_eq i (View.ld x0 r0_0) (fun n => xk (tileIn 0 n)) (fun n => xv (tileIn 0 n))
    (headGates 0 x9) (View.ld x10 r0_0) (View.ld x11 r0_0)) (ix2 p c)

/-- Its lower half. -/
theorem body_lower (p : Fin 256) (c : Fin 512) : body i x0 xk xv x9 x10 x11 (ix2 (rowIn 1 p) c)
    = half (BitVec.ofNat 32 (2 * (i 2).val + (1 : Fin 2).val)) (View.ld x0 r0_7) (fun n => xk (tileIn 1 n)) (fun n => xv (tileIn 1 n))
        (headGates 1 x9) (View.ld x10 r0_7) (View.ld x11 r0_7) (ix2 p c) := by
  unfold body out0_12 k0_pay21 k0_pay20
  rw [stores_lower, ← word_eq i 1]
  simp only [View.ld_unit_zero (S := S256x128) off2, View.ld_unit_zero (S := S128x256) off2]
  exact congrFun (second_eq i (View.ld x0 r0_7) (fun n => xk (tileIn 1 n)) (fun n => xv (tileIn 1 n))
    (headGates 1 x9) (View.ld x10 r0_7) (View.ld x11 r0_7)) (ix2 p c)

end Body

variable (m : (ℓ : Loc nD τ sig) → Buf (Elt Ideal) ℓ)

/-- The call finds the values transposed. -/
theorem values_found (c : Dev nD) : V m c main_v3 = transpose S512x8192 [1, 0] (m ((c : Thread nD τ).loc main_arg2)) transposes_S8192x512_S512x8192_1_0 := by
  unfold V
  simp only [List.flatten_cons, List.flatten_nil, List.append_nil, List.cons_append, List.nil_append, StableHlo.TRef.binary, StableHlo.TRef.unary, StableHlo.TRef.toBuf, StableHlo.TRef.ofBuf, cast_eq]
  after_results <;> rfl

/-- The gates by branch, batch, group, head and position, four heads of padding in each group. -/
def gatesLaid (x : Vec Ideal S8192x48 .f32) : Vec Ideal S3x2x4x8x4096 .f32 :=
  pad S3x2x4x8x4096 ![0, 0, 0, 0, 0] ![0, 0, 0, 4, 0] ![0, 0, 0, 0, 0]
    (transpose S3x2x4x4x4096 [2, 0, 3, 4, 1] (shapeCast S2x4096x3x4x4 x shapeCasts_S8192x48_S2x4096x3x4x4)
      transposes_S2x4096x3x4x4_S3x2x4x4x4096_2_0_3_4_1)
    (sitofp (F := Ideal) .f32 (constantI S_ 32 0#32)) pads_S3x2x4x4x4096_S3x2x4x8x4096_000_000_000_040_000 h_S_

theorem gates_found (c : Dev nD) : V m c main_v2 = gatesLaid (m ((c : Thread nD τ).loc main_arg3)) := by
  unfold V
  simp only [List.flatten_cons, List.flatten_nil, List.append_nil, List.cons_append, List.nil_append, StableHlo.TRef.binary, StableHlo.TRef.unary, StableHlo.TRef.toBuf, StableHlo.TRef.ofBuf, cast_eq]
  after_results <;> rfl

theorem gatesLaid_apply (x : Vec Ideal S8192x48 .f32) (b : Fin 2) (g j : Fin 4) (t : Fin 4096) :
    gatesLaid x (ix5 (2 : Fin 3) b g (⟨j.val, by omega⟩ : Fin 8) t) = x (ix2 (rowOf b t) (gateCol g j)) := by
  have place : ∀ n : ℕ, n = 0 + n * (0 + 1) := fun n => by omega
  refine (pad_apply_of_inside _ _ _ _ _ _ _ _ (ix5 (2 : Fin 3) b g j t) fun a => ?_).trans ?_
  · match a with | ⟨0, _⟩ => exact place _ | ⟨1, _⟩ => exact place _ | ⟨2, _⟩ => exact place _ | ⟨3, _⟩ => exact place _ | ⟨4, _⟩ => exact place _
  refine (transpose_apply _ _ _ (ix5 (2 : Fin 3) b g j t) (ix5 b t (2 : Fin 3) g j) fun a => ?_).trans ?_
  · match a with | ⟨0, _⟩ => rfl | ⟨1, _⟩ => rfl | ⟨2, _⟩ => rfl | ⟨3, _⟩ => rfl | ⟨4, _⟩ => rfl
  exact shapeCast_apply _ _ _ _ (by
    rw [Shape.rowMajor_val_two, Shape.rowMajor_val_five]
    show (4096 * b.val + t.val) * 48 + (32 + 4 * g.val + j.val) = (((b.val * 4096 + t.val) * 3 + 2) * 4 + g.val) * 4 + j.val
    omega)

/-- Batch, group and query block of a grid point. -/
theorem lt_N (t : Fin cfg0.N) : t.val < 64 := lt_of_lt_of_eq t.isLt N_0
def bOf (t : Fin cfg0.N) : Fin 2 := ⟨t.val / 32, by have := lt_N t; omega⟩
def gOf (t : Fin cfg0.N) : Fin 4 := ⟨t.val / 8 % 4, by omega⟩
def tileNo (t : Fin cfg0.N) (e : Fin 2) : ℕ := 2 * (t.val % 8) + e.val
theorem tileNo_lt (t : Fin cfg0.N) (e : Fin 2) : tileNo t e < 16 := by unfold tileNo; omega

theorem coord_fact : ∀ t : Fin cfg0.N, (grid0.coords t 2).val = t.val % 8 := (by decide +kernel : ∀ t : Fin grid0.N, _)

/-- The block numbers of the windows at a grid point: queries, branches and result; keys; values; gates. -/
theorem row_facts : ∀ t : Fin cfg0.N,
    (win0_0.index t (0 : Fin 2) = 8 * (t.val / 32) + t.val % 8 ∧ win0_0.index t (1 : Fin 2) = t.val / 8 % 4)
    ∧ (win0_10.index t (0 : Fin 2) = 8 * (t.val / 32) + t.val % 8 ∧ win0_10.index t (1 : Fin 2) = t.val / 8 % 4)
    ∧ (win0_11.index t (0 : Fin 2) = 8 * (t.val / 32) + t.val % 8 ∧ win0_11.index t (1 : Fin 2) = t.val / 8 % 4)
    ∧ (win0_12.index t (0 : Fin 2) = 8 * (t.val / 32) + t.val % 8 ∧ win0_12.index t (1 : Fin 2) = t.val / 8 % 4) :=
  (by decide +kernel : ∀ t : Fin grid0.N, _)
theorem key_facts : ∀ t : Fin cfg0.N,
    (win0_1.index t (0 : Fin 2) = 16 * (t.val / 32) + (2 * (t.val % 8) + 0 - 2) ∧ win0_1.index t (1 : Fin 2) = t.val / 8 % 4)
    ∧ (win0_2.index t (0 : Fin 2) = 16 * (t.val / 32) + (2 * (t.val % 8) + 1 - 2) ∧ win0_2.index t (1 : Fin 2) = t.val / 8 % 4)
    ∧ (win0_3.index t (0 : Fin 2) = 16 * (t.val / 32) + (2 * (t.val % 8) + 2 - 2) ∧ win0_3.index t (1 : Fin 2) = t.val / 8 % 4)
    ∧ (win0_4.index t (0 : Fin 2) = 16 * (t.val / 32) + (2 * (t.val % 8) + 3 - 2) ∧ win0_4.index t (1 : Fin 2) = t.val / 8 % 4) :=
  (by decide +kernel : ∀ t : Fin grid0.N, _)
theorem value_facts : ∀ t : Fin cfg0.N,
    (win0_5.index t (1 : Fin 2) = 16 * (t.val / 32) + (2 * (t.val % 8) + 0 - 2) ∧ win0_5.index t (0 : Fin 2) = t.val / 8 % 4)
    ∧ (win0_6.index t (1 : Fin 2) = 16 * (t.val / 32) + (2 * (t.val % 8) + 1 - 2) ∧ win0_6.index t (0 : Fin 2) = t.val / 8 % 4)
    ∧ (win0_7.index t (1 : Fin 2) = 16 * (t.val / 32) + (2 * (t.val % 8) + 2 - 2) ∧ win0_7.index t (0 : Fin 2) = t.val / 8 % 4)
    ∧ (win0_8.index t (1 : Fin 2) = 16 * (t.val / 32) + (2 * (t.val % 8) + 3 - 2) ∧ win0_8.index t (0 : Fin 2) = t.val / 8 % 4) :=
  (by decide +kernel : ∀ t : Fin grid0.N, _)
theorem gate_facts : ∀ t : Fin cfg0.N, win0_9.index t (0 : Fin 5) = 2 ∧ win0_9.index t (1 : Fin 5) = t.val / 32
    ∧ win0_9.index t (2 : Fin 5) = t.val / 8 % 4 ∧ win0_9.index t (3 : Fin 5) = 0 ∧ win0_9.index t (4 : Fin 5) = t.val % 8 :=
  (by decide +kernel : ∀ t : Fin grid0.N, _)

/-- The four key tiles and the four value tiles of a point. -/
def keyTiles (c : Dev nD) (t : Fin cfg0.N) : Fin 4 → Vec Ideal S256x128 .bf16
  | 0 => iblk m c 1 t | 1 => iblk m c 2 t | 2 => iblk m c 3 t | 3 => iblk m c 4 t
def valueTiles (c : Dev nD) (t : Fin cfg0.N) : Fin 4 → Vec Ideal S128x256 .bf16
  | 0 => iblk m c 5 t | 1 => iblk m c 6 t | 2 => iblk m c 7 t | 3 => iblk m c 8 t

section Reads

variable (c : Dev nD) (t : Fin cfg0.N) (e : Fin 2) (p : Fin 256) (j : Fin 4) (d : Fin 128)

theorem row_place : (8 * (t.val / 32) + t.val % 8) * 512 + 1 * (rowIn e p).val = (rowOf (bOf t) (pos (tileNo t e) (tileNo_lt t e) p)).val := by
  show _ * 512 + 1 * (256 * e.val + p.val) = 4096 * (t.val / 32) + (256 * (2 * (t.val % 8) + e.val) + p.val)
  omega
theorem col_place : t.val / 8 % 4 * 512 + 1 * (feat j d).val = (colOf (gOf t) j d).val := by
  show _ * 512 + 1 * (128 * j.val + d.val) = 512 * (t.val / 8 % 4) + 128 * j.val + d.val
  omega
theorem keyRow_place (n : Fin 3) (w : Fin 256) (r : ℕ) (hr : r = n.val + e.val) :
    (16 * (t.val / 32) + (2 * (t.val % 8) + r - 2)) * 256 + 1 * w.val = (keyRow (bOf t) (tileNo t e) (tileNo_lt t e) n w).val := by
  show _ = 256 * (16 * (t.val / 32) + (2 * (t.val % 8) + e.val + n.val - 2)) + w.val
  subst hr
  omega
theorem keyCol_place : t.val / 8 % 4 * 128 + 1 * d.val = (keyCol (gOf t) d).val := by
  show _ = 128 * (t.val / 8 % 4) + d.val
  omega

theorem query_read : (iblk m c 0 t : Vec Ideal S512x512 .f32) (ix2 (rowIn e p) (feat j d))
    = m ((c : Thread nD τ).loc main_arg0) (ix2 (rowOf (bOf t) (pos (tileNo t e) (tileNo_lt t e) p)) (colOf (gOf t) j d)) := by
  unfold iblk
  rw [View.read_apply]
  show V m c main_arg0 _ = _
  rw [V_main_arg0]
  exact congrArg _ (at2 _ _ _ (scaled (row_facts t).1.1 (row_place t e p)) (scaled (row_facts t).1.2 (col_place t j d)))

theorem compressed_read : (iblk m c 10 t : Vec Ideal S512x512 .bf16) (ix2 (rowIn e p) (feat j d))
    = m ((c : Thread nD τ).loc main_arg4) (ix2 (rowOf (bOf t) (pos (tileNo t e) (tileNo_lt t e) p)) (colOf (gOf t) j d)) := by
  unfold iblk
  rw [View.read_apply]
  show V m c main_arg4 _ = _
  rw [V_main_arg4]
  exact congrArg _ (at2 _ _ _ (scaled (row_facts t).2.1.1 (row_place t e p)) (scaled (row_facts t).2.1.2 (col_place t j d)))

theorem selected_read : (iblk m c 11 t : Vec Ideal S512x512 .bf16) (ix2 (rowIn e p) (feat j d))
    = m ((c : Thread nD τ).loc main_arg5) (ix2 (rowOf (bOf t) (pos (tileNo t e) (tileNo_lt t e) p)) (colOf (gOf t) j d)) := by
  unfold iblk
  rw [View.read_apply]
  show V m c main_arg5 _ = _
  rw [V_main_arg5]
  exact congrArg _ (at2 _ _ _ (scaled (row_facts t).2.2.1.1 (row_place t e p)) (scaled (row_facts t).2.2.1.2 (col_place t j d)))

theorem key_read (n : Fin 3) (w : Fin 256) : keyTiles m c t (tileIn e n) (ix2 w d)
    = m ((c : Thread nD τ).loc main_arg1) (ix2 (keyRow (bOf t) (tileNo t e) (tileNo_lt t e) n w) (keyCol (gOf t) d)) := by
  obtain ⟨k1, k2, k3, k4⟩ := key_facts t
  rw [← V_main_arg1 m c]
  have hr : (tileIn e n).val = n.val + e.val := rfl
  revert hr
  generalize tileIn e n = r
  intro hr
  match r, hr with
  | 0, hr => exact congrArg (V m c main_arg1) (at2 _ _ _ (scaled k1.1 (keyRow_place t e n w 0 hr)) (scaled k1.2 (keyCol_place t d)))
  | 1, hr => exact congrArg (V m c main_arg1) (at2 _ _ _ (scaled k2.1 (keyRow_place t e n w 1 hr)) (scaled k2.2 (keyCol_place t d)))
  | 2, hr => exact congrArg (V m c main_arg1) (at2 _ _ _ (scaled k3.1 (keyRow_place t e n w 2 hr)) (scaled k3.2 (keyCol_place t d)))
  | 3, hr => exact congrArg (V m c main_arg1) (at2 _ _ _ (scaled k4.1 (keyRow_place t e n w 3 hr)) (scaled k4.2 (keyCol_place t d)))

theorem value_read (n : Fin 3) (w : Fin 256) : valueTiles m c t (tileIn e n) (ix2 d w)
    = m ((c : Thread nD τ).loc main_arg2) (ix2 (keyRow (bOf t) (tileNo t e) (tileNo_lt t e) n w) (keyCol (gOf t) d)) := by
  obtain ⟨k1, k2, k3, k4⟩ := value_facts t
  have e1 : V m c main_v3 (ix2 (keyCol (gOf t) d) (keyRow (bOf t) (tileNo t e) (tileNo_lt t e) n w)) = m ((c : Thread nD τ).loc main_arg2) (ix2 (keyRow (bOf t) (tileNo t e) (tileNo_lt t e) n w) (keyCol (gOf t) d)) := by
    rw [values_found]
    exact transpose_ix2_apply _ _ _ _
  refine Eq.trans ?_ e1
  have hr : (tileIn e n).val = n.val + e.val := rfl
  revert hr
  generalize tileIn e n = r
  intro hr
  match r, hr with
  | 0, hr => exact congrArg (V m c main_v3) (at2 _ _ _ (scaled k1.2 (keyCol_place t d)) (scaled k1.1 (keyRow_place t e n w 0 hr)))
  | 1, hr => exact congrArg (V m c main_v3) (at2 _ _ _ (scaled k2.2 (keyCol_place t d)) (scaled k2.1 (keyRow_place t e n w 1 hr)))
  | 2, hr => exact congrArg (V m c main_v3) (at2 _ _ _ (scaled k3.2 (keyCol_place t d)) (scaled k3.1 (keyRow_place t e n w 2 hr)))
  | 3, hr => exact congrArg (V m c main_v3) (at2 _ _ _ (scaled k4.2 (keyCol_place t d)) (scaled k4.1 (keyRow_place t e n w 3 hr)))

theorem gate_read : (iblk m c 9 t : Vec Ideal S1x1x1x8x512 .f32) (ix5 (0 : Fin 1) (0 : Fin 1) (0 : Fin 1) (⟨j.val, by omega⟩ : Fin 8) (rowIn e p))
    = m ((c : Thread nD τ).loc main_arg3) (ix2 (rowOf (bOf t) (pos (tileNo t e) (tileNo_lt t e) p)) (gateCol (gOf t) j)) := by
  obtain ⟨g0, g1, g2, g3, g4⟩ := gate_facts t
  rw [← gatesLaid_apply (m ((c : Thread nD τ).loc main_arg3)), ← gates_found m c]
  unfold iblk
  rw [View.read_apply]
  refine congrArg (V m c main_v2) (funext fun a => Fin.ext ?_)
  match a with
  | ⟨0, _⟩ => exact scaled (s := 1) (w := 0) g0 rfl
  | ⟨1, _⟩ => exact scaled (s := 1) (w := 0) g1 (show t.val / 32 * 1 + 1 * 0 = t.val / 32 by omega)
  | ⟨2, _⟩ => exact scaled (s := 1) (w := 0) g2 (show t.val / 8 % 4 * 1 + 1 * 0 = t.val / 8 % 4 by omega)
  | ⟨3, _⟩ => exact scaled (s := 8) (w := j.val) g3 (show 0 * 8 + 1 * j.val = j.val by omega)
  | ⟨4, _⟩ => exact scaled (s := 512) (w := (rowIn e p).val) g4 (show t.val % 8 * 512 + 1 * (256 * e.val + p.val) = 256 * (2 * (t.val % 8) + e.val) + p.val by omega)

end Reads

/-- The arguments' queries and keys are real. -/
def FiniteArgs (c : Dev nD) : Prop :=
  Finite (s := S8192x2048) (m ((c : Thread nD τ).loc main_arg0)) ∧ Finite (s := S8192x512) (m ((c : Thread nD τ).loc main_arg1))

/-- The specification's entry over the program's arguments. -/
abbrev entryOf (c : Dev nD) : Fin 2 → Fin 4 → Fin 4 → Fin 4096 → Fin 128 → EReal :=
  entry (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- One half of a point's block, its operands found in the point's blocks at that half's rows. -/
theorem half_point (c : Dev nD) (hf : FiniteArgs m c) (t : Fin cfg0.N) (e : Fin 2) (qb : Vec Ideal S256x512 .f32)
    (gb : Fin 4 → Vec Ideal S1x1x1x1x256 .f32) (ocb osb : Vec Ideal S256x512 .bf16)
    (hq : ∀ p q, qb (ix2 p q) = (iblk m c 0 t : Vec Ideal S512x512 .f32) (ix2 (rowIn e p) q))
    (hg : ∀ j p, gb j (ix5 (0 : Fin 1) (0 : Fin 1) (0 : Fin 1) (0 : Fin 1) p)
      = (iblk m c 9 t : Vec Ideal S1x1x1x8x512 .f32) (ix5 (0 : Fin 1) (0 : Fin 1) (0 : Fin 1) (⟨j.val, by omega⟩ : Fin 8) (rowIn e p)))
    (hoc : ∀ p q, ocb (ix2 p q) = (iblk m c 10 t : Vec Ideal S512x512 .bf16) (ix2 (rowIn e p) q))
    (hos : ∀ p q, osb (ix2 p q) = (iblk m c 11 t : Vec Ideal S512x512 .bf16) (ix2 (rowIn e p) q))
    (p : Fin 256) (j : Fin 4) (d : Fin 128) :
    half (BitVec.ofNat 32 (2 * (grid0.coords t 2).val + e.val)) qb (fun n => keyTiles m c t (tileIn e n)) (fun n => valueTiles m c t (tileIn e n))
        gb ocb osb (ix2 p (feat j d))
      = entryOf m c (bOf t) (gOf t) j (pos (tileNo t e) (tileNo_lt t e) p) d := by
  rw [coord_fact]
  exact half_entry _ _ _ _ _ _ hf.1 hf.2 (bOf t) (gOf t) (tileNo t e) (tileNo_lt t e) qb _ _ gb ocb osb
    (fun p j d => (hq p _).trans (query_read m c t e p j d)) (fun n w d => key_read m c t e d n w) (fun n w d => value_read m c t e d n w)
    (fun j p => (hg j p).trans (gate_read m c t e p j)) (fun p j d => (hoc p _).trans (compressed_read m c t e p j d))
    (fun p j d => (hos p _).trans (selected_read m c t e p j d)) p j d

/-- A load of the upper or lower half of a block of rows; a load of one head's gates. -/
theorem ld_rows {φ : EltTy} (x : Vec Ideal S512x512 φ) (e : Fin 2) (inb : ∀ a, (![256 * e.val, 0] : Fin 2 → ℕ) a + S256x512.size a ≤ S512x512.size a)
    (p : Fin 256) (q : Fin 512) : View.ld x (Rect.unit (s := S512x512) ![256 * e.val, 0] S256x512.size inb) (ix2 p q) = x (ix2 (rowIn e p) q) :=
  View.ld_unit_apply_of x _ _ inb (ix2 p q) (ix2 (rowIn e p) q) fun a => match a with | ⟨0, _⟩ => rfl | ⟨1, _⟩ => (Nat.zero_add _).symm
theorem ld_gates (x : Vec Ideal S1x1x1x8x512 .f32) (e : Fin 2) (j : Fin 4) (p : Fin 256) :
    headGates e x j (ix5 (0 : Fin 1) (0 : Fin 1) (0 : Fin 1) (0 : Fin 1) p) = x (ix5 (0 : Fin 1) (0 : Fin 1) (0 : Fin 1) (⟨j.val, by omega⟩ : Fin 8) (rowIn e p)) :=
  View.ld_unit_apply_of x _ _ _ _ _ fun a => match a with | ⟨0, _⟩ => rfl | ⟨1, _⟩ => rfl | ⟨2, _⟩ => rfl | ⟨3, _⟩ => rfl | ⟨4, _⟩ => rfl

/-- A point's block, entry by entry. -/
theorem body_entry (c : Dev nD) (hf : FiniteArgs m c) (t : Fin cfg0.N) (e : Fin 2) (p : Fin 256) (j : Fin 4) (d : Fin 128) :
    body (grid0.coords t) (iblk m c 0 t) (keyTiles m c t) (valueTiles m c t) (iblk m c 9 t) (iblk m c 10 t) (iblk m c 11 t) (ix2 (rowIn e p) (feat j d))
      = entryOf m c (bOf t) (gOf t) j (pos (tileNo t e) (tileNo_lt t e) p) d := by
  match e with
  | 0 =>
    rw [body_upper]
    exact half_point m c hf t 0 _ _ _ _ (ld_rows _ 0 _) (ld_gates _ 0)
      (ld_rows _ 0 _) (ld_rows _ 0 _) p j d
  | 1 =>
    rw [body_lower]
    exact half_point m c hf t 1 _ _ _ _ (ld_rows _ 1 _) (ld_gates _ 1)
      (ld_rows _ 1 _) (ld_rows _ 1 _) p j d

variable (G : Vec Ideal S8192x2048 .bf16)

/-- Each point writes back its block of any array that has the specification's entries. -/
theorem flushed12_eq (c : Dev nD) (hf : FiniteArgs m c) (hG : ∀ b g j s d, G (ix2 (rowOf b s) (colOf g j d)) = entryOf m c b g j s d) (t : Fin cfg0.N) :
    (dats m 0 c).flushed 12 t = ((cfg0.win 12).blk t).view.read (Elt Ideal) G := by
  rw [flushed12]
  funext y
  obtain ⟨P, C, rfl⟩ : ∃ (P C : Fin 512), y = ix2 P C := ⟨y 0, y 1, eq_ix2 y⟩
  obtain ⟨e, p, rfl⟩ : ∃ (e : Fin 2) (p : Fin 256), P = rowIn e p :=
    ⟨⟨P.val / 256, by omega⟩, ⟨P.val % 256, by omega⟩, Fin.ext (show P.val = 256 * (P.val / 256) + P.val % 256 by omega)⟩
  obtain ⟨j, d, rfl⟩ : ∃ (j : Fin 4) (d : Fin 128), C = feat j d :=
    ⟨⟨C.val / 128, by omega⟩, ⟨C.val % 128, by omega⟩, Fin.ext (show C.val = 128 * (C.val / 128) + C.val % 128 by omega)⟩
  show body (grid0.coords t) (iblk m c 0 t) (keyTiles m c t) (valueTiles m c t) (iblk m c 9 t) (iblk m c 10 t) (iblk m c 11 t) (ix2 (rowIn e p) (feat j d))
    = G (((cfg0.win 12).blk t).view.emb (ix2 (rowIn e p) (feat j d)))
  obtain ⟨-, -, -, f0, f1⟩ := row_facts t
  have hemb : ((cfg0.win 12).blk t).view.emb (ix2 (rowIn e p) (feat j d))
      = ix2 (rowOf (bOf t) (pos (tileNo t e) (tileNo_lt t e) p)) (colOf (gOf t) j d) :=
    at2 _ _ _ (scaled f0 (row_place t e p)) (scaled f1 (col_place t j d))
  rw [body_entry m c hf, hemb, hG]

/-- The result array is any array that has the specification's entries. -/
theorem final12_eq (c : Dev nD) (hf : FiniteArgs m c) (hG : ∀ b g j s d, G (ix2 (rowOf b s) (colOf g j d)) = entryOf m c b g j s d) :
    (dats m 0 c).arrAt 12 cfg0.N = G :=
  (dats m 0 c).arrAt_eq_of_cover 12 _ (fun t _ => flushed12_eq m G c hf hG t) fun i => by
    have h0 : (i 0).val < 8192 := (i 0).isLt
    have h1 : (i 1).val < 2048 := (i 1).isLt
    let t : Fin cfg0.N := ⟨32 * ((i 0).val / 4096) + 8 * ((i 1).val / 512) + (i 0).val % 4096 / 512, lt_of_lt_of_eq (by omega) N_0.symm⟩
    have ht : t.val = 32 * ((i 0).val / 4096) + 8 * ((i 1).val / 512) + (i 0).val % 4096 / 512 := rfl
    obtain ⟨-, -, -, f0, f1⟩ := row_facts t
    refine ⟨t, flush0_12 t, ?_⟩
    show i ∈ ((View.whole main_v4).slice (win0_12.rect t)).set
    rw [View.set_slice_whole, Rect.mem_set_unit]
    intro a
    match a with
    | ⟨0, _⟩ => show win0_12.index t 0 * 512 ≤ (i 0).val ∧ (i 0).val < win0_12.index t 0 * 512 + 512; rw [f0]; omega
    | ⟨1, _⟩ => show win0_12.index t 1 * 512 ≤ (i 1).val ∧ (i 1).val < win0_12.index t 1 * 512 + 512; rw [f1]; omega

end Cert.WinIdeal.Block

end
-- ==== Proof.WinRef.lean ====
/-
  THE REFERENCE OF THE WINDOW ATTENTION, read entry by entry: scores over all pairs of positions, −∞ outside the window, a
  softmax over all 4096 keys, the average of the values, the gate.
-/
module

public import proofs.«01_k».proof.Proof.WinSpec
public import proofs.«01_k».proof.Proof.Gen.WinRefIdeal.Read
public import Idealize.ShloMosaic.Lib.KernelVsHost
public import Idealize.ShloMosaic.Lib.IdealHost
public import Idealize.ShloMosaic.Lib.ValueIdxRank6

@[expose] public section

set_option maxRecDepth 16384

noncomputable section

open Idealize.ShloMosaic Idealize.ShloMosaic.TcCoe Idealize.SL.Sem
open Idealize.ShloMosaic.ValueIdx

namespace Cert.WinRefIdeal.Entry

open Cert.WinRefIdeal Cert.WinRefIdeal.Gen Cert.WinRefIdeal.Read
open Cert.Proof.Win

variable (x0 : Vec Ideal S8192x2048 .f32) (x1 x2 : Vec Ideal S8192x512 .bf16) (x3 : Vec Ideal S8192x48 .f32)
variable (x4 x5 : Vec Ideal S8192x2048 .bf16)
variable (b : Fin 2) (g j : Fin 4) (t s : Fin 4096) (d : Fin 128)

/-- The queries, by head. -/
theorem query_eq : val_main_v1 (F := Ideal) x0 (ix5 b g j t d) = x0 (ix2 (rowOf b t) (colOf g j d)) := by
  rw [val_main_v1_apply, val_main_v0_apply]
  refine congrArg x0 (funext fun a => Fin.ext ?_)
  match a with
  | ⟨0, _⟩ => show ((((b.val * 4096 + t.val) * 4 + g.val) * 4 + j.val) * 128 + d.val) / 2048 = 4096 * b.val + t.val; omega
  | ⟨1, _⟩ => show ((((b.val * 4096 + t.val) * 4 + g.val) * 4 + j.val) * 128 + d.val) % 2048 = 512 * g.val + 128 * j.val + d.val; omega

/-- The keys, by group. -/
theorem key_eq : val_main_v4 (F := Ideal) x1 (ix4 b g s d) = x1 (ix2 (rowOf b s) (keyCol g d)) := by
  rw [val_main_v4_apply, val_main_v3_apply]
  refine congrArg x1 (funext fun a => Fin.ext ?_)
  match a with
  | ⟨0, _⟩ => show (((b.val * 4096 + s.val) * 4 + g.val) * 128 + d.val) / 512 = 4096 * b.val + s.val; omega
  | ⟨1, _⟩ => show (((b.val * 4096 + s.val) * 4 + g.val) * 128 + d.val) % 512 = 128 * g.val + d.val; omega

/-- The values, by group. -/
theorem value_eq : val_main_v7 (F := Ideal) x2 (ix4 b g s d) = x2 (ix2 (rowOf b s) (keyCol g d)) := by
  rw [val_main_v7_apply, val_main_v6_apply]
  refine congrArg x2 (funext fun a => Fin.ext ?_)
  match a with
  | ⟨0, _⟩ => show (((b.val * 4096 + s.val) * 4 + g.val) * 128 + d.val) / 512 = 4096 * b.val + s.val; omega
  | ⟨1, _⟩ => show (((b.val * 4096 + s.val) * 4 + g.val) * 128 + d.val) % 512 = 128 * g.val + d.val; omega

/-- The products of queries and keys. -/
theorem dot_eq : val_main_v8 (F := Ideal) x0 x1 (ix5 b g j t s)
    = ∑ e : Fin 128, (x0 (ix2 (rowOf b t) (colOf g j e)) : EReal) * x1 (ix2 (rowOf b s) (keyCol g e)) := by
  rw [val_main_v8_apply]
  refine Finset.sum_congr rfl fun e _ => ?_
  have el : lidx_main_v8 (ix5 b g j t s) e = ix5 b g j t e := funext fun a => Fin.ext (by
    match a with | ⟨0, _⟩ => rfl | ⟨1, _⟩ => rfl | ⟨2, _⟩ => rfl | ⟨3, _⟩ => rfl | ⟨4, _⟩ => rfl)
  have er : ridx_main_v8 (ix5 b g j t s) e = ix4 b g s e := funext fun a => Fin.ext (by
    match a with | ⟨0, _⟩ => rfl | ⟨1, _⟩ => rfl | ⟨2, _⟩ => rfl | ⟨3, _⟩ => rfl)
  rw [el, er, query_eq, key_eq]

/-- The mask. -/
theorem mask_eq : val_main_v24 (F := Ideal) (ix2 t s) = if visible t s then 1#1 else 0#1 := by
  have ht := t.isLt
  have hs := s.isLt
  have e1 : val_main_v16 (F := Ideal) (ix2 t s) = BitVec.ofNat 32 s.val := by
    rw [val_main_v16_apply, val_main_v15_apply, val_main_v14_apply]
  have e2 : val_main_v17 (F := Ideal) (ix2 t s) = BitVec.ofNat 32 t.val := by
    rw [val_main_v17_apply, val_main_v13_apply, val_main_v12_apply]
  have e3 : val_main_v21 (F := Ideal) (ix2 t s) = BitVec.ofNat 32 s.val := by
    rw [val_main_v21_apply, val_main_v15_apply, val_main_v14_apply]
  have e4 : val_main_v22 (F := Ideal) (ix2 t s) = BitVec.ofNat 32 t.val - 512#32 := by
    rw [val_main_v22_apply, val_main_v20_apply, val_main_v13_apply, val_main_v12_apply, val_main_v19_apply, val_main_c_apply]
    rfl
  have i1 : (BitVec.ofNat 32 s.val).toInt = (s.val : ℤ) := by
    rw [BitVec.toInt_eq_toNat_cond, BitVec.toNat_ofNat]; split <;> omega
  have i2 : (BitVec.ofNat 32 t.val).toInt = (t.val : ℤ) := by
    rw [BitVec.toInt_eq_toNat_cond, BitVec.toNat_ofNat]; split <;> omega
  have i3 : (BitVec.ofNat 32 t.val - 512#32).toInt = (t.val : ℤ) - 512 := by
    rw [BitVec.toInt_sub, i2]
    show Int.bmod ((t.val : ℤ) - 512) (2 ^ 32) = _
    rw [Int.bmod_def]; split <;> omega
  rw [val_main_v24_apply, val_main_v18_apply, val_main_v23_apply, e1, e2, e3, e4]
  show BitVec.ofBool (BitVec.sle _ _) &&& BitVec.ofBool (BitVec.slt _ _) = _
  have bits : ∀ a b : Bool, BitVec.ofBool a &&& BitVec.ofBool b = if (a && b) = true then 1#1 else 0#1 := by decide
  rw [BitVec.sle_eq_decide, BitVec.slt_eq_decide, i1, i2, i3, bits]
  refine if_congr ?_ rfl rfl
  simp only [Bool.and_eq_true, decide_eq_true_eq]
  unfold visible
  omega

/-- The masked scores, where queries and keys are real. -/
theorem masked_eq (hq : Finite (s := S8192x2048) x0) (hk : Finite (s := S8192x512) x1) :
    val_main_v25 (F := Ideal) x0 x1 (ix5 b g j t s) = masked (visible t) (score x0 x1 b g j t) s := by
  have em : val_main_call0_v1 (F := Ideal) (ix5 b g j t s) = if visible t s then 1#1 else 0#1 := by
    rw [val_main_call0_v1_apply]
    refine Eq.trans (congrArg (val_main_v24 (F := Ideal)) (funext fun a => Fin.ext ?_)) (mask_eq t s)
    match a with | ⟨0, _⟩ => rfl | ⟨1, _⟩ => rfl
  have ei : val_main_call0_v2 (F := Ideal) (ix5 b g j t s) = (⊥ : EReal) := by
    rw [val_main_call0_v2_apply, val_main_call0_v0_apply, val_main_cst_0_apply]
    exact neg_inf
  have es : val_main_v11 (F := Ideal) x0 x1 (ix5 b g j t s) = ((score x0 x1 b g j t s : ℝ) : EReal) := by
    rw [val_main_v11_apply, dot_eq, val_main_v10_apply, val_main_v9_apply, val_main_cst_apply]
    show Ideal.div _ (Ideal.sqrt (Ideal.ofBits .f32 0x43000000#32)) = _
    have h128 : (0 : ℝ) < Real.sqrt 128 := Real.sqrt_pos.mpr (by norm_num)
    rw [one_two_eight, Ideal.sqrt_coe, if_neg (by norm_num), Ideal.div_coe h128.ne', score, EReal.coe_mul, ← sum_coe]
    refine congrArg (· * _) (Finset.sum_congr rfl fun e _ => ?_)
    rw [hq, hk, EReal.coe_mul, EReal.toReal_coe, EReal.toReal_coe]
  rw [val_main_v25_apply, em, ei, es]
  unfold masked
  split
  · rfl
  · rfl

/-- The row maxima. -/
theorem max_eq (hq : Finite (s := S8192x2048) x0) (hk : Finite (s := S8192x512) x1) :
    val_main_v28 (F := Ideal) x0 x1 (ix4 b g j t)
      = (Finset.univ : Finset (Fin 4096)).fold max (⊥ : EReal) (masked (visible t) (score x0 x1 b g j t)) := by
  have hr : S2x4x4x4096x4096.Reduces [4] S2x4x4x4096 := by decide
  have e : val_main_v26 (F := Ideal) x0 x1 (ix4 b g j t)
      = (Finset.univ : Finset (Fin 4096)).fold max (⊥ : EReal) (masked (visible t) (score x0 x1 b g j t)) := by
    have e1 := congrFun (hostReduce_maximumf_eq_multiReduction (F := Ideal) (val_main_v25 (F := Ideal) x0 x1) 0xFF800000#32
      reducesTo_S2x4x4x4096x4096_S2x4x4x4096_d4 h_S_ hr (.inl rfl) rfl) (ix4 b g j t)
    have e2 := Ideal.multiReduction_maximumf_single (φ := .f32) (val_main_v25 (F := Ideal) x0 x1) 0xFF800000#32 hr (.inl rfl) rfl (ix4 b g j t)
    refine Eq.trans e1 (Eq.trans e2 ?_)
    have hb : (FloatOps.ofBits (F := Ideal) .f32 0xFF800000#32 : EReal) = ⊥ := neg_inf
    rw [hb]
    refine congrArg (Finset.fold max (⊥ : EReal) · Finset.univ) (funext fun s => ?_)
    refine Eq.trans (congrArg (val_main_v25 (F := Ideal) x0 x1) (funext fun a => Fin.ext ?_)) (masked_eq x0 x1 b g j t s hq hk)
    match a with | ⟨0, _⟩ => rfl | ⟨1, _⟩ => rfl | ⟨2, _⟩ => rfl | ⟨3, _⟩ => rfl | ⟨4, _⟩ => rfl
  have eb : val_main_v27 (F := Ideal) (ix4 b g j t) = (⊥ : EReal) := by
    rw [val_main_v27_apply, val_main_cst_2_apply]
    exact neg_inf
  rw [val_main_v28_apply, e, eb]
  exact max_eq_right bot_le

/-- The powers of e. -/
theorem power_eq (hq : Finite (s := S8192x2048) x0) (hk : Finite (s := S8192x512) x1) :
    val_main_v32 (F := Ideal) x0 x1 (ix5 b g j t s)
      = Ideal.exp (masked (visible t) (score x0 x1 b g j t) s
          - (Finset.univ : Finset (Fin 4096)).fold max (⊥ : EReal) (masked (visible t) (score x0 x1 b g j t))) := by
  have em : val_main_v30 (F := Ideal) x0 x1 (ix5 b g j t s) = val_main_v28 (F := Ideal) x0 x1 (ix4 b g j t) := by
    rw [val_main_v30_apply, val_main_v29_apply]
    refine congrArg (val_main_v28 (F := Ideal) x0 x1) (funext fun a => Fin.ext ?_)
    match a with | ⟨0, _⟩ => rfl | ⟨1, _⟩ => rfl | ⟨2, _⟩ => rfl | ⟨3, _⟩ => rfl
  rw [val_main_v32_apply, val_main_v31_apply, em, masked_eq x0 x1 b g j t s hq hk, max_eq x0 x1 b g j t hq hk]
  rfl

/-- The average of the values. -/
theorem average_eq (hq : Finite (s := S8192x2048) x0) (hk : Finite (s := S8192x512) x1) :
    val_main_v37 (F := Ideal) x0 x1 x2 (ix5 b g j t d)
      = ∑ s : Fin 4096, Ideal.div (Ideal.exp (masked (visible t) (score x0 x1 b g j t) s
            - (Finset.univ : Finset (Fin 4096)).fold max (⊥ : EReal) (masked (visible t) (score x0 x1 b g j t))))
          (∑ s' : Fin 4096, Ideal.exp (masked (visible t) (score x0 x1 b g j t) s'
            - (Finset.univ : Finset (Fin 4096)).fold max (⊥ : EReal) (masked (visible t) (score x0 x1 b g j t))))
        * x2 (ix2 (rowOf b s) (keyCol g d)) := by
  have hsum : ∀ s, val_main_v35 (F := Ideal) x0 x1 (ix5 b g j t s) = ∑ s' : Fin 4096, Ideal.exp (masked (visible t) (score x0 x1 b g j t) s'
            - (Finset.univ : Finset (Fin 4096)).fold max (⊥ : EReal) (masked (visible t) (score x0 x1 b g j t))) := fun s => by
    have e : idx_main_v34 (idx_main_v35 (ix5 b g j t s)) = ix4 b g j t := funext fun a => Fin.ext (by
      match a with | ⟨0, _⟩ => rfl | ⟨1, _⟩ => rfl | ⟨2, _⟩ => rfl | ⟨3, _⟩ => rfl)
    rw [val_main_v35_apply, val_main_v34_apply, e, val_main_v33_apply, val_main_cst_3_apply]
    refine Eq.trans (congrArg (· + _) Ideal.ofBits_zero_f32) ((zero_add _).trans (Finset.sum_congr rfl fun s' _ => ?_))
    refine Eq.trans (congrArg (val_main_v32 (F := Ideal) x0 x1) (funext fun a => Fin.ext ?_)) (power_eq x0 x1 b g j t s' hq hk)
    match a with | ⟨0, _⟩ => rfl | ⟨1, _⟩ => rfl | ⟨2, _⟩ => rfl | ⟨3, _⟩ => rfl | ⟨4, _⟩ => rfl
  rw [val_main_v37_apply]
  refine Finset.sum_congr rfl fun s _ => ?_
  have el : lidx_main_v37 (ix5 b g j t d) s = ix5 b g j t s := funext fun a => Fin.ext (by
    match a with | ⟨0, _⟩ => rfl | ⟨1, _⟩ => rfl | ⟨2, _⟩ => rfl | ⟨3, _⟩ => rfl | ⟨4, _⟩ => rfl)
  have er : ridx_main_v37 (ix5 b g j t d) s = ix4 b g s d := funext fun a => Fin.ext (by
    match a with | ⟨0, _⟩ => rfl | ⟨1, _⟩ => rfl | ⟨2, _⟩ => rfl | ⟨3, _⟩ => rfl)
  rw [el, er, value_eq, val_main_v36_apply, hsum, power_eq x0 x1 b g j t s hq hk]
  rfl

/-- The gate. -/
theorem gate_eq : val_main_v49 (F := Ideal) x3 (ix5 b g j t d) = Ideal.logistic (x3 (ix2 (rowOf b t) (gateCol g j))) := by
  have e48 : val_main_v48 (F := Ideal) x3 (ix5 b g j t (0 : Fin 1)) = val_main_v46 (F := Ideal) x3 (ix6 (2 : Fin 3) b g j t (0 : Fin 1)) := by
    unfold val_main_v48
    refine (shapeCast_apply _ _ (ix5 b g j t (0 : Fin 1)) (ix6 (0 : Fin 1) b g j t (0 : Fin 1)) (by
      rw [Shape.rowMajor_val_six, Shape.rowMajor_val_five]
      show ((((0 * 2 + b.val) * 4 + g.val) * 4 + j.val) * 4096 + t.val) * 1 + 0 = (((b.val * 4 + g.val) * 4 + j.val) * 4096 + t.val) * 1 + 0
      omega)).trans ?_
    rw [val_main_v47_apply]
    refine congrArg (val_main_v46 (F := Ideal) x3) (funext fun a => Fin.ext ?_)
    match a with | ⟨0, _⟩ => rfl | ⟨1, _⟩ => rfl | ⟨2, _⟩ => rfl | ⟨3, _⟩ => rfl | ⟨4, _⟩ => rfl | ⟨5, _⟩ => rfl
  have e49 : idx_main_v49 (ix5 b g j t d) = ix5 b g j t (0 : Fin 1) := funext fun a => Fin.ext (by
    match a with | ⟨0, _⟩ => rfl | ⟨1, _⟩ => rfl | ⟨2, _⟩ => rfl | ⟨3, _⟩ => rfl | ⟨4, _⟩ => rfl)
  rw [val_main_v49_apply, e49, e48, val_main_v46_apply, val_main_v45_apply, val_main_v44_apply, val_main_v43_apply, val_main_v42_apply,
    val_main_cst_5_apply, val_main_v41_apply, val_main_v40_apply, val_main_cst_4_apply, val_main_v39_apply, val_main_v38_apply]
  have ei : idx_main_v44 (idx_main_v45 (idx_main_v46 (ix6 (2 : Fin 3) b g j t (0 : Fin 1)))) = ix2 (rowOf b t) (gateCol g j) :=
    funext fun a => Fin.ext (by
      match a with
      | ⟨0, _⟩ => show ((((b.val * 4096 + t.val) * 3 + 2) * 4 + g.val) * 4 + j.val) / 48 = 4096 * b.val + t.val; omega
      | ⟨1, _⟩ => show ((((b.val * 4096 + t.val) * 3 + 2) * 4 + g.val) * 4 + j.val) % 48 = 32 + 4 * g.val + j.val; omega)
  rw [ei]
  show Ideal.div (Ideal.ofBits .f32 0x3F800000#32) (Ideal.ofBits .f32 0x3F800000#32 + Ideal.exp (-x3 (ix2 (rowOf b t) (gateCol g j)))) = _
  rw [Ideal.ofBits_one_f32]
  rfl

/-- The reference's result is the entry of the specification. -/
theorem result_eq (hq : Finite (s := S8192x2048) x0) (hk : Finite (s := S8192x512) x1) :
    val_main_v57 (F := Ideal) x0 x1 x2 x3 x4 x5 (ix2 (rowOf b t) (colOf g j d)) = entry x0 x1 x2 x3 x4 x5 b g j t d := by
  have e52 : val_main_v52 (F := Ideal) x0 x1 x2 x3 (ix2 (rowOf b t) (colOf g j d)) = val_main_v50 (F := Ideal) x0 x1 x2 x3 (ix5 b g j t d) := by
    rw [val_main_v52_apply, val_main_v51_apply]
    refine congrArg (val_main_v50 (F := Ideal) x0 x1 x2 x3) (funext fun a => Fin.ext ?_)
    match a with
    | ⟨0, _⟩ => show ((4096 * b.val + t.val) * 2048 + (512 * g.val + 128 * j.val + d.val)) / 8388608 = b.val; omega
    | ⟨1, _⟩ => show ((4096 * b.val + t.val) * 2048 + (512 * g.val + 128 * j.val + d.val)) / 512 % 4 = g.val; omega
    | ⟨2, _⟩ => show ((4096 * b.val + t.val) * 2048 + (512 * g.val + 128 * j.val + d.val)) / 128 % 4 = j.val; omega
    | ⟨3, _⟩ => show ((4096 * b.val + t.val) * 2048 + (512 * g.val + 128 * j.val + d.val)) / 2048 % 4096 = t.val; omega
    | ⟨4, _⟩ => show ((4096 * b.val + t.val) * 2048 + (512 * g.val + 128 * j.val + d.val)) % 128 = d.val; omega
  obtain ⟨M, hM⟩ := max_real (visible t) (score x0 x1 b g j t) t (visible_self t)
  obtain ⟨hg, hgr⟩ := gate_real (x3 (ix2 (rowOf b t) (gateCol g j)))
  rw [val_main_v57_apply, val_main_v56_apply, e52, val_main_v55_apply, val_main_v50_apply, gate_eq, average_eq x0 x1 x2 b g j t d hq hk, hM]
  unfold entry
  rw [← reference_row (visible t) (score x0 x1 b g j t) (fun s => x2 (ix2 (rowOf b s) (keyCol g d))) t (visible_self t) M _ hg, ← hgr]
  rfl

end Cert.WinRefIdeal.Entry

end
-- ==== Proof.Win.lean ====
/-
  THE CLAIMS ABOUT THE WINDOW ATTENTION: both programs run and leave their arguments, the two named constants are what the
  table says, and on real queries and keys the two results are equal.
-/
module

public import proofs.«01_k».proof.Proof.WinBlock
public import proofs.«01_k».proof.Proof.WinRef
public import proofs.«01_k».proof.Proof.Gen.Win.Frame
public import proofs.«01_k».proof.Proof.Gen.Pre_finite
public import Idealize.ShloMosaic.Lib.ReduceAll
public import Idealize.ShloMosaic.Lib.Quiescent

@[expose] public section

noncomputable section

open Idealize.ShloMosaic Idealize.ShloMosaic.TcCoe Idealize.SL.Sem
open Idealize.ShloMosaic.ValueIdx

namespace Cert.Proof.WinClaims

open Cert.Proof.Win

/-- An entry whose absolute value is below +∞ is real. -/
theorem real_of_abs_lt (x : EReal) (h : (FloatOps.cmpf (F := Ideal) (φ := .f32) .olt (FloatOps.hostAbsf (F := Ideal) (φ := .f32) x)
    (FloatOps.ofBits (F := Ideal) .f32 0x7F800000#32)) = 1#1) : x = (x.toReal : EReal) := by
  have hinf : Ideal.ofBits .f32 0x7F800000#32 = ⊤ := by simp [Ideal.ofBits, Ideal.ieee]
  induction x using EReal.rec with
  | bot => exact absurd h (by
      show ¬ Ideal.cmp .olt (max (⊥ : EReal) (-⊥)) (Ideal.ofBits .f32 0x7F800000#32) = 1#1
      rw [hinf]; simp [Ideal.cmp])
  | coe r => rw [EReal.toReal_coe]
  | top => exact absurd h (by
      show ¬ Ideal.cmp .olt (max (⊤ : EReal) (-⊤)) (Ideal.ofBits .f32 0x7F800000#32) = 1#1
      rw [hinf]; simp [Ideal.cmp])

/-- What the precondition says of the queries and of the keys. -/
theorem finite_of_pre (x0 : Vec Ideal Cert.Pre_finite.S8192x2048 .f32) (x1 x2 : Vec Ideal Cert.Pre_finite.S8192x512 .bf16)
    (x3 : Vec Ideal Cert.Pre_finite.S8192x48 .f32) (x4 x5 : Vec Ideal Cert.Pre_finite.S8192x2048 .bf16)
    (h : Cert.Pre_finite.fn (F := Ideal) x0 x1 x2 x3 x4 x5 = fun _ => 1#1) :
    Finite (s := Cert.Pre_finite.S8192x2048) x0 ∧ Finite (s := Cert.Pre_finite.S8192x512) x1 := by
  have e := congrFun h (Shape.Idx.first (by decide))
  unfold Cert.Pre_finite.fn at e
  dsimp only at e
  obtain ⟨e0, e1⟩ := IntOp.andi_eq_one.1 e
  haveI : Subsingleton Cert.Pre_finite.S_.Idx := ⟨fun a b => funext fun k => k.elim0⟩
  exact ⟨fun i => real_of_abs_lt _ (Host.reduce_andi_all _ _ _ _ _ e0 i), fun i => real_of_abs_lt _ (Host.reduce_andi_all _ _ _ _ _ e1 i)⟩

theorem frame_p : Cert.quiescent_Win := fun m ρ _ => Cert.Win.Gen.frame m ρ
theorem frame_pi : Cert.quiescent_WinIdeal := fun m ρ _ => Cert.WinIdeal.Gen.frame m ρ
theorem frame_pi_pre : Cert.quiescent_WinIdeal_pre_finite := fun m ρ _ => Cert.WinIdeal.Gen.frame m ρ
theorem frame_ri : Cert.quiescent_WinRefIdeal := fun m ρ _ =>
  (θ_run Cert.WinRefIdeal.defs _ _).mono (fun r h => ⟨fun c => (h c).2,
      Idealize.ShloMosaic.sem_eq_zero_of_no_sems (by decide) r.2⟩)
    (Cert.WinRefIdeal.Value.run (F := Ideal) m ρ)
theorem frame_ri_pre : Cert.quiescent_WinRefIdeal_pre_finite := fun m ρ _ => frame_ri m ρ trivial

theorem preserves : Cert.preserves_Win_WinIdeal :=
  ⟨IdealRules.named_const.statement Cert.WinIdeal.κ "scale" .f32 0x3E0293EE#32 (((Real.sqrt 128)⁻¹ * (Real.log 2)⁻¹ : ℝ) : EReal) rfl,
   IdealRules.named_const.statement Cert.WinIdeal.κ "mask" .f32 0xF149F2CA#32 ⊥ rfl⟩

theorem algebraic : Cert.algebraic_WinIdeal_WinRefIdeal_pre_finite := by
  intro m ρ m' ρ' hpre hagree
  have hf : ∀ c, Cert.WinIdeal.Block.FiniteArgs m c := fun c => finite_of_pre _ _ _ _ _ _ (hpre c)
  let G : (c : Dev Cert.WinIdeal.nD) → Vec Ideal Cert.WinIdeal.S8192x2048 .bf16 := fun c =>
    Cert.WinRefIdeal.Read.val_main_v57 (F := Ideal) (m ((c.tc : Thread Cert.WinIdeal.nD Cert.WinIdeal.τ).loc Cert.WinIdeal.main_arg0))
      (m ((c.tc : Thread Cert.WinIdeal.nD Cert.WinIdeal.τ).loc Cert.WinIdeal.main_arg1)) (m ((c.tc : Thread Cert.WinIdeal.nD Cert.WinIdeal.τ).loc Cert.WinIdeal.main_arg2))
      (m ((c.tc : Thread Cert.WinIdeal.nD Cert.WinIdeal.τ).loc Cert.WinIdeal.main_arg3)) (m ((c.tc : Thread Cert.WinIdeal.nD Cert.WinIdeal.τ).loc Cert.WinIdeal.main_arg4))
      (m ((c.tc : Thread Cert.WinIdeal.nD Cert.WinIdeal.τ).loc Cert.WinIdeal.main_arg5))
  have hG : ∀ c b g j s d, G c (ix2 (rowOf b s) (colOf g j d)) = Cert.WinIdeal.Block.entryOf m c b g j s d := fun c b g j s d =>
    Cert.WinRefIdeal.Entry.result_eq _ _ _ _ _ _ b g j s d (hf c).1 (hf c).2
  refine ⟨fun c => G c, (θ_run Cert.WinIdeal.defs _ _).mono (fun r h c => ⟨(h c).1.trans (Cert.WinIdeal.Block.final12_eq m (G c) c (hf c) (hG c)), (h c).2⟩)
    (Cert.WinIdeal.Value.run_blocks (F := Ideal) m ρ), ?_⟩
  refine (θ_run Cert.WinRefIdeal.defs _ _).mono (fun _ h c => ⟨(h c).1.trans ?_, (h c).2⟩)
    (Cert.WinRefIdeal.Value.run (F := Ideal) m' ρ')
  refine (Cert.WinRefIdeal.Read.val_main_v57_eq m' c).trans ?_
  obtain ⟨a0, a1, a2, a3, a4, a5⟩ := hagree c
  rw [a0, a1, a2, a3, a4, a5]

end Cert.Proof.WinClaims

end
-- ==== Proof.MlpUp.lean ====
/-
  THE MLP'S UP PROJECTION. What one grid point of the kernel computes (a 1024 x 1024 block of relu² of a matrix product,
  and 128 rows of the second weight matrix narrowed to bf16), what the two result arrays therefore hold, and that the
  reference's two results are the same arrays.
-/
module

public import proofs.«01_k».proof.Defs
public import proofs.«01_k».proof.Proof.Gen.MlpUp.Frame
public import proofs.«01_k».proof.Proof.Gen.MlpUpIdeal.Value
public import proofs.«01_k».proof.Proof.Gen.MlpUpRefIdeal.Read
public import Idealize.ShloMosaic.Lib.MatmulPlain
public import Idealize.ShloMosaic.Lib.ValueIdx
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.MlpUpIdeal.Up

open Cert.MlpUpIdeal Cert.MlpUpIdeal.Gen Cert.MlpUpIdeal.Value

theorem off2 : (![0, 0] : Fin 2 → Nat) = fun _ => 0 := funext fun a => by fin_cases a <;> rfl
theorem off3 : (![0, 0, 0] : Fin 3 → Nat) = fun _ => 0 := funext fun a => by fin_cases a <;> rfl

/-- The hidden activations, entry by entry: the square of the positive part of the row-times-column product. -/
def hidden (h : Vec Ideal S8192x4096 .bf16) (w : Vec Ideal S4096x16384 .bf16) : Vec Ideal S8192x16384 .bf16 := fun i =>
  max (∑ k : Fin 4096, h (ix2 (i 0) k) * w (ix2 k (i 1))) 0 * max (∑ k : Fin 4096, h (ix2 (i 0) k) * w (ix2 k (i 1))) 0

/-- Layer 0 of the second weight matrix. -/
def layer0 (w : Vec Ideal S2x16384x4096 .f32) : Vec Ideal S16384x4096 .bf16 := fun i => w (ix3 (0 : Fin 2) (i 0) (i 1))

/-- The body's first payload at an index of the block. -/
theorem pay1_apply (x : FVec Ideal S1024x4096 .bf16) (w : FVec Ideal S4096x1024 .bf16) (r : Fin 1024) (q : Fin 1024) :
    k0_pay1 (F := Ideal) x w (ix2 r q)
      = max (∑ k : Fin 4096, x (ix2 r k) * w (ix2 k q)) 0 * max (∑ k : Fin 4096, x (ix2 r k) * w (ix2 k q)) 0 := by
  have e := Ideal.matmul_plain_apply (φ₁ := .bf16) (φ₂ := .bf16) none x w (constant (F := Ideal) S1024x1024 .f32 0x00000000#32) r q
  rw [constant_apply, Ideal.ofBits_zero_f32, zero_add] at e
  show max (FloatOps.matmul (DotDims.plain 1024 4096 1024) none x w _ (ix2 r q)) (Ideal.ofBits .f32 0x00000000#32)
    * max (FloatOps.matmul (DotDims.plain 1024 4096 1024) none x w _ (ix2 r q)) (Ideal.ofBits .f32 0x00000000#32) = _
  rw [e, Ideal.ofBits_zero_f32]

variable (m : (ℓ : Loc nD τ sig) → Buf (Elt Ideal) ℓ)

/-- The block indices of the windows at a grid point. -/
theorem index_facts : ∀ t : Fin cfg0.N,
    (win0_0.index t (0 : Fin 2) = win0_3.index t (0 : Fin 2) ∧ win0_0.index t (1 : Fin 2) = 0)
    ∧ (win0_1.index t (0 : Fin 2) = 0 ∧ win0_1.index t (1 : Fin 2) = win0_3.index t (1 : Fin 2))
    ∧ (win0_2.index t (0 : Fin 3) = 0 ∧ win0_2.index t (1 : Fin 3) = win0_4.index t (0 : Fin 2) ∧ win0_2.index t (2 : Fin 3) = 0
      ∧ win0_4.index t (1 : Fin 2) = 0) :=
  (by decide +kernel : ∀ t : Fin grid0.N, _)

/-- Each point writes back its block of `hidden` of the argument arrays. -/
theorem flushed3_eq (c : Dev nD) (t : Fin cfg0.N) : (dats m 0 c).flushed 3 t = ((cfg0.win 3).blk t).view.read (Elt Ideal)
    (hidden (m ((c : Thread nD τ).loc main_arg0)) (m ((c : Thread nD τ).loc main_arg1))) := by
  rw [flushed3]
  funext y
  obtain ⟨p, q, rfl⟩ : ∃ (p q : Fin 1024), y = ix2 p q := ⟨y 0, y 1, eq_ix2 y⟩
  show out0_3 (iblk m c 0 t) (iblk m c 1 t) (iblk m c 2 t) (ix2 p q) = hidden _ _ (((cfg0.win 3).blk t).view.emb (ix2 p q))
  unfold out0_3
  rw [View.canon_unit_zero off2, View.ld_unit_zero (S := S1024x4096) off2, View.ld_unit_zero (S := S4096x1024) off2]
  refine (pay1_apply (iblk m c 0 t) (iblk m c 1 t) p q).trans ?_
  obtain ⟨⟨a0, a1⟩, ⟨b0, b1⟩, -⟩ := index_facts t
  have e0 : ∀ k : Fin 4096, (iblk m c 0 t : Vec Ideal S1024x4096 .bf16) (ix2 p k)
      = m ((c : Thread nD τ).loc main_arg0) (ix2 (((cfg0.win 3).blk t).view.emb (ix2 p q) 0) k) := fun k => by
    unfold iblk
    rw [View.read_apply]
    refine congrArg (m ((c : Thread nD τ).loc main_arg0)) (funext fun a => Fin.ext ?_)
    match a with
    | ⟨0, _⟩ => show win0_0.index t 0 * 1024 + 1 * p.val = win0_3.index t 0 * 1024 + 1 * p.val; rw [a0]
    | ⟨1, _⟩ => show win0_0.index t 1 * 4096 + 1 * k.val = k.val; rw [a1]; omega
  have e1 : ∀ k : Fin 4096, (iblk m c 1 t : Vec Ideal S4096x1024 .bf16) (ix2 k q)
      = m ((c : Thread nD τ).loc main_arg1) (ix2 k (((cfg0.win 3).blk t).view.emb (ix2 p q) 1)) := fun k => by
    unfold iblk
    rw [View.read_apply]
    refine congrArg (m ((c : Thread nD τ).loc main_arg1)) (funext fun a => Fin.ext ?_)
    match a with
    | ⟨0, _⟩ => show win0_1.index t 0 * 4096 + 1 * k.val = k.val; rw [b0]; omega
    | ⟨1, _⟩ => show win0_1.index t 1 * 1024 + 1 * q.val = win0_3.index t 1 * 1024 + 1 * q.val; rw [b1]
  unfold hidden
  rw [Finset.sum_congr rfl fun k _ => by rw [e0 k, e1 k]]

/-- Each point writes back its rows of layer 0 of the second weight matrix. -/
theorem flushed4_eq (c : Dev nD) (t : Fin cfg0.N) : (dats m 0 c).flushed 4 t = ((cfg0.win 4).blk t).view.read (Elt Ideal)
    (layer0 (m ((c : Thread nD τ).loc main_arg2))) := by
  rw [flushed4]
  funext y
  show out0_4 (iblk m c 0 t) (iblk m c 1 t) (iblk m c 2 t) y = layer0 _ (((cfg0.win 4).blk t).view.emb y)
  unfold out0_4
  rw [canon4_eq, View.ld_unit_zero (S := S1x128x4096) off3]
  obtain ⟨-, -, p0, p1, p2, p3⟩ := index_facts t
  show (iblk m c 2 t : Vec Ideal S1x128x4096 .f32) (ix4_0 y) = _
  unfold iblk layer0
  rw [View.read_apply]
  refine congrArg (m ((c : Thread nD τ).loc main_arg2)) (funext fun a => Fin.ext ?_)
  match a with
  | ⟨0, _⟩ => show win0_2.index t 0 * 1 + 1 * 0 = 0; rw [p0]
  | ⟨1, _⟩ => show win0_2.index t 1 * 128 + 1 * (y 0).val = win0_4.index t 0 * 128 + 1 * (y 0).val; rw [p1]
  | ⟨2, _⟩ => show win0_2.index t 2 * 4096 + 1 * (y 1).val = win0_4.index t 1 * 4096 + 1 * (y 1).val; rw [p2, p3]

/-- Every block of the hidden activations is some point's. -/
theorem onto3 : ∀ (a : Fin 8) (b : Fin 16), ∃ t : Fin cfg0.N, win0_3.index t (0 : Fin 2) = a.val ∧ win0_3.index t (1 : Fin 2) = b.val :=
  fun a b => ⟨⟨16 * a.val + b.val, lt_of_lt_of_eq (by omega) N_0.symm⟩,
    (by decide +kernel : ∀ (a : Fin 8) (b : Fin 16), win0_3.index (⟨16 * a.val + b.val, lt_of_lt_of_eq (by omega) N_0.symm⟩ : Fin grid0.N) (0 : Fin 2) = a.val
      ∧ win0_3.index (⟨16 * a.val + b.val, lt_of_lt_of_eq (by omega) N_0.symm⟩ : Fin grid0.N) (1 : Fin 2) = b.val) a b⟩

/-- Every row block of the narrowed weights is some point's. -/
theorem onto4 : ∀ (a : Fin 128), ∃ t : Fin cfg0.N, win0_4.index t (0 : Fin 2) = a.val ∧ win0_4.index t (1 : Fin 2) = 0 :=
  fun a => ⟨⟨a.val, lt_of_lt_of_eq (by omega) N_0.symm⟩,
    (by decide +kernel : ∀ (a : Fin 128), win0_4.index (⟨a.val, lt_of_lt_of_eq (by omega) N_0.symm⟩ : Fin grid0.N) (0 : Fin 2) = a.val
      ∧ win0_4.index (⟨a.val, lt_of_lt_of_eq (by omega) N_0.symm⟩ : Fin grid0.N) (1 : Fin 2) = 0) a⟩

theorem final3 (c : Dev nD) : (dats m 0 c).arrAt 3 cfg0.N
    = hidden (m ((c : Thread nD τ).loc main_arg0)) (m ((c : Thread nD τ).loc main_arg1)) :=
  (dats m 0 c).arrAt_eq_of_cover 3 _ (fun t _ => flushed3_eq m c t) fun i => by
    have h0 : (i 0).val < 8192 := (i 0).isLt
    have h1 : (i 1).val < 16384 := (i 1).isLt
    obtain ⟨t, q0, q1⟩ := onto3 ⟨(i 0).val / 1024, by omega⟩ ⟨(i 1).val / 1024, by omega⟩
    dsimp only at q0 q1
    refine ⟨t, flush0_3 t, ?_⟩
    show i ∈ ((View.whole main_v0_0).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 1024 ≤ (i 1).val ∧ (i 1).val < win0_3.index t (1 : Fin 2) * 1024 + 1024; omega

theorem final4 (c : Dev nD) : (dats m 0 c).arrAt 4 cfg0.N = layer0 (m ((c : Thread nD τ).loc main_arg2)) :=
  (dats m 0 c).arrAt_eq_of_cover 4 _ (fun t _ => flushed4_eq m c t) fun i => by
    have h0 : (i 0).val < 16384 := (i 0).isLt
    have h1 : (i 1).val < 4096 := (i 1).isLt
    obtain ⟨t, q0, q1⟩ := onto4 ⟨(i 0).val / 128, by omega⟩
    dsimp only at q0 q1
    refine ⟨t, flush0_4 t, ?_⟩
    show i ∈ ((View.whole main_v0_1).slice (win0_4.rect t)).set
    rw [View.set_slice_whole, Rect.mem_set_unit]
    intro a
    match a with
    | ⟨0, _⟩ => show win0_4.index t (0 : Fin 2) * 128 ≤ (i 0).val ∧ (i 0).val < win0_4.index t (0 : Fin 2) * 128 + 128; omega
    | ⟨1, _⟩ => show win0_4.index t (1 : Fin 2) * 4096 ≤ (i 1).val ∧ (i 1).val < win0_4.index t (1 : Fin 2) * 4096 + 4096; omega

end Cert.MlpUpIdeal.Up

namespace Cert.MlpUpRefIdeal.Up

open Cert.MlpUpRefIdeal Cert.MlpUpRefIdeal.Gen Cert.MlpUpRefIdeal.Read

/-- The reference's hidden activations are the kernel's. -/
theorem hidden_eq (h : Vec Ideal S8192x4096 .bf16) (w : Vec Ideal S4096x16384 .bf16) :
    val_main_v5 (F := Ideal) h w = Cert.MlpUpIdeal.Up.hidden h w := by
  funext i
  rw [val_main_v5_apply, val_main_v4_apply, val_main_v3_apply, val_main_v2_apply, val_main_call0_v0_apply, val_main_call0_cst_apply]
  simp only [Ideal.truncf_def, Ideal.mulf_def, Ideal.maximumf_def, Ideal.ofBits_def, Ideal.ofBits_zero_f32, val_main_v0_apply, val_main_v1_apply, Ideal.extf_def]
  have el : ∀ k, lidx_main_v2 i k = ix2 (i 0) k := fun k => eq_ix2 _
  have er : ∀ k, ridx_main_v2 i k = ix2 k (i 1) := fun k => eq_ix2 _
  simp only [el, er]
  rfl

/-- The reference's narrowed weights are the kernel's. -/
theorem layer0_eq (w : Vec Ideal S2x16384x4096 .f32) : val_main_v8 (F := Ideal) w = Cert.MlpUpIdeal.Up.layer0 w := by
  funext i
  have h0 : (i 0).val < 16384 := (i 0).isLt
  have h1 : (i 1).val < 4096 := (i 1).isLt
  rw [val_main_v8_apply, val_main_v7_apply, val_main_v6_apply, Ideal.truncf_def]
  unfold Cert.MlpUpIdeal.Up.layer0
  refine congrArg w (funext fun a => Fin.ext ?_)
  match a with
  | ⟨0, _⟩ => rfl
  | ⟨1, _⟩ => show ((i 0).val * 4096 + (i 1).val) / 4096 % 16384 = (i 0).val; omega
  | ⟨2, _⟩ => show ((i 0).val * 4096 + (i 1).val) % 4096 = (i 1).val; omega

end Cert.MlpUpRefIdeal.Up

namespace Cert.Proof.MlpUpClaims

theorem frame_p : Cert.quiescent_MlpUp := fun m ρ _ => Cert.MlpUp.Gen.frame m ρ
theorem frame_pi : Cert.quiescent_MlpUpIdeal := fun m ρ _ => Cert.MlpUpIdeal.Gen.frame m ρ
theorem frame_ri : Cert.quiescent_MlpUpRefIdeal := fun m ρ _ =>
  (θ_run Cert.MlpUpRefIdeal.defs _ _).mono (fun r h => ⟨fun c => (h c).2.2,
      Idealize.ShloMosaic.sem_eq_zero_of_no_sems (by decide) r.2⟩)
    (Cert.MlpUpRefIdeal.Value.run (F := Ideal) m ρ)

theorem preserves : Cert.preserves_MlpUp_MlpUpIdeal := trivial

theorem algebraic : Cert.algebraic_MlpUpIdeal_MlpUpRefIdeal := by
  intro m ρ m' ρ' _ hagree
  refine ⟨_, _, (θ_run Cert.MlpUpIdeal.defs _ _).mono (fun r h c => ⟨(h c).1.trans (Cert.MlpUpIdeal.Up.final3 m c),
    (h c).2.1.trans (Cert.MlpUpIdeal.Up.final4 m c), (h c).2.2⟩) (Cert.MlpUpIdeal.Value.run_blocks (F := Ideal) m ρ), ?_⟩
  refine (θ_run Cert.MlpUpRefIdeal.defs _ _).mono (fun _ h c => ⟨(h c).1.trans ?_, (h c).2.1.trans ?_, (h c).2.2⟩)
    (Cert.MlpUpRefIdeal.Value.run (F := Ideal) m' ρ')
  · rw [(hagree c).1, (hagree c).2.1]
    exact Cert.MlpUpRefIdeal.Up.hidden_eq _ _
  · rw [(hagree c).2.2]
    exact Cert.MlpUpRefIdeal.Up.layer0_eq _

end Cert.Proof.MlpUpClaims

end
-- ==== Proof.MlpDown.lean ====
/-
  THE MLP'S DOWN PROJECTION. The kernel runs over the contracted axis in four parts, keeping the partial products of one
  1024 x 1024 block in a scratch, and on the last part adds the gated sum to the residual stream. What the scratch holds
  after each part, what the result array therefore holds, and that the reference's result is the same array: four partial
  sums in order are the whole sum, on the extended reals too.
-/
module

public import proofs.«01_k».proof.Defs
public import proofs.«01_k».proof.Proof.Gen.MlpDown.Frame
public import proofs.«01_k».proof.Proof.Gen.MlpDownIdeal.Value
public import proofs.«01_k».proof.Proof.Gen.MlpDownRefIdeal.Read
public import Idealize.ShloMosaic.Lib.MatmulPlain
public import Idealize.ShloMosaic.Lib.ValueIdx
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.MlpDownIdeal.Down

open Cert.MlpDownIdeal Cert.MlpDownIdeal.Gen Cert.MlpDownIdeal.Value

theorem off2 : (![0, 0] : Fin 2 → Nat) = fun _ => 0 := funext fun a => by fin_cases a <;> rfl
theorem off3 : (![0, 0, 0] : Fin 3 → Nat) = fun _ => 0 := funext fun a => by fin_cases a <;> rfl

section Body

variable {F : FTy → Type} [FloatOps F]
variable (c : Dev nD) (i : grid0.Coords)
  (a3 : Memref sig .tc .vmem S1024x4096 .bf16) (h3 : a3.IsWhole) (a4 : Memref sig .tc .vmem S4096x1024 .bf16) (h4 : a4.IsWhole)
  (a5 : Memref sig .tc .vmem S1024x1024 .f32) (h5 : a5.IsWhole) (a6 : Memref sig .tc .vmem S1x1x1024 .f32) (h6 : a6.IsWhole)
  (a7 : Memref sig .tc .vmem S1024x1024 .f32) (h7 : a7.IsWhole) (a8 : Memref sig .tc .vmem S1024x1024 .f32) (h8 : a8.IsWhole)
  (x0 : Vec F S1024x4096 .bf16) (x1 : Vec F S4096x1024 .bf16) (x2 : Vec F S1024x1024 .f32) (x3 : Vec F S1x1x1024 .f32) (xs : Vec F S1024x1024 .f32)

/-- The first part leaves its product in the scratch. -/
theorem scratch_first (hc0 : cond0_0 i) (hc1 : ¬cond0_1 i) (hc2 : ¬cond0_2 i) :
    sout0_A_0 c i a3 h3 a4 h4 a5 h5 a6 h6 a7 h7 a8 h8 hc0 hc1 hc2 x0 x1 x2 x3 = k0_pay1 x0 x1 := by
  unfold sout0_A_0
  rw [View.read_writes_eq_canon _ _ _ (scover0_A_0 c i a3 h3 a4 h4 a5 h5 a6 h6 a7 h7 a8 h8 hc0 hc1 hc2 x0 x1 x2 x3)]
  unfold kernelRun0_A
  dsimp only
  rw [View.canon_unit_zero off2]
  unfold k0_pay2
  simp only [View.readAt_eq_ld, h3.read_unread, h4.read_unread, View.ld_unit_zero (S := S1024x4096) off2, View.ld_unit_zero (S := S4096x1024) off2, shapeCast_self]

/-- A middle part adds its product to what the scratch held. -/
theorem scratch_middle (hc0 : ¬cond0_0 i) (hc1 : cond0_1 i) (hc2 : ¬cond0_2 i) :
    sout0_B_0 c i a3 h3 a4 h4 a5 h5 a6 h6 a7 h7 a8 h8 hc0 hc1 hc2 x0 x1 x2 x3 xs = addf xs (k0_pay1 x0 x1) := by
  unfold sout0_B_0
  rw [View.read_writes_eq_canon _ _ _ (scover0_B_0 c i a3 h3 a4 h4 a5 h5 a6 h6 a7 h7 a8 h8 hc0 hc1 hc2 x0 x1 x2 x3 xs)]
  unfold kernelRun0_B
  dsimp only
  rw [View.canon_unit_zero off2]
  unfold k0_pay3
  simp only [View.readAt_eq_ld, h3.read_unread, h4.read_unread, h8.read_unread, View.ld_unit_zero (S := S1024x4096) off2, View.ld_unit_zero (S := S4096x1024) off2,
    View.ld_unit_zero (S := S1024x1024) off2, shapeCast_self]

/-- The last part stores the residual plus the gate times the whole sum. -/
theorem out_last (hc0 : ¬cond0_0 i) (hc1 : cond0_1 i) (hc2 : cond0_2 i) :
    out0_C_4 c i a3 h3 a4 h4 a5 h5 a6 h6 a7 h7 a8 h8 hc0 hc1 hc2 x0 x1 x2 x3 xs = k0_pay4 (addf xs (k0_pay1 x0 x1)) x2 x3 := by
  unfold out0_C_4
  rw [View.read_writes_eq_canon _ _ _ (cover0_C_4 c i a3 h3 a4 h4 a5 h5 a6 h6 a7 h7 a8 h8 hc0 hc1 hc2 x0 x1 x2 x3 xs)]
  unfold kernelRun0_C
  dsimp only
  sl_unfold_words
  rw [View.canon_unit_zero off2]
  rw [View.readCov_unit_zero (S := S1024x1024) _ off2]
  unfold k0_pay3
  simp only [View.readAt_eq_ld, h3.read_unread, h4.read_unread, h5.read_unread, h6.read_unread, h8.read_unread, View.ld_unit_zero (S := S1024x4096) off2,
    View.ld_unit_zero (S := S4096x1024) off2, View.ld_unit_zero (S := S1024x1024) off2, View.ld_unit_zero (S := S1x1x1024) off3, shapeCast_self]

end Body

/-- One term of the product's sum. -/
def term (u : Vec Ideal S8192x16384 .bf16) (w : Vec Ideal S16384x4096 .bf16) (i : Fin 8192) (j : Fin 4096) (k : Fin 16384) : EReal :=
  u (ix2 i k) * w (ix2 k j)

/-- The residual plus the gate times the product, entry by entry. -/
def target (u : Vec Ideal S8192x16384 .bf16) (w : Vec Ideal S16384x4096 .bf16) (x : Vec Ideal S8192x4096 .f32) (g : Vec Ideal S2x1x4096 .f32) :
    Vec Ideal S8192x4096 .f32 := fun i =>
  x i + g (ix3 (⟨(i 0).val / 4096, by have h : (i 0).val < 8192 := (i 0).isLt; omega⟩ : Fin 2) (0 : Fin 1) (i 1)) * ∑ k : Fin 16384, term u w (i 0) (i 1) k

/-- A sum over the contracted axis, part by part. -/
theorem sum_parts (f : Fin 16384 → EReal) : ∑ k : Fin 16384, f k
    = ((∑ k : Fin 4096, f ⟨4096 * 0 + k.val, by omega⟩ + ∑ k : Fin 4096, f ⟨4096 * 1 + k.val, by omega⟩)
      + ∑ k : Fin 4096, f ⟨4096 * 2 + k.val, by omega⟩) + ∑ k : Fin 4096, f ⟨4096 * 3 + k.val, by omega⟩ := by
  rw [← Equiv.sum_comp (finProdFinEquiv (m := 4) (n := 4096)) f, Fintype.sum_prod_type, Fin.sum_univ_four]
  have e : ∀ (b : Fin 4) (k : Fin 4096), (finProdFinEquiv (m := 4) (n := 4096)) (b, k) = (⟨4096 * b.val + k.val, by omega⟩ : Fin 16384) :=
    fun b k => Fin.ext (by show k.val + 4096 * b.val = 4096 * b.val + k.val; omega)
  simp only [e]
  rfl

theorem pay1_apply (x : FVec Ideal S1024x4096 .bf16) (w : FVec Ideal S4096x1024 .bf16) (r : Fin 1024) (q : Fin 1024) :
    k0_pay1 (F := Ideal) x w (ix2 r q) = ∑ k : Fin 4096, x (ix2 r k) * w (ix2 k q) := by
  have e := Ideal.matmul_plain_apply (φ₁ := .bf16) (φ₂ := .bf16) none x w (constant (F := Ideal) S1024x1024 .f32 0x00000000#32) r q
  rw [constant_apply, Ideal.ofBits_zero_f32, zero_add] at e
  exact e

theorem pay4_apply (s x : FVec Ideal S1024x1024 .f32) (g : FVec Ideal S1x1x1024 .f32) (r : Fin 1024) (q : Fin 1024) :
    k0_pay4 (F := Ideal) s x g (ix2 r q) = x (ix2 r q) + g (ix3 (0 : Fin 1) (0 : Fin 1) q) * s (ix2 r q) := by
  show x (ix2 r q) + broadcastTo S1024x1024 (shapeCast S1x1024 g shapeCasts_S1x1x1024_S1x1024) broadcasts_S1x1024_S1024x1024 (ix2 r q) * s (ix2 r q) = _
  rw [broadcastTo_apply _ broadcasts_S1x1024_S1024x1024 (ix2 r q) (ix2 (0 : Fin 1) q) (fun a => match a with
      | ⟨0, _⟩ => rfl
      | ⟨1, _⟩ => rfl),
    shapeCast_apply g shapeCasts_S1x1x1024_S1x1024 (ix2 (0 : Fin 1) q) (ix3 (0 : Fin 1) (0 : Fin 1) q)
      (by rw [Shape.rowMajor_val_three, Shape.rowMajor_val_two]; show (0 * 1 + 0) * 1024 + q.val = 0 * 1024 + q.val; omega)]

variable (m : (ℓ : Loc nD τ sig) → Buf (Elt Ideal) ℓ)

/-- The block indices of the windows at a grid point. -/
theorem index_facts : ∀ t : Fin cfg0.N,
    (win0_0.index t (0 : Fin 2) = t.val / 16 ∧ win0_0.index t (1 : Fin 2) = t.val % 4)
    ∧ (win0_1.index t (0 : Fin 2) = t.val % 4 ∧ win0_1.index t (1 : Fin 2) = t.val / 4 % 4)
    ∧ (win0_2.index t (0 : Fin 2) = t.val / 16 ∧ win0_2.index t (1 : Fin 2) = t.val / 4 % 4)
    ∧ (win0_3.index t (0 : Fin 3) = t.val / 64 ∧ win0_3.index t (1 : Fin 3) = 0 ∧ win0_3.index t (2 : Fin 3) = t.val / 4 % 4)
    ∧ (win0_4.index t (0 : Fin 2) = t.val / 16 ∧ win0_4.index t (1 : Fin 2) = t.val / 4 % 4) :=
  (by decide +kernel : ∀ t : Fin grid0.N, _)

theorem lt_N (t : Fin cfg0.N) : t.val < 128 := lt_of_lt_of_eq t.isLt N_0

/-- The product one point computes, at an entry of its block. -/
theorem part_apply (c : Dev nD) (t : Fin cfg0.N) (p q : Fin 1024) :
    k0_pay1 (F := Ideal) (iblk m c 0 t) (iblk m c 1 t) (ix2 p q)
      = ∑ k : Fin 4096, term (m ((c : Thread nD τ).loc main_arg0)) (m ((c : Thread nD τ).loc main_arg1))
          (⟨1024 * (t.val / 16) + p.val, by have := lt_N t; omega⟩ : Fin 8192) (⟨1024 * (t.val / 4 % 4) + q.val, by omega⟩ : Fin 4096) (⟨4096 * (t.val % 4) + k.val, by omega⟩ : Fin 16384) := by
  refine (pay1_apply (iblk m c 0 t) (iblk m c 1 t) p q).trans (Finset.sum_congr rfl fun k _ => ?_)
  obtain ⟨⟨a0, a1⟩, ⟨b0, b1⟩, -⟩ := index_facts t
  refine congrArg₂ (· * ·) ?_ ?_
  · unfold iblk
    rw [View.read_apply]
    refine congrArg (m ((c : Thread nD τ).loc main_arg0)) (funext fun a => Fin.ext ?_)
    match a with
    | ⟨0, _⟩ => show win0_0.index t 0 * 1024 + 1 * p.val = 1024 * (t.val / 16) + p.val; rw [a0]; omega
    | ⟨1, _⟩ => show win0_0.index t 1 * 4096 + 1 * k.val = 4096 * (t.val % 4) + k.val; rw [a1]; omega
  · unfold iblk
    rw [View.read_apply]
    refine congrArg (m ((c : Thread nD τ).loc main_arg1)) (funext fun a => Fin.ext ?_)
    match a with
    | ⟨0, _⟩ => show win0_1.index t 0 * 4096 + 1 * k.val = 4096 * (t.val % 4) + k.val; rw [b0]; omega
    | ⟨1, _⟩ => show win0_1.index t 1 * 1024 + 1 * q.val = 1024 * (t.val / 4 % 4) + q.val; rw [b1]; omega

/-- What the scratch holds after a first part: its product. -/
theorem carried_first (c : Dev nD) (t : Fin cfg0.N) (h : t.val % 4 = 0) :
    (outsAt0 m c t.val t.isLt).2 = k0_pay1 (F := Ideal) (iblk m c 0 t) (iblk m c 1 t) := by
  rw [outsAt0_A m c t h (by omega) (by omega)]
  dsimp only
  rw [scratch_first]

/-- What it holds after a middle part: what it held, plus the part's product. -/
theorem carried_middle (c : Dev nD) (t s : Fin cfg0.N) (h : 1 ≤ t.val % 4) (h' : ¬t.val % 4 = 3) (hs : s.val = t.val - 1) :
    (outsAt0 m c t.val t.isLt).2 = addf (outsAt0 m c s.val s.isLt).2 (k0_pay1 (F := Ideal) (iblk m c 0 t) (iblk m c 1 t)) := by
  obtain ⟨s, hsl⟩ := s
  dsimp only at hs
  subst hs
  rw [outsAt0_B m c t (by omega) h h']
  dsimp only
  rw [scratch_middle]

/-- Each last part writes back its block of the target. -/
theorem flushed4_target (c : Dev nD) (t : Fin cfg0.N) (hf : (cfg0.win 4).flush t = true) :
    (dats m 0 c).flushed 4 t = ((cfg0.win 4).blk t).view.read (Elt Ideal)
      (target (m ((c : Thread nD τ).loc main_arg0)) (m ((c : Thread nD τ).loc main_arg1)) (m ((c : Thread nD τ).loc main_arg2)) (m ((c : Thread nD τ).loc main_arg3))) := by
  have h3 : t.val % 4 = 3 := (flush0_4 t).mp hf
  have hN := lt_N t
  rw [flushed4_C m c t (by omega) (by omega) h3, out_last]
  funext y
  obtain ⟨p, q, rfl⟩ : ∃ (p q : Fin 1024), y = ix2 p q := ⟨y 0, y 1, eq_ix2 y⟩
  have e2 := carried_middle m c (⟨t.val - 1, by omega⟩ : Fin cfg0.N) (⟨t.val - 2, by omega⟩ : Fin cfg0.N) (by dsimp only; omega) (by dsimp only; omega) (by dsimp only; omega)
  have e1 := carried_middle m c (⟨t.val - 2, by omega⟩ : Fin cfg0.N) (⟨t.val - 3, by omega⟩ : Fin cfg0.N) (by dsimp only; omega) (by dsimp only; omega) (by dsimp only; omega)
  have e0 := carried_first m c (⟨t.val - 3, by omega⟩ : Fin cfg0.N) (by dsimp only; omega)
  dsimp only at e0 e1 e2
  rw [e2, e1, e0]
  refine (pay4_apply _ (iblk m c 2 t) (iblk m c 3 t) p q).trans ?_
  show _ = target _ _ _ _ (((cfg0.win 4).blk t).view.emb (ix2 p q))
  obtain ⟨-, -, ⟨c0, c1⟩, ⟨d0, d1, d2⟩, ⟨f0, f1⟩⟩ := index_facts t
  have hemb : ((cfg0.win 4).blk t).view.emb (ix2 p q)
      = ix2 (⟨1024 * (t.val / 16) + p.val, by omega⟩ : Fin 8192) (⟨1024 * (t.val / 4 % 4) + q.val, by omega⟩ : Fin 4096) := funext fun a => Fin.ext (by
    match a with
    | ⟨0, _⟩ => show win0_4.index t 0 * 1024 + 1 * p.val = _; rw [f0]; show _ = 1024 * (t.val / 16) + p.val; omega
    | ⟨1, _⟩ => show win0_4.index t 1 * 1024 + 1 * q.val = _; rw [f1]; show _ = 1024 * (t.val / 4 % 4) + q.val; omega)
  rw [hemb]
  unfold target
  refine congrArg₂ (· + ·) ?_ (congrArg₂ (· * ·) ?_ ?_)
  · unfold iblk
    rw [View.read_apply]
    refine congrArg (m ((c : Thread nD τ).loc main_arg2)) (funext fun a => Fin.ext ?_)
    match a with
    | ⟨0, _⟩ => show win0_2.index t 0 * 1024 + 1 * p.val = 1024 * (t.val / 16) + p.val; rw [c0]; omega
    | ⟨1, _⟩ => show win0_2.index t 1 * 1024 + 1 * q.val = 1024 * (t.val / 4 % 4) + q.val; rw [c1]; omega
  · unfold iblk
    rw [View.read_apply]
    refine congrArg (m ((c : Thread nD τ).loc main_arg3)) (funext fun a => Fin.ext ?_)
    match a with
    | ⟨0, _⟩ => show win0_3.index t 0 * 1 + 1 * 0 = (1024 * (t.val / 16) + p.val) / 4096; rw [d0]; omega
    | ⟨1, _⟩ => show win0_3.index t 1 * 1 + 1 * 0 = 0; rw [d1]
    | ⟨2, _⟩ => show win0_3.index t 2 * 1024 + 1 * q.val = 1024 * (t.val / 4 % 4) + q.val; rw [d2]; omega
  · rw [sum_parts]
    simp only [addf_apply]
    rw [part_apply, part_apply, part_apply, part_apply]
    dsimp only
    have r3 : (t.val - 3) % 4 = 0 := by omega
    have r2 : (t.val - 2) % 4 = 1 := by omega
    have r1 : (t.val - 1) % 4 = 2 := by omega
    have s3 : (t.val - 3) / 16 = t.val / 16 := by omega
    have s2 : (t.val - 2) / 16 = t.val / 16 := by omega
    have s1 : (t.val - 1) / 16 = t.val / 16 := by omega
    have u3 : (t.val - 3) / 4 = t.val / 4 := by omega
    have u2 : (t.val - 2) / 4 = t.val / 4 := by omega
    have u1 : (t.val - 1) / 4 = t.val / 4 := by omega
    simp only [r3, r2, r1, h3, s3, s2, s1, u3, u2, u1]

theorem final4_target (c : Dev nD) : (dats m 0 c).arrAt 4 cfg0.N
    = target (m ((c : Thread nD τ).loc main_arg0)) (m ((c : Thread nD τ).loc main_arg1)) (m ((c : Thread nD τ).loc main_arg2)) (m ((c : Thread nD τ).loc main_arg3)) :=
  (dats m 0 c).arrAt_eq_of_cover 4 _ (flushed4_target m c) fun i => (covered_iff4 i).2 (by
    have h0 : (i 0).val < 8192 := (i 0).isLt
    have h1 : (i 1).val < 4096 := (i 1).isLt
    omega)

end Cert.MlpDownIdeal.Down

namespace Cert.MlpDownRefIdeal.Down

open Cert.MlpDownRefIdeal Cert.MlpDownRefIdeal.Gen Cert.MlpDownRefIdeal.Read

/-- The reference's result is the target: its reshapes split the tokens over the two sequences and join them again. -/
theorem target_eq (u : Vec Ideal S8192x16384 .bf16) (w : Vec Ideal S16384x4096 .bf16) (x : Vec Ideal S8192x4096 .f32) (g : Vec Ideal S2x1x4096 .f32) :
    val_main_v8 (F := Ideal) u w x g = Cert.MlpDownIdeal.Down.target u w x g := by
  funext i
  obtain ⟨r, j, rfl⟩ : ∃ (r : Fin 8192) (j : Fin 4096), i = ix2 r j := ⟨i 0, i 1, eq_ix2 i⟩
  rw [val_main_v8_apply, val_main_v7_apply, val_main_v3_apply, val_main_v6_apply, val_main_v5_apply, val_main_v4_apply, val_main_v2_apply]
  simp only [val_main_v0_apply, val_main_v1_apply, Ideal.extf_def, Ideal.addf_def, Ideal.mulf_def]
  have hs : idx_main_v4 (idx_main_v8 (ix2 r j)) = ix2 r j := funext fun a => Fin.ext (by
    match a with
    | ⟨0, _⟩ =>
      show (((r.val * 4096 + j.val) / 16777216 * 4096 + (r.val * 4096 + j.val) / 4096 % 4096) * 4096 + (r.val * 4096 + j.val) % 4096) / 4096 = r.val
      omega
    | ⟨1, _⟩ =>
      show (((r.val * 4096 + j.val) / 16777216 * 4096 + (r.val * 4096 + j.val) / 4096 % 4096) * 4096 + (r.val * 4096 + j.val) % 4096) % 4096 = j.val
      omega)
  have hs' : idx_main_v3 (idx_main_v8 (ix2 r j)) = ix2 r j := hs
  have hg : idx_main_v5 (idx_main_v8 (ix2 r j)) = ix3 (⟨r.val / 4096, by omega⟩ : Fin 2) (0 : Fin 1) j := funext fun a => Fin.ext (by
    match a with
    | ⟨0, _⟩ => show (r.val * 4096 + j.val) / 16777216 = r.val / 4096; omega
    | ⟨1, _⟩ => rfl
    | ⟨2, _⟩ => show (r.val * 4096 + j.val) % 4096 = j.val; omega)
  rw [hs, hs', hg]
  have el : ∀ k : Fin 16384, lidx_main_v2 (ix2 r j) k = ix2 r k := fun k => eq_ix2 _
  have er : ∀ k : Fin 16384, ridx_main_v2 (ix2 r j) k = ix2 k j := fun k => eq_ix2 _
  simp only [el, er]
  rfl

end Cert.MlpDownRefIdeal.Down

namespace Cert.Proof.MlpDownClaims

theorem frame_p : Cert.quiescent_MlpDown := fun m ρ _ => Cert.MlpDown.Gen.frame m ρ
theorem frame_pi : Cert.quiescent_MlpDownIdeal := fun m ρ _ => Cert.MlpDownIdeal.Gen.frame m ρ
theorem frame_ri : Cert.quiescent_MlpDownRefIdeal := fun m ρ _ =>
  (θ_run Cert.MlpDownRefIdeal.defs _ _).mono (fun r h => ⟨fun c => (h c).2,
      Idealize.ShloMosaic.sem_eq_zero_of_no_sems (by decide) r.2⟩)
    (Cert.MlpDownRefIdeal.Value.run (F := Ideal) m ρ)

theorem preserves : Cert.preserves_MlpDown_MlpDownIdeal := trivial

theorem algebraic : Cert.algebraic_MlpDownIdeal_MlpDownRefIdeal := by
  intro m ρ m' ρ' _ hagree
  refine ⟨_, (θ_run Cert.MlpDownIdeal.defs _ _).mono (fun r h c => ⟨(h c).1.trans (Cert.MlpDownIdeal.Down.final4_target m c), (h c).2⟩)
    (Cert.MlpDownIdeal.Value.run_blocks (F := Ideal) m ρ), ?_⟩
  refine (θ_run Cert.MlpDownRefIdeal.defs _ _).mono (fun _ h c => ⟨(h c).1.trans ?_, (h c).2⟩)
    (Cert.MlpDownRefIdeal.Value.run (F := Ideal) m' ρ')
  rw [(hagree c).1, (hagree c).2.1, (hagree c).2.2.1, (hagree c).2.2.2]
  exact Cert.MlpDownRefIdeal.Down.target_eq _ _ _ _

end Cert.Proof.MlpDownClaims

end
-- ==== Proof.ProjAttn.lean ====
/-
  THE INPUT PROJECTION'S COLUMNS FOR THE ATTENTION. One 1024 x 512 block per grid point, the contracted axis whole, the
  weights found transposed; the blocks leave out the columns of the compressed branch. What a point writes, what the result
  array therefore holds, and that the reference's two slices of the whole product, side by side, are the same array.
-/
module

public import proofs.«01_k».proof.Defs
public import proofs.«01_k».proof.Proof.Gen.ProjAttn.Frame
public import proofs.«01_k».proof.Proof.Gen.ProjAttnIdeal.Value
public import proofs.«01_k».proof.Proof.Gen.ProjAttnRefIdeal.Read
public import Idealize.ShloMosaic.Lib.ValueLayout
public import Idealize.ShloMosaic.Lib.Pipeline.Value
public import Idealize.ShloMosaic.Lib.MatmulPlain
public import Idealize.ShloMosaic.Lib.ValueIdx
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.ProjAttnIdeal.Cols

open Cert.ProjAttnIdeal Cert.ProjAttnIdeal.Gen Cert.ProjAttnIdeal.Value

theorem off2 : (![0, 0] : Fin 2 → Nat) = fun _ => 0 := funext fun a => by fin_cases a <;> rfl
theorem off3 : (![0, 0, 0] : Fin 3 → Nat) = fun _ => 0 := funext fun a => by fin_cases a <;> rfl

/-- The weight column a result column is the product with: past the queries the compressed branch's are left out. -/
def col (j : Fin 4096) : Fin 21552 := ⟨if j.val < 2048 then j.val else j.val + 1024, by split <;> omega⟩

/-- The product with those columns of layer 0's weights, entry by entry. -/
def proj (h : Vec Ideal S8192x4096 .bf16) (w : Vec Ideal S2x4096x21552 .f32) : Vec Ideal S8192x4096 .bf16 := fun i =>
  ∑ k : Fin 4096, h (ix2 (i 0) k) * w (ix3 (0 : Fin 2) k (col (i 1)))

/-- One entry of what a point computes from its blocks: the weights' block holds the columns as rows. -/
theorem pay1_apply (w : FVec Ideal S1x512x4096 .f32) (h : FVec Ideal S1024x4096 .bf16) (r : Fin 1024) (q : Fin 512) :
    k0_pay1 (F := Ideal) w h (ix2 r q) = ∑ k : Fin 4096, h (ix2 r k) * w (ix3 (0 : Fin 1) q k) := by
  have e := Ideal.matmul_transposedRhs_apply (φ₁ := .bf16) (φ₂ := .bf16) none h
    (truncf .bf16 (shapeCast S512x4096 w shapeCasts_S1x512x4096_S512x4096) bitsLt_bf16_f32) (constant (F := Ideal) S1024x512 .f32 0x00000000#32) r q
  rw [constant_apply, Ideal.ofBits_zero_f32, zero_add] at e
  refine Eq.trans (show _ = _ from e) (Finset.sum_congr rfl fun k _ => congrArg₂ (· * ·) rfl ?_)
  exact shapeCast_apply w shapeCasts_S1x512x4096_S512x4096 (ix2 q k) (ix3 (0 : Fin 1) q k)
    (by rw [Shape.rowMajor_val_three, Shape.rowMajor_val_two]; show (0 * 512 + q.val) * 4096 + k.val = q.val * 4096 + k.val; omega)

/-- What the point's run leaves in its block is the payload of its two input blocks. -/
theorem out_eq (c : Dev nD) (i : grid0.Coords) (a2 : Memref sig .tc .vmem S1024x4096 .bf16) (h2 : a2.IsWhole)
    (a3 : Memref sig .tc .vmem S1x512x4096 .f32) (h3 : a3.IsWhole) (a4 : Memref sig .tc .vmem S1024x512 .bf16) (h4 : a4.IsWhole)
    (x0 : Vec Ideal S1024x4096 .bf16) (x1 : Vec Ideal S1x512x4096 .f32) : out0_A_2 c i a2 h2 a3 h3 a4 h4 x0 x1 = k0_pay1 x1 x0 := by
  unfold out0_A_2
  rw [View.read_writes_eq_canon _ _ _ (cover0_A_2 c i a2 h2 a3 h3 a4 h4 x0 x1)]
  unfold kernelRun0_A
  dsimp only
  rw [View.canon_unit_zero off2]
  simp only [View.readAt_eq_ld, h2.read_unread, h3.read_unread, View.ld_unit_zero (S := S1024x4096) off2, View.ld_unit_zero (S := S1x512x4096) off3]

variable (m : (ℓ : Loc nD τ sig) → Buf (Elt Ideal) ℓ)

/-- The call finds the weights transposed. -/
theorem weights_eq (c : Dev nD) : V m c main_v0 = transpose S2x21552x4096 [0, 2, 1] (m ((c : Thread nD τ).loc main_arg1)) transposes_S2x4096x21552_S2x21552x4096_0_2_1 := by
  unfold V
  after_results <;> rfl

/-- The block indices of the windows at a grid point. -/
theorem index_facts : ∀ t : Fin cfg0.N,
    (win0_0.index t (0 : Fin 2) = t.val / 8 ∧ win0_0.index t (1 : Fin 2) = 0)
    ∧ (win0_1.index t (0 : Fin 3) = 0 ∧ win0_1.index t (1 : Fin 3) = (if t.val % 8 < 4 then t.val % 8 else t.val % 8 + 2) ∧ win0_1.index t (2 : Fin 3) = 0)
    ∧ (win0_2.index t (0 : Fin 2) = t.val / 8 ∧ win0_2.index t (1 : Fin 2) = t.val % 8) :=
  (by decide +kernel : ∀ t : Fin grid0.N, _)

theorem lt_N (t : Fin cfg0.N) : t.val < 64 := lt_of_lt_of_eq t.isLt N_0

/-- The columns a point's block of the weights holds. -/
theorem col_block (t : Fin cfg0.N) (q : Fin 512) : ((if t.val % 8 < 4 then t.val % 8 else t.val % 8 + 2)) * 512 + 1 * q.val = (col (⟨512 * (t.val % 8) + q.val, by omega⟩ : Fin 4096)).val := by
  show _ = if 512 * (t.val % 8) + q.val < 2048 then 512 * (t.val % 8) + q.val else 512 * (t.val % 8) + q.val + 1024
  split <;> split <;> omega

/-- An entry of the weights' block at a point. -/
theorem block_apply (c : Dev nD) (t : Fin cfg0.N) (q : Fin 512) (k : Fin 4096) :
    (X0_1 m c t : Vec Ideal S1x512x4096 .f32) (ix3 (0 : Fin 1) q k)
      = m ((c : Thread nD τ).loc main_arg1) (ix3 (0 : Fin 2) k (col (⟨512 * (t.val % 8) + q.val, by omega⟩ : Fin 4096))) := by
  obtain ⟨-, ⟨b0, b1, b2⟩, -⟩ := index_facts t
  unfold X0_1 Pipeline.Window.fill
  rw [dif_pos (moved0_1 t _)]
  unfold iblk
  rw [View.read_apply]
  have hemb : ∀ y : ((cfg0.win 1).xblock (cfg0.grid.coords t)).Idx, (∀ a, (y a).val = ((ix3 (0 : Fin 1) q k : S1x512x4096.Idx) a).val) →
      ((cfg0.win 1).blk t).view.emb y = ix3 (0 : Fin 2) (col (⟨512 * (t.val % 8) + q.val, by omega⟩ : Fin 4096)) k := fun y hy => funext fun a => Fin.ext (by
    match a with
    | ⟨0, _⟩ => exact (show win0_1.index t 0 * 1 + 1 * (y 0).val = 0 by rw [b0, hy 0]; rfl)
    | ⟨1, _⟩ => exact (show win0_1.index t 1 * 512 + 1 * (y 1).val = _ by rw [b1, hy 1]; exact col_block t q)
    | ⟨2, _⟩ => exact (show win0_1.index t 2 * 4096 + 1 * (y 2).val = k.val by rw [b2, hy 2]; show 0 * 4096 + 1 * k.val = k.val; omega))
  show V m c main_v0 (((cfg0.win 1).blk t).view.emb _) = _
  rw [hemb _ fun a => rfl, weights_eq]
  exact transpose_ix3_021_apply _ _ _ _ _

/-- Each point writes back its block of the product. -/
theorem flushed2_eq (c : Dev nD) (t : Fin cfg0.N) : (dats m 0 c).flushed 2 t = ((cfg0.win 2).blk t).view.read (Elt Ideal)
    (proj (m ((c : Thread nD τ).loc main_arg0)) (m ((c : Thread nD τ).loc main_arg1))) := by
  have hN := lt_N t
  rw [flushed2_A, out_eq]
  funext y
  obtain ⟨p, q, rfl⟩ : ∃ (p : Fin 1024) (q : Fin 512), y = ix2 p q := ⟨y 0, y 1, eq_ix2 y⟩
  show k0_pay1 (F := Ideal) (X0_1 m c t) (iblk m c 0 t) (ix2 p q) = proj _ _ (((cfg0.win 2).blk t).view.emb (ix2 p q))
  refine (pay1_apply (X0_1 m c t) (iblk m c 0 t) p q).trans ?_
  obtain ⟨⟨a0, a1⟩, -, f0, f1⟩ := index_facts t
  have hemb : ((cfg0.win 2).blk t).view.emb (ix2 p q)
      = ix2 (⟨1024 * (t.val / 8) + p.val, by omega⟩ : Fin 8192) (⟨512 * (t.val % 8) + q.val, by omega⟩ : Fin 4096) := funext fun a => Fin.ext (by
    match a with
    | ⟨0, _⟩ => show win0_2.index t 0 * 1024 + 1 * p.val = _; rw [f0]; show _ = 1024 * (t.val / 8) + p.val; omega
    | ⟨1, _⟩ => show win0_2.index t 1 * 512 + 1 * q.val = _; rw [f1]; show _ = 512 * (t.val % 8) + q.val; omega)
  rw [hemb]
  unfold proj
  refine Finset.sum_congr rfl fun k _ => congrArg₂ (· * ·) ?_ (block_apply m c t q k)
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * p.val = 1024 * (t.val / 8) + p.val; rw [a0]; omega
  | ⟨1, _⟩ => show win0_0.index t 1 * 4096 + 1 * k.val = k.val; rw [a1]; omega

theorem final2_eq (c : Dev nD) : (dats m 0 c).arrAt 2 cfg0.N = proj (m ((c : Thread nD τ).loc main_arg0)) (m ((c : Thread nD τ).loc main_arg1)) :=
  (dats m 0 c).arrAt_eq_of_cover 2 _ (fun t _ => flushed2_eq m c t) fun i => by
    have h0 : (i 0).val < 8192 := (i 0).isLt
    have h1 : (i 1).val < 4096 := (i 1).isLt
    let t : Fin cfg0.N := ⟨8 * ((i 0).val / 1024) + (i 1).val / 512, lt_of_lt_of_eq (by omega) N_0.symm⟩
    have ht : t.val = 8 * ((i 0).val / 1024) + (i 1).val / 512 := rfl
    obtain ⟨-, -, f0, f1⟩ := index_facts t
    refine ⟨t, flush0_2 t, ?_⟩
    show i ∈ ((View.whole main_v1).slice (win0_2.rect t)).set
    rw [View.set_slice_whole, Rect.mem_set_unit]
    intro a
    match a with
    | ⟨0, _⟩ => show win0_2.index t 0 * 1024 ≤ (i 0).val ∧ (i 0).val < win0_2.index t 0 * 1024 + 1024; rw [f0]; omega
    | ⟨1, _⟩ => show win0_2.index t 1 * 512 ≤ (i 1).val ∧ (i 1).val < win0_2.index t 1 * 512 + 512; rw [f1]; omega

end Cert.ProjAttnIdeal.Cols

namespace Cert.ProjAttnRefIdeal.Cols

open Cert.ProjAttnRefIdeal Cert.ProjAttnRefIdeal.Gen Cert.ProjAttnRefIdeal.Read

/-- An entry of the reference's product with the whole weight matrix. -/
theorem whole_apply (h : Vec Ideal S8192x4096 .bf16) (w : Vec Ideal S2x4096x21552 .f32) (r : Fin 8192) (j : Fin 21552) :
    val_main_v3 (F := Ideal) h w (ix2 r j) = ∑ k : Fin 4096, (h (ix2 r k) : EReal) * w (ix3 (0 : Fin 2) k j) := by
  rw [val_main_v3_apply]
  refine Finset.sum_congr rfl fun k _ => ?_
  rw [val_main_v0_apply, val_main_v2_apply, val_main_v1_apply, Ideal.extf_def]
  refine congrArg₂ (· * ·) (congrArg h (eq_ix2 _)) (congrArg w (funext fun a => Fin.ext ?_))
  match a with
  | ⟨0, _⟩ => rfl
  | ⟨1, _⟩ => show (k.val * 21552 + j.val) / 21552 % 4096 = k.val; omega
  | ⟨2, _⟩ => show (k.val * 21552 + j.val) % 21552 = j.val; omega

/-- The reference sets the queries' columns and those from 3072 on side by side. -/
theorem proj_eq (h : Vec Ideal S8192x4096 .bf16) (w : Vec Ideal S2x4096x21552 .f32) :
    val_main_v7 (F := Ideal) h w = Cert.ProjAttnIdeal.Cols.proj h w := by
  funext i
  obtain ⟨r, j, rfl⟩ : ∃ (r : Fin 8192) (j : Fin 4096), i = ix2 r j := ⟨i 0, i 1, eq_ix2 i⟩
  rw [val_main_v7_apply, Ideal.truncf_def]
  refine Eq.trans ?_ (whole_apply h w r (Cert.ProjAttnIdeal.Cols.col j))
  unfold val_main_v6
  by_cases hj : j.val < 2048
  · refine (concatenate_pair_apply_left (t := S8192x4096) 1 _ _ concatenates_S8192x2048_S8192x2048_S8192x4096_d1 (ix2 r j) rfl (ix2 r (⟨j.val, hj⟩ : Fin 2048)) fun a => ?_).trans ?_
    · match a with
      | ⟨0, _⟩ => rfl
      | ⟨1, _⟩ => rfl
    · rw [val_main_v4_apply]
      exact congrArg _ ((eq_ix2 _).trans (congrArg (ix2 r) (Fin.ext (if_pos hj).symm)))
  · refine (concatenate_pair_apply_right (t := S8192x4096) 1 _ _ concatenates_S8192x2048_S8192x2048_S8192x4096_d1 (ix2 r j) rfl rfl (ix2 r (⟨j.val - 2048, by omega⟩ : Fin 2048)) (fun a ha => ?_) ?_).trans ?_
    · match a with
      | ⟨0, _⟩ => rfl
      | ⟨1, _⟩ => exact absurd rfl ha
    · show j.val - 2048 + 2048 = j.val; omega
    · rw [val_main_v5_apply]
      refine congrArg _ ((eq_ix2 _).trans (congrArg (ix2 r) (Fin.ext (Eq.trans ?_ (if_neg hj).symm))))
      show 3072 + (j.val - 2048) = j.val + 1024; omega

end Cert.ProjAttnRefIdeal.Cols

namespace Cert.Proof.ProjAttnClaims

theorem frame_p : Cert.quiescent_ProjAttn := fun m ρ _ => Cert.ProjAttn.Gen.frame m ρ
theorem frame_pi : Cert.quiescent_ProjAttnIdeal := fun m ρ _ => Cert.ProjAttnIdeal.Gen.frame m ρ
theorem frame_ri : Cert.quiescent_ProjAttnRefIdeal := fun m ρ _ =>
  (θ_run Cert.ProjAttnRefIdeal.defs _ _).mono (fun r h => ⟨fun c => (h c).2,
      Idealize.ShloMosaic.sem_eq_zero_of_no_sems (by decide) r.2⟩)
    (Cert.ProjAttnRefIdeal.Value.run (F := Ideal) m ρ)

theorem preserves : Cert.preserves_ProjAttn_ProjAttnIdeal := trivial

theorem algebraic : Cert.algebraic_ProjAttnIdeal_ProjAttnRefIdeal := by
  intro m ρ m' ρ' _ hagree
  refine ⟨_, (θ_run Cert.ProjAttnIdeal.defs _ _).mono (fun r h c => ⟨(h c).1.trans (Cert.ProjAttnIdeal.Cols.final2_eq m c), (h c).2⟩)
    (Cert.ProjAttnIdeal.Value.run_blocks (F := Ideal) m ρ), ?_⟩
  refine (θ_run Cert.ProjAttnRefIdeal.defs _ _).mono (fun _ h c => ⟨(h c).1.trans ?_, (h c).2⟩)
    (Cert.ProjAttnRefIdeal.Value.run (F := Ideal) m' ρ')
  rw [(hagree c).1, (hagree c).2]
  exact Cert.ProjAttnRefIdeal.Cols.proj_eq _ _

end Cert.Proof.ProjAttnClaims

end
-- ==== Proof.ProjCmp.lean ====
/-
  THE INPUT PROJECTION'S COLUMNS FOR THE COMPRESSED BRANCH. One 1024 x 512 block per grid point, the contracted axis whole,
  the weights found transposed: what a point writes, what the result array therefore holds, and that the reference's slice of
  the whole product is the same array.
-/
module

public import proofs.«01_k».proof.Defs
public import proofs.«01_k».proof.Proof.Gen.ProjCmp.Frame
public import proofs.«01_k».proof.Proof.Gen.ProjCmpIdeal.Value
public import proofs.«01_k».proof.Proof.Gen.ProjCmpRefIdeal.Read
public import Idealize.ShloMosaic.Lib.ValueLayout
public import Idealize.ShloMosaic.Lib.Pipeline.Value
public import Idealize.ShloMosaic.Lib.MatmulPlain
public import Idealize.ShloMosaic.Lib.ValueIdx
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.ProjCmpIdeal.Cols

open Cert.ProjCmpIdeal Cert.ProjCmpIdeal.Gen Cert.ProjCmpIdeal.Value

theorem off2 : (![0, 0] : Fin 2 → Nat) = fun _ => 0 := funext fun a => by fin_cases a <;> rfl
theorem off3 : (![0, 0, 0] : Fin 3 → Nat) = fun _ => 0 := funext fun a => by fin_cases a <;> rfl

/-- The weight column a result column is the product with. -/
def col (j : Fin 1024) : Fin 21552 := ⟨2048 + j.val, by omega⟩

/-- The product with those columns of layer 0's weights, entry by entry. -/
def proj (h : Vec Ideal S8192x4096 .bf16) (w : Vec Ideal S2x4096x21552 .f32) : Vec Ideal S8192x1024 .f32 := fun i =>
  ∑ k : Fin 4096, h (ix2 (i 0) k) * w (ix3 (0 : Fin 2) k (col (i 1)))

/-- One entry of what a point computes from its blocks: the weights' block holds the columns as rows. -/
theorem pay1_apply (w : FVec Ideal S1x512x4096 .f32) (h : FVec Ideal S1024x4096 .bf16) (r : Fin 1024) (q : Fin 512) :
    k0_pay1 (F := Ideal) w h (ix2 r q) = ∑ k : Fin 4096, h (ix2 r k) * w (ix3 (0 : Fin 1) q k) := by
  have e := Ideal.matmul_transposedRhs_apply (φ₁ := .bf16) (φ₂ := .bf16) none h
    (truncf .bf16 (shapeCast S512x4096 w shapeCasts_S1x512x4096_S512x4096) bitsLt_bf16_f32) (constant (F := Ideal) S1024x512 .f32 0x00000000#32) r q
  rw [constant_apply, Ideal.ofBits_zero_f32, zero_add] at e
  refine Eq.trans (show _ = _ from e) (Finset.sum_congr rfl fun k _ => congrArg₂ (· * ·) rfl ?_)
  exact shapeCast_apply w shapeCasts_S1x512x4096_S512x4096 (ix2 q k) (ix3 (0 : Fin 1) q k)
    (by rw [Shape.rowMajor_val_three, Shape.rowMajor_val_two]; show (0 * 512 + q.val) * 4096 + k.val = q.val * 4096 + k.val; omega)

/-- What the point's run leaves in its block is the payload of its two input blocks. -/
theorem out_eq (c : Dev nD) (i : grid0.Coords) (a2 : Memref sig .tc .vmem S1024x4096 .bf16) (h2 : a2.IsWhole)
    (a3 : Memref sig .tc .vmem S1x512x4096 .f32) (h3 : a3.IsWhole) (a4 : Memref sig .tc .vmem S1024x512 .f32) (h4 : a4.IsWhole)
    (x0 : Vec Ideal S1024x4096 .bf16) (x1 : Vec Ideal S1x512x4096 .f32) : out0_A_2 c i a2 h2 a3 h3 a4 h4 x0 x1 = k0_pay1 x1 x0 := by
  unfold out0_A_2
  rw [View.read_writes_eq_canon _ _ _ (cover0_A_2 c i a2 h2 a3 h3 a4 h4 x0 x1)]
  unfold kernelRun0_A
  dsimp only
  rw [View.canon_unit_zero off2]
  simp only [View.readAt_eq_ld, h2.read_unread, h3.read_unread, View.ld_unit_zero (S := S1024x4096) off2, View.ld_unit_zero (S := S1x512x4096) off3]

variable (m : (ℓ : Loc nD τ sig) → Buf (Elt Ideal) ℓ)

/-- The call finds the weights transposed. -/
theorem weights_eq (c : Dev nD) : V m c main_v0 = transpose S2x21552x4096 [0, 2, 1] (m ((c : Thread nD τ).loc main_arg1)) transposes_S2x4096x21552_S2x21552x4096_0_2_1 := by
  unfold V
  after_results <;> rfl

/-- The block indices of the windows at a grid point. -/
theorem index_facts : ∀ t : Fin cfg0.N,
    (win0_0.index t (0 : Fin 2) = t.val / 2 ∧ win0_0.index t (1 : Fin 2) = 0)
    ∧ (win0_1.index t (0 : Fin 3) = 0 ∧ win0_1.index t (1 : Fin 3) = 4 + t.val % 2 ∧ win0_1.index t (2 : Fin 3) = 0)
    ∧ (win0_2.index t (0 : Fin 2) = t.val / 2 ∧ win0_2.index t (1 : Fin 2) = t.val % 2) :=
  (by decide +kernel : ∀ t : Fin grid0.N, _)

theorem lt_N (t : Fin cfg0.N) : t.val < 16 := lt_of_lt_of_eq t.isLt N_0

/-- The columns a point's block of the weights holds. -/
theorem col_block (t : Fin cfg0.N) (q : Fin 512) : (4 + t.val % 2) * 512 + 1 * q.val = (col (⟨512 * (t.val % 2) + q.val, by omega⟩ : Fin 1024)).val := by
  show _ = 2048 + (512 * (t.val % 2) + q.val); omega

/-- An entry of the weights' block at a point. -/
theorem block_apply (c : Dev nD) (t : Fin cfg0.N) (q : Fin 512) (k : Fin 4096) :
    (X0_1 m c t : Vec Ideal S1x512x4096 .f32) (ix3 (0 : Fin 1) q k)
      = m ((c : Thread nD τ).loc main_arg1) (ix3 (0 : Fin 2) k (col (⟨512 * (t.val % 2) + q.val, by omega⟩ : Fin 1024))) := by
  obtain ⟨-, ⟨b0, b1, b2⟩, -⟩ := index_facts t
  unfold X0_1 Pipeline.Window.fill
  rw [dif_pos (moved0_1 t _)]
  unfold iblk
  rw [View.read_apply]
  have hemb : ∀ y : ((cfg0.win 1).xblock (cfg0.grid.coords t)).Idx, (∀ a, (y a).val = ((ix3 (0 : Fin 1) q k : S1x512x4096.Idx) a).val) →
      ((cfg0.win 1).blk t).view.emb y = ix3 (0 : Fin 2) (col (⟨512 * (t.val % 2) + q.val, by omega⟩ : Fin 1024)) k := fun y hy => funext fun a => Fin.ext (by
    match a with
    | ⟨0, _⟩ => exact (show win0_1.index t 0 * 1 + 1 * (y 0).val = 0 by rw [b0, hy 0]; rfl)
    | ⟨1, _⟩ => exact (show win0_1.index t 1 * 512 + 1 * (y 1).val = _ by rw [b1, hy 1]; exact col_block t q)
    | ⟨2, _⟩ => exact (show win0_1.index t 2 * 4096 + 1 * (y 2).val = k.val by rw [b2, hy 2]; show 0 * 4096 + 1 * k.val = k.val; omega))
  show V m c main_v0 (((cfg0.win 1).blk t).view.emb _) = _
  rw [hemb _ fun a => rfl, weights_eq]
  exact transpose_ix3_021_apply _ _ _ _ _

/-- Each point writes back its block of the product. -/
theorem flushed2_eq (c : Dev nD) (t : Fin cfg0.N) : (dats m 0 c).flushed 2 t = ((cfg0.win 2).blk t).view.read (Elt Ideal)
    (proj (m ((c : Thread nD τ).loc main_arg0)) (m ((c : Thread nD τ).loc main_arg1))) := by
  have hN := lt_N t
  rw [flushed2_A, out_eq]
  funext y
  obtain ⟨p, q, rfl⟩ : ∃ (p : Fin 1024) (q : Fin 512), y = ix2 p q := ⟨y 0, y 1, eq_ix2 y⟩
  show k0_pay1 (F := Ideal) (X0_1 m c t) (iblk m c 0 t) (ix2 p q) = proj _ _ (((cfg0.win 2).blk t).view.emb (ix2 p q))
  refine (pay1_apply (X0_1 m c t) (iblk m c 0 t) p q).trans ?_
  obtain ⟨⟨a0, a1⟩, -, f0, f1⟩ := index_facts t
  have hemb : ((cfg0.win 2).blk t).view.emb (ix2 p q)
      = ix2 (⟨1024 * (t.val / 2) + p.val, by omega⟩ : Fin 8192) (⟨512 * (t.val % 2) + q.val, by omega⟩ : Fin 1024) := funext fun a => Fin.ext (by
    match a with
    | ⟨0, _⟩ => show win0_2.index t 0 * 1024 + 1 * p.val = _; rw [f0]; show _ = 1024 * (t.val / 2) + p.val; omega
    | ⟨1, _⟩ => show win0_2.index t 1 * 512 + 1 * q.val = _; rw [f1]; show _ = 512 * (t.val % 2) + q.val; omega)
  rw [hemb]
  unfold proj
  refine Finset.sum_congr rfl fun k _ => congrArg₂ (· * ·) ?_ (block_apply m c t q k)
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * p.val = 1024 * (t.val / 2) + p.val; rw [a0]; omega
  | ⟨1, _⟩ => show win0_0.index t 1 * 4096 + 1 * k.val = k.val; rw [a1]; omega

theorem final2_eq (c : Dev nD) : (dats m 0 c).arrAt 2 cfg0.N = proj (m ((c : Thread nD τ).loc main_arg0)) (m ((c : Thread nD τ).loc main_arg1)) :=
  (dats m 0 c).arrAt_eq_of_cover 2 _ (fun t _ => flushed2_eq m c t) fun i => by
    have h0 : (i 0).val < 8192 := (i 0).isLt
    have h1 : (i 1).val < 1024 := (i 1).isLt
    let t : Fin cfg0.N := ⟨2 * ((i 0).val / 1024) + (i 1).val / 512, lt_of_lt_of_eq (by omega) N_0.symm⟩
    have ht : t.val = 2 * ((i 0).val / 1024) + (i 1).val / 512 := rfl
    obtain ⟨-, -, f0, f1⟩ := index_facts t
    refine ⟨t, flush0_2 t, ?_⟩
    show i ∈ ((View.whole main_v1).slice (win0_2.rect t)).set
    rw [View.set_slice_whole, Rect.mem_set_unit]
    intro a
    match a with
    | ⟨0, _⟩ => show win0_2.index t 0 * 1024 ≤ (i 0).val ∧ (i 0).val < win0_2.index t 0 * 1024 + 1024; rw [f0]; omega
    | ⟨1, _⟩ => show win0_2.index t 1 * 512 ≤ (i 1).val ∧ (i 1).val < win0_2.index t 1 * 512 + 512; rw [f1]; omega

end Cert.ProjCmpIdeal.Cols

namespace Cert.ProjCmpRefIdeal.Cols

open Cert.ProjCmpRefIdeal Cert.ProjCmpRefIdeal.Gen Cert.ProjCmpRefIdeal.Read

/-- An entry of the reference's product with the whole weight matrix. -/
theorem whole_apply (h : Vec Ideal S8192x4096 .bf16) (w : Vec Ideal S2x4096x21552 .f32) (r : Fin 8192) (j : Fin 21552) :
    val_main_v3 (F := Ideal) h w (ix2 r j) = ∑ k : Fin 4096, (h (ix2 r k) : EReal) * w (ix3 (0 : Fin 2) k j) := by
  rw [val_main_v3_apply]
  refine Finset.sum_congr rfl fun k _ => ?_
  rw [val_main_v0_apply, val_main_v2_apply, val_main_v1_apply, Ideal.extf_def]
  refine congrArg₂ (· * ·) (congrArg h (eq_ix2 _)) (congrArg w (funext fun a => Fin.ext ?_))
  match a with
  | ⟨0, _⟩ => rfl
  | ⟨1, _⟩ => show (k.val * 21552 + j.val) / 21552 % 4096 = k.val; omega
  | ⟨2, _⟩ => show (k.val * 21552 + j.val) % 21552 = j.val; omega

/-- The reference keeps the columns from 2048 on. -/
theorem proj_eq (h : Vec Ideal S8192x4096 .bf16) (w : Vec Ideal S2x4096x21552 .f32) :
    val_main_v4 (F := Ideal) h w = Cert.ProjCmpIdeal.Cols.proj h w := by
  funext i
  obtain ⟨r, j, rfl⟩ : ∃ (r : Fin 8192) (j : Fin 1024), i = ix2 r j := ⟨i 0, i 1, eq_ix2 i⟩
  rw [val_main_v4_apply, show idx_main_v4 (ix2 r j) = ix2 r (Cert.ProjCmpIdeal.Cols.col j) from eq_ix2 _]
  exact whole_apply h w r _

end Cert.ProjCmpRefIdeal.Cols

namespace Cert.Proof.ProjCmpClaims

theorem frame_p : Cert.quiescent_ProjCmp := fun m ρ _ => Cert.ProjCmp.Gen.frame m ρ
theorem frame_pi : Cert.quiescent_ProjCmpIdeal := fun m ρ _ => Cert.ProjCmpIdeal.Gen.frame m ρ
theorem frame_ri : Cert.quiescent_ProjCmpRefIdeal := fun m ρ _ =>
  (θ_run Cert.ProjCmpRefIdeal.defs _ _).mono (fun r h => ⟨fun c => (h c).2,
      Idealize.ShloMosaic.sem_eq_zero_of_no_sems (by decide) r.2⟩)
    (Cert.ProjCmpRefIdeal.Value.run (F := Ideal) m ρ)

theorem preserves : Cert.preserves_ProjCmp_ProjCmpIdeal := trivial

theorem algebraic : Cert.algebraic_ProjCmpIdeal_ProjCmpRefIdeal := by
  intro m ρ m' ρ' _ hagree
  refine ⟨_, (θ_run Cert.ProjCmpIdeal.defs _ _).mono (fun r h c => ⟨(h c).1.trans (Cert.ProjCmpIdeal.Cols.final2_eq m c), (h c).2⟩)
    (Cert.ProjCmpIdeal.Value.run_blocks (F := Ideal) m ρ), ?_⟩
  refine (θ_run Cert.ProjCmpRefIdeal.defs _ _).mono (fun _ h c => ⟨(h c).1.trans ?_, (h c).2⟩)
    (Cert.ProjCmpRefIdeal.Value.run (F := Ideal) m' ρ')
  rw [(hagree c).1, (hagree c).2]
  exact Cert.ProjCmpRefIdeal.Cols.proj_eq _ _

end Cert.Proof.ProjCmpClaims

end
-- ==== Proof.WOut.lean ====
/-
  THE BLOCK'S OUTPUT PROJECTION, GATED ONTO THE RESIDUAL STREAM. One 1024 x 1024 block per grid point, the contracted axis
  whole: what a point writes, what the result array therefore holds, and that the reference's result is the same array.
-/
module

public import proofs.«01_k».proof.Defs
public import proofs.«01_k».proof.Proof.Gen.WOut.Frame
public import proofs.«01_k».proof.Proof.Gen.WOutIdeal.Value
public import proofs.«01_k».proof.Proof.Gen.WOutRefIdeal.Read
public import Idealize.ShloMosaic.Lib.MatmulPlain
public import Idealize.ShloMosaic.Lib.ValueIdx
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.WOutIdeal.Out

open Cert.WOutIdeal Cert.WOutIdeal.Gen Cert.WOutIdeal.Value

theorem off2 : (![0, 0] : Fin 2 → Nat) = fun _ => 0 := funext fun a => by fin_cases a <;> rfl
theorem off3 : (![0, 0, 0] : Fin 3 → Nat) = fun _ => 0 := funext fun a => by fin_cases a <;> rfl

/-- The residual plus the gate times the product, entry by entry. -/
def gated (o : Vec Ideal S8192x4096 .bf16) (w : Vec Ideal S4096x4096 .bf16) (x : Vec Ideal S8192x4096 .f32) (g : Vec Ideal S2x1x4096 .f32) :
    Vec Ideal S8192x4096 .f32 := fun i =>
  x i + g (ix3 (⟨(i 0).val / 4096, by have h : (i 0).val < 8192 := (i 0).isLt; omega⟩ : Fin 2) (0 : Fin 1) (i 1)) * ∑ k : Fin 4096, o (ix2 (i 0) k) * w (ix2 k (i 1))

/-- One entry of what a point computes from its blocks. -/
theorem pay1_apply (o : FVec Ideal S1024x4096 .bf16) (w : FVec Ideal S4096x1024 .bf16) (x : FVec Ideal S1024x1024 .f32) (g : FVec Ideal S1x1x1024 .f32)
    (r q : Fin 1024) :
    k0_pay1 (F := Ideal) o w x g (ix2 r q) = x (ix2 r q) + g (ix3 (0 : Fin 1) (0 : Fin 1) q) * ∑ k : Fin 4096, o (ix2 r k) * w (ix2 k q) := by
  have e := Ideal.matmul_plain_apply (φ₁ := .bf16) (φ₂ := .bf16) none o w (constant (F := Ideal) S1024x1024 .f32 0x00000000#32) r q
  rw [constant_apply, Ideal.ofBits_zero_f32, zero_add] at e
  refine (congrArg₂ (· + ·) rfl (congrArg₂ (· * ·) ?_ e) :)
  show broadcastTo S1024x1024 (shapeCast S1x1024 g shapeCasts_S1x1x1024_S1x1024) broadcasts_S1x1024_S1024x1024 (ix2 r q) = _
  rw [broadcastTo_apply _ broadcasts_S1x1024_S1024x1024 (ix2 r q) (ix2 (0 : Fin 1) q) (fun a => match a with
      | ⟨0, _⟩ => rfl
      | ⟨1, _⟩ => rfl),
    shapeCast_apply g shapeCasts_S1x1x1024_S1x1024 (ix2 (0 : Fin 1) q) (ix3 (0 : Fin 1) (0 : Fin 1) q)
      (by rw [Shape.rowMajor_val_three, Shape.rowMajor_val_two]; show (0 * 1 + 0) * 1024 + q.val = 0 * 1024 + q.val; omega)]

variable (m : (ℓ : Loc nD τ sig) → Buf (Elt Ideal) ℓ)

/-- The block indices of the windows at a grid point. -/
theorem index_facts : ∀ t : Fin cfg0.N,
    (win0_0.index t (0 : Fin 2) = t.val / 4 ∧ win0_0.index t (1 : Fin 2) = 0)
    ∧ (win0_1.index t (0 : Fin 2) = 0 ∧ win0_1.index t (1 : Fin 2) = t.val % 4)
    ∧ (win0_2.index t (0 : Fin 2) = t.val / 4 ∧ win0_2.index t (1 : Fin 2) = t.val % 4)
    ∧ (win0_3.index t (0 : Fin 3) = t.val / 16 ∧ win0_3.index t (1 : Fin 3) = 0 ∧ win0_3.index t (2 : Fin 3) = t.val % 4)
    ∧ (win0_4.index t (0 : Fin 2) = t.val / 4 ∧ win0_4.index t (1 : Fin 2) = t.val % 4) :=
  (by decide +kernel : ∀ t : Fin grid0.N, _)

theorem lt_N (t : Fin cfg0.N) : t.val < 32 := lt_of_lt_of_eq t.isLt N_0

/-- Each point writes back its block of the gated sum. -/
theorem flushed4_eq (c : Dev nD) (t : Fin cfg0.N) : (dats m 0 c).flushed 4 t = ((cfg0.win 4).blk t).view.read (Elt Ideal)
    (gated (m ((c : Thread nD τ).loc main_arg0)) (m ((c : Thread nD τ).loc main_arg1)) (m ((c : Thread nD τ).loc main_arg2)) (m ((c : Thread nD τ).loc main_arg3))) := by
  have hN := lt_N t
  rw [flushed4]
  funext y
  obtain ⟨p, q, rfl⟩ : ∃ (p q : Fin 1024), y = ix2 p q := ⟨y 0, y 1, eq_ix2 y⟩
  show out0_4 (iblk m c 0 t) (iblk m c 1 t) (iblk m c 2 t) (iblk m c 3 t) (ix2 p q) = gated _ _ _ _ (((cfg0.win 4).blk t).view.emb (ix2 p q))
  unfold out0_4
  rw [View.canon_unit_zero off2, View.ld_unit_zero (S := S1024x4096) off2, View.ld_unit_zero (S := S4096x1024) off2,
    View.ld_unit_zero (S := S1024x1024) off2, View.ld_unit_zero (S := S1x1x1024) off3]
  refine (pay1_apply (iblk m c 0 t) (iblk m c 1 t) (iblk m c 2 t) (iblk m c 3 t) p q).trans ?_
  obtain ⟨⟨a0, a1⟩, ⟨b0, b1⟩, ⟨c0, c1⟩, ⟨d0, d1, d2⟩, ⟨f0, f1⟩⟩ := index_facts t
  have hemb : ((cfg0.win 4).blk t).view.emb (ix2 p q)
      = ix2 (⟨1024 * (t.val / 4) + p.val, by omega⟩ : Fin 8192) (⟨1024 * (t.val % 4) + q.val, by omega⟩ : Fin 4096) := funext fun a => Fin.ext (by
    match a with
    | ⟨0, _⟩ => show win0_4.index t 0 * 1024 + 1 * p.val = _; rw [f0]; show _ = 1024 * (t.val / 4) + p.val; omega
    | ⟨1, _⟩ => show win0_4.index t 1 * 1024 + 1 * q.val = _; rw [f1]; show _ = 1024 * (t.val % 4) + q.val; omega)
  rw [hemb]
  unfold gated
  refine congrArg₂ (· + ·) ?_ (congrArg₂ (· * ·) ?_ (Finset.sum_congr rfl fun k _ => congrArg₂ (· * ·) ?_ ?_))
  · unfold iblk
    rw [View.read_apply]
    refine congrArg (m ((c : Thread nD τ).loc main_arg2)) (funext fun a => Fin.ext ?_)
    match a with
    | ⟨0, _⟩ => show win0_2.index t 0 * 1024 + 1 * p.val = 1024 * (t.val / 4) + p.val; rw [c0]; omega
    | ⟨1, _⟩ => show win0_2.index t 1 * 1024 + 1 * q.val = 1024 * (t.val % 4) + q.val; rw [c1]; omega
  · unfold iblk
    rw [View.read_apply]
    refine congrArg (m ((c : Thread nD τ).loc main_arg3)) (funext fun a => Fin.ext ?_)
    match a with
    | ⟨0, _⟩ => show win0_3.index t 0 * 1 + 1 * 0 = (1024 * (t.val / 4) + p.val) / 4096; rw [d0]; omega
    | ⟨1, _⟩ => show win0_3.index t 1 * 1 + 1 * 0 = 0; rw [d1]
    | ⟨2, _⟩ => show win0_3.index t 2 * 1024 + 1 * q.val = 1024 * (t.val % 4) + q.val; rw [d2]; omega
  · unfold iblk
    rw [View.read_apply]
    refine congrArg (m ((c : Thread nD τ).loc main_arg0)) (funext fun a => Fin.ext ?_)
    match a with
    | ⟨0, _⟩ => show win0_0.index t 0 * 1024 + 1 * p.val = 1024 * (t.val / 4) + p.val; rw [a0]; omega
    | ⟨1, _⟩ => show win0_0.index t 1 * 4096 + 1 * k.val = k.val; rw [a1]; omega
  · unfold iblk
    rw [View.read_apply]
    refine congrArg (m ((c : Thread nD τ).loc main_arg1)) (funext fun a => Fin.ext ?_)
    match a with
    | ⟨0, _⟩ => show win0_1.index t 0 * 4096 + 1 * k.val = k.val; rw [b0]; omega
    | ⟨1, _⟩ => show win0_1.index t 1 * 1024 + 1 * q.val = 1024 * (t.val % 4) + q.val; rw [b1]; omega

theorem final4_eq (c : Dev nD) : (dats m 0 c).arrAt 4 cfg0.N
    = gated (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed4_eq m c t) fun i => by
    have h0 : (i 0).val < 8192 := (i 0).isLt
    have h1 : (i 1).val < 4096 := (i 1).isLt
    let t : Fin cfg0.N := ⟨4 * ((i 0).val / 1024) + (i 1).val / 1024, lt_of_lt_of_eq (by omega) N_0.symm⟩
    have ht : t.val = 4 * ((i 0).val / 1024) + (i 1).val / 1024 := rfl
    obtain ⟨-, -, -, -, ⟨f0, f1⟩⟩ := index_facts t
    refine ⟨t, flush0_4 t, ?_⟩
    show i ∈ ((View.whole main_v0).slice (win0_4.rect t)).set
    rw [View.set_slice_whole, Rect.mem_set_unit]
    intro a
    match a with
    | ⟨0, _⟩ => show win0_4.index t 0 * 1024 ≤ (i 0).val ∧ (i 0).val < win0_4.index t 0 * 1024 + 1024; rw [f0]; omega
    | ⟨1, _⟩ => show win0_4.index t 1 * 1024 ≤ (i 1).val ∧ (i 1).val < win0_4.index t 1 * 1024 + 1024; rw [f1]; omega

end Cert.WOutIdeal.Out

namespace Cert.WOutRefIdeal.Out

open Cert.WOutRefIdeal Cert.WOutRefIdeal.Gen Cert.WOutRefIdeal.Read

/-- The reference's result is the gated sum: its reshapes split the tokens over the two sequences and join them again. -/
theorem gated_eq (o : Vec Ideal S8192x4096 .bf16) (w : Vec Ideal S4096x4096 .bf16) (x : Vec Ideal S8192x4096 .f32) (g : Vec Ideal S2x1x4096 .f32) :
    val_main_v8 (F := Ideal) o w x g = Cert.WOutIdeal.Out.gated o w x g := by
  funext i
  obtain ⟨r, j, rfl⟩ : ∃ (r : Fin 8192) (j : Fin 4096), i = ix2 r j := ⟨i 0, i 1, eq_ix2 i⟩
  rw [val_main_v8_apply, val_main_v7_apply, val_main_v3_apply, val_main_v6_apply, val_main_v5_apply, val_main_v4_apply, val_main_v2_apply]
  simp only [val_main_v0_apply, val_main_v1_apply, Ideal.extf_def, Ideal.addf_def, Ideal.mulf_def]
  have hs : idx_main_v4 (idx_main_v8 (ix2 r j)) = ix2 r j := funext fun a => Fin.ext (by
    match a with
    | ⟨0, _⟩ =>
      show (((r.val * 4096 + j.val) / 16777216 * 4096 + (r.val * 4096 + j.val) / 4096 % 4096) * 4096 + (r.val * 4096 + j.val) % 4096) / 4096 = r.val
      omega
    | ⟨1, _⟩ =>
      show (((r.val * 4096 + j.val) / 16777216 * 4096 + (r.val * 4096 + j.val) / 4096 % 4096) * 4096 + (r.val * 4096 + j.val) % 4096) % 4096 = j.val
      omega)
  have hs' : idx_main_v3 (idx_main_v8 (ix2 r j)) = ix2 r j := hs
  have hg : idx_main_v5 (idx_main_v8 (ix2 r j)) = ix3 (⟨r.val / 4096, by omega⟩ : Fin 2) (0 : Fin 1) j := funext fun a => Fin.ext (by
    match a with
    | ⟨0, _⟩ => show (r.val * 4096 + j.val) / 16777216 = r.val / 4096; omega
    | ⟨1, _⟩ => rfl
    | ⟨2, _⟩ => show (r.val * 4096 + j.val) % 4096 = j.val; omega)
  rw [hs, hs', hg]
  have el : ∀ k : Fin 4096, lidx_main_v2 (ix2 r j) k = ix2 r k := fun k => eq_ix2 _
  have er : ∀ k : Fin 4096, ridx_main_v2 (ix2 r j) k = ix2 k j := fun k => eq_ix2 _
  simp only [el, er]
  rfl

end Cert.WOutRefIdeal.Out

namespace Cert.Proof.WOutClaims

theorem frame_p : Cert.quiescent_WOut := fun m ρ _ => Cert.WOut.Gen.frame m ρ
theorem frame_pi : Cert.quiescent_WOutIdeal := fun m ρ _ => Cert.WOutIdeal.Gen.frame m ρ
theorem frame_ri : Cert.quiescent_WOutRefIdeal := fun m ρ _ =>
  (θ_run Cert.WOutRefIdeal.defs _ _).mono (fun r h => ⟨fun c => (h c).2,
      Idealize.ShloMosaic.sem_eq_zero_of_no_sems (by decide) r.2⟩)
    (Cert.WOutRefIdeal.Value.run (F := Ideal) m ρ)

theorem preserves : Cert.preserves_WOut_WOutIdeal := trivial

theorem algebraic : Cert.algebraic_WOutIdeal_WOutRefIdeal := by
  intro m ρ m' ρ' _ hagree
  refine ⟨_, (θ_run Cert.WOutIdeal.defs _ _).mono (fun r h c => ⟨(h c).1.trans (Cert.WOutIdeal.Out.final4_eq m c), (h c).2⟩)
    (Cert.WOutIdeal.Value.run_blocks (F := Ideal) m ρ), ?_⟩
  refine (θ_run Cert.WOutRefIdeal.defs _ _).mono (fun _ h c => ⟨(h c).1.trans ?_, (h c).2⟩)
    (Cert.WOutRefIdeal.Value.run (F := Ideal) m' ρ')
  rw [(hagree c).1, (hagree c).2.1, (hagree c).2.2.1, (hagree c).2.2.2]
  exact Cert.WOutRefIdeal.Out.gated_eq _ _ _ _

end Cert.Proof.WOutClaims

end
-- ==== Proof.Merge.lean ====
/-
  THE MERGE OF THE TWO BRANCHES. Each branch's output is projected up to the model's width and multiplied by the logistic
  of its gate, and the two are added. One 1024 x 1024 block per grid point: what a point writes, what the result array
  therefore holds, and that the reference's result is the same array.
-/
module

public import proofs.«01_k».proof.Defs
public import proofs.«01_k».proof.Proof.Gen.Merge.Frame
public import proofs.«01_k».proof.Proof.Gen.MergeIdeal.Value
public import proofs.«01_k».proof.Proof.Gen.MergeRefIdeal.Read
public import Idealize.ShloMosaic.Lib.MatmulPlain
public import Idealize.ShloMosaic.Lib.ValueIdx
public import Idealize.ShloMosaic.Lib.IdealHost
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.MergeIdeal.Gates

open Cert.MergeIdeal Cert.MergeIdeal.Gen Cert.MergeIdeal.Value

theorem off2 : (![0, 0] : Fin 2 → Nat) = fun _ => 0 := funext fun a => by fin_cases a <;> rfl

/-- One entry of a branch's projection to the model's width. -/
def lifted (o : Vec Ideal S8192x2048 .bf16) (w : Vec Ideal S2048x4096 .bf16) (i : Fin 8192) (j : Fin 4096) : EReal :=
  ∑ k : Fin 2048, o (ix2 i k) * w (ix2 k j)

/-- The two gated projections added: the gates' logits lie side by side from column 8192 on. -/
def merged (oa ob : Vec Ideal S8192x2048 .bf16) (wa wb : Vec Ideal S2048x4096 .bf16) (g : Vec Ideal S8192x16384 .bf16) :
    Vec Ideal S8192x4096 .bf16 := fun i =>
  Ideal.logistic (g (ix2 (i 0) (⟨8192 + (i 1).val, by have h : (i 1).val < 4096 := (i 1).isLt; omega⟩ : Fin 16384))) * lifted oa wa (i 0) (i 1)
    + Ideal.logistic (g (ix2 (i 0) (⟨12288 + (i 1).val, by have h : (i 1).val < 4096 := (i 1).isLt; omega⟩ : Fin 16384))) * lifted ob wb (i 0) (i 1)

/-- One entry of what a point computes from its blocks. -/
theorem pay1_apply (oa : FVec Ideal S1024x2048 .bf16) (wa : FVec Ideal S2048x1024 .bf16) (ob : FVec Ideal S1024x2048 .bf16) (wb : FVec Ideal S2048x1024 .bf16)
    (ga gb : FVec Ideal S1024x1024 .bf16) (r q : Fin 1024) :
    k0_pay1 (F := Ideal) oa wa ob wb ga gb (ix2 r q)
      = Ideal.logistic (ga (ix2 r q)) * (∑ k : Fin 2048, oa (ix2 r k) * wa (ix2 k q)) + Ideal.logistic (gb (ix2 r q)) * ∑ k : Fin 2048, ob (ix2 r k) * wb (ix2 k q) := by
  have e : ∀ (o : FVec Ideal S1024x2048 .bf16) (w : FVec Ideal S2048x1024 .bf16), _ := fun o w =>
    Ideal.matmul_plain_apply (φ₁ := .bf16) (φ₂ := .bf16) none o w (constant (F := Ideal) S1024x1024 .f32 0x00000000#32) r q
  simp only [constant_apply, Ideal.ofBits_zero_f32, zero_add] at e
  exact congrArg₂ (· + ·) (congrArg₂ (· * ·) rfl (e oa wa)) (congrArg₂ (· * ·) rfl (e ob wb))

variable (m : (ℓ : Loc nD τ sig) → Buf (Elt Ideal) ℓ)

/-- The block indices of the windows at a grid point. -/
theorem index_facts : ∀ t : Fin cfg0.N,
    ((win0_0.index t (0 : Fin 2) = t.val / 4 ∧ win0_0.index t (1 : Fin 2) = 0) ∧ (win0_1.index t (0 : Fin 2) = t.val / 4 ∧ win0_1.index t (1 : Fin 2) = 0))
    ∧ ((win0_2.index t (0 : Fin 2) = 0 ∧ win0_2.index t (1 : Fin 2) = t.val % 4) ∧ (win0_3.index t (0 : Fin 2) = 0 ∧ win0_3.index t (1 : Fin 2) = t.val % 4))
    ∧ ((win0_4.index t (0 : Fin 2) = t.val / 4 ∧ win0_4.index t (1 : Fin 2) = 8 + t.val % 4) ∧ (win0_5.index t (0 : Fin 2) = t.val / 4 ∧ win0_5.index t (1 : Fin 2) = 12 + t.val % 4))
    ∧ (win0_6.index t (0 : Fin 2) = t.val / 4 ∧ win0_6.index t (1 : Fin 2) = t.val % 4) :=
  (by decide +kernel : ∀ t : Fin grid0.N, _)

theorem lt_N (t : Fin cfg0.N) : t.val < 32 := lt_of_lt_of_eq t.isLt N_0

/-- Each point writes back its block of the merged branches. -/
theorem flushed6_eq (c : Dev nD) (t : Fin cfg0.N) : (dats m 0 c).flushed 6 t = ((cfg0.win 6).blk t).view.read (Elt Ideal)
    (merged (m ((c : Thread nD τ).loc main_arg0)) (m ((c : Thread nD τ).loc main_arg1)) (m ((c : Thread nD τ).loc main_arg2)) (m ((c : Thread nD τ).loc main_arg3))
      (m ((c : Thread nD τ).loc main_arg4))) := by
  have hN := lt_N t
  rw [flushed6]
  funext y
  obtain ⟨p, q, rfl⟩ : ∃ (p q : Fin 1024), y = ix2 p q := ⟨y 0, y 1, eq_ix2 y⟩
  show out0_6 (iblk m c 0 t) (iblk m c 1 t) (iblk m c 2 t) (iblk m c 3 t) (iblk m c 4 t) (iblk m c 5 t) (ix2 p q)
    = merged _ _ _ _ _ (((cfg0.win 6).blk t).view.emb (ix2 p q))
  unfold out0_6
  rw [View.canon_unit_zero off2, View.ld_unit_zero (S := S1024x2048) off2, View.ld_unit_zero (S := S1024x2048) off2, View.ld_unit_zero (S := S2048x1024) off2,
    View.ld_unit_zero (S := S2048x1024) off2, View.ld_unit_zero (S := S1024x1024) off2, View.ld_unit_zero (S := S1024x1024) off2]
  refine (pay1_apply (iblk m c 0 t) (iblk m c 2 t) (iblk m c 1 t) (iblk m c 3 t) (iblk m c 4 t) (iblk m c 5 t) p q).trans ?_
  obtain ⟨⟨⟨a0, a1⟩, b0, b1⟩, ⟨⟨c0, c1⟩, d0, d1⟩, ⟨⟨g0, g1⟩, h0, h1⟩, f0, f1⟩ := index_facts t
  have hemb : ((cfg0.win 6).blk t).view.emb (ix2 p q)
      = ix2 (⟨1024 * (t.val / 4) + p.val, by omega⟩ : Fin 8192) (⟨1024 * (t.val % 4) + q.val, by omega⟩ : Fin 4096) := funext fun a => Fin.ext (by
    match a with
    | ⟨0, _⟩ => show win0_6.index t 0 * 1024 + 1 * p.val = _; rw [f0]; show _ = 1024 * (t.val / 4) + p.val; omega
    | ⟨1, _⟩ => show win0_6.index t 1 * 1024 + 1 * q.val = _; rw [f1]; show _ = 1024 * (t.val % 4) + q.val; omega)
  rw [hemb]
  unfold merged lifted
  refine congrArg₂ (· + ·) (congrArg₂ (· * ·) (congrArg Ideal.logistic ?_) (Finset.sum_congr rfl fun k _ => congrArg₂ (· * ·) ?_ ?_))
    (congrArg₂ (· * ·) (congrArg Ideal.logistic ?_) (Finset.sum_congr rfl fun k _ => congrArg₂ (· * ·) ?_ ?_))
  · unfold iblk
    rw [View.read_apply]
    refine congrArg (m ((c : Thread nD τ).loc main_arg4)) (funext fun a => Fin.ext ?_)
    match a with
    | ⟨0, _⟩ => show win0_4.index t 0 * 1024 + 1 * p.val = 1024 * (t.val / 4) + p.val; rw [g0]; omega
    | ⟨1, _⟩ => show win0_4.index t 1 * 1024 + 1 * q.val = 8192 + (1024 * (t.val % 4) + q.val); rw [g1]; omega
  · unfold iblk
    rw [View.read_apply]
    refine congrArg (m ((c : Thread nD τ).loc main_arg0)) (funext fun a => Fin.ext ?_)
    match a with
    | ⟨0, _⟩ => show win0_0.index t 0 * 1024 + 1 * p.val = 1024 * (t.val / 4) + p.val; rw [a0]; omega
    | ⟨1, _⟩ => show win0_0.index t 1 * 2048 + 1 * k.val = k.val; rw [a1]; omega
  · unfold iblk
    rw [View.read_apply]
    refine congrArg (m ((c : Thread nD τ).loc main_arg2)) (funext fun a => Fin.ext ?_)
    match a with
    | ⟨0, _⟩ => show win0_2.index t 0 * 2048 + 1 * k.val = k.val; rw [c0]; omega
    | ⟨1, _⟩ => show win0_2.index t 1 * 1024 + 1 * q.val = 1024 * (t.val % 4) + q.val; rw [c1]; omega
  · unfold iblk
    rw [View.read_apply]
    refine congrArg (m ((c : Thread nD τ).loc main_arg4)) (funext fun a => Fin.ext ?_)
    match a with
    | ⟨0, _⟩ => show win0_5.index t 0 * 1024 + 1 * p.val = 1024 * (t.val / 4) + p.val; rw [h0]; omega
    | ⟨1, _⟩ => show win0_5.index t 1 * 1024 + 1 * q.val = 12288 + (1024 * (t.val % 4) + q.val); rw [h1]; omega
  · unfold iblk
    rw [View.read_apply]
    refine congrArg (m ((c : Thread nD τ).loc main_arg1)) (funext fun a => Fin.ext ?_)
    match a with
    | ⟨0, _⟩ => show win0_1.index t 0 * 1024 + 1 * p.val = 1024 * (t.val / 4) + p.val; rw [b0]; omega
    | ⟨1, _⟩ => show win0_1.index t 1 * 2048 + 1 * k.val = k.val; rw [b1]; omega
  · unfold iblk
    rw [View.read_apply]
    refine congrArg (m ((c : Thread nD τ).loc main_arg3)) (funext fun a => Fin.ext ?_)
    match a with
    | ⟨0, _⟩ => show win0_3.index t 0 * 2048 + 1 * k.val = k.val; rw [d0]; omega
    | ⟨1, _⟩ => show win0_3.index t 1 * 1024 + 1 * q.val = 1024 * (t.val % 4) + q.val; rw [d1]; omega

theorem final6_eq (c : Dev nD) : (dats m 0 c).arrAt 6 cfg0.N
    = merged (m ((c : Thread nD τ).loc main_arg0)) (m ((c : Thread nD τ).loc main_arg1)) (m ((c : Thread nD τ).loc main_arg2)) (m ((c : Thread nD τ).loc main_arg3))
      (m ((c : Thread nD τ).loc main_arg4)) :=
  (dats m 0 c).arrAt_eq_of_cover 6 _ (fun t _ => flushed6_eq m c t) fun i => by
    have h0 : (i 0).val < 8192 := (i 0).isLt
    have h1 : (i 1).val < 4096 := (i 1).isLt
    let t : Fin cfg0.N := ⟨4 * ((i 0).val / 1024) + (i 1).val / 1024, lt_of_lt_of_eq (by omega) N_0.symm⟩
    have ht : t.val = 4 * ((i 0).val / 1024) + (i 1).val / 1024 := rfl
    obtain ⟨-, -, -, f0, f1⟩ := index_facts t
    refine ⟨t, flush0_6 t, ?_⟩
    show i ∈ ((View.whole main_v0).slice (win0_6.rect t)).set
    rw [View.set_slice_whole, Rect.mem_set_unit]
    intro a
    match a with
    | ⟨0, _⟩ => show win0_6.index t 0 * 1024 ≤ (i 0).val ∧ (i 0).val < win0_6.index t 0 * 1024 + 1024; rw [f0]; omega
    | ⟨1, _⟩ => show win0_6.index t 1 * 1024 ≤ (i 1).val ∧ (i 1).val < win0_6.index t 1 * 1024 + 1024; rw [f1]; omega

end Cert.MergeIdeal.Gates

namespace Cert.MergeRefIdeal.Gates

open Cert.MergeRefIdeal Cert.MergeRefIdeal.Gen Cert.MergeRefIdeal.Read

/-- The reference's result is the merged array: its logistic is written with the exponential, which is what the logistic is. -/
theorem merged_eq (oa ob : Vec Ideal S8192x2048 .bf16) (wa wb : Vec Ideal S2048x4096 .bf16) (g : Vec Ideal S8192x16384 .bf16) :
    val_main_v25 (F := Ideal) oa ob wa wb g = Cert.MergeIdeal.Gates.merged oa ob wa wb g := by
  funext i
  obtain ⟨r, j, rfl⟩ : ∃ (r : Fin 8192) (j : Fin 4096), i = ix2 r j := ⟨i 0, i 1, eq_ix2 i⟩
  rw [val_main_v25_apply, val_main_v24_apply, val_main_v13_apply, val_main_v23_apply, val_main_v9_apply, val_main_v19_apply, val_main_v12_apply, val_main_v22_apply,
    val_main_v7_apply, val_main_v17_apply, val_main_v5_apply, val_main_v15_apply, val_main_v4_apply, val_main_v14_apply, val_main_v1_apply, val_main_v3_apply,
    val_main_v8_apply, val_main_v6_apply, val_main_v18_apply, val_main_v16_apply]
  simp only [val_main_v0_apply, val_main_v2_apply, val_main_v10_apply, val_main_v11_apply, val_main_v20_apply, val_main_v21_apply, val_main_cst_apply, val_main_cst_0_apply,
    val_main_cst_1_apply, val_main_cst_2_apply, Ideal.extf_def, Ideal.truncf_def, Ideal.addf_def, Ideal.mulf_def, Ideal.hostDivf_def, Ideal.hostNegf_def, Ideal.negf_def, Ideal.hostUnary_exp_def, Ideal.ofBits_def, Ideal.ofBits_one_f32]
  have el : ∀ k : Fin 2048, lidx_main_v12 (ix2 r j) k = ix2 r k := fun k => eq_ix2 _
  have er : ∀ k : Fin 2048, ridx_main_v12 (ix2 r j) k = ix2 k j := fun k => eq_ix2 _
  have fl : ∀ k : Fin 2048, lidx_main_v22 (ix2 r j) k = ix2 r k := fun k => eq_ix2 _
  have fr : ∀ k : Fin 2048, ridx_main_v22 (ix2 r j) k = ix2 k j := fun k => eq_ix2 _
  have ga : idx_main_v1 (ix2 r j) = ix2 r (⟨8192 + j.val, by omega⟩ : Fin 16384) := funext fun a => Fin.ext (by
    match a with
    | ⟨0, _⟩ => rfl
    | ⟨1, _⟩ => rfl)
  have gb : idx_main_v3 (ix2 r j) = ix2 r (⟨12288 + j.val, by omega⟩ : Fin 16384) := funext fun a => Fin.ext (by
    match a with
    | ⟨0, _⟩ => rfl
    | ⟨1, _⟩ => rfl)
  simp only [el, er, fl, fr, ga, gb]
  rfl

end Cert.MergeRefIdeal.Gates

namespace Cert.Proof.MergeClaims

theorem frame_p : Cert.quiescent_Merge := fun m ρ _ => Cert.Merge.Gen.frame m ρ
theorem frame_pi : Cert.quiescent_MergeIdeal := fun m ρ _ => Cert.MergeIdeal.Gen.frame m ρ
theorem frame_ri : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

theorem preserves : Cert.preserves_Merge_MergeIdeal := trivial

theorem algebraic : Cert.algebraic_MergeIdeal_MergeRefIdeal := by
  intro m ρ m' ρ' _ hagree
  refine ⟨_, (θ_run Cert.MergeIdeal.defs _ _).mono (fun r h c => ⟨(h c).1.trans (Cert.MergeIdeal.Gates.final6_eq m c), (h c).2⟩)
    (Cert.MergeIdeal.Value.run_blocks (F := Ideal) m ρ), ?_⟩
  refine (θ_run Cert.MergeRefIdeal.defs _ _).mono (fun _ h c => ⟨(h c).1.trans ?_, (h c).2⟩)
    (Cert.MergeRefIdeal.Value.run (F := Ideal) m' ρ')
  rw [(hagree c).1, (hagree c).2.1, (hagree c).2.2.1, (hagree c).2.2.2.1, (hagree c).2.2.2.2]
  exact Cert.MergeRefIdeal.Gates.merged_eq _ _ _ _ _

end Cert.Proof.MergeClaims

end
-- ==== Proof.NormRow.lean ====
/-
  THE SCALE OF A NORMALISED ROW. The root-mean-square norm multiplies a row by the inverse square root of the mean of its
  squares, a small constant added. The last norm and the norms before the layer's products compute it in the same way:
  here it is once, with the term a grid point computes it by.
-/
module

public import Idealize.ShloMosaic.Lib.ValueIdx
public import Idealize.ShloMosaic.Lib.IdealHost
public import Idealize.ShloMosaic.PureOps.Ideal.Laws
public import Idealize.ShloMosaic.Lib.Pipeline.Value

@[expose] public section

set_option maxRecDepth 16384

noncomputable section

open Idealize.ShloMosaic Idealize.ShloMosaic.ValueIdx

namespace Cert.Proof.NormRow

/-- The scale of a row: one over the root of the mean of its squares plus the norm's constant. -/
def scale (x : Fin 4096 → EReal) : EReal :=
  Ideal.rsqrt (Ideal.div (∑ k : Fin 4096, x k * x k) (FloatOps.ofBits (F := Ideal) .f32 0x45800000#32) + FloatOps.ofBits (F := Ideal) .f32 0x358637BD#32)

/-- The term a grid point computes the scales of its 512 rows by, spread over the columns, is the scale of each row. -/
theorem spread_scale_apply (x : FVec Ideal ⟨2, ![512, 4096]⟩ .f32) (hr : Shape.Reduces ⟨2, ![512, 4096]⟩ [1] ⟨1, ![512]⟩)
    (hs : Shape.ShapeCasts ⟨1, ![512]⟩ ⟨2, ![512, 1]⟩) (hb : Shape.Broadcasts ⟨2, ![512, 1]⟩ ⟨2, ![512, 4096]⟩) (r : Fin 512) (q : Fin 4096) :
    broadcastTo ⟨2, ![512, 4096]⟩ (rsqrt (addf (divf (shapeCast ⟨2, ![512, 1]⟩ (multiReduction .add [1] ⟨1, ![512]⟩ (mulf x x) 0x00000000#32 hr (.inl rfl) rfl) hs)
      (broadcast ⟨2, ![512, 1]⟩ (Scalar.ofBits (F := Ideal) .f32 0x45800000#32))) (broadcast ⟨2, ![512, 1]⟩ (Scalar.ofBits (F := Ideal) .f32 0x358637BD#32)))) hb (ix2 r q)
      = scale fun k => x (ix2 r k) := by
  refine (broadcastTo_apply _ hb (ix2 r q) (ix2 r (0 : Fin 1)) (fun a => by
    match a with
    | ⟨0, _⟩ => rfl
    | ⟨1, _⟩ => rfl)).trans ?_
  have e := Ideal.multiReduction_add_single (φ := .f32) (mulf x x) 0x00000000#32 hr (.inl rfl) rfl (ix1 r)
  refine congrArg (fun s => Ideal.rsqrt (Ideal.div s (FloatOps.ofBits (F := Ideal) .f32 0x45800000#32) + FloatOps.ofBits (F := Ideal) .f32 0x358637BD#32)) ?_
  refine (shapeCast_apply _ hs (ix2 r (0 : Fin 1)) (ix1 r) (by
    rw [Shape.rowMajor_val_two, Shape.rowMajor_val_one]; show r.val = r.val * 1 + 0; omega)).trans (e.trans ?_)
  refine Finset.sum_congr rfl fun k _ => ?_
  have h : hr.lift (ix1 r) k = ix2 r k := funext fun a => Fin.ext (by
    match a with
    | ⟨0, _⟩ => rfl
    | ⟨1, _⟩ => rfl)
  rw [h]
  rfl

end Cert.Proof.NormRow

end
-- ==== Proof.LastNorm.lean ====
/-
  THE LAST NORM. The residual stream after the last layer, each row scaled by its root-mean-square norm and each column by a
  weight. 512 rows per grid point: what a point writes, what the result array therefore holds, and that the reference's
  result is the same array.
-/
module

public import proofs.«01_k».proof.Defs
public import proofs.«01_k».proof.Proof.NormRow
public import proofs.«01_k».proof.Proof.Gen.LastNorm.Frame
public import proofs.«01_k».proof.Proof.Gen.LastNormIdeal.Value
public import proofs.«01_k».proof.Proof.Gen.LastNormRefIdeal.Read
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx
open Cert.Proof.NormRow (scale spread_scale_apply)

namespace Cert.LastNormIdeal.Rows

open Cert.LastNormIdeal Cert.LastNormIdeal.Gen Cert.LastNormIdeal.Value

theorem off2 : (![0, 0] : Fin 2 → Nat) = fun _ => 0 := funext fun a => by fin_cases a <;> rfl

/-- The normalised residual stream: an entry times its row's scale times its column's weight. -/
def normed (x : Vec Ideal S8192x4096 .f32) (w : Vec Ideal S4096 .f32) : Vec Ideal S8192x4096 .f32 := fun i =>
  x i * scale (fun k => x (ix2 (i 0) k)) * w (ix1 (i 1))

/-- One entry of what a point computes from its rows. -/
theorem pay1_apply (x : FVec Ideal S512x4096 .f32) (w : FVec Ideal S1x4096 .f32) (r : Fin 512) (q : Fin 4096) :
    k0_pay1 (F := Ideal) x w (ix2 r q) = x (ix2 r q) * scale (fun k => x (ix2 r k)) * w (ix2 (0 : Fin 1) q) := by
  refine congrArg₂ (· * ·) (congrArg (x (ix2 r q) * ·) (spread_scale_apply x reduces_S512x4096_S512 shapeCasts_S512_S512x1 broadcasts_S512x1_S512x4096 r q)) ?_
  refine (broadcastTo_apply _ broadcasts_S1x4096_S512x4096 (ix2 r q) (ix2 (0 : Fin 1) q) (fun a => by
    match a with
    | ⟨0, _⟩ => rfl
    | ⟨1, _⟩ => rfl)).trans ?_
  exact shapeCast_apply w shapeCasts_S1x4096_S1x4096 (ix2 (0 : Fin 1) q) (ix2 (0 : Fin 1) q) rfl

variable (m : (ℓ : Loc nD τ sig) → Buf (Elt Ideal) ℓ)

/-- The call finds the weights as one row. -/
theorem weights_eq (c : Dev nD) : V m c main_v0 = shapeCast S1x4096 (m ((c : Thread nD τ).loc main_arg1)) shapeCasts_S4096_S1x4096 := by
  unfold V
  after_results <;> rfl

theorem weights_apply (c : Dev nD) (q : Fin 4096) : (V m c main_v0 : S1x4096.Idx → EReal) (ix2 (0 : Fin 1) q) = m ((c : Thread nD τ).loc main_arg1) (ix1 q) := by
  rw [weights_eq]
  exact shapeCast_apply _ shapeCasts_S4096_S1x4096 (ix2 (0 : Fin 1) q) (ix1 q) (by
    rw [Shape.rowMajor_val_two, Shape.rowMajor_val_one]; show q.val = 0 * 4096 + q.val; omega)

/-- The block indices of the windows at a grid point. -/
theorem index_facts : ∀ t : Fin cfg0.N,
    (win0_0.index t (0 : Fin 2) = t.val ∧ win0_0.index t (1 : Fin 2) = 0) ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

theorem lt_N (t : Fin cfg0.N) : t.val < 16 := lt_of_lt_of_eq t.isLt N_0

/-- Each point writes back its rows of the normalised stream. -/
theorem flushed2_eq (c : Dev nD) (t : Fin cfg0.N) : (dats m 0 c).flushed 2 t = ((cfg0.win 2).blk t).view.read (Elt Ideal)
    (normed (m ((c : Thread nD τ).loc main_arg0)) (m ((c : Thread nD τ).loc main_arg1))) := by
  have hN := lt_N t
  rw [flushed2]
  funext y
  obtain ⟨p, q, rfl⟩ : ∃ (p : Fin 512) (q : Fin 4096), y = ix2 p q := ⟨y 0, y 1, eq_ix2 y⟩
  show out0_2 (iblk m c 0 t) (iblk m c 1 t) (ix2 p q) = normed _ _ (((cfg0.win 2).blk t).view.emb (ix2 p q))
  unfold out0_2
  rw [View.canon_unit_zero off2, View.ld_unit_zero (S := S512x4096) off2, View.ld_unit_zero (S := S1x4096) off2]
  refine (pay1_apply (iblk m c 0 t) (iblk m c 1 t) p q).trans ?_
  obtain ⟨⟨a0, a1⟩, ⟨b0, b1⟩, c0, c1⟩ := index_facts t
  have hemb : ((cfg0.win 2).blk t).view.emb (ix2 p q) = ix2 (⟨512 * t.val + p.val, by omega⟩ : Fin 8192) q := funext fun a => Fin.ext (by
    match a with
    | ⟨0, _⟩ => show win0_2.index t 0 * 512 + 1 * p.val = _; rw [c0]; show _ = 512 * t.val + p.val; omega
    | ⟨1, _⟩ => show win0_2.index t 1 * 4096 + 1 * q.val = _; rw [c1]; show _ = q.val; omega)
  have hx : ∀ k : Fin 4096, iblk m c 0 t (ix2 p k) = m ((c : Thread nD τ).loc main_arg0) (ix2 (⟨512 * t.val + p.val, by omega⟩ : Fin 8192) k) := fun k => by
    unfold iblk
    rw [View.read_apply]
    refine congrArg (m ((c : Thread nD τ).loc main_arg0)) (funext fun a => Fin.ext ?_)
    match a with
    | ⟨0, _⟩ => show win0_0.index t 0 * 512 + 1 * p.val = 512 * t.val + p.val; rw [a0]; omega
    | ⟨1, _⟩ => show win0_0.index t 1 * 4096 + 1 * k.val = k.val; rw [a1]; omega
  have hw : iblk m c 1 t (ix2 (0 : Fin 1) q) = m ((c : Thread nD τ).loc main_arg1) (ix1 q) := by
    refine Eq.trans ?_ (weights_apply m c q)
    unfold iblk
    rw [View.read_apply]
    refine congrArg (V m c main_v0) (funext fun a => Fin.ext ?_)
    match a with
    | ⟨0, _⟩ => show win0_1.index t 0 * 1 + 1 * 0 = 0; rw [b0]
    | ⟨1, _⟩ => show win0_1.index t 1 * 4096 + 1 * q.val = q.val; rw [b1]; omega
  rw [hemb]
  unfold normed
  exact congrArg₂ (· * ·) (congrArg₂ (· * ·) (hx q) (congrArg scale (funext hx))) hw

theorem final2_eq (c : Dev nD) : (dats m 0 c).arrAt 2 cfg0.N = normed (m ((c : Thread nD τ).loc main_arg0)) (m ((c : Thread nD τ).loc main_arg1)) :=
  (dats m 0 c).arrAt_eq_of_cover 2 _ (fun t _ => flushed2_eq m c t) fun i => by
    have h0 : (i 0).val < 8192 := (i 0).isLt
    have h1 : (i 1).val < 4096 := (i 1).isLt
    let t : Fin cfg0.N := ⟨(i 0).val / 512, lt_of_lt_of_eq (by omega) N_0.symm⟩
    have ht : t.val = (i 0).val / 512 := rfl
    obtain ⟨-, -, c0, c1⟩ := index_facts t
    refine ⟨t, flush0_2 t, ?_⟩
    show i ∈ ((View.whole main_v1).slice (win0_2.rect t)).set
    rw [View.set_slice_whole, Rect.mem_set_unit]
    intro a
    match a with
    | ⟨0, _⟩ => show win0_2.index t 0 * 512 ≤ (i 0).val ∧ (i 0).val < win0_2.index t 0 * 512 + 512; rw [c0]; omega
    | ⟨1, _⟩ => show win0_2.index t 1 * 4096 ≤ (i 1).val ∧ (i 1).val < win0_2.index t 1 * 4096 + 4096; rw [c1]; omega

end Cert.LastNormIdeal.Rows

namespace Cert.LastNormRefIdeal.Rows

open Cert.LastNormRefIdeal Cert.LastNormRefIdeal.Gen Cert.LastNormRefIdeal.Read

/-- The reference's result is the normalised stream. -/
theorem normed_eq (x : Vec Ideal S8192x4096 .f32) (w : Vec Ideal S4096 .f32) :
    val_main_v12 (F := Ideal) x w = Cert.LastNormIdeal.Rows.normed x w := by
  funext i
  obtain ⟨r, j, rfl⟩ : ∃ (r : Fin 8192) (j : Fin 4096), i = ix2 r j := ⟨i 0, i 1, eq_ix2 i⟩
  rw [val_main_v12_apply, val_main_v9_apply, val_main_v8_apply, val_main_v7_apply, val_main_v6_apply, val_main_v4_apply, val_main_v2_apply, val_main_v1_apply,
    val_main_v3_apply, val_main_v5_apply, val_main_v11_apply, val_main_v10_apply]
  simp only [val_main_v0_apply, val_main_cst_apply, val_main_cst_0_apply, val_main_cst_1_apply, Ideal.addf_def, Ideal.mulf_def, Ideal.hostDivf_def,
    Ideal.hostUnary_rsqrt_def, Ideal.ofBits_def, Ideal.ofBits_zero_f32, zero_add]
  have ex : ∀ k : Fin 4096, idx_main_v1 (idx_main_v2 (idx_main_v8 (ix2 r j))) k = ix2 r k := fun k => eq_ix2 _
  have ew : idx_main_v10 (idx_main_v11 (ix2 r j)) = ix1 j := funext fun a => Fin.ext (by
    match a with
    | ⟨0, _⟩ => rfl)
  simp only [ex, ew]
  rfl

end Cert.LastNormRefIdeal.Rows

namespace Cert.Proof.LastNormClaims

theorem frame_p : Cert.quiescent_LastNorm := fun m ρ _ => Cert.LastNorm.Gen.frame m ρ
theorem frame_pi : Cert.quiescent_LastNormIdeal := fun m ρ _ => Cert.LastNormIdeal.Gen.frame m ρ
theorem frame_ri : Cert.quiescent_LastNormRefIdeal := fun m ρ _ =>
  (θ_run Cert.LastNormRefIdeal.defs _ _).mono (fun r h => ⟨fun c => (h c).2,
      Idealize.ShloMosaic.sem_eq_zero_of_no_sems (by decide) r.2⟩)
    (Cert.LastNormRefIdeal.Value.run (F := Ideal) m ρ)

theorem preserves : Cert.preserves_LastNorm_LastNormIdeal := trivial

theorem algebraic : Cert.algebraic_LastNormIdeal_LastNormRefIdeal := by
  intro m ρ m' ρ' _ hagree
  refine ⟨_, (θ_run Cert.LastNormIdeal.defs _ _).mono (fun r h c => ⟨(h c).1.trans (Cert.LastNormIdeal.Rows.final2_eq m c), (h c).2⟩)
    (Cert.LastNormIdeal.Value.run_blocks (F := Ideal) m ρ), ?_⟩
  refine (θ_run Cert.LastNormRefIdeal.defs _ _).mono (fun _ h c => ⟨(h c).1.trans ?_, (h c).2⟩)
    (Cert.LastNormRefIdeal.Value.run (F := Ideal) m' ρ')
  rw [(hagree c).1, (hagree c).2]
  exact Cert.LastNormRefIdeal.Rows.normed_eq _ _

end Cert.Proof.LastNormClaims

end
-- ==== Proof.NormMod.lean ====
/-
  THE MODULATED NORM. The residual stream as a layer's products read it: each row scaled by its root-mean-square norm and
  each column by a weight, then, per sequence, each column stretched by one plus a factor and shifted. 512 rows per grid
  point: what a point writes, what the result array therefore holds, and that the reference's result is the same array.
-/
module

public import proofs.«01_k».proof.Defs
public import proofs.«01_k».proof.Proof.NormRow
public import proofs.«01_k».proof.Proof.Gen.NormMod.Frame
public import proofs.«01_k».proof.Proof.Gen.NormModIdeal.Value
public import proofs.«01_k».proof.Proof.Gen.NormModRefIdeal.Read
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx
open Cert.Proof.NormRow (scale spread_scale_apply)

namespace Cert.NormModIdeal.Rows

open Cert.NormModIdeal Cert.NormModIdeal.Gen Cert.NormModIdeal.Value

theorem off2 : (![0, 0] : Fin 2 → Nat) = fun _ => 0 := funext fun a => by fin_cases a <;> rfl
theorem off3 : (![0, 0, 0] : Fin 3 → Nat) = fun _ => 0 := funext fun a => by fin_cases a <;> rfl

/-- The modulated stream: an entry times its row's scale times its column's weight, stretched and shifted as its sequence says. -/
def normed (x : Vec Ideal S8192x4096 .f32) (w : Vec Ideal S4096 .f32) (sc sh : Vec Ideal S2x1x4096 .f32) : Vec Ideal S8192x4096 .bf16 := fun i =>
  x i * scale (fun k => x (ix2 (i 0) k)) * w (ix1 (i 1))
      * (FloatOps.ofBits (F := Ideal) .f32 0x3F800000#32 + sc (ix3 (⟨(i 0).val / 4096, by have h : (i 0).val < 8192 := (i 0).isLt; omega⟩ : Fin 2) (0 : Fin 1) (i 1)))
    + sh (ix3 (⟨(i 0).val / 4096, by have h : (i 0).val < 8192 := (i 0).isLt; omega⟩ : Fin 2) (0 : Fin 1) (i 1))

/-- A row spread over the rows of a block. -/
theorem spread_apply (v : FVec Ideal S1x4096 .f32) (r : Fin 512) (q : Fin 4096) :
    broadcastTo S512x4096 v broadcasts_S1x4096_S512x4096 (ix2 r q) = v (ix2 (0 : Fin 1) q) :=
  broadcastTo_apply v broadcasts_S1x4096_S512x4096 (ix2 r q) (ix2 (0 : Fin 1) q) (fun a => by
    match a with
    | ⟨0, _⟩ => rfl
    | ⟨1, _⟩ => rfl)

/-- The block of one sequence's factors read as a row. -/
theorem row_apply (v : FVec Ideal S1x1x4096 .f32) (q : Fin 4096) :
    shapeCast S1x4096 v shapeCasts_S1x1x4096_S1x4096 (ix2 (0 : Fin 1) q) = v (ix3 (0 : Fin 1) (0 : Fin 1) q) :=
  shapeCast_apply v shapeCasts_S1x1x4096_S1x4096 (ix2 (0 : Fin 1) q) (ix3 (0 : Fin 1) (0 : Fin 1) q) (by
    rw [Shape.rowMajor_val_two, Shape.rowMajor_val_three]; rfl)

/-- One entry of what a point computes from its rows. -/
theorem pay1_apply (x : FVec Ideal S512x4096 .f32) (w : FVec Ideal S1x4096 .f32) (sc sh : FVec Ideal S1x1x4096 .f32) (r : Fin 512) (q : Fin 4096) :
    k0_pay1 (F := Ideal) x w sc sh (ix2 r q) = x (ix2 r q) * scale (fun k => x (ix2 r k)) * w (ix2 (0 : Fin 1) q)
        * (FloatOps.ofBits (F := Ideal) .f32 0x3F800000#32 + sc (ix3 (0 : Fin 1) (0 : Fin 1) q)) + sh (ix3 (0 : Fin 1) (0 : Fin 1) q) := by
  refine congrArg₂ (· + ·) (congrArg₂ (· * ·) (congrArg₂ (· * ·)
    (congrArg (x (ix2 r q) * ·) (spread_scale_apply x reduces_S512x4096_S512 shapeCasts_S512_S512x1 broadcasts_S512x1_S512x4096 r q)) ?_) ?_) ?_
  · exact (spread_apply _ r q).trans (shapeCast_apply w shapeCasts_S1x4096_S1x4096 (ix2 (0 : Fin 1) q) (ix2 (0 : Fin 1) q) rfl)
  · exact (spread_apply _ r q).trans (congrArg (FloatOps.ofBits (F := Ideal) .f32 0x3F800000#32 + ·) (row_apply sc q))
  · exact (spread_apply _ r q).trans (row_apply sh q)

variable (m : (ℓ : Loc nD τ sig) → Buf (Elt Ideal) ℓ)

/-- The call finds the weights as one row. -/
theorem weights_eq (c : Dev nD) : V m c main_v0 = shapeCast S1x4096 (m ((c : Thread nD τ).loc main_arg1)) shapeCasts_S4096_S1x4096 := by
  unfold V
  after_results <;> rfl

theorem weights_apply (c : Dev nD) (q : Fin 4096) : (V m c main_v0 : S1x4096.Idx → EReal) (ix2 (0 : Fin 1) q) = m ((c : Thread nD τ).loc main_arg1) (ix1 q) := by
  rw [weights_eq]
  exact shapeCast_apply _ shapeCasts_S4096_S1x4096 (ix2 (0 : Fin 1) q) (ix1 q) (by
    rw [Shape.rowMajor_val_two, Shape.rowMajor_val_one]; show q.val = 0 * 4096 + q.val; omega)

/-- The block indices of the windows at a grid point. -/
theorem index_facts : ∀ t : Fin cfg0.N,
    (win0_0.index t (0 : Fin 2) = t.val ∧ win0_0.index t (1 : Fin 2) = 0) ∧ (win0_1.index t (0 : Fin 2) = 0 ∧ win0_1.index t (1 : Fin 2) = 0)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = 0 ∧ win0_3.index t (2 : Fin 3) = 0)
    ∧ (win0_4.index t (0 : Fin 2) = t.val ∧ win0_4.index t (1 : Fin 2) = 0) :=
  (by decide +kernel : ∀ t : Fin grid0.N, _)

theorem lt_N (t : Fin cfg0.N) : t.val < 16 := lt_of_lt_of_eq t.isLt N_0

/-- Each point writes back its rows of the normalised stream. -/
theorem flushed4_eq (c : Dev nD) (t : Fin cfg0.N) : (dats m 0 c).flushed 4 t = ((cfg0.win 4).blk t).view.read (Elt Ideal)
    (normed (m ((c : Thread nD τ).loc main_arg0)) (m ((c : Thread nD τ).loc main_arg1))
      (m ((c : Thread nD τ).loc main_arg2)) (m ((c : Thread nD τ).loc main_arg3))) := by
  have hN := lt_N t
  rw [flushed4]
  funext y
  obtain ⟨p, q, rfl⟩ : ∃ (p : Fin 512) (q : Fin 4096), y = ix2 p q := ⟨y 0, y 1, eq_ix2 y⟩
  show out0_4 (iblk m c 0 t) (iblk m c 1 t) (iblk m c 2 t) (iblk m c 3 t) (ix2 p q) = normed _ _ _ _ (((cfg0.win 4).blk t).view.emb (ix2 p q))
  unfold out0_4
  rw [View.canon_unit_zero off2, View.ld_unit_zero (S := S512x4096) off2, View.ld_unit_zero (S := S1x4096) off2, View.ld_unit_zero (S := S1x1x4096) off3, View.ld_unit_zero (S := S1x1x4096) off3]
  refine (pay1_apply (iblk m c 0 t) (iblk m c 1 t) (iblk m c 2 t) (iblk m c 3 t) p q).trans ?_
  obtain ⟨⟨a0, a1⟩, ⟨b0, b1⟩, ⟨d0, d1, d2⟩, ⟨e0, e1, e2⟩, c0, c1⟩ := index_facts t
  have hemb : ((cfg0.win 4).blk t).view.emb (ix2 p q) = ix2 (⟨512 * t.val + p.val, by omega⟩ : Fin 8192) q := funext fun a => Fin.ext (by
    match a with
    | ⟨0, _⟩ => show win0_4.index t 0 * 512 + 1 * p.val = _; rw [c0]; show _ = 512 * t.val + p.val; omega
    | ⟨1, _⟩ => show win0_4.index t 1 * 4096 + 1 * q.val = _; rw [c1]; show _ = q.val; omega)
  have hx : ∀ k : Fin 4096, iblk m c 0 t (ix2 p k) = m ((c : Thread nD τ).loc main_arg0) (ix2 (⟨512 * t.val + p.val, by omega⟩ : Fin 8192) k) := fun k => by
    unfold iblk
    rw [View.read_apply]
    refine congrArg (m ((c : Thread nD τ).loc main_arg0)) (funext fun a => Fin.ext ?_)
    match a with
    | ⟨0, _⟩ => show win0_0.index t 0 * 512 + 1 * p.val = 512 * t.val + p.val; rw [a0]; omega
    | ⟨1, _⟩ => show win0_0.index t 1 * 4096 + 1 * k.val = k.val; rw [a1]; omega
  have hw : iblk m c 1 t (ix2 (0 : Fin 1) q) = m ((c : Thread nD τ).loc main_arg1) (ix1 q) := by
    refine Eq.trans ?_ (weights_apply m c q)
    unfold iblk
    rw [View.read_apply]
    refine congrArg (V m c main_v0) (funext fun a => Fin.ext ?_)
    match a with
    | ⟨0, _⟩ => show win0_1.index t 0 * 1 + 1 * 0 = 0; rw [b0]
    | ⟨1, _⟩ => show win0_1.index t 1 * 4096 + 1 * q.val = q.val; rw [b1]; omega
  have hsc : iblk m c 2 t (ix3 (0 : Fin 1) (0 : Fin 1) q) = m ((c : Thread nD τ).loc main_arg2) (ix3 (⟨(512 * t.val + p.val) / 4096, by omega⟩ : Fin 2) (0 : Fin 1) q) := by
    unfold iblk
    rw [View.read_apply]
    refine congrArg (m ((c : Thread nD τ).loc main_arg2)) (funext fun a => Fin.ext ?_)
    match a with
    | ⟨0, _⟩ => show win0_2.index t 0 * 1 + 1 * 0 = (512 * t.val + p.val) / 4096; rw [d0]; omega
    | ⟨1, _⟩ => show win0_2.index t 1 * 1 + 1 * 0 = 0; rw [d1]
    | ⟨2, _⟩ => show win0_2.index t 2 * 4096 + 1 * q.val = q.val; rw [d2]; omega
  have hsh : iblk m c 3 t (ix3 (0 : Fin 1) (0 : Fin 1) q) = m ((c : Thread nD τ).loc main_arg3) (ix3 (⟨(512 * t.val + p.val) / 4096, by omega⟩ : Fin 2) (0 : Fin 1) q) := by
    unfold iblk
    rw [View.read_apply]
    refine congrArg (m ((c : Thread nD τ).loc main_arg3)) (funext fun a => Fin.ext ?_)
    match a with
    | ⟨0, _⟩ => show win0_3.index t 0 * 1 + 1 * 0 = (512 * t.val + p.val) / 4096; rw [e0]; omega
    | ⟨1, _⟩ => show win0_3.index t 1 * 1 + 1 * 0 = 0; rw [e1]
    | ⟨2, _⟩ => show win0_3.index t 2 * 4096 + 1 * q.val = q.val; rw [e2]; omega
  rw [hemb]
  unfold normed
  exact congrArg₂ (· + ·) (congrArg₂ (· * ·) (congrArg₂ (· * ·) (congrArg₂ (· * ·) (hx q) (congrArg scale (funext hx))) hw)
    (congrArg (FloatOps.ofBits (F := Ideal) .f32 0x3F800000#32 + ·) hsc)) hsh

theorem final4_eq (c : Dev nD) : (dats m 0 c).arrAt 4 cfg0.N = normed (m ((c : Thread nD τ).loc main_arg0)) (m ((c : Thread nD τ).loc main_arg1))
      (m ((c : Thread nD τ).loc main_arg2)) (m ((c : Thread nD τ).loc main_arg3)) :=
  (dats m 0 c).arrAt_eq_of_cover 4 _ (fun t _ => flushed4_eq m c t) fun i => by
    have h0 : (i 0).val < 8192 := (i 0).isLt
    have h1 : (i 1).val < 4096 := (i 1).isLt
    let t : Fin cfg0.N := ⟨(i 0).val / 512, lt_of_lt_of_eq (by omega) N_0.symm⟩
    have ht : t.val = (i 0).val / 512 := rfl
    obtain ⟨-, -, -, -, c0, c1⟩ := index_facts t
    refine ⟨t, flush0_4 t, ?_⟩
    show i ∈ ((View.whole main_v1).slice (win0_4.rect t)).set
    rw [View.set_slice_whole, Rect.mem_set_unit]
    intro a
    match a with
    | ⟨0, _⟩ => show win0_4.index t 0 * 512 ≤ (i 0).val ∧ (i 0).val < win0_4.index t 0 * 512 + 512; rw [c0]; omega
    | ⟨1, _⟩ => show win0_4.index t 1 * 4096 ≤ (i 1).val ∧ (i 1).val < win0_4.index t 1 * 4096 + 4096; rw [c1]; omega

end Cert.NormModIdeal.Rows

namespace Cert.NormModRefIdeal.Rows

open Cert.NormModRefIdeal Cert.NormModRefIdeal.Gen Cert.NormModRefIdeal.Read

/-- The reference's result is the modulated stream. -/
theorem normed_eq (x : Vec Ideal S8192x4096 .f32) (w : Vec Ideal S4096 .f32) (sc sh : Vec Ideal S2x1x4096 .f32) :
    val_main_v21 (F := Ideal) x w sc sh = Cert.NormModIdeal.Rows.normed x w sc sh := by
  funext i
  obtain ⟨r, j, rfl⟩ : ∃ (r : Fin 8192) (j : Fin 4096), i = ix2 r j := ⟨i 0, i 1, eq_ix2 i⟩
  have hr := r.isLt
  have hj := j.isLt
  rw [val_main_v21_apply, val_main_v20_apply]
  have e3 : idx_main_v20 (ix2 r j) = ix3 (⟨r.val / 4096, by omega⟩ : Fin 2) (⟨r.val % 4096, by omega⟩ : Fin 4096) j := funext fun a => Fin.ext (by
    match a with
    | ⟨0, _⟩ => show (r.val * 4096 + j.val) / 16777216 = r.val / 4096; omega
    | ⟨1, _⟩ => show (r.val * 4096 + j.val) / 4096 % 4096 = r.val % 4096; omega
    | ⟨2, _⟩ => show (r.val * 4096 + j.val) % 4096 = j.val; omega)
  rw [e3, val_main_v19_apply, val_main_v17_apply, val_main_v13_apply, val_main_v10_apply, val_main_v9_apply, val_main_v8_apply, val_main_v7_apply, val_main_v6_apply,
    val_main_v5_apply, val_main_v3_apply, val_main_v2_apply, val_main_v4_apply, val_main_v12_apply, val_main_v11_apply, val_main_v16_apply, val_main_v15_apply,
    val_main_v14_apply, val_main_v18_apply]
  simp only [val_main_v1_apply, val_main_v0_apply, val_main_cst_apply, val_main_cst_0_apply, val_main_cst_1_apply, val_main_cst_2_apply, Ideal.addf_def, Ideal.mulf_def,
    Ideal.hostDivf_def, Ideal.hostUnary_rsqrt_def, Ideal.truncf_def, Ideal.ofBits_def, Ideal.ofBits_zero_f32, zero_add]
  have ex : ∀ k : Fin 4096, idx_main_v0 (ix3 (⟨r.val / 4096, by omega⟩ : Fin 2) (⟨r.val % 4096, by omega⟩ : Fin 4096) k) = ix2 r k := fun k => funext fun a => Fin.ext (by
    match a with
    | ⟨0, _⟩ => show ((r.val / 4096 * 4096 + r.val % 4096) * 4096 + k.val) / 4096 = r.val; omega
    | ⟨1, _⟩ => show ((r.val / 4096 * 4096 + r.val % 4096) * 4096 + k.val) % 4096 = k.val; omega)
  have ek : ∀ k : Fin 4096, idx_main_v2 (idx_main_v3 (idx_main_v9 (ix3 (⟨r.val / 4096, by omega⟩ : Fin 2) (⟨r.val % 4096, by omega⟩ : Fin 4096) j))) k
      = ix3 (⟨r.val / 4096, by omega⟩ : Fin 2) (⟨r.val % 4096, by omega⟩ : Fin 4096) k := fun k => funext fun a => Fin.ext (by
    match a with
    | ⟨0, _⟩ => rfl
    | ⟨1, _⟩ => rfl
    | ⟨2, _⟩ => rfl)
  have ew : idx_main_v11 (idx_main_v12 (ix3 (⟨r.val / 4096, by omega⟩ : Fin 2) (⟨r.val % 4096, by omega⟩ : Fin 4096) j)) = ix1 j := funext fun a => Fin.ext (by
    match a with
    | ⟨0, _⟩ => rfl)
  have ec : idx_main_v16 (ix3 (⟨r.val / 4096, by omega⟩ : Fin 2) (⟨r.val % 4096, by omega⟩ : Fin 4096) j) = ix3 (⟨r.val / 4096, by omega⟩ : Fin 2) (0 : Fin 1) j :=
    funext fun a => Fin.ext (by
      match a with
      | ⟨0, _⟩ => rfl
      | ⟨1, _⟩ => rfl
      | ⟨2, _⟩ => rfl)
  have es : idx_main_v18 (ix3 (⟨r.val / 4096, by omega⟩ : Fin 2) (⟨r.val % 4096, by omega⟩ : Fin 4096) j) = ix3 (⟨r.val / 4096, by omega⟩ : Fin 2) (0 : Fin 1) j :=
    funext fun a => Fin.ext (by
      match a with
      | ⟨0, _⟩ => rfl
      | ⟨1, _⟩ => rfl
      | ⟨2, _⟩ => rfl)
  simp only [ek, ex, ew, ec, es]
  rfl

end Cert.NormModRefIdeal.Rows

namespace Cert.Proof.NormModClaims

theorem frame_p : Cert.quiescent_NormMod := fun m ρ _ => Cert.NormMod.Gen.frame m ρ
theorem frame_pi : Cert.quiescent_NormModIdeal := fun m ρ _ => Cert.NormModIdeal.Gen.frame m ρ
theorem frame_ri : Cert.quiescent_NormModRefIdeal := fun m ρ _ =>
  (θ_run Cert.NormModRefIdeal.defs _ _).mono (fun r h => ⟨fun c => (h c).2,
      Idealize.ShloMosaic.sem_eq_zero_of_no_sems (by decide) r.2⟩)
    (Cert.NormModRefIdeal.Value.run (F := Ideal) m ρ)

theorem preserves : Cert.preserves_NormMod_NormModIdeal := trivial

theorem algebraic : Cert.algebraic_NormModIdeal_NormModRefIdeal := by
  intro m ρ m' ρ' _ hagree
  refine ⟨_, (θ_run Cert.NormModIdeal.defs _ _).mono (fun r h c => ⟨(h c).1.trans (Cert.NormModIdeal.Rows.final4_eq m c), (h c).2⟩)
    (Cert.NormModIdeal.Value.run_blocks (F := Ideal) m ρ), ?_⟩
  refine (θ_run Cert.NormModRefIdeal.defs _ _).mono (fun _ h c => ⟨(h c).1.trans ?_, (h c).2⟩)
    (Cert.NormModRefIdeal.Value.run (F := Ideal) m' ρ')
  rw [(hagree c).1, (hagree c).2.1, (hagree c).2.2.1, (hagree c).2.2.2]
  exact Cert.NormModRefIdeal.Rows.normed_eq _ _ _ _

end Cert.Proof.NormModClaims

end
-- ==== Proof.RestRun.lean ====
/-
  THE REST OF THE INPUT PROJECTION: ONE GRID POINT. What the kernel's body leaves in its three result buffers, whatever the
  buffers are and whatever the input buffers hold: the block of the product, the rider's rows narrowed, and, at a row's first
  point only, the narrow block of gate columns (at the row's other points that buffer is not touched).
-/
module

public import proofs.«01_k».proof.Proof.Gen.ProjRestIdeal.Frame
public import proofs.«01_k».proof.Proof.Gen.ProjRestIdeal.Skeleton
public import Idealize.ShloMosaic.Lib.Pipeline.Value
public import Idealize.ShloMosaic.Lib.Pipeline.Value
public import Idealize.ShloMosaic.Lib.ValueIdx

@[expose] public section

set_option maxRecDepth 16384

noncomputable section

namespace Cert.ProjRestIdeal.Rest

open Cert.ProjRestIdeal Cert.ProjRestIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

theorem off2 : (![0, 0] : Fin 2 → Nat) = fun _ => 0 := funext fun a => by fin_cases a <;> rfl
theorem off3 : (![0, 0, 0] : Fin 3 → Nat) = fun _ => 0 := funext fun a => by fin_cases a <;> rfl

/-- The rows of the weights' block the product takes: all but the first 48. -/
abbrev bulk (x1 : Vec F S1x512x4096 .f32) : Vec F S1x464x4096 .f32 :=
  View.ld x1 (Rect.unit (s := S1x512x4096) ![0, 48, 0] S1x464x4096.size inb_S1x512x4096_S1x464x4096_0_48_0)

/-- The rows it takes from the block after: the first 48. -/
abbrev tail (x2 : Vec F S1x64x4096 .f32) : Vec F S1x48x4096 .f32 :=
  View.ld x2 (Rect.unit (s := S1x64x4096) ![0, 0, 0] S1x48x4096.size inb_S1x64x4096_S1x48x4096_0_0_0)

/-- The rows of the gates' block. -/
abbrev gates (x1 : Vec F S1x512x4096 .f32) : Vec F S1x128x4096 .f32 :=
  View.ld x1 (Rect.unit (s := S1x512x4096) ![0, 0, 0] S1x128x4096.size inb_S1x512x4096_S1x128x4096_0_0_0)

variable (c : Dev nD) (i : grid0.Coords)
  (a2 : Memref sig .tc .vmem S1024x4096 .bf16) (h2 : a2.IsWhole) (a3 : Memref sig .tc .vmem S1x512x4096 .f32) (h3 : a3.IsWhole)
  (a4 : Memref sig .tc .vmem S1x64x4096 .f32) (h4 : a4.IsWhole) (a5 : Memref sig .tc .vmem S1x16x16384 .f32) (h5 : a5.IsWhole)
  (a6 : Memref sig .tc .vmem S1024x512 .bf16) (h6 : a6.IsWhole) (a7 : Memref sig .tc .vmem S1024x128 .f32) (h7 : a7.IsWhole)
  (a8 : Memref sig .tc .vmem S16x16384 .bf16) (h8 : a8.IsWhole)
  (x0 : Vec F S1024x4096 .bf16) (x1 : Vec F S1x512x4096 .f32) (x2 : Vec F S1x64x4096 .f32) (x3 : Vec F S1x16x16384 .f32)

/-- A store of a whole buffer leaves what was stored. -/
theorem read_store {S : Shape} {sp : Space} {e : EltTy} (v : View sig .tc sp S e) {off : Fin S.rank → Nat} (h : off = fun _ => 0)
    (inb : ∀ a, off a + S.size a ≤ S.size a) (f) (y : Vec F S e) :
    v.read (Elt F) (v.writes (Elt F) f [⟨Rect.unit (s := S) off S.size inb, y⟩]) = y := by
  have hc : ∀ z : S.Idx, z ∈ (Rect.unit (s := S) off S.size inb).set := fun z => by
    rw [Rect.mem_set_unit]
    intro a
    rw [show off a = 0 from congrFun h a]
    exact ⟨Nat.zero_le _, by rw [Nat.zero_add]; exact (z a).isLt⟩
  rw [View.read_writes_eq_canon v f [⟨Rect.unit (s := S) off S.size inb, y⟩] fun z => ⟨_, List.mem_singleton_self _, hc z⟩, View.canon_unit_zero h]

set_option maxHeartbeats 1000000 in
/-- At a row's first point the narrow block of gate columns is written too. -/
theorem run_first (hc0 : k0_cond1 i = 1#1) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ (∃ d, owns (c : Thread nD τ) a6 fullShare d) ∗ (∃ d, owns (c : Thread nD τ) a7 fullShare d) ∗ (∃ d, owns (c : Thread nD τ) a8 fullShare d)
        ∗ (iprop(owns (c : Thread nD τ) a2 fullShare x0 ∗ owns (c : Thread nD τ) a3 fullShare x1 ∗ owns (c : Thread nD τ) a4 fullShare x2 ∗ owns (c : Thread nD τ) a5 fullShare x3
          ∗ owns (c : Thread nD τ) a6 fullShare (k0_pay2 (bulk x1) (tail x2) x0) ∗ owns (c : Thread nD τ) a7 fullShare (k0_pay3 x0 (gates x1)) ∗ owns (c : Thread nD τ) a8 fullShare (k0_pay1 x3)) -∗ K ⟨⟩))
      ⊢ wp frame (wpE (defs₀ (F := F)) Variants.none c none) E (cc0_proj_rest i a2 h2 a3 h3 a4 h4 a5 h5 a6 h6 a7 h7 a8 h8) K := by
  simp only [cc0_proj_rest_eq_skeleton]; unfold cc0_proj_rest_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := h2.eq_unread hf2; obtain rfl := h3.eq_unread hf3; obtain rfl := h4.eq_unread hf4; obtain rfl := h5.eq_unread hf5
  sl_exec (disch := first | sl_exact hc0)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    rw [read_store a6.view off2]
    simp only [View.readAt_eq_ld, h2.read_unread, h3.read_unread, h4.read_unread, h5.read_unread, View.ld_unit_zero (S := S1024x4096) off2, View.ld_unit_zero (S := S1x16x16384) off3]
  isplitl [H7]
  · iexists _; isplitr
    swap; · iexact H7
    ipureintro
    rw [read_store a7.view off2]
    simp only [View.readAt_eq_ld, h2.read_unread, h3.read_unread, h4.read_unread, h5.read_unread, View.ld_unit_zero (S := S1024x4096) off2, View.ld_unit_zero (S := S1x16x16384) off3]
  iexists _; isplitr
  swap; · iexact H8
  ipureintro
  rw [read_store a8.view off2]
  simp only [View.readAt_eq_ld, h2.read_unread, h3.read_unread, h4.read_unread, h5.read_unread, View.ld_unit_zero (S := S1024x4096) off2, View.ld_unit_zero (S := S1x16x16384) off3]

set_option maxHeartbeats 1000000 in
/-- At the row's other points its buffer stays as found. -/
theorem run_next (hc0 : ¬k0_cond1 i = 1#1) (x5 : Vec F S1024x128 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ (∃ d, owns (c : Thread nD τ) a6 fullShare d) ∗ owns (c : Thread nD τ) a7 fullShare x5 ∗ (∃ d, owns (c : Thread nD τ) a8 fullShare d)
        ∗ (iprop(owns (c : Thread nD τ) a2 fullShare x0 ∗ owns (c : Thread nD τ) a3 fullShare x1 ∗ owns (c : Thread nD τ) a4 fullShare x2 ∗ owns (c : Thread nD τ) a5 fullShare x3
          ∗ owns (c : Thread nD τ) a6 fullShare (k0_pay2 (bulk x1) (tail x2) x0) ∗ owns (c : Thread nD τ) a7 fullShare x5 ∗ owns (c : Thread nD τ) a8 fullShare (k0_pay1 x3)) -∗ K ⟨⟩))
      ⊢ wp frame (wpE (defs₀ (F := F)) Variants.none c none) E (cc0_proj_rest i a2 h2 a3 h3 a4 h4 a5 h5 a6 h6 a7 h7 a8 h8) K := by
  simp only [cc0_proj_rest_eq_skeleton]; unfold cc0_proj_rest_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
  obtain rfl := h2.eq_unread hf2; obtain rfl := h3.eq_unread hf3; obtain rfl := h4.eq_unread hf4; obtain rfl := h5.eq_unread hf5
  obtain rfl := h7.eq_unread hf7
  sl_exec (disch := first | sl_exact hc0)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    rw [read_store a6.view off2]
    simp only [View.readAt_eq_ld, h2.read_unread, h3.read_unread, h4.read_unread, h5.read_unread, View.ld_unit_zero (S := S1024x4096) off2, View.ld_unit_zero (S := S1x16x16384) off3]
  isplitl [H7]
  · iexists _; isplitr; · ipureintro; exact h7.read_unread _
    iexact H7
  iexists _; isplitr
  swap; · iexact H8
  ipureintro
  rw [read_store a8.view off2]
  simp only [View.readAt_eq_ld, h2.read_unread, h3.read_unread, h4.read_unread, h5.read_unread, View.ld_unit_zero (S := S1024x4096) off2, View.ld_unit_zero (S := S1x16x16384) off3]

end Cert.ProjRestIdeal.Rest

end
-- ==== Proof.RestFrame.lean ====
/-
  THE REST OF THE INPUT PROJECTION: THE WHOLE GRID. From one point's run to the run of the call: what each window's buffer
  holds when the body starts and when it ends, the last block of weights being cut off by the end of the matrix and the gate
  columns' block being kept through a row of points and written back after its last.
-/
module

public import proofs.«01_k».proof.Proof.RestRun
public import Idealize.ShloMosaic.Lib.Claim

@[expose] public section

set_option maxRecDepth 16384

noncomputable section

namespace Cert.ProjRestIdeal.Rest

open Cert.ProjRestIdeal Cert.ProjRestIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt_N (t : Fin cfg0.N) : t.val < 256 := lt_of_lt_of_eq t.isLt N_0

/-- The first point of a point's row of the grid. -/
def start (t : Fin cfg0.N) : Fin cfg0.N := ⟨t.val / 32 * 32, by have := t.isLt; omega⟩

/-- The block of weights after a point's own: what of it lies in the matrix, anything past its end. -/
def next (c : Dev nD) (t : Fin cfg0.N) : (cfg0.win 2).block.Idx → Elt F (cfg0.win 2).elt :=
  (cfg0.win 2).fill (cfg0.grid.coords t) (fun _ => Classical.choice inferInstance) (iblk m c 2 t)

/-- Of that block at least 48 rows lie in the matrix. -/
theorem next_size : ∀ t : Fin cfg0.N, 1 ≤ win0_2.xsize (cfg0.grid.coords t) (0 : Fin 3) ∧ 48 ≤ win0_2.xsize (cfg0.grid.coords t) (1 : Fin 3)
    ∧ 4096 ≤ win0_2.xsize (cfg0.grid.coords t) (2 : Fin 3) := by decide +kernel

/-- Every index of the rows the product takes of that block is in the matrix. -/
theorem next_moved (t : Fin cfg0.N) (j : (cfg0.win 2).block.Idx) (hj : (j (1 : Fin 3)).val < 48) : (cfg0.win 2).moved (cfg0.grid.coords t) j = true :=
  ((cfg0.win 2).moved_iff _ j).mpr fun a => by
    obtain ⟨e0, e1, e2⟩ := next_size t
    match a with
    | ⟨0, _⟩ => exact lt_of_lt_of_le (show (j (0 : Fin 3)).val < 1 from (j (0 : Fin 3)).isLt) e0
    | ⟨1, _⟩ => exact lt_of_lt_of_le hj e1
    | ⟨2, _⟩ => exact lt_of_lt_of_le (show (j (2 : Fin 3)).val < 4096 from (j (2 : Fin 3)).isLt) e2

/-- So what its buffer held before does not show in them. -/
theorem tail_fill (t : Fin cfg0.N) (d d' : (cfg0.win 2).block.Idx → Elt F (cfg0.win 2).elt) (g) :
    tail (F := F) ((cfg0.win 2).fill (cfg0.grid.coords t) d g) = tail ((cfg0.win 2).fill (cfg0.grid.coords t) d' g) := by
  funext y
  have hy : (y (1 : Fin 3)).val < 48 := (y (1 : Fin 3)).isLt
  have h := next_moved t ((Rect.unit (s := S1x64x4096) ![0, 0, 0] S1x48x4096.size inb_S1x64x4096_S1x48x4096_0_0_0).idx y)
    (show 0 + 1 * (y (1 : Fin 3)).val < 48 by omega)
  show (cfg0.win 2).fill _ d g _ = (cfg0.win 2).fill _ d' g _
  unfold Window.fill
  rw [dif_pos h, dif_pos h]

/-- What the body leaves in each window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => next m c t
    | ⟨3, _⟩ => iblk m c 3 t
    | ⟨4, _⟩ => k0_pay2 (bulk (X0_1 m c t)) (tail (next m c t)) (iblk m c 0 t)
    | ⟨5, _⟩ => k0_pay3 (iblk m c 0 (start t)) (gates (X0_1 m c (start t)))
    | ⟨6, _⟩ => k0_pay1 (iblk m c 3 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = X0_1 m c t := by dsimp only [dats]
theorem after2 (c : Dev nD) (t : Fin cfg0.N) : (dats m 0 c).after 2 t = next m c t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay2 (bulk (X0_1 m c t)) (tail (next m c t)) (iblk m c 0 t) := by dsimp only [dats]
theorem after5 (c : Dev nD) (t : Fin cfg0.N) : (dats m 0 c).after 5 t = k0_pay3 (iblk m c 0 (start t)) (gates (X0_1 m c (start t))) := by dsimp only [dats]
theorem after6 (c : Dev nD) (t : Fin cfg0.N) : (dats m 0 c).after 6 t = k0_pay1 (iblk m c 3 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = (cfg0.win 2).fill (cfg0.grid.coords t) d (iblk m c 2 t) := by
  unfold Dat.before
  rw [if_pos (fetch0_2 t)]
  unfold Dat.fetched Dat.blockOf iblk
  rw [A_eq]
theorem before3 (c : Dev nD) (t : Fin cfg0.N) (d) : (dats m 0 c).before 3 t d = iblk m c 3 t :=
  before0_3_of m (dats m 0 c) (A_eq m c 3) (after3 m c) t d

/-- The gate columns are computed at the first point of each row of the grid, -/
theorem cond_iff : ∀ t : Fin cfg0.N, k0_cond1 (grid0.coords t) = 1#1 ↔ t.val % 32 = 0 := by decide +kernel
theorem live5 : ∀ t : Fin cfg0.N, t.val % 32 = 0 → cfg0.idle 5 (cfg0.grid.coords t) = false := by decide +kernel
theorem idle5 : ∀ t : Fin cfg0.N, ¬t.val % 32 = 0 → cfg0.idle 5 (cfg0.grid.coords t) = true := by decide +kernel

/-- and the later points of the row find them. -/
theorem before5 (c : Dev nD) (n : Nat) : ∀ (t : Fin cfg0.N), t.val = n → ¬t.val % 32 = 0 → ∀ d, (dats m 0 c).before 5 t d = (dats m 0 c).after 5 t := by
  induction n with
  | zero => intro t ht h; exact absurd (by rw [ht]) h
  | succ n ih =>
    intro t ht h d
    have hlt : t.val - 1 < cfg0.N := Nat.lt_of_le_of_lt (Nat.sub_le _ _) t.isLt
    have hfl : ¬(cfg0.win 5).flush ⟨t.val - 1, hlt⟩ = true := fun hf => by
      have := (flush0_5 ⟨t.val - 1, hlt⟩).mp hf
      dsimp only at this
      omega
    have hst : (dats m 0 c).after 5 ⟨t.val - 1, hlt⟩ = (dats m 0 c).after 5 t := by
      rw [after5, after5, show start ⟨t.val - 1, hlt⟩ = start t from Fin.ext (show (t.val - 1) / 32 * 32 = t.val / 32 * 32 by omega)]
    rw [Dat.before_of_pos (dats m 0 c) 5 t (by omega) rfl d, if_neg hfl]
    unfold Dat.left
    by_cases h0 : (t.val - 1) % 32 = 0
    · rw [live5 ⟨t.val - 1, hlt⟩ h0]
      exact hst
    · rw [idle5 ⟨t.val - 1, hlt⟩ h0]
      exact (ih ⟨t.val - 1, hlt⟩ (show t.val - 1 = n by omega) h0 d).trans hst

/-- The body at a point, from what its buffers hold to what it leaves. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d)) ∗ (∃ d, owns (c : Thread nD τ) (st0_1 t) fullShare ((dats m 0 c).before 1 t d))
        ∗ (∃ d, owns (c : Thread nD τ) (st0_2 t) fullShare ((dats m 0 c).before 2 t d)) ∗ (∃ d, owns (c : Thread nD τ) (st0_3 t) fullShare ((dats m 0 c).before 3 t d))
        ∗ (∃ d, owns (c : Thread nD τ) (st0_4 t) fullShare ((dats m 0 c).before 4 t d)) ∗ (∃ d, owns (c : Thread nD τ) (st0_5 t) fullShare ((dats m 0 c).before 5 t d))
        ∗ (∃ d, owns (c : Thread nD τ) (st0_6 t) fullShare ((dats m 0 c).before 6 t d)))
      ⊢ wp frame (wpE (defs₀ (F := F)) Variants.none c none) Set.univ (bodyAt0 t) (fun _ =>
        iprop((dats m 0 c).Φ t.succ ∗ (dats m 0 c).owesAt () t.succ
          ∗ (dats m 0 c).leaves 0 t ∗ (dats m 0 c).leaves 1 t ∗ (dats m 0 c).leaves 2 t ∗ (dats m 0 c).leaves 3 t ∗ (dats m 0 c).leaves 4 t
          ∗ (dats m 0 c).leaves 5 t ∗ (dats m 0 c).leaves 6 t)) := by
  have e0 : (dats m 0 c).leaves 0 t = owns (c : Thread nD τ) (st0_0 t) fullShare ((dats m 0 c).after 0 t) := rfl
  have e1 : (dats m 0 c).leaves 1 t = iprop(∃ d, owns (c : Thread nD τ) (st0_1 t) fullShare ((cfg0.win 1).fill (cfg0.grid.coords t) d ((cfg0.win 1).cut (cfg0.grid.coords t) ((dats m 0 c).after 1 t)))) := rfl
  have e2 : (dats m 0 c).leaves 2 t = iprop(∃ d, owns (c : Thread nD τ) (st0_2 t) fullShare ((cfg0.win 2).fill (cfg0.grid.coords t) d ((cfg0.win 2).cut (cfg0.grid.coords t) ((dats m 0 c).after 2 t)))) := rfl
  have e3 : (dats m 0 c).leaves 3 t = owns (c : Thread nD τ) (st0_3 t) fullShare ((dats m 0 c).after 3 t) := rfl
  have e4 : (dats m 0 c).leaves 4 t = owns (c : Thread nD τ) (st0_4 t) fullShare ((dats m 0 c).after 4 t) := rfl
  have e6 : (dats m 0 c).leaves 6 t = owns (c : Thread nD τ) (st0_6 t) fullShare ((dats m 0 c).after 6 t) := rfl
  have g1 : ∀ d, (cfg0.win 1).fill (cfg0.grid.coords t) d ((cfg0.win 1).cut (cfg0.grid.coords t) (X0_1 m c t)) = X0_1 m c t := fun d => by
    unfold X0_1; rw [Window.cut_fill]; exact fill0_1 t _ _ _
  have g2 : ∀ d, (cfg0.win 2).fill (cfg0.grid.coords t) d ((cfg0.win 2).cut (cfg0.grid.coords t) (next m c t)) = (cfg0.win 2).fill (cfg0.grid.coords t) d (iblk m c 2 t) := fun d => by
    unfold next; rw [Window.cut_fill]
  rw [e0, e1, e2, e3, e4, e6, after0, after1, after2, after3, after4, after6]
  simp only [before0, before1, before2, before3, g1, g2]
  rw [show (dats m 0 c).owesAt () t.succ = (dats m 0 c).owesAt () t.castSucc from rfl, show (dats m 0 c).Φ t.succ = (dats m 0 c).Φ t.castSucc from rfl]
  unfold bodyAt0
  by_cases h : t.val % 32 = 0
  · have e5 : (dats m 0 c).leaves 5 t = owns (c : Thread nD τ) (st0_5 t) fullShare (k0_pay3 (iblk m c 0 t) (gates (X0_1 m c t))) := by
      unfold Dat.leaves
      rw [live5 t h, after5, show start t = t from Fin.ext (show t.val / 32 * 32 = t.val by omega)]
    rw [e5]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ (iblk m c 0 t) (X0_1 m c t) ((cfg0.win 2).fill (cfg0.grid.coords t) d2 (iblk m c 2 t)) (iblk m c 3 t) ((cond_iff t).mpr h) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexists d1; iexact H1
    isplitl [H2]; · iexists d2; iexact H2
    isplitl [H3]; · iexact H3
    isplitl [H4]
    · rw [show tail (next m c t) = tail ((cfg0.win 2).fill (cfg0.grid.coords t) d2 (iblk m c 2 t)) from tail_fill t _ d2 _]
      iexact H4
    isplitl [H5]; · iexact H5
    iexact H6
  · have e5 : (owns (c : Thread nD τ) (st0_5 t) fullShare ((dats m 0 c).after 5 t) : sProp 𝕄) ⊢ (dats m 0 c).leaves 5 t := by
      unfold Dat.leaves
      rw [idle5 t h]
      cases (cfg0.win 5).flush t
      · iintro H
        iexists (dats m 0 c).after 5 t
        rw [before5 m c t.val t rfl h]
        iexact H
      · exact .rfl
    simp only [before5 m c t.val t rfl h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_next c (grid0.coords t) _ _ _ _ _ _ _ _ _ _ _ _ _ _ (iblk m c 0 t) (X0_1 m c t) ((cfg0.win 2).fill (cfg0.grid.coords t) d2 (iblk m c 2 t)) (iblk m c 3 t) (fun hc => h ((cond_iff t).mp hc)) ((dats m 0 c).after 5 t) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexists d1; iexact H1
    isplitl [H2]; · iexists d2; iexact H2
    isplitl [H3]; · iexact H3
    isplitl [H4]
    · rw [show tail (next m c t) = tail ((cfg0.win 2).fill (cfg0.grid.coords t) d2 (iblk m c 2 t)) from tail_fill t _ d2 _]
      iexact H4
    isplitl [H5]; · iapply e5; iexact H5
    iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The call runs to the end; every array of a window is then what its points wrote, and no semaphore counts. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- The three result arrays are what the points wrote, the argument arrays as they were. -/
theorem run_blocks : θ_run defs (onTc (τ := τ) (main (F := F))) ⟨m, fun _ => 0, ρ⟩ fun r => ∀ c : Dev nD,
      r.2.mem ((c : Thread nD τ).loc main_v1_0) = (dats m 0 c).arrAt 4 cfg0.N
      ∧ r.2.mem ((c : Thread nD τ).loc main_v1_1) = (dats m 0 c).arrAt 5 cfg0.N
      ∧ r.2.mem ((c : Thread nD τ).loc main_v1_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1 c).1 4, (h.1 c).1 5, (h.1 c).1 6, h.2 c⟩)
    (θ_run_and (run_main m ρ) (frame_of m ρ (dats m) (A_eq m) (run_main m ρ)))

end Cert.ProjRestIdeal.Rest

end
-- ==== Proof.ProjRest.lean ====
/-
  THE REST OF THE INPUT PROJECTION'S COLUMNS. What each of the call's three results holds once all points have run: the product
  with the weights' columns from 5168 on (a block of 512 of them is 464 rows of one transposed block of weights and 48 of the
  next), the 128 columns from 5120 on, and layer 0 of the rider narrowed; and that the reference's three results are the same.
-/
module

public import proofs.«01_k».proof.Defs
public import proofs.«01_k».proof.Proof.Gen.ProjRest
public import proofs.«01_k».proof.Proof.Gen.ProjRestRefIdeal.Read
public import proofs.«01_k».proof.Proof.RestFrame
public import Idealize.ShloMosaic.Lib.ValueLayout
public import Idealize.ShloMosaic.Lib.Pipeline.Value
public import Idealize.ShloMosaic.Lib.MatmulPlain
public import Idealize.ShloMosaic.Lib.ValueIdx
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.ProjRestIdeal.Rest

open Cert.ProjRestIdeal Cert.ProjRestIdeal.Gen

/-- A row of `h` times a column of layer 0's weights. -/
def dot (h : Vec Ideal S8192x4096 .bf16) (w : Vec Ideal S2x4096x21552 .f32) (r : Fin 8192) (j : Fin 21552) : EReal :=
  ∑ k : Fin 4096, h (ix2 r k) * w (ix3 (0 : Fin 2) k j)

/-- The product with the columns from 5168 on. -/
def rest (h : Vec Ideal S8192x4096 .bf16) (w : Vec Ideal S2x4096x21552 .f32) : Vec Ideal S8192x16384 .bf16 := fun i =>
  dot h w (i 0) (⟨5168 + (i 1).val, by have : (i 1).val < 16384 := (i 1).isLt; omega⟩ : Fin 21552)

/-- The product with the 128 columns from 5120 on. -/
def gate (h : Vec Ideal S8192x4096 .bf16) (w : Vec Ideal S2x4096x21552 .f32) : Vec Ideal S8192x128 .f32 := fun i =>
  dot h w (i 0) (⟨5120 + (i 1).val, by have : (i 1).val < 128 := (i 1).isLt; omega⟩ : Fin 21552)

/-- Layer 0 of the rider. -/
def layer0 (u : Vec Ideal S2x4096x16384 .f32) : Vec Ideal S4096x16384 .bf16 := fun i => u (ix3 (0 : Fin 2) (i 0) (i 1))

/-- A block with a leading axis of one as a matrix. -/
theorem drop_apply {a b : Nat} (x : FVec Ideal ⟨3, ![1, a, b]⟩ .f32) (hs) (q : Fin a) (k : Fin b) :
    shapeCast (⟨2, ![a, b]⟩ : Shape) x hs (ix2 q k) = x (ix3 (0 : Fin 1) q k) :=
  shapeCast_apply x hs (ix2 q k) (ix3 (0 : Fin 1) q k)
    (by rw [Shape.rowMajor_val_three, Shape.rowMajor_val_two]; show (0 * a + q.val) * b + k.val = q.val * b + k.val; rw [Nat.zero_mul, Nat.zero_add])

/-- One entry of a point's block of the product, its weight row found above the seam or below it. -/
theorem pay2_apply (u : FVec Ideal S1x464x4096 .f32) (v : FVec Ideal S1x48x4096 .f32) (x : FVec Ideal S1024x4096 .bf16) (r : Fin 1024) (q : Fin 512)
    (f : Fin 4096 → EReal) (hu : ∀ (hq : q.val < 464) (k : Fin 4096), u (ix3 (0 : Fin 1) ⟨q.val, hq⟩ k) = f k)
    (hv : ∀ (hq : ¬q.val < 464) (k : Fin 4096), v (ix3 (0 : Fin 1) ⟨q.val - 464, by omega⟩ k) = f k) :
    k0_pay2 (F := Ideal) u v x (ix2 r q) = ∑ k : Fin 4096, x (ix2 r k) * f k := by
  have e := Ideal.matmul_transposedRhs_apply (φ₁ := .bf16) (φ₂ := .bf16) none x
    (concatenate S512x4096 0 [⟨S464x4096, truncf (F := Ideal) .bf16 (shapeCast S464x4096 u shapeCasts_S1x464x4096_S464x4096) bitsLt_bf16_f32⟩,
      ⟨S48x4096, truncf (F := Ideal) .bf16 (shapeCast S48x4096 v shapeCasts_S1x48x4096_S48x4096) bitsLt_bf16_f32⟩] concatenates_S464x4096_S48x4096_S512x4096_d0)
    (constant (F := Ideal) S1024x512 .f32 0x00000000#32) r q
  rw [constant_apply, Ideal.ofBits_zero_f32, zero_add] at e
  refine Eq.trans (show _ = _ from e) (Finset.sum_congr rfl fun k _ => congrArg₂ (· * ·) rfl ?_)
  by_cases hq : q.val < 464
  · refine (concatenate_pair_apply_left (t := S512x4096) 0 _ _ concatenates_S464x4096_S48x4096_S512x4096_d0 (ix2 q k) rfl (ix2 (⟨q.val, hq⟩ : Fin 464) k) fun a => ?_).trans ?_
    · match a with
      | ⟨0, _⟩ => rfl
      | ⟨1, _⟩ => rfl
    · exact (drop_apply u shapeCasts_S1x464x4096_S464x4096 ⟨q.val, hq⟩ k).trans (hu hq k)
  · refine (concatenate_pair_apply_right (t := S512x4096) 0 _ _ concatenates_S464x4096_S48x4096_S512x4096_d0 (ix2 q k) rfl rfl (ix2 (⟨q.val - 464, by omega⟩ : Fin 48) k) (fun a ha => ?_) ?_).trans ?_
    · match a with
      | ⟨0, _⟩ => exact absurd rfl ha
      | ⟨1, _⟩ => rfl
    · show q.val - 464 + 464 = q.val; omega
    · exact (drop_apply v shapeCasts_S1x48x4096_S48x4096 ⟨q.val - 464, by omega⟩ k).trans (hv hq k)

/-- One entry of the gate columns' block. -/
theorem pay3_apply (x : FVec Ideal S1024x4096 .bf16) (u : FVec Ideal S1x128x4096 .f32) (r : Fin 1024) (q : Fin 128) :
    k0_pay3 (F := Ideal) x u (ix2 r q) = ∑ k : Fin 4096, x (ix2 r k) * u (ix3 (0 : Fin 1) q k) := by
  have e := Ideal.matmul_transposedRhs_apply (φ₁ := .bf16) (φ₂ := .bf16) none x
    (truncf (F := Ideal) .bf16 (shapeCast S128x4096 u shapeCasts_S1x128x4096_S128x4096) bitsLt_bf16_f32) (constant (F := Ideal) S1024x128 .f32 0x00000000#32) r q
  rw [constant_apply, Ideal.ofBits_zero_f32, zero_add] at e
  exact Eq.trans (show _ = _ from e) (Finset.sum_congr rfl fun k _ => congrArg₂ (· * ·) rfl (drop_apply u shapeCasts_S1x128x4096_S128x4096 q k))

variable (m : (ℓ : Loc nD τ sig) → Buf (Elt Ideal) ℓ)

/-- The call finds the weights transposed. -/
theorem weights_eq (c : Dev nD) : V m c main_v0 = transpose S2x21552x4096 [0, 2, 1] (m ((c : Thread nD τ).loc main_arg1)) transposes_S2x4096x21552_S2x21552x4096_0_2_1 := by
  unfold V
  after_results <;> rfl

/-- The block indices of the windows at a grid point. -/
theorem index_facts : ∀ t : Fin cfg0.N,
    (win0_0.index t (0 : Fin 2) = t.val / 32 ∧ win0_0.index t (1 : Fin 2) = 0)
    ∧ (win0_1.index t (0 : Fin 3) = 0 ∧ win0_1.index t (1 : Fin 3) = 10 + t.val % 32 ∧ win0_1.index t (2 : Fin 3) = 0)
    ∧ (win0_2.index t (0 : Fin 3) = 0 ∧ win0_2.index t (1 : Fin 3) = (11 + t.val % 32) * 8 ∧ win0_2.index t (2 : Fin 3) = 0)
    ∧ (win0_3.index t (0 : Fin 3) = 0 ∧ win0_3.index t (1 : Fin 3) = t.val ∧ win0_3.index t (2 : Fin 3) = 0) :=
  (by decide +kernel : ∀ t : Fin grid0.N, _)

theorem out_facts : ∀ t : Fin cfg0.N,
    (win0_4.index t (0 : Fin 2) = t.val / 32 ∧ win0_4.index t (1 : Fin 2) = t.val % 32)
    ∧ (win0_5.index t (0 : Fin 2) = t.val / 32 ∧ win0_5.index t (1 : Fin 2) = 0)
    ∧ (win0_6.index t (0 : Fin 2) = t.val ∧ win0_6.index t (1 : Fin 2) = 0) :=
  (by decide +kernel : ∀ t : Fin grid0.N, _)

/-- An entry of the block of `h` at a point. -/
theorem rows_apply (c : Dev nD) (t : Fin cfg0.N) (p : Fin 1024) (k : Fin 4096) :
    (iblk m c 0 t : Vec Ideal S1024x4096 .bf16) (ix2 p k)
      = m ((c : Thread nD τ).loc main_arg0) (ix2 (⟨1024 * (t.val / 32) + p.val, by have := lt_N t; omega⟩ : Fin 8192) k) := by
  obtain ⟨⟨a0, a1⟩, -⟩ := index_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * p.val = 1024 * (t.val / 32) + p.val; rw [a0]; omega
  | ⟨1, _⟩ => show win0_0.index t 1 * 4096 + 1 * k.val = k.val; rw [a1]; omega

/-- An entry of the block of weights at a point. -/
theorem block_apply (c : Dev nD) (t : Fin cfg0.N) (s : Fin 512) (k : Fin 4096) :
    (X0_1 m c t : Vec Ideal S1x512x4096 .f32) (ix3 (0 : Fin 1) s k)
      = m ((c : Thread nD τ).loc main_arg1) (ix3 (0 : Fin 2) k (⟨(10 + t.val % 32) * 512 + s.val, by omega⟩ : Fin 21552)) := by
  obtain ⟨-, ⟨b0, b1, b2⟩, -⟩ := index_facts t
  unfold X0_1 Pipeline.Window.fill
  rw [dif_pos (moved0_1 t _)]
  unfold iblk
  rw [View.read_apply]
  have hemb : ∀ y : ((cfg0.win 1).xblock (cfg0.grid.coords t)).Idx, (∀ a, (y a).val = ((ix3 (0 : Fin 1) s k : S1x512x4096.Idx) a).val) →
      ((cfg0.win 1).blk t).view.emb y = ix3 (0 : Fin 2) (⟨(10 + t.val % 32) * 512 + s.val, by omega⟩ : Fin 21552) k := fun y hy => funext fun a => Fin.ext (by
    match a with
    | ⟨0, _⟩ => exact (show win0_1.index t 0 * 1 + 1 * (y 0).val = 0 by rw [b0, hy 0]; rfl)
    | ⟨1, _⟩ => exact (show win0_1.index t 1 * 512 + 1 * (y 1).val = _ by rw [b1, hy 1, Nat.one_mul]; rfl)
    | ⟨2, _⟩ => exact (show win0_1.index t 2 * 4096 + 1 * (y 2).val = k.val by rw [b2, hy 2]; show 0 * 4096 + 1 * k.val = k.val; omega))
  show V m c main_v0 (((cfg0.win 1).blk t).view.emb _) = _
  rw [hemb _ fun a => rfl, weights_eq]
  exact transpose_ix3_021_apply _ _ _ _ _

/-- An entry of the first 48 rows of the block of weights after it. -/
theorem next_apply (c : Dev nD) (t : Fin cfg0.N) (s : Fin 64) (hs : s.val < 48) (k : Fin 4096) :
    (next m c t : Vec Ideal S1x64x4096 .f32) (ix3 (0 : Fin 1) s k)
      = m ((c : Thread nD τ).loc main_arg1) (ix3 (0 : Fin 2) k (⟨(11 + t.val % 32) * 512 + s.val, by omega⟩ : Fin 21552)) := by
  obtain ⟨-, -, ⟨b0, b1, b2⟩, -⟩ := index_facts t
  unfold next Pipeline.Window.fill
  rw [dif_pos (next_moved t _ hs)]
  unfold iblk
  rw [View.read_apply]
  have hemb : ∀ y : ((cfg0.win 2).xblock (cfg0.grid.coords t)).Idx, (∀ a, (y a).val = ((ix3 (0 : Fin 1) s k : S1x64x4096.Idx) a).val) →
      ((cfg0.win 2).blk t).view.emb y = ix3 (0 : Fin 2) (⟨(11 + t.val % 32) * 512 + s.val, by omega⟩ : Fin 21552) k := fun y hy => funext fun a => Fin.ext (by
    match a with
    | ⟨0, _⟩ => exact (show win0_2.index t 0 * 1 + 1 * (y 0).val = 0 by rw [b0, hy 0]; rfl)
    | ⟨1, _⟩ => exact (show win0_2.index t 1 * 64 + 1 * (y 1).val = _ by rw [b1, hy 1]; show (11 + t.val % 32) * 8 * 64 + 1 * s.val = (11 + t.val % 32) * 512 + s.val; omega)
    | ⟨2, _⟩ => exact (show win0_2.index t 2 * 4096 + 1 * (y 2).val = k.val by rw [b2, hy 2]; show 0 * 4096 + 1 * k.val = k.val; omega))
  show V m c main_v0 (((cfg0.win 2).blk t).view.emb _) = _
  rw [hemb _ fun a => rfl, weights_eq]
  exact transpose_ix3_021_apply _ _ _ _ _

/-- Each point writes back its block of the product. -/
theorem flushed4_eq (c : Dev nD) (t : Fin cfg0.N) : (dats m 0 c).flushed 4 t = ((cfg0.win 4).blk t).view.read (Elt Ideal)
    (rest (m ((c : Thread nD τ).loc main_arg0)) (m ((c : Thread nD τ).loc main_arg1))) := by
  have hN := lt_N t
  show (dats m 0 c).after 4 t = _
  rw [after4]
  funext y
  obtain ⟨p, q, rfl⟩ : ∃ (p : Fin 1024) (q : Fin 512), y = ix2 p q := ⟨y 0, y 1, eq_ix2 y⟩
  show _ = rest _ _ (((cfg0.win 4).blk t).view.emb (ix2 p q))
  obtain ⟨⟨f0, f1⟩, -⟩ := out_facts t
  have hemb : ((cfg0.win 4).blk t).view.emb (ix2 p q)
      = ix2 (⟨1024 * (t.val / 32) + p.val, by omega⟩ : Fin 8192) (⟨512 * (t.val % 32) + q.val, by omega⟩ : Fin 16384) := funext fun a => Fin.ext (by
    match a with
    | ⟨0, _⟩ => show win0_4.index t 0 * 1024 + 1 * p.val = _; rw [f0]; show _ = 1024 * (t.val / 32) + p.val; omega
    | ⟨1, _⟩ => show win0_4.index t 1 * 512 + 1 * q.val = _; rw [f1]; show _ = 512 * (t.val % 32) + q.val; omega)
  rw [hemb]
  refine (pay2_apply (bulk (X0_1 m c t)) (tail (next m c t)) (iblk m c 0 t) p q
    (fun k => m ((c : Thread nD τ).loc main_arg1) (ix3 (0 : Fin 2) k (⟨5168 + (512 * (t.val % 32) + q.val), by omega⟩ : Fin 21552))) (fun hq k => ?_) fun hq k => ?_).trans ?_
  · refine Eq.trans (congrArg (X0_1 m c t : Vec Ideal S1x512x4096 .f32) (funext fun a => Fin.ext ?_)) ((block_apply m c t ⟨48 + q.val, by omega⟩ k).trans ?_)
    · match a with
      | ⟨0, _⟩ => rfl
      | ⟨1, _⟩ => show 48 + 1 * q.val = 48 + q.val; omega
      | ⟨2, _⟩ => show 0 + 1 * k.val = k.val; omega
    · exact congrArg (fun j => m ((c : Thread nD τ).loc main_arg1) (ix3 (0 : Fin 2) k j)) (Fin.ext (by show (10 + t.val % 32) * 512 + (48 + q.val) = 5168 + (512 * (t.val % 32) + q.val); omega))
  · refine Eq.trans (congrArg (next m c t : Vec Ideal S1x64x4096 .f32) (funext fun a => Fin.ext ?_)) ((next_apply m c t ⟨q.val - 464, by omega⟩ (by show q.val - 464 < 48; omega) k).trans ?_)
    · match a with
      | ⟨0, _⟩ => rfl
      | ⟨1, _⟩ => show 0 + 1 * (q.val - 464) = q.val - 464; omega
      | ⟨2, _⟩ => show 0 + 1 * k.val = k.val; omega
    · exact congrArg (fun j => m ((c : Thread nD τ).loc main_arg1) (ix3 (0 : Fin 2) k j)) (Fin.ext (by show (11 + t.val % 32) * 512 + (q.val - 464) = 5168 + (512 * (t.val % 32) + q.val); omega))
  · unfold rest dot
    refine Finset.sum_congr rfl fun k _ => ?_
    rw [rows_apply m c t p k]

/-- Each row's last point writes back the row's block of gate columns, computed at its first. -/
theorem flushed5_eq (c : Dev nD) (t : Fin cfg0.N) : (dats m 0 c).flushed 5 t = ((cfg0.win 5).blk t).view.read (Elt Ideal)
    (gate (m ((c : Thread nD τ).loc main_arg0)) (m ((c : Thread nD τ).loc main_arg1))) := by
  have hN := lt_N t
  show (dats m 0 c).after 5 t = _
  rw [after5]
  funext y
  obtain ⟨p, q, rfl⟩ : ∃ (p : Fin 1024) (q : Fin 128), y = ix2 p q := ⟨y 0, y 1, eq_ix2 y⟩
  show _ = gate _ _ (((cfg0.win 5).blk t).view.emb (ix2 p q))
  obtain ⟨-, ⟨f0, f1⟩, -⟩ := out_facts t
  have hemb : ((cfg0.win 5).blk t).view.emb (ix2 p q) = ix2 (⟨1024 * (t.val / 32) + p.val, by omega⟩ : Fin 8192) q := funext fun a => Fin.ext (by
    match a with
    | ⟨0, _⟩ => show win0_5.index t 0 * 1024 + 1 * p.val = _; rw [f0]; show _ = 1024 * (t.val / 32) + p.val; omega
    | ⟨1, _⟩ => show win0_5.index t 1 * 128 + 1 * q.val = q.val; rw [f1]; omega)
  rw [hemb]
  have hs : (start t).val = t.val / 32 * 32 := rfl
  refine (pay3_apply (iblk m c 0 (start t)) (gates (X0_1 m c (start t))) p q).trans ?_
  unfold gate dot
  refine Finset.sum_congr rfl fun k _ => congrArg₂ (· * ·) ?_ ?_
  · exact (rows_apply m c (start t) p k).trans (congrArg (fun r => m ((c : Thread nD τ).loc main_arg0) (ix2 r k))
      (Fin.ext (by show 1024 * ((start t).val / 32) + p.val = 1024 * (t.val / 32) + p.val; omega)))
  · refine Eq.trans (congrArg (X0_1 m c (start t) : Vec Ideal S1x512x4096 .f32) (funext fun a => Fin.ext ?_)) ((block_apply m c (start t) ⟨q.val, by omega⟩ k).trans ?_)
    · match a with
      | ⟨0, _⟩ => rfl
      | ⟨1, _⟩ => show 0 + 1 * q.val = q.val; omega
      | ⟨2, _⟩ => show 0 + 1 * k.val = k.val; omega
    · exact congrArg (fun j => m ((c : Thread nD τ).loc main_arg1) (ix3 (0 : Fin 2) k j)) (Fin.ext (by show (10 + (start t).val % 32) * 512 + q.val = 5120 + q.val; omega))

/-- Each point writes back its 16 rows of the rider. -/
theorem flushed6_eq (c : Dev nD) (t : Fin cfg0.N) : (dats m 0 c).flushed 6 t = ((cfg0.win 6).blk t).view.read (Elt Ideal)
    (layer0 (m ((c : Thread nD τ).loc main_arg2))) := by
  have hN := lt_N t
  show (dats m 0 c).after 6 t = _
  rw [after6]
  funext y
  obtain ⟨p, q, rfl⟩ : ∃ (p : Fin 16) (q : Fin 16384), y = ix2 p q := ⟨y 0, y 1, eq_ix2 y⟩
  show _ = layer0 _ (((cfg0.win 6).blk t).view.emb (ix2 p q))
  refine (drop_apply (iblk m c 3 t) shapeCasts_S1x16x16384_S16x16384 p q).trans ?_
  obtain ⟨-, -, -, ⟨b0, b1, b2⟩⟩ := index_facts t
  obtain ⟨-, -, ⟨f0, f1⟩⟩ := out_facts t
  unfold iblk layer0
  rw [View.read_apply]
  show V m c main_arg2 _ = _
  rw [V_main_arg2]
  refine congrArg (m ((c : Thread nD τ).loc main_arg2)) (funext fun a => Fin.ext ?_)
  match a with
  | ⟨0, _⟩ => show win0_3.index t 0 * 1 + 1 * 0 = 0; rw [b0]
  | ⟨1, _⟩ => show win0_3.index t 1 * 16 + 1 * p.val = win0_6.index t 0 * 16 + 1 * p.val; rw [b1, f0]
  | ⟨2, _⟩ => show win0_3.index t 2 * 16384 + 1 * q.val = win0_6.index t 1 * 16384 + 1 * q.val; rw [b2, f1]

theorem final4_eq (c : Dev nD) : (dats m 0 c).arrAt 4 cfg0.N = rest (m ((c : Thread nD τ).loc main_arg0)) (m ((c : Thread nD τ).loc main_arg1)) :=
  (dats m 0 c).arrAt_eq_of_cover 4 _ (fun t _ => flushed4_eq m c t) fun i => by
    have h0 : (i 0).val < 8192 := (i 0).isLt
    have h1 : (i 1).val < 16384 := (i 1).isLt
    let t : Fin cfg0.N := ⟨32 * ((i 0).val / 1024) + (i 1).val / 512, lt_of_lt_of_eq (by omega) N_0.symm⟩
    have ht : t.val = 32 * ((i 0).val / 1024) + (i 1).val / 512 := rfl
    obtain ⟨⟨f0, f1⟩, -⟩ := out_facts t
    refine ⟨t, flush0_4 t, ?_⟩
    show i ∈ ((View.whole main_v1_0).slice (win0_4.rect t)).set
    rw [View.set_slice_whole, Rect.mem_set_unit]
    intro a
    match a with
    | ⟨0, _⟩ => show win0_4.index t 0 * 1024 ≤ (i 0).val ∧ (i 0).val < win0_4.index t 0 * 1024 + 1024; rw [f0]; omega
    | ⟨1, _⟩ => show win0_4.index t 1 * 512 ≤ (i 1).val ∧ (i 1).val < win0_4.index t 1 * 512 + 512; rw [f1]; omega

theorem final5_eq (c : Dev nD) : (dats m 0 c).arrAt 5 cfg0.N = gate (m ((c : Thread nD τ).loc main_arg0)) (m ((c : Thread nD τ).loc main_arg1)) :=
  (dats m 0 c).arrAt_eq_of_cover 5 _ (fun t _ => flushed5_eq m c t) fun i => by
    have h0 : (i 0).val < 8192 := (i 0).isLt
    have h1 : (i 1).val < 128 := (i 1).isLt
    let t : Fin cfg0.N := ⟨32 * ((i 0).val / 1024) + 31, lt_of_lt_of_eq (by omega) N_0.symm⟩
    have ht : t.val = 32 * ((i 0).val / 1024) + 31 := rfl
    obtain ⟨-, ⟨f0, f1⟩, -⟩ := out_facts t
    refine ⟨t, (flush0_5 t).mpr (by omega), ?_⟩
    show i ∈ ((View.whole main_v1_1).slice (win0_5.rect t)).set
    rw [View.set_slice_whole, Rect.mem_set_unit]
    intro a
    match a with
    | ⟨0, _⟩ => show win0_5.index t 0 * 1024 ≤ (i 0).val ∧ (i 0).val < win0_5.index t 0 * 1024 + 1024; rw [f0]; omega
    | ⟨1, _⟩ => show win0_5.index t 1 * 128 ≤ (i 1).val ∧ (i 1).val < win0_5.index t 1 * 128 + 128; rw [f1]; omega

theorem final6_eq (c : Dev nD) : (dats m 0 c).arrAt 6 cfg0.N = layer0 (m ((c : Thread nD τ).loc main_arg2)) :=
  (dats m 0 c).arrAt_eq_of_cover 6 _ (fun t _ => flushed6_eq m c t) fun i => by
    have h0 : (i 0).val < 4096 := (i 0).isLt
    have h1 : (i 1).val < 16384 := (i 1).isLt
    let t : Fin cfg0.N := ⟨(i 0).val / 16, lt_of_lt_of_eq (by omega) N_0.symm⟩
    have ht : t.val = (i 0).val / 16 := rfl
    obtain ⟨-, -, ⟨f0, f1⟩⟩ := out_facts t
    refine ⟨t, flush0_6 t, ?_⟩
    show i ∈ ((View.whole main_v1_2).slice (win0_6.rect t)).set
    rw [View.set_slice_whole, Rect.mem_set_unit]
    intro a
    match a with
    | ⟨0, _⟩ => show win0_6.index t 0 * 16 ≤ (i 0).val ∧ (i 0).val < win0_6.index t 0 * 16 + 16; rw [f0]; omega
    | ⟨1, _⟩ => show win0_6.index t 1 * 16384 ≤ (i 1).val ∧ (i 1).val < win0_6.index t 1 * 16384 + 16384; rw [f1]; omega

end Cert.ProjRestIdeal.Rest

namespace Cert.ProjRestRefIdeal.Rest

open Cert.ProjRestRefIdeal Cert.ProjRestRefIdeal.Gen Cert.ProjRestRefIdeal.Read

/-- An entry of the reference's product with the whole weight matrix. -/
theorem whole_apply (h : Vec Ideal S8192x4096 .bf16) (w : Vec Ideal S2x4096x21552 .f32) (r : Fin 8192) (j : Fin 21552) :
    val_main_v3 (F := Ideal) h w (ix2 r j) = Cert.ProjRestIdeal.Rest.dot h w r j := by
  rw [val_main_v3_apply]
  refine Finset.sum_congr rfl fun k _ => ?_
  rw [val_main_v0_apply, val_main_v2_apply, val_main_v1_apply, Ideal.extf_def]
  refine congrArg₂ (· * ·) (congrArg h (eq_ix2 _)) (congrArg w (funext fun a => Fin.ext ?_))
  match a with
  | ⟨0, _⟩ => rfl
  | ⟨1, _⟩ => show (k.val * 21552 + j.val) / 21552 % 4096 = k.val; omega
  | ⟨2, _⟩ => show (k.val * 21552 + j.val) % 21552 = j.val; omega

theorem rest_eq (h : Vec Ideal S8192x4096 .bf16) (w : Vec Ideal S2x4096x21552 .f32) :
    val_main_v5 (F := Ideal) h w = Cert.ProjRestIdeal.Rest.rest h w := by
  funext i
  rw [val_main_v5_apply, Ideal.truncf_def, val_main_v4_apply]
  exact (congrArg (val_main_v3 (F := Ideal) h w) (eq_ix2 _)).trans (whole_apply h w _ _)

theorem gate_eq (h : Vec Ideal S8192x4096 .bf16) (w : Vec Ideal S2x4096x21552 .f32) :
    val_main_v6 (F := Ideal) h w = Cert.ProjRestIdeal.Rest.gate h w := by
  funext i
  rw [val_main_v6_apply]
  exact (congrArg (val_main_v3 (F := Ideal) h w) (eq_ix2 _)).trans (whole_apply h w _ _)

theorem layer0_eq (u : Vec Ideal S2x4096x16384 .f32) : val_main_v9 (F := Ideal) u = Cert.ProjRestIdeal.Rest.layer0 u := by
  funext i
  have h0 : (i 0).val < 4096 := (i 0).isLt
  have h1 : (i 1).val < 16384 := (i 1).isLt
  rw [val_main_v9_apply, val_main_v8_apply, val_main_v7_apply, Ideal.truncf_def]
  unfold Cert.ProjRestIdeal.Rest.layer0
  refine congrArg u (funext fun a => Fin.ext ?_)
  match a with
  | ⟨0, _⟩ => rfl
  | ⟨1, _⟩ => show ((i 0).val * 16384 + (i 1).val) / 16384 % 4096 = (i 0).val; omega
  | ⟨2, _⟩ => show ((i 0).val * 16384 + (i 1).val) % 16384 = (i 1).val; omega

end Cert.ProjRestRefIdeal.Rest

namespace Cert.Proof.ProjRestClaims

/-- The kernel's program and its idealization are one program: nothing was rewritten. So what is proved of the second at any
    floats is proved of the first at the bit patterns. -/
theorem one_program :
    (∀ (m : (ℓ : Loc Cert.ProjRest.nD Cert.ProjRest.τ Cert.ProjRest.sig) → Buf (Elt Bits) ℓ) (ρ : Dev Cert.ProjRest.nD → PrngReg),
      θ_run (Cert.ProjRest.defs (F := Bits)) (onTc (τ := Cert.ProjRest.τ) (Cert.ProjRest.main (F := Bits))) ⟨m, fun _ => 0, ρ⟩ (fun r => (∀ c : Dev Cert.ProjRest.nD,
        r.2.mem ((c.tc : Thread Cert.ProjRest.nD Cert.ProjRest.τ).loc Cert.ProjRest.main_arg0) = m ((c.tc : Thread Cert.ProjRest.nD Cert.ProjRest.τ).loc Cert.ProjRest.main_arg0)
        ∧ r.2.mem ((c.tc : Thread Cert.ProjRest.nD Cert.ProjRest.τ).loc Cert.ProjRest.main_arg1) = m ((c.tc : Thread Cert.ProjRest.nD Cert.ProjRest.τ).loc Cert.ProjRest.main_arg1)
        ∧ r.2.mem ((c.tc : Thread Cert.ProjRest.nD Cert.ProjRest.τ).loc Cert.ProjRest.main_arg2) = m ((c.tc : Thread Cert.ProjRest.nD Cert.ProjRest.τ).loc Cert.ProjRest.main_arg2))
        ∧ r.2.sem = fun _ => 0))
    = (∀ (m : (ℓ : Loc Cert.ProjRestIdeal.nD Cert.ProjRestIdeal.τ Cert.ProjRestIdeal.sig) → Buf (Elt Bits) ℓ) (ρ : Dev Cert.ProjRestIdeal.nD → PrngReg),
      θ_run (Cert.ProjRestIdeal.defs (F := Bits)) (onTc (τ := Cert.ProjRestIdeal.τ) (Cert.ProjRestIdeal.main (F := Bits))) ⟨m, fun _ => 0, ρ⟩ (fun r => (∀ c : Dev Cert.ProjRestIdeal.nD,
        r.2.mem ((c.tc : Thread Cert.ProjRestIdeal.nD Cert.ProjRestIdeal.τ).loc Cert.ProjRestIdeal.main_arg0) = m ((c.tc : Thread Cert.ProjRestIdeal.nD Cert.ProjRestIdeal.τ).loc Cert.ProjRestIdeal.main_arg0)
        ∧ r.2.mem ((c.tc : Thread Cert.ProjRestIdeal.nD Cert.ProjRestIdeal.τ).loc Cert.ProjRestIdeal.main_arg1) = m ((c.tc : Thread Cert.ProjRestIdeal.nD Cert.ProjRestIdeal.τ).loc Cert.ProjRestIdeal.main_arg1)
        ∧ r.2.mem ((c.tc : Thread Cert.ProjRestIdeal.nD Cert.ProjRestIdeal.τ).loc Cert.ProjRestIdeal.main_arg2) = m ((c.tc : Thread Cert.ProjRestIdeal.nD Cert.ProjRestIdeal.τ).loc Cert.ProjRestIdeal.main_arg2))
        ∧ r.2.sem = fun _ => 0)) := by
  sl_kernel_rfl

theorem frame_p : Cert.quiescent_ProjRest := fun m ρ _ => one_program.mpr (fun m ρ => Cert.ProjRestIdeal.Rest.frame (F := Bits) m ρ) m ρ
theorem frame_pi : Cert.quiescent_ProjRestIdeal := fun m ρ _ => Cert.ProjRestIdeal.Rest.frame m ρ
theorem frame_ri : Cert.quiescent_ProjRestRefIdeal := fun m ρ _ =>
  (θ_run Cert.ProjRestRefIdeal.defs _ _).mono (fun r h => ⟨fun c => (h c).2.2.2,
      Idealize.ShloMosaic.sem_eq_zero_of_no_sems (by decide) r.2⟩)
    (Cert.ProjRestRefIdeal.Value.run (F := Ideal) m ρ)

theorem preserves : Cert.preserves_ProjRest_ProjRestIdeal := trivial

theorem algebraic : Cert.algebraic_ProjRestIdeal_ProjRestRefIdeal := by
  intro m ρ m' ρ' _ hagree
  refine ⟨_, _, _, (θ_run Cert.ProjRestIdeal.defs _ _).mono (fun r h c => ⟨(h c).1.trans (Cert.ProjRestIdeal.Rest.final4_eq m c),
    (h c).2.1.trans (Cert.ProjRestIdeal.Rest.final5_eq m c), (h c).2.2.1.trans (Cert.ProjRestIdeal.Rest.final6_eq m c), (h c).2.2.2⟩)
    (Cert.ProjRestIdeal.Rest.run_blocks (F := Ideal) m ρ), ?_⟩
  refine (θ_run Cert.ProjRestRefIdeal.defs _ _).mono (fun _ h c => ⟨(h c).1.trans ?_, (h c).2.1.trans ?_, (h c).2.2.1.trans ?_, (h c).2.2.2⟩)
    (Cert.ProjRestRefIdeal.Value.run (F := Ideal) m' ρ')
  · rw [(hagree c).1, (hagree c).2.1]
    exact Cert.ProjRestRefIdeal.Rest.rest_eq _ _
  · rw [(hagree c).1, (hagree c).2.1]
    exact Cert.ProjRestRefIdeal.Rest.gate_eq _ _
  · rw [(hagree c).2.2]
    exact Cert.ProjRestRefIdeal.Rest.layer0_eq _

end Cert.Proof.ProjRestClaims

end
-- ==== Proof.RopeTurn.lean ====
/-
  THE ROTARY EMBEDDING, one block of 512 rows. A head has 128 lanes; the first sixteen and the next sixteen are the two
  coordinates of sixteen points of the plane, which are turned by an angle, and the other 96 lanes stay. The block is turned
  head by head, by two rotations along the lanes and three rows of coefficients, and each head is stored into its columns.
  Here: what a turned head holds, and what a whole block of each of the six results holds.
-/
module

public import proofs.«01_k».proof.Proof.Gen.RopeIdeal.Value
public import Idealize.ShloMosaic.Lib.KernelVsHost
public import Idealize.ShloMosaic.Lib.WordCmp
public import Idealize.ShloMosaic.Lib.IdealHost
public import Idealize.ShloMosaic.Lib.ValueLayout
public import Idealize.ShloMosaic.Lib.Tactic

@[expose] public section

set_option maxRecDepth 16384

noncomputable section

open Idealize.ShloMosaic Idealize.ShloMosaic.TcCoe Idealize.SL.Sem
open Idealize.ShloMosaic.ValueIdx
open Idealize.ShloMosaic.WordCmp (cmpi_slt_ofNat_eq_one_iff cmpi_slt_ofNat cmpi_sge_ofNat)

namespace Cert.RopeIdeal.Heads

open Cert.RopeIdeal Cert.RopeIdeal.Gen Cert.RopeIdeal.Value

/-- One lane of a turned head: `x` the head's lanes, `a` the lanes' angles. -/
def lane (x a : Fin 128 → EReal) (q : Fin 128) : EReal :=
  if h : q.val < 16 then x q * Ideal.cos (a q) - x ⟨q.val + 16, by omega⟩ * Ideal.sin (a q)
  else if q.val < 32 then x q * Ideal.cos (a q) + x ⟨q.val - 16, by omega⟩ * Ideal.sin (a q)
  else x q

/-- A row's angle at a lane: the row's position times the lane's frequency. -/
def angle (x1 : Vec Ideal S512x1 .i32) (x2 : Vec Ideal S1x128 .f32) (p : Fin 512) (q : Fin 128) : EReal :=
  (((x1 (ix2 p (0 : Fin 1))).toInt : ℝ) : EReal) * x2 (ix2 (0 : Fin 1) q)

variable (x1 : Vec Ideal S512x1 .i32) (x2 : Vec Ideal S1x128 .f32)

theorem angles_apply (p : Fin 512) (q : Fin 128) : k0_pay2 (F := Ideal) x1 x2 (ix2 p q) = angle x1 x2 p q := by
  unfold k0_pay2 angle
  refine congrArg₂ (· * ·) ?_ ?_
  · refine (broadcastTo_apply _ broadcasts_S512x1_S512x128 (ix2 p q) (ix2 p (0 : Fin 1)) (fun a => by
      match a with
      | ⟨0, _⟩ => rfl
      | ⟨1, _⟩ => rfl)).trans ?_
    exact congrArg (fun b : BitVec 32 => ((b.toInt : ℝ) : EReal)) (shapeCast_apply x1 shapeCasts_S512x1_S512x1 (ix2 p (0 : Fin 1)) (ix2 p (0 : Fin 1)) rfl)
  · refine (broadcastTo_apply _ broadcasts_S1x128_S512x128 (ix2 p q) (ix2 (0 : Fin 1) q) (fun a => by
      match a with
      | ⟨0, _⟩ => rfl
      | ⟨1, _⟩ => rfl)).trans ?_
    exact shapeCast_apply x2 shapeCasts_S1x128_S1x128 (ix2 (0 : Fin 1) q) (ix2 (0 : Fin 1) q) rfl

/-- A choice by "is this lane before `n`". -/
theorem pick_lt {α : Type} (q : Fin 128) (n : Nat) (hn : n < 2 ^ 31) (a b : α) :
    Scalar.select (IntOp.cmpi .slt (BitVec.ofNat 32 (0 * 128 + q.val)) (BitVec.ofNat 32 n)) a b = if q.val < n then a else b := by
  have hq := q.isLt
  rw [Nat.zero_mul, Nat.zero_add]
  exact if_congr (cmpi_slt_ofNat_eq_one_iff (by omega) (by omega)) rfl rfl

/-- The coefficients of a lane itself: the cosine on the first 32 lanes, one on the others. -/
theorem own_apply (p : Fin 512) (q : Fin 128) :
    k0_pay3 (F := Ideal) x1 x2 (ix2 p q) = if q.val < 32 then Ideal.cos (angle x1 x2 p q) else FloatOps.ofBits (F := Ideal) .f32 0x3F800000#32 := by
  refine (pick_lt q 32 (by omega) (Ideal.cos (k0_pay2 (F := Ideal) x1 x2 (ix2 p q))) (FloatOps.ofBits (F := Ideal) .f32 0x3F800000#32)).trans ?_
  rw [angles_apply]

/-- The coefficients of the lane sixteen further on: minus the sine on the first sixteen lanes, zero on the others. -/
theorem up_apply (p : Fin 512) (q : Fin 128) :
    k0_pay5 (F := Ideal) x1 x2 (ix2 p q) = if q.val < 16 then 0 - Ideal.sin (angle x1 x2 p q) else (0 : EReal) := by
  refine (pick_lt q 16 (by omega) (FloatOps.ofBits (F := Ideal) .f32 0x00000000#32 - Ideal.sin (k0_pay2 (F := Ideal) x1 x2 (ix2 p q)))
    (FloatOps.ofBits (F := Ideal) .f32 0x00000000#32)).trans ?_
  rw [angles_apply, Ideal.ofBits_def, Ideal.ofBits_zero_f32]

/-- The coefficients of the lane sixteen before: the sine on the second sixteen lanes, zero on the others. -/
theorem down_apply (p : Fin 512) (q : Fin 128) :
    k0_pay6 (F := Ideal) x1 x2 (ix2 p q) = if 16 ≤ q.val ∧ q.val < 32 then Ideal.sin (angle x1 x2 p q) else (0 : EReal) := by
  have hq := q.isLt
  show Scalar.select (IntOp.andi (IntOp.cmpi .sge (BitVec.ofNat 32 (0 * 128 + q.val)) (BitVec.ofNat 32 16))
      (IntOp.cmpi .slt (BitVec.ofNat 32 (0 * 128 + q.val)) (BitVec.ofNat 32 32))) (Ideal.sin (k0_pay2 (F := Ideal) x1 x2 (ix2 p q)))
      (FloatOps.ofBits (F := Ideal) .f32 0x00000000#32) = _
  rw [angles_apply, Ideal.ofBits_def, Ideal.ofBits_zero_f32, Nat.zero_mul, Nat.zero_add, cmpi_sge_ofNat (by omega) (by omega), cmpi_slt_ofNat (by omega) (by omega)]
  by_cases h : 16 ≤ q.val <;> by_cases h' : q.val < 32 <;> simp [h, h', Scalar.select, IntOp.andi]

/-- A head turned with given coefficients. -/
def turn (C U D : FVec Ideal S512x128 .f32) (v : Vec Ideal S512x128 .bf16) : FVec Ideal S512x128 .f32 :=
  addf (addf (mulf (extf .f32 v bitsLt_bf16_f32) C) (mulf (dynamicRotate 1 112#32 none (extf .f32 v bitsLt_bf16_f32) rotates_S512x128_d1) U))
    (mulf (dynamicRotate 1 16#32 none (extf .f32 v bitsLt_bf16_f32) rotates_S512x128_d1) D)

/-- A row of a block rotated along its lanes. -/
theorem rotated_apply (n : BitVec 32) (v : Vec Ideal S512x128 .bf16) (p : Fin 512) (q k : Fin 128) (hk : k.val = (q.val + 128 - n.toNat % 128) % 128) :
    dynamicRotate 1 n none (extf (F := Ideal) .f32 v bitsLt_bf16_f32) rotates_S512x128_d1 (ix2 p q) = v (ix2 p k) :=
  dynamicRotate_apply (1 : Fin 2) n _ rotates_S512x128_d1 (ix2 p q) (ix2 p k) fun b => by
    match b with
    | ⟨0, _⟩ => rfl
    | ⟨1, _⟩ => exact hk

/-- A turned head's lanes. -/
theorem turn_apply (v : Vec Ideal S512x128 .bf16) (p : Fin 512) (q : Fin 128) :
    turn (k0_pay3 x1 x2) (k0_pay5 x1 x2) (k0_pay6 x1 x2) v (ix2 p q) = lane (fun k => v (ix2 p k)) (angle x1 x2 p) q := by
  have hq := q.isLt
  show (v (ix2 p q) : EReal) * k0_pay3 (F := Ideal) x1 x2 (ix2 p q)
      + dynamicRotate 1 112#32 none (extf (F := Ideal) .f32 v bitsLt_bf16_f32) rotates_S512x128_d1 (ix2 p q) * k0_pay5 (F := Ideal) x1 x2 (ix2 p q)
      + dynamicRotate 1 16#32 none (extf (F := Ideal) .f32 v bitsLt_bf16_f32) rotates_S512x128_d1 (ix2 p q) * k0_pay6 (F := Ideal) x1 x2 (ix2 p q) = _
  rw [own_apply, up_apply, down_apply]
  unfold lane
  by_cases h16 : q.val < 16
  · rw [if_pos (by omega : q.val < 32), if_pos h16, if_neg (by omega : ¬(16 ≤ q.val ∧ q.val < 32)), dif_pos h16,
      rotated_apply 112#32 v p q ⟨q.val + 16, by omega⟩ (by show q.val + 16 = (q.val + 128 - 112 % 128) % 128; omega),
      mul_zero, add_zero, zero_sub, mul_neg, ← sub_eq_add_neg]
  · by_cases h32 : q.val < 32
    · rw [if_pos h32, if_neg h16, if_pos ⟨by omega, h32⟩, dif_neg h16, if_pos h32,
        rotated_apply 16#32 v p q ⟨q.val - 16, by omega⟩ (by show q.val - 16 = (q.val + 128 - 16 % 128) % 128; omega),
        mul_zero, add_zero]
    · rw [if_neg h32, if_neg h16, if_neg (by omega : ¬(16 ≤ q.val ∧ q.val < 32)), dif_neg h16, if_neg h32,
        Ideal.ofBits_def, Ideal.ofBits_one_f32, mul_zero, mul_zero, add_zero, add_zero, mul_one]

variable (x0 : Vec Ideal S512x4096 .bf16)

/-- The same lane found in a whole block of 32 heads: column `j` is lane `j % 128` of head `j / 128`. -/
def blockLane (p : Fin 512) (j : Fin 4096) : EReal :=
  lane (fun k => x0 (ix2 p (⟨j.val / 128 * 128 + k.val, by omega⟩ : Fin 4096))) (angle x1 x2 p) ⟨j.val % 128, by omega⟩

/-- A head cut out of the block and turned. -/
theorem turn_head (o : Nat) (ho : o % 128 = 0) (inb : ∀ a, (![0, o] : Fin 2 → Nat) a + S512x128.size a ≤ S512x4096.size a) (p : Fin 512) (q : Fin 128)
    (j : Fin 4096) (hj : j.val = o + q.val) :
    turn (k0_pay3 x1 x2) (k0_pay5 x1 x2) (k0_pay6 x1 x2) (View.ld x0 (Rect.unit (s := S512x4096) ![0, o] S512x128.size inb)) (ix2 p q) = blockLane x1 x2 x0 p j := by
  have hq := q.isLt
  rw [turn_apply]
  unfold blockLane
  refine congrArg₂ (fun x q => lane x (angle x1 x2 p) q) (funext fun k => ?_) (Fin.ext (by show q.val = j.val % 128; omega))
  refine congrArg x0 (funext fun a => Fin.ext ?_)
  match a with
  | ⟨0, _⟩ => show 0 + 1 * p.val = p.val; omega
  | ⟨1, _⟩ => show o + 1 * k.val = j.val / 128 * 128 + k.val; omega

/-- The scale of the queries. -/
def qscale : EReal := FloatOps.ofBits (F := Ideal) .f32 0x3E0293EE#32

/-- The columns a head of a block is cut from, as an entry of the block. -/
theorem cut_head (o : Nat) (inb : ∀ a, (![0, o] : Fin 2 → Nat) a + S512x128.size a ≤ S512x4096.size a) (p : Fin 512) (q : Fin 128)
    (j : Fin 4096) (hj : j.val = o + q.val) : View.ld x0 (Rect.unit (s := S512x4096) ![0, o] S512x128.size inb) (ix2 p q) = x0 (ix2 p j) :=
  congrArg x0 (funext fun a => Fin.ext (by
    match a with
    | ⟨0, _⟩ => show 0 + 1 * p.val = p.val; omega
    | ⟨1, _⟩ => show o + 1 * q.val = j.val; omega))

/-- The block of plain queries. -/
def plainBlock : Vec Ideal S512x2048 .bf16 := fun y =>
  x0 (ix2 (y 0) (⟨(y 1).val, by have h : (y 1).val < 2048 := (y 1).isLt; omega⟩ : Fin 4096)) * qscale
/-- The block of turned queries. -/
def turnedBlock : Vec Ideal S512x2048 .bf16 := fun y =>
  blockLane x1 x2 x0 (y 0) ⟨(y 1).val, by have h : (y 1).val < 2048 := (y 1).isLt; omega⟩ * qscale
/-- A block of turned keys: 512 columns from column `c` on. -/
def keyBlock (c : Nat) (hc : c ≤ 3584) : Vec Ideal S512x512 .bf16 := fun y =>
  blockLane x1 x2 x0 (y 0) ⟨c + (y 1).val, by have h : (y 1).val < 512 := (y 1).isLt; omega⟩
/-- A block of values, transposed: 512 columns from column `c` on. -/
def valueBlock (c : Nat) (hc : c ≤ 3584) : Vec Ideal S512x512 .bf16 := fun y =>
  x0 (ix2 (y 1) (⟨c + (y 0).val, by have h : (y 0).val < 512 := (y 0).isLt; omega⟩ : Fin 4096))

/-- The scaled head, as stored. -/
def scaled (v : FVec Ideal S512x128 .f32) : FVec Ideal S512x128 .bf16 :=
  truncf .bf16 (mulf v (broadcast S512x128 (Scalar.ofBits .f32 0x3E0293EE#32))) bitsLt_bf16_f32

/-- A plain head stored is its part of the block of plain queries. -/
theorem plain_piece (o : Nat) (inb : ∀ a, (![0, o] : Fin 2 → Nat) a + S512x128.size a ≤ S512x4096.size a)
    (inb' : ∀ a, (![0, o] : Fin 2 → Nat) a + S512x128.size a ≤ S512x2048.size a) (x : S512x128.Idx) :
    scaled (extf .f32 (View.ld x0 (Rect.unit (s := S512x4096) ![0, o] S512x128.size inb)) bitsLt_bf16_f32) x
      = plainBlock x0 ((Rect.unit (s := S512x2048) ![0, o] S512x128.size inb').emb x) := by
  have h1 : o + 128 ≤ 2048 := inb' 1
  obtain ⟨p, q, rfl⟩ : ∃ (p : Fin 512) (q : Fin 128), x = ix2 p q := ⟨x 0, x 1, eq_ix2 x⟩
  refine congrArg (· * qscale) ((cut_head x0 o inb p q ⟨o + q.val, by omega⟩ rfl).trans (congrArg x0 (funext fun a => Fin.ext ?_)))
  match a with
  | ⟨0, _⟩ => show p.val = 0 + 1 * p.val; omega
  | ⟨1, _⟩ => show o + q.val = o + 1 * q.val; omega

/-- A lane of the block, by its row and its column. -/
theorem blockLane_congr {p p' : Fin 512} {j j' : Fin 4096} (hp : p.val = p'.val) (hj : j.val = j'.val) : blockLane x1 x2 x0 p j = blockLane x1 x2 x0 p' j' := by
  rw [Fin.ext hp, Fin.ext hj]

/-- A turned head of a query stored is its part of the block of turned queries. -/
theorem turned_piece (o : Nat) (ho : o % 128 = 0) (inb : ∀ a, (![0, o] : Fin 2 → Nat) a + S512x128.size a ≤ S512x4096.size a)
    (inb' : ∀ a, (![0, o] : Fin 2 → Nat) a + S512x128.size a ≤ S512x2048.size a) (x : S512x128.Idx) :
    scaled (turn (k0_pay3 x1 x2) (k0_pay5 x1 x2) (k0_pay6 x1 x2) (View.ld x0 (Rect.unit (s := S512x4096) ![0, o] S512x128.size inb))) x
      = turnedBlock x1 x2 x0 ((Rect.unit (s := S512x2048) ![0, o] S512x128.size inb').emb x) := by
  have h1 : o + 128 ≤ 2048 := inb' 1
  obtain ⟨p, q, rfl⟩ : ∃ (p : Fin 512) (q : Fin 128), x = ix2 p q := ⟨x 0, x 1, eq_ix2 x⟩
  refine congrArg (· * qscale) ((turn_head x1 x2 x0 o ho inb p q ⟨o + q.val, by omega⟩ rfl).trans (blockLane_congr x1 x2 x0 ?_ ?_))
  · show p.val = 0 + 1 * p.val; omega
  · show o + q.val = o + 1 * q.val; omega

/-- A turned head of a key stored is its part of the block of turned keys. -/
theorem key_piece (c : Nat) (hc : c ≤ 3584) (hc' : c % 128 = 0) (o : Nat) (ho : o % 128 = 0)
    (inb : ∀ a, (![0, c + o] : Fin 2 → Nat) a + S512x128.size a ≤ S512x4096.size a)
    (inb' : ∀ a, (![0, o] : Fin 2 → Nat) a + S512x128.size a ≤ S512x512.size a) (x : S512x128.Idx) :
    (truncf (F := Ideal) .bf16 (turn (k0_pay3 x1 x2) (k0_pay5 x1 x2) (k0_pay6 x1 x2) (View.ld x0 (Rect.unit (s := S512x4096) ![0, c + o] S512x128.size inb)))
      bitsLt_bf16_f32 : FVec Ideal S512x128 .bf16) x = keyBlock x1 x2 x0 c hc ((Rect.unit (s := S512x512) ![0, o] S512x128.size inb').emb x) := by
  have h1 : o + 128 ≤ 512 := inb' 1
  obtain ⟨p, q, rfl⟩ : ∃ (p : Fin 512) (q : Fin 128), x = ix2 p q := ⟨x 0, x 1, eq_ix2 x⟩
  refine (turn_head x1 x2 x0 (c + o) (by omega) inb p q ⟨c + o + q.val, by omega⟩ rfl).trans (blockLane_congr x1 x2 x0 ?_ ?_)
  · show p.val = 0 + 1 * p.val; omega
  · show c + o + q.val = c + (o + 1 * q.val); omega

/-- A head of values stored transposed is its part of the block of values. -/
theorem value_piece (c : Nat) (hc : c ≤ 3584) (o : Nat)
    (inb : ∀ a, (![0, c + o] : Fin 2 → Nat) a + S512x128.size a ≤ S512x4096.size a)
    (inb' : ∀ a, (![o, 0] : Fin 2 → Nat) a + S128x512.size a ≤ S512x512.size a) (x : S128x512.Idx) :
    (truncf (F := Ideal) .bf16 (transpose S128x512 [1, 0] (extf .f32 (View.ld x0 (Rect.unit (s := S512x4096) ![0, c + o] S512x128.size inb)) bitsLt_bf16_f32)
      transposes_S512x128_p1_0_S128x512) bitsLt_bf16_f32 : FVec Ideal S128x512 .bf16) x = valueBlock x0 c hc ((Rect.unit (s := S512x512) ![o, 0] S128x512.size inb').emb x) := by
  have h1 : o + 128 ≤ 512 := inb' 0
  obtain ⟨q, p, rfl⟩ : ∃ (q : Fin 128) (p : Fin 512), x = ix2 q p := ⟨x 0, x 1, eq_ix2 x⟩
  refine (transpose_ix2_apply (extf (F := Ideal) .f32 (View.ld x0 (Rect.unit (s := S512x4096) ![0, c + o] S512x128.size inb)) bitsLt_bf16_f32)
    transposes_S512x128_p1_0_S128x512 q p).trans ((cut_head x0 (c + o) inb p q ⟨c + o + q.val, by omega⟩ rfl).trans (congrArg x0 (funext fun a => Fin.ext ?_)))
  match a with
  | ⟨0, _⟩ => show p.val = 0 + 1 * p.val; omega
  | ⟨1, _⟩ => show c + o + q.val = c + (o + 1 * q.val); omega

theorem off2 : (![0, 0] : Fin 2 → Nat) = fun _ => 0 := funext fun a => by fin_cases a <;> rfl

/-- The coefficients a point computes once and keeps. -/
theorem own_eq : k0_pay75 (F := Ideal) x0 x1 x2 = k0_pay3 x1 x2 := by
  unfold k0_pay75; rw [View.ld_unit_zero (S := S512x1) off2, View.ld_unit_zero (S := S1x128) off2]
theorem up_eq : k0_pay76 (F := Ideal) x0 x1 x2 = k0_pay5 x1 x2 := by
  unfold k0_pay76; rw [View.ld_unit_zero (S := S512x1) off2, View.ld_unit_zero (S := S1x128) off2]
theorem down_eq : k0_pay77 (F := Ideal) x0 x1 x2 = k0_pay6 x1 x2 := by
  unfold k0_pay77; rw [View.ld_unit_zero (S := S512x1) off2, View.ld_unit_zero (S := S1x128) off2]

/-- The sixteen stored plain heads make the block of plain queries. -/
theorem plain_eq : out0_3 (F := Ideal) x0 x1 x2 = plainBlock x0 := by
  funext y
  unfold out0_3
  refine View.canon_apply_of_pieces (plainBlock x0) _ ?_ y (cover0_3 _ _ _ _ _ _ _ _ _ _ _ _ _ _ _ _ y)
  simp only [List.forall_mem_cons]
  refine ⟨?_, ?_, ?_, ?_, ?_, ?_, ?_, ?_, ?_, ?_, ?_, ?_, ?_, ?_, ?_, ?_, fun p hp => absurd hp List.not_mem_nil⟩ <;>
    exact fun x => plain_piece x0 _ _ _ x

/-- The sixteen stored turned heads make the block of turned queries. -/
theorem turned_eq : out0_4 (F := Ideal) x0 x1 x2 = turnedBlock x1 x2 x0 := by
  funext y
  unfold out0_4
  rw [own_eq, up_eq, down_eq, View.ld_unit_zero (S := S512x1) off2, View.ld_unit_zero (S := S1x128) off2]
  refine View.canon_apply_of_pieces (turnedBlock x1 x2 x0) _ ?_ y (cover0_4 _ _ _ _ _ _ _ _ _ _ _ _ _ _ _ _ y)
  simp only [List.forall_mem_cons]
  refine ⟨?_, ?_, ?_, ?_, ?_, ?_, ?_, ?_, ?_, ?_, ?_, ?_, ?_, ?_, ?_, ?_, fun p hp => absurd hp List.not_mem_nil⟩ <;>
    exact fun x => turned_piece x1 x2 x0 _ rfl _ _ x

/-- The four stored heads of the first keys. -/
theorem keys_eq : out0_5 (F := Ideal) x0 x1 x2 = keyBlock x1 x2 x0 2048 (by decide) := by
  funext y
  unfold out0_5
  rw [own_eq, up_eq, down_eq]
  refine View.canon_apply_of_pieces (keyBlock x1 x2 x0 2048 (by decide)) _ ?_ y (cover0_5 _ _ _ _ y)
  simp only [List.forall_mem_cons]
  exact ⟨fun x => key_piece x1 x2 x0 2048 _ rfl 384 rfl _ _ x, fun x => key_piece x1 x2 x0 2048 _ rfl 256 rfl _ _ x,
    fun x => key_piece x1 x2 x0 2048 _ rfl 128 rfl _ _ x, fun x => key_piece x1 x2 x0 2048 _ rfl 0 rfl _ _ x, fun p hp => absurd hp List.not_mem_nil⟩

/-- The four stored heads of the window's keys. -/
theorem windowKeys_eq : out0_6 (F := Ideal) x0 x1 x2 = keyBlock x1 x2 x0 3072 (by decide) := by
  funext y
  unfold out0_6
  rw [own_eq, up_eq, down_eq]
  refine View.canon_apply_of_pieces (keyBlock x1 x2 x0 3072 (by decide)) _ ?_ y (cover0_6 _ _ _ _ y)
  simp only [List.forall_mem_cons]
  exact ⟨fun x => key_piece x1 x2 x0 3072 _ rfl 384 rfl _ _ x, fun x => key_piece x1 x2 x0 3072 _ rfl 256 rfl _ _ x,
    fun x => key_piece x1 x2 x0 3072 _ rfl 128 rfl _ _ x, fun x => key_piece x1 x2 x0 3072 _ rfl 0 rfl _ _ x, fun p hp => absurd hp List.not_mem_nil⟩

/-- The four stored heads of the values. -/
theorem values_eq : out0_7 (F := Ideal) x0 x1 x2 = valueBlock x0 2560 (by decide) := by
  funext y
  unfold out0_7
  refine View.canon_apply_of_pieces (valueBlock x0 2560 (by decide)) _ ?_ y (cover0_7 _ _ _ _ y)
  simp only [List.forall_mem_cons]
  exact ⟨fun x => value_piece x0 2560 _ 384 _ _ x, fun x => value_piece x0 2560 _ 256 _ _ x,
    fun x => value_piece x0 2560 _ 128 _ _ x, fun x => value_piece x0 2560 _ 0 _ _ x, fun p hp => absurd hp List.not_mem_nil⟩

/-- The four stored heads of the window's values. -/
theorem windowValues_eq : out0_8 (F := Ideal) x0 x1 x2 = valueBlock x0 3584 (by decide) := by
  funext y
  unfold out0_8
  refine View.canon_apply_of_pieces (valueBlock x0 3584 (by decide)) _ ?_ y (cover0_8 _ _ _ _ y)
  simp only [List.forall_mem_cons]
  exact ⟨fun x => value_piece x0 3584 _ 384 _ _ x, fun x => value_piece x0 3584 _ 256 _ _ x,
    fun x => value_piece x0 3584 _ 128 _ _ x, fun x => value_piece x0 3584 _ 0 _ _ x, fun p hp => absurd hp List.not_mem_nil⟩

end Cert.RopeIdeal.Heads

end
-- ==== Proof.Rope.lean ====
/-
  THE ROTARY EMBEDDING. The projected heads of both sequences: queries scaled, plain and turned by their positions' angles,
  the keys of the two branches turned, and the values of the two branches transposed. A grid point writes 512 rows of the first
  four results and 512 columns of the last two: what the six arrays therefore hold, and that the reference's results are the same.
-/
module

public import proofs.«01_k».proof.Defs
public import proofs.«01_k».proof.Proof.RopeTurn
public import proofs.«01_k».proof.Proof.Gen.Rope.Frame
public import proofs.«01_k».proof.Proof.Gen.RopeIdeal.Value
public import proofs.«01_k».proof.Proof.Gen.RopeRefIdeal.Read
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.RopeIdeal.Rows

open Cert.RopeIdeal Cert.RopeIdeal.Gen Cert.RopeIdeal.Value Cert.RopeIdeal.Heads

/-- The frequency of a lane: the sixteen given ones twice over, and zero on the lanes that stay. -/
def freq (inv : Vec Ideal S16 .f32) (q : Fin 128) : EReal :=
  if q.val < 32 then inv (ix1 (⟨q.val % 16, by omega⟩ : Fin 16)) else 0

/-- The position of a row, the two sequences one after the other. -/
def position (pos : Vec Ideal S2x4096 .i32) (r : Fin 8192) : EReal :=
  (((pos (ix2 (⟨r.val / 4096, by omega⟩ : Fin 2) (⟨r.val % 4096, by omega⟩ : Fin 4096))).toInt : ℝ) : EReal)

section Spec
variable (a : Vec Ideal S8192x4096 .bf16) (pos : Vec Ideal S2x4096 .i32) (inv : Vec Ideal S16 .f32)

/-- An entry of all the heads turned: row `r`, lane `j % 128` of head `j / 128`. -/
def rotated (r : Fin 8192) (j : Fin 4096) : EReal :=
  lane (fun k => a (ix2 r (⟨j.val / 128 * 128 + k.val, by omega⟩ : Fin 4096))) (fun q => position pos r * freq inv q) ⟨j.val % 128, by omega⟩

/-- The plain queries. -/
def plain : Vec Ideal S8192x2048 .bf16 := fun i =>
  a (ix2 (i 0) (⟨(i 1).val, by have h : (i 1).val < 2048 := (i 1).isLt; omega⟩ : Fin 4096)) * qscale
/-- The turned queries. -/
def turned : Vec Ideal S8192x2048 .bf16 := fun i =>
  rotated a pos inv (i 0) ⟨(i 1).val, by have h : (i 1).val < 2048 := (i 1).isLt; omega⟩ * qscale
/-- Turned keys: the 512 columns from `c` on. -/
def keys (c : Nat) (hc : c ≤ 3584) : Vec Ideal S8192x512 .bf16 := fun i =>
  rotated a pos inv (i 0) ⟨c + (i 1).val, by have h : (i 1).val < 512 := (i 1).isLt; omega⟩
/-- Values, transposed: the 512 columns from `c` on. -/
def values (c : Nat) (hc : c ≤ 3584) : Vec Ideal S512x8192 .bf16 := fun i =>
  a (ix2 (i 1) (⟨c + (i 0).val, by have h : (i 0).val < 512 := (i 0).isLt; omega⟩ : Fin 4096))

end Spec

variable (m : (ℓ : Loc nD τ sig) → Buf (Elt Ideal) ℓ)

/-- The call finds the positions as one column. -/
theorem positions_eq (c : Dev nD) : V m c main_v3 = shapeCast S8192x1 (m ((c : Thread nD τ).loc main_arg1)) shapeCasts_S2x4096_S8192x1 := by
  unfold V
  after_results <;> rfl

theorem positions_apply (c : Dev nD) (r : Fin 8192) : (V m c main_v3 : S8192x1.Idx → BitVec 32) (ix2 r (0 : Fin 1))
    = m ((c : Thread nD τ).loc main_arg1) (ix2 (⟨r.val / 4096, by omega⟩ : Fin 2) (⟨r.val % 4096, by omega⟩ : Fin 4096)) := by
  rw [positions_eq]
  exact shapeCast_apply _ shapeCasts_S2x4096_S8192x1 (ix2 r (0 : Fin 1)) (ix2 (⟨r.val / 4096, by omega⟩ : Fin 2) (⟨r.val % 4096, by omega⟩ : Fin 4096)) (by
    rw [Shape.rowMajor_val_two, Shape.rowMajor_val_two]; show r.val / 4096 * 4096 + r.val % 4096 = r.val * 1 + 0; omega)

/-- The call finds the frequencies as one row: twice the given ones, then zeros. -/
theorem freqs_eq (c : Dev nD) : V m c main_v2 = shapeCast S1x128 (concatenate S128 0 [⟨S16, (m ((c : Thread nD τ).loc main_arg2) : S16.Idx → EReal)⟩,
    ⟨S16, (m ((c : Thread nD τ).loc main_arg2) : S16.Idx → EReal)⟩,
    ⟨S96, (broadcastInDim S96 ![] bcast_S_S96 (constant (F := Ideal) S_ .f32 0x00000000#32) : S96.Idx → EReal)⟩] concatenates_S16_S16_S96_S128_d0) shapeCasts_S128_S1x128 := by
  unfold V
  after_results <;> rfl

theorem freqs_apply (c : Dev nD) (q : Fin 128) : (V m c main_v2 : S1x128.Idx → EReal) (ix2 (0 : Fin 1) q) = freq (m ((c : Thread nD τ).loc main_arg2)) q := by
  have hq := q.isLt
  rw [freqs_eq]
  refine (shapeCast_apply _ shapeCasts_S128_S1x128 (ix2 (0 : Fin 1) q) (ix1 q) (by
    rw [Shape.rowMajor_val_two, Shape.rowMajor_val_one]; show q.val = 0 * 128 + q.val; omega)).trans ?_
  unfold freq
  by_cases h16 : q.val < 16
  · rw [if_pos (by omega)]
    refine Eq.trans (concatenate_apply_piece (t := S128) 0 _ _ _ 0 (by show 0 < 3; decide) S16 _ rfl rfl 0 rfl
      (ix1 (⟨q.val, h16⟩ : Fin 16)) (fun b hb => absurd (Subsingleton.elim _ _) hb) (by show 0 + q.val = q.val; omega)) ?_
    exact congrArg (fun k => m ((c : Thread nD τ).loc main_arg2) (ix1 (k : Fin 16))) (Fin.ext (by show q.val = q.val % 16; omega))
  · by_cases h32 : q.val < 32
    · rw [if_pos h32]
      refine Eq.trans (concatenate_apply_piece (t := S128) 0 _ _ _ 1 (by show 1 < 3; decide) S16 _ rfl rfl 16 rfl
        (ix1 (⟨q.val - 16, by omega⟩ : Fin 16)) (fun b hb => absurd (Subsingleton.elim _ _) hb) (by show 16 + (q.val - 16) = q.val; omega)) ?_
      exact congrArg (fun k => m ((c : Thread nD τ).loc main_arg2) (ix1 (k : Fin 16))) (Fin.ext (by show q.val - 16 = q.val % 16; omega))
    · rw [if_neg h32]
      refine Eq.trans (concatenate_apply_piece (t := S128) 0 _ _ _ 2 (by show 2 < 3; decide) S96 _ rfl rfl 32 rfl
        (ix1 (⟨q.val - 32, by omega⟩ : Fin 96)) (fun b hb => absurd (Subsingleton.elim _ _) hb) (by show 32 + (q.val - 32) = q.val; omega)) ?_
      exact Ideal.ofBits_zero_f32

/-- The block indices of the windows at a grid point. -/
theorem index_facts : ∀ t : Fin cfg0.N,
    ((win0_0.index t (0 : Fin 2) = t.val ∧ win0_0.index t (1 : Fin 2) = 0) ∧ (win0_1.index t (0 : Fin 2) = t.val ∧ win0_1.index t (1 : Fin 2) = 0)
      ∧ (win0_2.index t (0 : Fin 2) = 0 ∧ win0_2.index t (1 : Fin 2) = 0))
    ∧ (win0_3.index t (0 : Fin 2) = t.val ∧ win0_3.index t (1 : Fin 2) = 0) ∧ (win0_4.index t (0 : Fin 2) = t.val ∧ win0_4.index t (1 : Fin 2) = 0)
    ∧ (win0_5.index t (0 : Fin 2) = t.val ∧ win0_5.index t (1 : Fin 2) = 0) ∧ (win0_6.index t (0 : Fin 2) = t.val ∧ win0_6.index t (1 : Fin 2) = 0)
    ∧ (win0_7.index t (0 : Fin 2) = 0 ∧ win0_7.index t (1 : Fin 2) = t.val) ∧ (win0_8.index t (0 : Fin 2) = 0 ∧ win0_8.index t (1 : Fin 2) = t.val) :=
  (by decide +kernel : ∀ t : Fin grid0.N, _)

theorem lt_N (t : Fin cfg0.N) : t.val < 16 := lt_of_lt_of_eq t.isLt N_0

/-- A row of a point's block is a row of the array. -/
theorem rows_apply (c : Dev nD) (t : Fin cfg0.N) (p : Fin 512) (r : Fin 8192) (hr : r.val = 512 * t.val + p.val) (k : Fin 4096) :
    iblk m c 0 t (ix2 p k) = m ((c : Thread nD τ).loc main_arg0) (ix2 r k) := by
  obtain ⟨⟨⟨a0, a1⟩, -, -⟩, -⟩ := index_facts t
  unfold iblk
  rw [View.read_apply]
  refine congrArg (m ((c : Thread nD τ).loc main_arg0)) (funext fun a => Fin.ext ?_)
  match a with
  | ⟨0, _⟩ => show win0_0.index t 0 * 512 + 1 * p.val = r.val; rw [a0]; omega
  | ⟨1, _⟩ => show win0_0.index t 1 * 4096 + 1 * k.val = k.val; rw [a1]; omega

/-- The angles of a row of a point's block. -/
theorem angle_eq (c : Dev nD) (t : Fin cfg0.N) (p : Fin 512) (r : Fin 8192) (hr : r.val = 512 * t.val + p.val) (q : Fin 128) :
    angle (iblk m c 1 t) (iblk m c 2 t) p q = position (m ((c : Thread nD τ).loc main_arg1)) r * freq (m ((c : Thread nD τ).loc main_arg2)) q := by
  obtain ⟨⟨-, ⟨b0, b1⟩, ⟨d0, d1⟩⟩, -⟩ := index_facts t
  have hp : iblk m c 1 t (ix2 p (0 : Fin 1)) = m ((c : Thread nD τ).loc main_arg1) (ix2 (⟨r.val / 4096, by omega⟩ : Fin 2) (⟨r.val % 4096, by omega⟩ : Fin 4096)) := by
    refine Eq.trans ?_ (positions_apply m c r)
    unfold iblk
    rw [View.read_apply]
    refine congrArg (V m c main_v3) (funext fun a => Fin.ext ?_)
    match a with
    | ⟨0, _⟩ => show win0_1.index t 0 * 512 + 1 * p.val = r.val; rw [b0]; omega
    | ⟨1, _⟩ => show win0_1.index t 1 * 1 + 1 * 0 = 0; rw [b1]
  have hf : iblk m c 2 t (ix2 (0 : Fin 1) q) = freq (m ((c : Thread nD τ).loc main_arg2)) q := by
    refine Eq.trans ?_ (freqs_apply m c q)
    unfold iblk
    rw [View.read_apply]
    refine congrArg (V m c main_v2) (funext fun a => Fin.ext ?_)
    match a with
    | ⟨0, _⟩ => show win0_2.index t 0 * 1 + 1 * 0 = 0; rw [d0]
    | ⟨1, _⟩ => show win0_2.index t 1 * 128 + 1 * q.val = q.val; rw [d1]; omega
  unfold angle position
  exact congrArg₂ (fun (b : BitVec 32) (f : EReal) => ((b.toInt : ℝ) : EReal) * f) hp hf

/-- A turned lane of a point's block is one of the array. -/
theorem blockLane_eq (c : Dev nD) (t : Fin cfg0.N) (p : Fin 512) (r : Fin 8192) (hr : r.val = 512 * t.val + p.val) (j j' : Fin 4096) (hj : j.val = j'.val) :
    blockLane (iblk m c 1 t) (iblk m c 2 t) (iblk m c 0 t) p j
      = rotated (m ((c : Thread nD τ).loc main_arg0)) (m ((c : Thread nD τ).loc main_arg1)) (m ((c : Thread nD τ).loc main_arg2)) r j' := by
  obtain rfl : j = j' := Fin.ext hj
  unfold blockLane rotated
  exact congrArg₂ (fun x a => lane x a _) (funext fun k => rows_apply m c t p r hr _) (funext fun q => angle_eq m c t p r hr q)

/-- Where an entry of a point's rows lies in the array. -/
theorem row_of (t : Fin cfg0.N) (p : Fin 512) : 512 * t.val + p.val < 8192 := by have := lt_N t; have := p.isLt; omega

theorem flushed3_eq (c : Dev nD) (t : Fin cfg0.N) : (dats m 0 c).flushed 3 t = ((cfg0.win 3).blk t).view.read (Elt Ideal) (plain (m ((c : Thread nD τ).loc main_arg0))) := by
  rw [flushed3]
  funext y
  obtain ⟨p, q, rfl⟩ : ∃ (p : Fin 512) (q : Fin 2048), y = ix2 p q := ⟨y 0, y 1, eq_ix2 y⟩
  show out0_3 (iblk m c 0 t) (iblk m c 1 t) (iblk m c 2 t) (ix2 p q) = plain _ (((cfg0.win 3).blk t).view.emb (ix2 p q))
  rw [plain_eq]
  obtain ⟨-, ⟨e0, e1⟩, -⟩ := index_facts t
  have hemb : ((cfg0.win 3).blk t).view.emb (ix2 p q) = ix2 (⟨512 * t.val + p.val, row_of t p⟩ : Fin 8192) q := funext fun a => Fin.ext (by
    match a with
    | ⟨0, _⟩ => show win0_3.index t 0 * 512 + 1 * p.val = 512 * t.val + p.val; rw [e0]; omega
    | ⟨1, _⟩ => show win0_3.index t 1 * 2048 + 1 * q.val = q.val; rw [e1]; omega)
  rw [hemb]
  exact congrArg (· * qscale) (rows_apply m c t p _ rfl _)

theorem flushed4_eq (c : Dev nD) (t : Fin cfg0.N) : (dats m 0 c).flushed 4 t = ((cfg0.win 4).blk t).view.read (Elt Ideal)
    (turned (m ((c : Thread nD τ).loc main_arg0)) (m ((c : Thread nD τ).loc main_arg1)) (m ((c : Thread nD τ).loc main_arg2))) := by
  rw [flushed4]
  funext y
  obtain ⟨p, q, rfl⟩ : ∃ (p : Fin 512) (q : Fin 2048), y = ix2 p q := ⟨y 0, y 1, eq_ix2 y⟩
  show out0_4 (iblk m c 0 t) (iblk m c 1 t) (iblk m c 2 t) (ix2 p q) = turned _ _ _ (((cfg0.win 4).blk t).view.emb (ix2 p q))
  rw [turned_eq]
  obtain ⟨-, -, ⟨e0, e1⟩, -⟩ := index_facts t
  have hemb : ((cfg0.win 4).blk t).view.emb (ix2 p q) = ix2 (⟨512 * t.val + p.val, row_of t p⟩ : Fin 8192) q := funext fun a => Fin.ext (by
    match a with
    | ⟨0, _⟩ => show win0_4.index t 0 * 512 + 1 * p.val = 512 * t.val + p.val; rw [e0]; omega
    | ⟨1, _⟩ => show win0_4.index t 1 * 2048 + 1 * q.val = q.val; rw [e1]; omega)
  rw [hemb]
  exact congrArg (· * qscale) (blockLane_eq m c t p _ rfl _ _ rfl)

theorem flushed5_eq (c : Dev nD) (t : Fin cfg0.N) : (dats m 0 c).flushed 5 t = ((cfg0.win 5).blk t).view.read (Elt Ideal)
    (keys (m ((c : Thread nD τ).loc main_arg0)) (m ((c : Thread nD τ).loc main_arg1)) (m ((c : Thread nD τ).loc main_arg2)) 2048 (by decide)) := by
  rw [flushed5]
  funext y
  obtain ⟨p, q, rfl⟩ : ∃ (p : Fin 512) (q : Fin 512), y = ix2 p q := ⟨y 0, y 1, eq_ix2 y⟩
  show out0_5 (iblk m c 0 t) (iblk m c 1 t) (iblk m c 2 t) (ix2 p q) = keys _ _ _ 2048 (by decide) (((cfg0.win 5).blk t).view.emb (ix2 p q))
  rw [keys_eq]
  obtain ⟨-, -, -, ⟨e0, e1⟩, -⟩ := index_facts t
  have hemb : ((cfg0.win 5).blk t).view.emb (ix2 p q) = ix2 (⟨512 * t.val + p.val, row_of t p⟩ : Fin 8192) q := funext fun a => Fin.ext (by
    match a with
    | ⟨0, _⟩ => show win0_5.index t 0 * 512 + 1 * p.val = 512 * t.val + p.val; rw [e0]; omega
    | ⟨1, _⟩ => show win0_5.index t 1 * 512 + 1 * q.val = q.val; rw [e1]; omega)
  rw [hemb]
  exact blockLane_eq m c t p _ rfl _ _ rfl

theorem flushed6_eq (c : Dev nD) (t : Fin cfg0.N) : (dats m 0 c).flushed 6 t = ((cfg0.win 6).blk t).view.read (Elt Ideal)
    (keys (m ((c : Thread nD τ).loc main_arg0)) (m ((c : Thread nD τ).loc main_arg1)) (m ((c : Thread nD τ).loc main_arg2)) 3072 (by decide)) := by
  rw [flushed6]
  funext y
  obtain ⟨p, q, rfl⟩ : ∃ (p : Fin 512) (q : Fin 512), y = ix2 p q := ⟨y 0, y 1, eq_ix2 y⟩
  show out0_6 (iblk m c 0 t) (iblk m c 1 t) (iblk m c 2 t) (ix2 p q) = keys _ _ _ 3072 (by decide) (((cfg0.win 6).blk t).view.emb (ix2 p q))
  rw [windowKeys_eq]
  obtain ⟨-, -, -, -, ⟨e0, e1⟩, -⟩ := index_facts t
  have hemb : ((cfg0.win 6).blk t).view.emb (ix2 p q) = ix2 (⟨512 * t.val + p.val, row_of t p⟩ : Fin 8192) q := funext fun a => Fin.ext (by
    match a with
    | ⟨0, _⟩ => show win0_6.index t 0 * 512 + 1 * p.val = 512 * t.val + p.val; rw [e0]; omega
    | ⟨1, _⟩ => show win0_6.index t 1 * 512 + 1 * q.val = q.val; rw [e1]; omega)
  rw [hemb]
  exact blockLane_eq m c t p _ rfl _ _ rfl

theorem flushed7_eq (c : Dev nD) (t : Fin cfg0.N) : (dats m 0 c).flushed 7 t = ((cfg0.win 7).blk t).view.read (Elt Ideal)
    (values (m ((c : Thread nD τ).loc main_arg0)) 2560 (by decide)) := by
  rw [flushed7]
  funext y
  obtain ⟨q, p, rfl⟩ : ∃ (q : Fin 512) (p : Fin 512), y = ix2 q p := ⟨y 0, y 1, eq_ix2 y⟩
  show out0_7 (iblk m c 0 t) (iblk m c 1 t) (iblk m c 2 t) (ix2 q p) = values _ 2560 (by decide) (((cfg0.win 7).blk t).view.emb (ix2 q p))
  rw [values_eq]
  obtain ⟨-, -, -, -, -, ⟨e0, e1⟩, -⟩ := index_facts t
  have hemb : ((cfg0.win 7).blk t).view.emb (ix2 q p) = ix2 q (⟨512 * t.val + p.val, row_of t p⟩ : Fin 8192) := funext fun a => Fin.ext (by
    match a with
    | ⟨0, _⟩ => show win0_7.index t 0 * 512 + 1 * q.val = q.val; rw [e0]; omega
    | ⟨1, _⟩ => show win0_7.index t 1 * 512 + 1 * p.val = 512 * t.val + p.val; rw [e1]; omega)
  rw [hemb]
  exact rows_apply m c t p _ rfl _

theorem flushed8_eq (c : Dev nD) (t : Fin cfg0.N) : (dats m 0 c).flushed 8 t = ((cfg0.win 8).blk t).view.read (Elt Ideal)
    (values (m ((c : Thread nD τ).loc main_arg0)) 3584 (by decide)) := by
  rw [flushed8]
  funext y
  obtain ⟨q, p, rfl⟩ : ∃ (q : Fin 512) (p : Fin 512), y = ix2 q p := ⟨y 0, y 1, eq_ix2 y⟩
  show out0_8 (iblk m c 0 t) (iblk m c 1 t) (iblk m c 2 t) (ix2 q p) = values _ 3584 (by decide) (((cfg0.win 8).blk t).view.emb (ix2 q p))
  rw [windowValues_eq]
  obtain ⟨-, -, -, -, -, -, ⟨e0, e1⟩⟩ := index_facts t
  have hemb : ((cfg0.win 8).blk t).view.emb (ix2 q p) = ix2 q (⟨512 * t.val + p.val, row_of t p⟩ : Fin 8192) := funext fun a => Fin.ext (by
    match a with
    | ⟨0, _⟩ => show win0_8.index t 0 * 512 + 1 * q.val = q.val; rw [e0]; omega
    | ⟨1, _⟩ => show win0_8.index t 1 * 512 + 1 * p.val = 512 * t.val + p.val; rw [e1]; omega)
  rw [hemb]
  exact rows_apply m c t p _ rfl _

/-- The point that writes a row. -/
def pointOf (r : Nat) (hr : r < 8192) : Fin cfg0.N := ⟨r / 512, lt_of_lt_of_eq (by omega) N_0.symm⟩

/-- The six result arrays. -/
theorem final3_eq (c : Dev nD) : (dats m 0 c).arrAt 3 cfg0.N = plain (m ((c : Thread nD τ).loc main_arg0)) :=
  (dats m 0 c).arrAt_eq_of_cover 3 _ (fun t _ => flushed3_eq m c t) fun i => by
    have h0 : (i 0).val < 8192 := (i 0).isLt
    have h1 : (i 1).val < 2048 := (i 1).isLt
    have ht : (pointOf _ h0).val = (i 0).val / 512 := rfl
    obtain ⟨-, ⟨e0, e1⟩, -⟩ := index_facts (pointOf _ h0)
    refine ⟨pointOf _ h0, flush0_3 _, ?_⟩
    show i ∈ ((View.whole main_v4_0).slice (win0_3.rect (pointOf _ h0))).set
    rw [View.set_slice_whole, Rect.mem_set_unit]
    intro a
    match a with
    | ⟨0, _⟩ => show win0_3.index (pointOf _ h0) 0 * 512 ≤ (i 0).val ∧ (i 0).val < win0_3.index (pointOf _ h0) 0 * 512 + 512; rw [e0]; omega
    | ⟨1, _⟩ => show win0_3.index (pointOf _ h0) 1 * 2048 ≤ (i 1).val ∧ (i 1).val < win0_3.index (pointOf _ h0) 1 * 2048 + 2048; rw [e1]; omega

theorem final4_eq (c : Dev nD) : (dats m 0 c).arrAt 4 cfg0.N
    = turned (m ((c : Thread nD τ).loc main_arg0)) (m ((c : Thread nD τ).loc main_arg1)) (m ((c : Thread nD τ).loc main_arg2)) :=
  (dats m 0 c).arrAt_eq_of_cover 4 _ (fun t _ => flushed4_eq m c t) fun i => by
    have h0 : (i 0).val < 8192 := (i 0).isLt
    have h1 : (i 1).val < 2048 := (i 1).isLt
    have ht : (pointOf _ h0).val = (i 0).val / 512 := rfl
    obtain ⟨-, -, ⟨e0, e1⟩, -⟩ := index_facts (pointOf _ h0)
    refine ⟨pointOf _ h0, flush0_4 _, ?_⟩
    show i ∈ ((View.whole main_v4_1).slice (win0_4.rect (pointOf _ h0))).set
    rw [View.set_slice_whole, Rect.mem_set_unit]
    intro a
    match a with
    | ⟨0, _⟩ => show win0_4.index (pointOf _ h0) 0 * 512 ≤ (i 0).val ∧ (i 0).val < win0_4.index (pointOf _ h0) 0 * 512 + 512; rw [e0]; omega
    | ⟨1, _⟩ => show win0_4.index (pointOf _ h0) 1 * 2048 ≤ (i 1).val ∧ (i 1).val < win0_4.index (pointOf _ h0) 1 * 2048 + 2048; rw [e1]; omega

theorem final5_eq (c : Dev nD) : (dats m 0 c).arrAt 5 cfg0.N
    = keys (m ((c : Thread nD τ).loc main_arg0)) (m ((c : Thread nD τ).loc main_arg1)) (m ((c : Thread nD τ).loc main_arg2)) 2048 (by decide) :=
  (dats m 0 c).arrAt_eq_of_cover 5 _ (fun t _ => flushed5_eq m c t) fun i => by
    have h0 : (i 0).val < 8192 := (i 0).isLt
    have h1 : (i 1).val < 512 := (i 1).isLt
    have ht : (pointOf _ h0).val = (i 0).val / 512 := rfl
    obtain ⟨-, -, -, ⟨e0, e1⟩, -⟩ := index_facts (pointOf _ h0)
    refine ⟨pointOf _ h0, flush0_5 _, ?_⟩
    show i ∈ ((View.whole main_v4_2).slice (win0_5.rect (pointOf _ h0))).set
    rw [View.set_slice_whole, Rect.mem_set_unit]
    intro a
    match a with
    | ⟨0, _⟩ => show win0_5.index (pointOf _ h0) 0 * 512 ≤ (i 0).val ∧ (i 0).val < win0_5.index (pointOf _ h0) 0 * 512 + 512; rw [e0]; omega
    | ⟨1, _⟩ => show win0_5.index (pointOf _ h0) 1 * 512 ≤ (i 1).val ∧ (i 1).val < win0_5.index (pointOf _ h0) 1 * 512 + 512; rw [e1]; omega

theorem final6_eq (c : Dev nD) : (dats m 0 c).arrAt 6 cfg0.N
    = keys (m ((c : Thread nD τ).loc main_arg0)) (m ((c : Thread nD τ).loc main_arg1)) (m ((c : Thread nD τ).loc main_arg2)) 3072 (by decide) :=
  (dats m 0 c).arrAt_eq_of_cover 6 _ (fun t _ => flushed6_eq m c t) fun i => by
    have h0 : (i 0).val < 8192 := (i 0).isLt
    have h1 : (i 1).val < 512 := (i 1).isLt
    have ht : (pointOf _ h0).val = (i 0).val / 512 := rfl
    obtain ⟨-, -, -, -, ⟨e0, e1⟩, -⟩ := index_facts (pointOf _ h0)
    refine ⟨pointOf _ h0, flush0_6 _, ?_⟩
    show i ∈ ((View.whole main_v4_3).slice (win0_6.rect (pointOf _ h0))).set
    rw [View.set_slice_whole, Rect.mem_set_unit]
    intro a
    match a with
    | ⟨0, _⟩ => show win0_6.index (pointOf _ h0) 0 * 512 ≤ (i 0).val ∧ (i 0).val < win0_6.index (pointOf _ h0) 0 * 512 + 512; rw [e0]; omega
    | ⟨1, _⟩ => show win0_6.index (pointOf _ h0) 1 * 512 ≤ (i 1).val ∧ (i 1).val < win0_6.index (pointOf _ h0) 1 * 512 + 512; rw [e1]; omega

theorem final7_eq (c : Dev nD) : (dats m 0 c).arrAt 7 cfg0.N = values (m ((c : Thread nD τ).loc main_arg0)) 2560 (by decide) :=
  (dats m 0 c).arrAt_eq_of_cover 7 _ (fun t _ => flushed7_eq m c t) fun i => by
    have h0 : (i 0).val < 512 := (i 0).isLt
    have h1 : (i 1).val < 8192 := (i 1).isLt
    have ht : (pointOf _ h1).val = (i 1).val / 512 := rfl
    obtain ⟨-, -, -, -, -, ⟨e0, e1⟩, -⟩ := index_facts (pointOf _ h1)
    refine ⟨pointOf _ h1, flush0_7 _, ?_⟩
    show i ∈ ((View.whole main_v4_4).slice (win0_7.rect (pointOf _ h1))).set
    rw [View.set_slice_whole, Rect.mem_set_unit]
    intro a
    match a with
    | ⟨0, _⟩ => show win0_7.index (pointOf _ h1) 0 * 512 ≤ (i 0).val ∧ (i 0).val < win0_7.index (pointOf _ h1) 0 * 512 + 512; rw [e0]; omega
    | ⟨1, _⟩ => show win0_7.index (pointOf _ h1) 1 * 512 ≤ (i 1).val ∧ (i 1).val < win0_7.index (pointOf _ h1) 1 * 512 + 512; rw [e1]; omega

theorem final8_eq (c : Dev nD) : (dats m 0 c).arrAt 8 cfg0.N = values (m ((c : Thread nD τ).loc main_arg0)) 3584 (by decide) :=
  (dats m 0 c).arrAt_eq_of_cover 8 _ (fun t _ => flushed8_eq m c t) fun i => by
    have h0 : (i 0).val < 512 := (i 0).isLt
    have h1 : (i 1).val < 8192 := (i 1).isLt
    have ht : (pointOf _ h1).val = (i 1).val / 512 := rfl
    obtain ⟨-, -, -, -, -, -, ⟨e0, e1⟩⟩ := index_facts (pointOf _ h1)
    refine ⟨pointOf _ h1, flush0_8 _, ?_⟩
    show i ∈ ((View.whole main_v4_5).slice (win0_8.rect (pointOf _ h1))).set
    rw [View.set_slice_whole, Rect.mem_set_unit]
    intro a
    match a with
    | ⟨0, _⟩ => show win0_8.index (pointOf _ h1) 0 * 512 ≤ (i 0).val ∧ (i 0).val < win0_8.index (pointOf _ h1) 0 * 512 + 512; rw [e0]; omega
    | ⟨1, _⟩ => show win0_8.index (pointOf _ h1) 1 * 512 ≤ (i 1).val ∧ (i 1).val < win0_8.index (pointOf _ h1) 1 * 512 + 512; rw [e1]; omega

end Cert.RopeIdeal.Rows

namespace Cert.RopeRefIdeal.Rows

open Cert.RopeRefIdeal Cert.RopeRefIdeal.Gen Cert.RopeRefIdeal.Read
open Cert.RopeIdeal.Rows (rotated position freq plain turned keys values)
open Cert.RopeIdeal.Heads (lane qscale)

variable (a : Vec Ideal S8192x4096 .bf16) (pos : Vec Ideal S2x4096 .i32) (inv : Vec Ideal S16 .f32)

/-- The angle of a row at one of the sixteen frequencies. -/
theorem angle_apply (r : Fin 8192) (l : Fin 16) : val_main_v6 (F := Ideal) pos inv (ix2 r l) = position pos r * inv (ix1 l) := by
  rw [val_main_v6_apply, val_main_v4_apply, val_main_v2_apply, val_main_v1_apply, val_main_v0_apply, val_main_v5_apply, val_main_v3_apply]
  refine congrArg₂ (fun (b : BitVec 32) (f : EReal) => ((b.toInt : ℝ) : EReal) * f) (congrArg pos (funext fun a => ?_)) (congrArg inv (funext fun a => ?_))
  · match a with
    | ⟨0, _⟩ => rfl
    | ⟨1, _⟩ => rfl
  · match a with
    | ⟨0, _⟩ => rfl

/-- The cosines and the sines, the same for every head. -/
theorem cos_apply (r : Fin 8192) (h : Fin 32) (l : Fin 16) : val_main_v8 (F := Ideal) pos inv (idx_main_v16 (ix3 r h l)) = Ideal.cos (position pos r * inv (ix1 l)) := by
  rw [val_main_v8_apply, val_main_v7_apply, ← angle_apply pos inv r l]
  refine congrArg (fun k => Ideal.cos (val_main_v6 (F := Ideal) pos inv k)) (funext fun a => ?_)
  match a with
  | ⟨0, _⟩ => rfl
  | ⟨1, _⟩ => rfl
theorem sin_apply (r : Fin 8192) (h : Fin 32) (l : Fin 16) : val_main_v10 (F := Ideal) pos inv (idx_main_v18 (ix3 r h l)) = Ideal.sin (position pos r * inv (ix1 l)) := by
  rw [val_main_v10_apply, val_main_v9_apply, ← angle_apply pos inv r l]
  refine congrArg (fun k => Ideal.sin (val_main_v6 (F := Ideal) pos inv k)) (funext fun a => ?_)
  match a with
  | ⟨0, _⟩ => rfl
  | ⟨1, _⟩ => rfl

/-- The columns as heads. -/
theorem heads_apply (i : S8192x32x128.Idx) (r : Fin 8192) (j : Fin 4096) (hr : (i 0).val = r.val) (hj : (i 1).val * 128 + (i 2).val = j.val) :
    val_main_v12 (F := Ideal) a i = a (ix2 r j) := by
  have h0 : (i 0).val < 8192 := (i 0).isLt
  have h1 : (i 1).val < 32 := (i 1).isLt
  have h2 : (i 2).val < 128 := (i 2).isLt
  rw [val_main_v12_apply, val_main_v11_apply]
  refine congrArg a (funext fun b => Fin.ext ?_)
  match b with
  | ⟨0, _⟩ => show (((i 0).val * 32 + (i 1).val) * 128 + (i 2).val) / 4096 = r.val; omega
  | ⟨1, _⟩ => show (((i 0).val * 32 + (i 1).val) * 128 + (i 2).val) % 4096 = j.val; omega

/-- All the heads turned. -/
theorem rotated_eq (i : S8192x4096.Idx) (r : Fin 8192) (j : Fin 4096) (hr : (i 0).val = r.val) (hj : (i 1).val = j.val) :
    val_main_v27 (F := Ideal) a pos inv i = rotated a pos inv r j := by
  obtain rfl : i = ix2 r j := funext fun b => Fin.ext (by
    match b with
    | ⟨0, _⟩ => exact hr
    | ⟨1, _⟩ => exact hj)
  have hr' := r.isLt
  have hj' := j.isLt
  have ei : idx_main_v27 (ix2 r j) = ix3 r (⟨j.val / 128, by omega⟩ : Fin 32) (⟨j.val % 128, by omega⟩ : Fin 128) := funext fun b => Fin.ext (by
    match b with
    | ⟨0, _⟩ => show (r.val * 4096 + j.val) / 4096 = r.val; omega
    | ⟨1, _⟩ => show (r.val * 4096 + j.val) / 128 % 32 = j.val / 128; omega
    | ⟨2, _⟩ => show (r.val * 4096 + j.val) % 128 = j.val % 128; omega)
  rw [val_main_v27_apply, ei]
  unfold val_main_v26 rotated lane
  have hl : j.val % 128 < 128 := Nat.mod_lt _ (by decide)
  by_cases h16 : j.val % 128 < 16
  · rw [dif_pos h16]
    refine Eq.trans (concatenate_apply_piece (t := S8192x32x128) 2 _ _ _ 0 (by show 0 < 3; decide) S8192x32x16 _ rfl rfl 0 rfl
      (ix3 r (⟨j.val / 128, by omega⟩ : Fin 32) (⟨j.val % 128, h16⟩ : Fin 16)) (fun b hb => by
        match b with
        | ⟨0, _⟩ => rfl
        | ⟨1, _⟩ => rfl
        | ⟨2, _⟩ => exact absurd rfl hb) (by show 0 + j.val % 128 = j.val % 128; omega)) ?_
    rw [val_main_v20_apply, val_main_v17_apply, val_main_v19_apply, val_main_v16_apply, val_main_v18_apply, val_main_v13_apply, val_main_v14_apply, cos_apply, sin_apply]
    have hf : freq inv ⟨j.val % 128, hl⟩ = inv (ix1 (⟨j.val % 128, h16⟩ : Fin 16)) := by
      unfold freq
      rw [if_pos (by show j.val % 128 < 32; omega)]
      exact congrArg (fun k => inv (ix1 (k : Fin 16))) (Fin.ext (by show j.val % 128 % 16 = j.val % 128; omega))
    show _ = _ * Ideal.cos (position pos r * freq inv ⟨j.val % 128, hl⟩) - _ * Ideal.sin (position pos r * freq inv ⟨j.val % 128, hl⟩)
    rw [hf]
    refine congrArg₂ (fun x y => x * Ideal.cos _ - y * Ideal.sin _) (heads_apply a _ r _ rfl ?_) (heads_apply a _ r _ rfl ?_)
    · rfl
    · show j.val / 128 * 128 + (16 + j.val % 128) = j.val / 128 * 128 + (j.val % 128 + 16); omega
  · by_cases h32 : j.val % 128 < 32
    · rw [dif_neg h16, if_pos h32]
      refine Eq.trans (concatenate_apply_piece (t := S8192x32x128) 2 _ _ _ 1 (by show 1 < 3; decide) S8192x32x16 _ rfl rfl 16 rfl
        (ix3 r (⟨j.val / 128, by omega⟩ : Fin 32) (⟨j.val % 128 - 16, by omega⟩ : Fin 16)) (fun b hb => by
          match b with
          | ⟨0, _⟩ => rfl
          | ⟨1, _⟩ => rfl
          | ⟨2, _⟩ => exact absurd rfl hb) (by show 16 + (j.val % 128 - 16) = j.val % 128; omega)) ?_
      rw [val_main_v25_apply, val_main_v22_apply, val_main_v24_apply, val_main_v21_apply, val_main_v23_apply, val_main_v13_apply, val_main_v14_apply]
      have hf : freq inv ⟨j.val % 128, hl⟩ = inv (ix1 (⟨j.val % 128 - 16, by omega⟩ : Fin 16)) := by
        unfold freq
        rw [if_pos h32]
        exact congrArg (fun k => inv (ix1 (k : Fin 16))) (Fin.ext (by show j.val % 128 % 16 = j.val % 128 - 16; omega))
      show _ = _ * Ideal.cos (position pos r * freq inv ⟨j.val % 128, hl⟩) + _ * Ideal.sin (position pos r * freq inv ⟨j.val % 128, hl⟩)
      rw [hf]
      refine congrArg₂ (· + ·) (congrArg₂ (· * ·) (heads_apply a _ r _ rfl ?_) (cos_apply pos inv r _ _)) (congrArg₂ (· * ·) (heads_apply a _ r _ rfl ?_) (sin_apply pos inv r _ _))
      · show j.val / 128 * 128 + (16 + (j.val % 128 - 16)) = j.val / 128 * 128 + j.val % 128; omega
      · rfl
    · rw [dif_neg h16, if_neg h32]
      refine Eq.trans (concatenate_apply_piece (t := S8192x32x128) 2 _ _ _ 2 (by show 2 < 3; decide) S8192x32x96 _ rfl rfl 32 rfl
        (ix3 r (⟨j.val / 128, by omega⟩ : Fin 32) (⟨j.val % 128 - 32, by omega⟩ : Fin 96)) (fun b hb => by
          match b with
          | ⟨0, _⟩ => rfl
          | ⟨1, _⟩ => rfl
          | ⟨2, _⟩ => exact absurd rfl hb) (by show 32 + (j.val % 128 - 32) = j.val % 128; omega)) ?_
      rw [val_main_v15_apply]
      exact heads_apply a _ r _ rfl (by show j.val / 128 * 128 + (32 + (j.val % 128 - 32)) = j.val / 128 * 128 + j.val % 128; omega)

theorem plain_eq : val_main_v31 (F := Ideal) a = plain a := by
  funext i
  rw [val_main_v31_apply, val_main_v30_apply, val_main_v28_apply, val_main_v11_apply, val_main_v29_apply, val_main_cst_apply]
  refine congrArg (fun k => a k * qscale) (funext fun b => ?_)
  match b with
  | ⟨0, _⟩ => rfl
  | ⟨1, _⟩ => rfl

theorem turned_eq : val_main_v35 (F := Ideal) a pos inv = turned a pos inv := by
  funext i
  rw [val_main_v35_apply, val_main_v34_apply, val_main_v32_apply, val_main_v33_apply, val_main_cst_0_apply]
  exact congrArg (· * qscale) (rotated_eq a pos inv _ _ _ rfl rfl)

theorem keys_eq : val_main_v37 (F := Ideal) a pos inv = keys a pos inv 2048 (by decide) := by
  funext i
  rw [val_main_v37_apply, val_main_v36_apply]
  exact rotated_eq a pos inv _ _ _ rfl rfl

theorem windowKeys_eq : val_main_v39 (F := Ideal) a pos inv = keys a pos inv 3072 (by decide) := by
  funext i
  rw [val_main_v39_apply, val_main_v38_apply]
  exact rotated_eq a pos inv _ _ _ rfl rfl

theorem values_eq : val_main_v42 (F := Ideal) a = values a 2560 (by decide) := by
  funext i
  rw [val_main_v42_apply, val_main_v41_apply, val_main_v40_apply, val_main_v11_apply]
  refine congrArg a (funext fun b => ?_)
  match b with
  | ⟨0, _⟩ => rfl
  | ⟨1, _⟩ => rfl

theorem windowValues_eq : val_main_v45 (F := Ideal) a = values a 3584 (by decide) := by
  funext i
  rw [val_main_v45_apply, val_main_v44_apply, val_main_v43_apply, val_main_v11_apply]
  refine congrArg a (funext fun b => ?_)
  match b with
  | ⟨0, _⟩ => rfl
  | ⟨1, _⟩ => rfl

end Cert.RopeRefIdeal.Rows

namespace Cert.Proof.RopeClaims

theorem frame_p : Cert.quiescent_Rope := fun m ρ _ => Cert.Rope.Gen.frame m ρ
theorem frame_pi : Cert.quiescent_RopeIdeal := fun m ρ _ => Cert.RopeIdeal.Gen.frame m ρ
theorem frame_ri : Cert.quiescent_RopeRefIdeal := fun m ρ _ =>
  (θ_run Cert.RopeRefIdeal.defs _ _).mono (fun r h => ⟨fun c => (h c).2.2.2.2.2.2,
      Idealize.ShloMosaic.sem_eq_zero_of_no_sems (by decide) r.2⟩)
    (Cert.RopeRefIdeal.Value.run (F := Ideal) m ρ)

theorem preserves : Cert.preserves_Rope_RopeIdeal := trivial

theorem algebraic : Cert.algebraic_RopeIdeal_RopeRefIdeal := by
  intro m ρ m' ρ' _ hagree
  refine ⟨_, _, _, _, _, _, (θ_run Cert.RopeIdeal.defs _ _).mono (fun r h c => ⟨(h c).1.trans (Cert.RopeIdeal.Rows.final3_eq m c),
      (h c).2.1.trans (Cert.RopeIdeal.Rows.final4_eq m c), (h c).2.2.1.trans (Cert.RopeIdeal.Rows.final5_eq m c),
      (h c).2.2.2.1.trans (Cert.RopeIdeal.Rows.final6_eq m c), (h c).2.2.2.2.1.trans (Cert.RopeIdeal.Rows.final7_eq m c),
      (h c).2.2.2.2.2.1.trans (Cert.RopeIdeal.Rows.final8_eq m c), (h c).2.2.2.2.2.2⟩)
    (Cert.RopeIdeal.Value.run_blocks (F := Ideal) m ρ), ?_⟩
  refine (θ_run Cert.RopeRefIdeal.defs _ _).mono (fun _ h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩)
    (Cert.RopeRefIdeal.Value.run (F := Ideal) m' ρ')
  · rw [(hagree c).1]; exact Cert.RopeRefIdeal.Rows.plain_eq _
  · rw [(hagree c).1, (hagree c).2.1, (hagree c).2.2]; exact Cert.RopeRefIdeal.Rows.turned_eq _ _ _
  · rw [(hagree c).1, (hagree c).2.1, (hagree c).2.2]; exact Cert.RopeRefIdeal.Rows.keys_eq _ _ _
  · rw [(hagree c).1, (hagree c).2.1, (hagree c).2.2]; exact Cert.RopeRefIdeal.Rows.windowKeys_eq _ _ _
  · rw [(hagree c).1]; exact Cert.RopeRefIdeal.Rows.values_eq _
  · rw [(hagree c).1]; exact Cert.RopeRefIdeal.Rows.windowValues_eq _

end Cert.Proof.RopeClaims

end
-- ==== Proof.CompressBlock.lean ====
/-
  ONE POINT OF THE COMPRESSION. A point holds one head's sequence of one batch entry, the positions and the weights of one
  side, and adds thirty-two taps: sixteen on the rows 16n + l, and sixteen on the same rows whose sum is then turned up by
  one row, so that row n takes them from the segment after its own, the last one from the first. The tanh form of the gelu
  and a second product follow; the result is stored once as it is and once transposed.
-/
module

public import proofs.«01_k».proof.Defs
public import proofs.«01_k».proof.Proof.Gen.CompressIdeal.Value
public import Idealize.ShloMosaic.Lib.ValueLayout
public import Idealize.ShloMosaic.Lib.KernelVsHost
public import Idealize.ShloMosaic.Lib.WholeRead
public import Idealize.ShloMosaic.Lib.Pipeline.Value
public import Idealize.ShloMosaic.Lib.MatmulPlain
public import Idealize.ShloMosaic.Lib.ValueIdx
public import Idealize.ShloMosaic.Lib.IdealHost
public import Idealize.ShloMosaic.Lib.Tactic

@[expose] public section

set_option maxRecDepth 65536

noncomputable section

open Idealize.ShloMosaic Idealize.ShloMosaic.TcCoe Idealize.SL.Sem
open Idealize.ShloMosaic.ValueIdx

namespace Cert.CompressIdeal.Block

open Cert.CompressIdeal Cert.CompressIdeal.Gen Cert.CompressIdeal.Value

theorem off3 : (![0, 0, 0] : Fin 3 → Nat) = fun _ => 0 := funext fun a => by fin_cases a <;> rfl
theorem off5 : (![0, 0, 0, 0, 0] : Fin 5 → Nat) = fun _ => 0 := funext fun a => by fin_cases a <;> rfl

/-- A number below 32, whatever is given. -/
def slot (l : ℕ) : Fin 32 := ⟨l % 32, Nat.mod_lt _ (by decide)⟩

/-- The rows l, 16 + l, 32 + l, … of the sequence. -/
def rows (x0 : Vec Ideal S4096x128 .f32) (l : ℕ) : Vec Ideal S256x128 .f32 := fun y =>
  x0 (ix2 (⟨(l + 16 * (y 0).val) % 4096, Nat.mod_lt _ (by decide)⟩ : Fin 4096) (y 1))

/-- Slot l of the positions. -/
def place (x1 : Vec Ideal S1x32x128 .f32) (l : ℕ) : Vec Ideal S1x1x128 .f32 := fun y => x1 (ix3 (0 : Fin 1) (slot l) (y 2))

/-- Slot l of the weights. -/
def weight (x2 : Vec Ideal S1x32x128x128 .f32) (l : ℕ) : Vec Ideal S1x1x128x128 .f32 := fun y => x2 (ix4 (0 : Fin 1) (slot l) (y 2) (y 3))

/-- The product a tap adds. -/
def tap (x : Vec Ideal S256x128 .f32) (p : Vec Ideal S1x1x128 .f32) (w : Vec Ideal S1x1x128x128 .f32) : FVec Ideal S256x128 .f32 :=
  matmul (F := Ideal) (φ₁ := .bf16) (φ₂ := .bf16) dot_S256x128_S128x128_S256x128_1_0_0_1_n_n none
    (truncf .bf16 (addf x (broadcastTo S256x128 (shapeCast S1x128 p shapeCasts_S1x1x128_S1x128) broadcasts_S1x128_S256x128)) bitsLt_bf16_f32)
    (truncf .bf16 (shapeCast S128x128 w shapeCasts_S1x1x128x128_S128x128) bitsLt_bf16_f32) (constant S256x128 .f32 0x00000000#32)

/-- The first taps of a list, added up from zero. -/
def taps (f : ℕ → FVec Ideal S256x128 .f32) : ℕ → FVec Ideal S256x128 .f32
  | 0 => broadcast S256x128 (Scalar.ofBits (F := Ideal) .f32 0x00000000#32)
  | n + 1 => addf (taps f n) (f n)

/-- The hidden values of a point: the low taps and, one row up, the high ones. -/
def hidden (x0 : Vec Ideal S4096x128 .f32) (x1 : Vec Ideal S1x32x128 .f32) (x2 : Vec Ideal S1x32x128x128 .f32) : FVec Ideal S256x128 .f32 :=
  addf (taps (fun l => tap (rows x0 l) (place x1 l) (weight x2 l)) 16)
    (dynamicRotate 0 255#32 none (taps (fun l => tap (rows x0 l) (place x1 (16 + l)) (weight x2 (16 + l))) 16) rotates_S256x128_d0)

/-- The tanh form of the gelu, on an array. -/
def bells (h : FVec Ideal S256x128 .f32) : FVec Ideal S256x128 .f32 :=
  mulf h (mulf (broadcast S256x128 (Scalar.ofBits (F := Ideal) .f32 0x3F000000#32))
    (addf (broadcast S256x128 (Scalar.ofBits (F := Ideal) .f32 0x3F800000#32))
      (tanh (mulf (broadcast S256x128 (Scalar.ofBits (F := Ideal) .f32 0x3F4C422A#32))
        (addf h (mulf (broadcast S256x128 (Scalar.ofBits (F := Ideal) .f32 0x3D372713#32)) (mulf (mulf h h) h)))))))

/-- The second product. -/
def second (a : FVec Ideal S256x128 .f32) (w : Vec Ideal S1x128x128 .f32) : FVec Ideal S256x128 .f32 :=
  matmul (F := Ideal) (φ₁ := .bf16) (φ₂ := .bf16) dot_S256x128_S128x128_S256x128_1_0_0_1_n_n none (truncf .bf16 a bitsLt_bf16_f32)
    (truncf .bf16 (shapeCast S128x128 w shapeCasts_S1x128x128_S128x128) bitsLt_bf16_f32) (constant S256x128 .f32 0x00000000#32)

/-! ## What the loads find -/

theorem load_rows (a : Memref sig .tc .vmem S4096x128 .f32) (h : a.IsWhole) (x0 : Vec Ideal S4096x128 .f32) (l : ℕ)
    (inb : ∀ b, (![256, 128] : Fin 2 → ℕ) b = 0 ∨ (![l, 0] : Fin 2 → ℕ) b + (![16, 1] : Fin 2 → ℕ) b * ((![256, 128] : Fin 2 → ℕ) b - 1) < S4096x128.size b) :
    View.readAt (Elt Ideal) a.view (⟨![l, 0], ![256, 128], ![16, 1], inb⟩ : LoadRect S4096x128) (h.unread x0) = rows x0 l := by
  funext y
  rw [Memref.IsWhole.readAt_unread]
  have hl : l + 16 * 255 < 4096 := (inb 0).resolve_left (by decide)
  have hy : (y 0).val < 256 := (y 0).isLt
  refine congrArg x0 (funext fun b => Fin.ext ?_)
  match b with
  | ⟨0, _⟩ => exact (Nat.mod_eq_of_lt (show l + 16 * (y 0).val < 4096 by omega)).symm
  | ⟨1, _⟩ => show 0 + 1 * (y 1).val = (y 1).val; omega

theorem load_place (a : Memref sig .tc .vmem S1x32x128 .f32) (h : a.IsWhole) (x1 : Vec Ideal S1x32x128 .f32) (l : ℕ)
    (inb : ∀ b, (![0, l, 0] : Fin 3 → ℕ) b + (![1, 1, 128] : Fin 3 → ℕ) b ≤ S1x32x128.size b) :
    View.readAt (Elt Ideal) a.view (Rect.unit (s := S1x32x128) ![0, l, 0] ![1, 1, 128] inb).toLoadRect (h.unread x1) = place x1 l := by
  funext y
  rw [Memref.IsWhole.readAt_unread]
  have hl : l + 1 ≤ 32 := inb 1
  have h0 : (y 0).val < 1 := (y 0).isLt
  have h1 : (y 1).val < 1 := (y 1).isLt
  refine congrArg x1 (funext fun b => Fin.ext ?_)
  match b with
  | ⟨0, _⟩ => show 0 + 1 * (y 0).val = 0; omega
  | ⟨1, _⟩ => show l + 1 * (y 1).val = l % 32; omega
  | ⟨2, _⟩ => show 0 + 1 * (y 2).val = (y 2).val; omega

theorem load_weight (a : Memref sig .tc .vmem S1x32x128x128 .f32) (h : a.IsWhole) (x2 : Vec Ideal S1x32x128x128 .f32) (l : ℕ)
    (inb : ∀ b, (![0, l, 0, 0] : Fin 4 → ℕ) b + (![1, 1, 128, 128] : Fin 4 → ℕ) b ≤ S1x32x128x128.size b) :
    View.readAt (Elt Ideal) a.view (Rect.unit (s := S1x32x128x128) ![0, l, 0, 0] ![1, 1, 128, 128] inb).toLoadRect (h.unread x2) = weight x2 l := by
  funext y
  rw [Memref.IsWhole.readAt_unread]
  have hl : l + 1 ≤ 32 := inb 1
  have h0 : (y 0).val < 1 := (y 0).isLt
  have h1 : (y 1).val < 1 := (y 1).isLt
  refine congrArg x2 (funext fun b => Fin.ext ?_)
  match b with
  | ⟨0, _⟩ => show 0 + 1 * (y 0).val = 0; omega
  | ⟨1, _⟩ => show l + 1 * (y 1).val = l % 32; omega
  | ⟨2, _⟩ => show 0 + 1 * (y 2).val = (y 2).val; omega
  | ⟨3, _⟩ => show 0 + 1 * (y 3).val = (y 3).val; omega

theorem load_out (a : Memref sig .tc .vmem S1x128x128 .f32) (h : a.IsWhole) (x3 : Vec Ideal S1x128x128 .f32)
    (inb : ∀ b, (![0, 0, 0] : Fin 3 → ℕ) b + (![1, 128, 128] : Fin 3 → ℕ) b ≤ S1x128x128.size b) :
    View.readAt (Elt Ideal) a.view (Rect.unit (s := S1x128x128) ![0, 0, 0] ![1, 128, 128] inb).toLoadRect (h.unread x3) = x3 := by
  rw [View.readAt_eq_ld, h.read_unread]
  exact View.ld_unit_zero (S := S1x128x128) off3 inb x3

/-! ## What a point's run leaves -/

variable (c : Dev nD) (i : grid0.Coords) (a3 : Memref sig .tc .vmem S4096x128 .f32) (h3 : a3.IsWhole)
  (a4 : Memref sig .tc .vmem S1x32x128 .f32) (h4 : a4.IsWhole) (a5 : Memref sig .tc .vmem S1x32x128x128 .f32) (h5 : a5.IsWhole)
  (a6 : Memref sig .tc .vmem S1x128x128 .f32) (h6 : a6.IsWhole) (a7 : Memref sig .tc .vmem S1x1x1x256x128 .bf16) (h7 : a7.IsWhole)
  (a8 : Memref sig .tc .vmem S1x1x1x128x256 .bf16) (h8 : a8.IsWhole)
  (x0 : Vec Ideal S4096x128 .f32) (x1 : Vec Ideal S1x32x128 .f32) (x2 : Vec Ideal S1x32x128x128 .f32) (x3 : Vec Ideal S1x128x128 .f32)

/-- What the run computes from its loads, before it is stored. -/
theorem point_eq : kernelRun0_A.sl.r_36 c a3 h3 a4 h4 a5 h5 a6 h6 x0 x1 x2 x3 = second (bells (hidden x0 x1 x2)) x3 := by
  simp only [kernelRun0_A.sl.r, kernelRun0_A.sl.r_1, kernelRun0_A.sl.r_2, kernelRun0_A.sl.r_3, kernelRun0_A.sl.r_4,
    kernelRun0_A.sl.r_5, kernelRun0_A.sl.r_6, kernelRun0_A.sl.r_7, kernelRun0_A.sl.r_8, kernelRun0_A.sl.r_9, kernelRun0_A.sl.r_10,
    kernelRun0_A.sl.r_11, kernelRun0_A.sl.r_12, kernelRun0_A.sl.r_13, kernelRun0_A.sl.r_14, kernelRun0_A.sl.r_15,
    kernelRun0_A.sl.r_16, kernelRun0_A.sl.r_17, kernelRun0_A.sl.r_18, kernelRun0_A.sl.r_19, kernelRun0_A.sl.r_20,
    kernelRun0_A.sl.r_21, kernelRun0_A.sl.r_22, kernelRun0_A.sl.r_23, kernelRun0_A.sl.r_24, kernelRun0_A.sl.r_25,
    kernelRun0_A.sl.r_26, kernelRun0_A.sl.r_27, kernelRun0_A.sl.r_28, kernelRun0_A.sl.r_29, kernelRun0_A.sl.r_30,
    kernelRun0_A.sl.r_31, kernelRun0_A.sl.r_32, kernelRun0_A.sl.r_33, kernelRun0_A.sl.r_34, kernelRun0_A.sl.r_35,
    kernelRun0_A.sl.r_36, load_rows, load_place, load_weight,
    load_out]
  simp only [k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32,
    second, bells, hidden, taps, tap, Nat.reduceAdd]

theorem out4_eq : out0_A_4 c i a3 h3 a4 h4 a5 h5 a6 h6 a7 h7 a8 h8 x0 x1 x2 x3 = k0_pay1 (F := Ideal) (second (bells (hidden x0 x1 x2)) x3) := by
  unfold out0_A_4
  rw [View.read_writes_eq_canon _ _ _ (cover0_A_4 c i a3 h3 a4 h4 a5 h5 a6 h6 a7 h7 a8 h8 x0 x1 x2 x3)]
  unfold kernelRun0_A
  dsimp only
  rw [View.canon_unit_zero off5, point_eq]

theorem out5_eq : out0_A_5 c i a3 h3 a4 h4 a5 h5 a6 h6 a7 h7 a8 h8 x0 x1 x2 x3 = k0_pay2 (F := Ideal) (second (bells (hidden x0 x1 x2)) x3) := by
  unfold out0_A_5
  rw [View.read_writes_eq_canon _ _ _ (cover0_A_5 c i a3 h3 a4 h4 a5 h5 a6 h6 a7 h7 a8 h8 x0 x1 x2 x3)]
  unfold kernelRun0_A
  dsimp only
  rw [View.canon_unit_zero off5, point_eq]

/-! ## Entry by entry -/

/-- The tanh form of the gelu. -/
def bell (h : Ideal .f32) : Ideal .f32 :=
  FloatOps.mulf h (FloatOps.mulf (FloatOps.ofBits .f32 0x3F000000#32) (FloatOps.addf (FloatOps.ofBits .f32 0x3F800000#32)
    (Ideal.tanh (FloatOps.mulf (FloatOps.ofBits .f32 0x3F4C422A#32)
      (FloatOps.addf h (FloatOps.mulf (FloatOps.ofBits .f32 0x3D372713#32) (FloatOps.mulf (FloatOps.mulf h h) h)))))))

theorem bells_apply (h : FVec Ideal S256x128 .f32) (j : S256x128.Idx) : bells h j = bell (h j) := rfl

theorem tap_apply (x : Vec Ideal S256x128 .f32) (p : Vec Ideal S1x1x128 .f32) (w : Vec Ideal S1x1x128x128 .f32) (n : Fin 256) (e : Fin 128) :
    tap x p w (ix2 n e) = ∑ d : Fin 128, ((x (ix2 n d) : EReal) + p (ix3 (0 : Fin 1) (0 : Fin 1) d)) * w (ix4 (0 : Fin 1) (0 : Fin 1) d e) := by
  have h := Ideal.matmul_plain_apply (φ₁ := .bf16) (φ₂ := .bf16) none
    (truncf .bf16 (addf x (broadcastTo S256x128 (shapeCast S1x128 p shapeCasts_S1x1x128_S1x128) broadcasts_S1x128_S256x128)) bitsLt_bf16_f32)
    (truncf .bf16 (shapeCast S128x128 w shapeCasts_S1x1x128x128_S128x128) bitsLt_bf16_f32) (constant (F := Ideal) S256x128 .f32 0x00000000#32) n e
  rw [constant_apply, Ideal.ofBits_zero_f32, zero_add] at h
  refine Eq.trans (show _ = _ from h) (Finset.sum_congr rfl fun d _ => congrArg₂ (· * ·) (congrArg ((x (ix2 n d) : EReal) + ·) ?_) ?_)
  · refine (broadcastTo_apply _ broadcasts_S1x128_S256x128 (ix2 n d) (ix2 (0 : Fin 1) d) (fun a => by
      match a with
      | ⟨0, _⟩ => rfl
      | ⟨1, _⟩ => rfl)).trans ?_
    exact shapeCast_apply p shapeCasts_S1x1x128_S1x128 (ix2 (0 : Fin 1) d) (ix3 (0 : Fin 1) (0 : Fin 1) d)
      (by rw [Shape.rowMajor_val_three, Shape.rowMajor_val_two]; rfl)
  · exact shapeCast_apply w shapeCasts_S1x1x128x128_S128x128 (ix2 d e) (ix4 (0 : Fin 1) (0 : Fin 1) d e)
      (by rw [Shape.rowMajor_val_four, Shape.rowMajor_val_two]; show ((0 * 1 + 0) * 128 + d.val) * 128 + e.val = d.val * 128 + e.val; omega)

theorem taps_apply (f : ℕ → FVec Ideal S256x128 .f32) (j : S256x128.Idx) : ∀ k : ℕ, (taps f k j : EReal) = ∑ l ∈ Finset.range k, (f l j : EReal)
  | 0 => by rw [Finset.sum_range_zero]; exact Ideal.ofBits_zero_f32
  | k + 1 => by rw [Finset.sum_range_succ, ← taps_apply f j k]; rfl

/-- What slot l adds to a hidden value: row 16n + l of the sequence, taken round its end, with the slot's positions, times the slot's weights. -/
def share (x0 : Vec Ideal S4096x128 .f32) (x1 : Vec Ideal S1x32x128 .f32) (x2 : Vec Ideal S1x32x128x128 .f32) (n : Fin 256) (e : Fin 128) (l : Fin 32) : EReal :=
  ∑ d : Fin 128, ((x0 (ix2 (⟨(16 * n.val + l.val) % 4096, Nat.mod_lt _ (by decide)⟩ : Fin 4096) d) : EReal) + x1 (ix3 (0 : Fin 1) l d)) * x2 (ix4 (0 : Fin 1) l d e)

/-- One tap is one slot's share, on the row and the slot it is given. -/
theorem tap_share (n n' : Fin 256) (e : Fin 128) (o l : ℕ) (q : Fin 32) (ho : o % 32 = q.val) (hl : (l + 16 * n'.val) % 4096 = (16 * n.val + q.val) % 4096) :
    tap (rows x0 l) (place x1 o) (weight x2 o) (ix2 n' e) = share x0 x1 x2 n e q := by
  rw [tap_apply]
  have hq : slot o = q := Fin.ext ho
  refine Finset.sum_congr rfl fun d _ => congrArg₂ (· * ·) (congrArg₂ (· + ·) (congrArg x0 (funext fun a => Fin.ext ?_)) ?_) ?_
  · match a with
    | ⟨0, _⟩ => exact hl
    | ⟨1, _⟩ => rfl
  · show x1 (ix3 (0 : Fin 1) (slot o) d) = _; rw [hq]
  · show x2 (ix4 (0 : Fin 1) (slot o) d e) = _; rw [hq]

theorem hidden_apply (n : Fin 256) (e : Fin 128) : hidden x0 x1 x2 (ix2 n e) = ∑ l : Fin 32, share x0 x1 x2 n e l := by
  refine Eq.trans ?_ (Fin.sum_univ_add (a := 16) (b := 16) (fun l : Fin (16 + 16) => share x0 x1 x2 n e l)).symm
  refine (show hidden x0 x1 x2 (ix2 n e) = (_ : EReal) + _ from rfl).trans (congrArg₂ (· + ·) ?_ ?_)
  · rw [taps_apply, Finset.sum_range]
    exact Finset.sum_congr rfl fun l _ => tap_share x0 x1 x2 n n e l.val l.val _ (by have := l.isLt; show l.val % 32 = l.val; omega)
      (by show (l.val + 16 * n.val) % 4096 = (16 * n.val + l.val) % 4096; omega)
  · have hn := n.isLt
    rw [dynamicRotate_apply (0 : Fin 2) 255#32 _ rotates_S256x128_d0 (ix2 n e) (ix2 (⟨(n.val + 1) % 256, Nat.mod_lt _ (by decide)⟩ : Fin 256) e) fun b => by
      match b with
      | ⟨0, _⟩ => show (n.val + 1) % 256 = (n.val + 256 - 255) % 256; omega
      | ⟨1, _⟩ => rfl]
    rw [taps_apply, Finset.sum_range]
    exact Finset.sum_congr rfl fun l _ => tap_share x0 x1 x2 n _ e (16 + l.val) l.val _ (by have := l.isLt; show (16 + l.val) % 32 = 16 + l.val; omega)
      (by have := l.isLt; show (l.val + 16 * ((n.val + 1) % 256)) % 4096 = (16 * n.val + (16 + l.val)) % 4096; omega)

theorem second_apply (a : FVec Ideal S256x128 .f32) (n : Fin 256) (f : Fin 128) :
    second a x3 (ix2 n f) = ∑ e : Fin 128, (a (ix2 n e) : EReal) * x3 (ix3 (0 : Fin 1) e f) := by
  have h := Ideal.matmul_plain_apply (φ₁ := .bf16) (φ₂ := .bf16) none (truncf .bf16 a bitsLt_bf16_f32)
    (truncf .bf16 (shapeCast S128x128 x3 shapeCasts_S1x128x128_S128x128) bitsLt_bf16_f32) (constant (F := Ideal) S256x128 .f32 0x00000000#32) n f
  rw [constant_apply, Ideal.ofBits_zero_f32, zero_add] at h
  refine Eq.trans (show _ = _ from h) (Finset.sum_congr rfl fun e _ => congrArg ((a (ix2 n e) : EReal) * ·) ?_)
  exact shapeCast_apply x3 shapeCasts_S1x128x128_S128x128 (ix2 e f) (ix3 (0 : Fin 1) e f)
    (by rw [Shape.rowMajor_val_three, Shape.rowMajor_val_two]; show (0 * 128 + e.val) * 128 + f.val = e.val * 128 + f.val; omega)

theorem pay1_apply (v : FVec Ideal S256x128 .f32) (n : Fin 256) (f : Fin 128) :
    k0_pay1 (F := Ideal) v (ix5 (0 : Fin 1) (0 : Fin 1) (0 : Fin 1) n f) = (v (ix2 n f) : EReal) :=
  shapeCast_apply (truncf .bf16 v bitsLt_bf16_f32) shapeCasts_S256x128_S1x1x1x256x128 (ix5 (0 : Fin 1) (0 : Fin 1) (0 : Fin 1) n f) (ix2 n f)
    (by rw [Shape.rowMajor_val_two, Shape.rowMajor_val_five]; show n.val * 128 + f.val = (((0 * 1 + 0) * 1 + 0) * 256 + n.val) * 128 + f.val; omega)

theorem pay2_apply (v : FVec Ideal S256x128 .f32) (f : Fin 128) (n : Fin 256) :
    k0_pay2 (F := Ideal) v (ix5 (0 : Fin 1) (0 : Fin 1) (0 : Fin 1) f n) = (v (ix2 n f) : EReal) :=
  (shapeCast_apply (truncf .bf16 (transpose S128x256 [1, 0] v transposes_S256x128_p1_0_S128x256) bitsLt_bf16_f32) shapeCasts_S128x256_S1x1x1x128x256
    (ix5 (0 : Fin 1) (0 : Fin 1) (0 : Fin 1) f n) (ix2 f n)
    (by rw [Shape.rowMajor_val_two, Shape.rowMajor_val_five]; show f.val * 256 + n.val = (((0 * 1 + 0) * 1 + 0) * 128 + f.val) * 256 + n.val; omega)).trans
    (transpose_ix2_apply v transposes_S256x128_p1_0_S128x256 f n)

/-- What a point computes, entry by entry. -/
def result (n : Fin 256) (f : Fin 128) : EReal := ∑ e : Fin 128, (bell (∑ l : Fin 32, share x0 x1 x2 n e l) : EReal) * x3 (ix3 (0 : Fin 1) e f)

theorem point_apply (n : Fin 256) (f : Fin 128) : second (bells (hidden x0 x1 x2)) x3 (ix2 n f) = result x0 x1 x2 x3 n f := by
  rw [second_apply]
  refine Finset.sum_congr rfl fun e _ => congrArg (· * (x3 (ix3 (0 : Fin 1) e f) : EReal)) ?_
  rw [bells_apply, hidden_apply]

end Cert.CompressIdeal.Block

end
-- ==== Proof.CompressRef.lean ====
/-
  THE COMPRESSION'S REFERENCE, read entry by entry: the segment indices worked out as words, the gather that takes the rows
  16n + l round the sequence's end, the sum over both contracted axes, the gelu and the second product.
-/
module

public import proofs.«01_k».proof.Defs
public import proofs.«01_k».proof.Proof.Gen.CompressRefIdeal.Read
public import Idealize.ShloMosaic.Lib.TwoAxisContraction
public import Idealize.ShloMosaic.Lib.ValueLayout
public import Idealize.ShloMosaic.Lib.ValueIdx
public import Idealize.ShloMosaic.Lib.ValueIdxCoords
public import Idealize.ShloMosaic.Lib.IdealHost
public import Idealize.ShloMosaic.Lib.WordCmp
public import Idealize.ShloMosaic.Lib.Tactic

@[expose] public section

set_option maxRecDepth 65536

noncomputable section

open Idealize.ShloMosaic Idealize.ShloMosaic.TcCoe Idealize.SL.Sem
open Idealize.ShloMosaic.ValueIdx

namespace Cert.CompressRefIdeal.Rows

open Cert.CompressRefIdeal Cert.CompressRefIdeal.Gen Cert.CompressRefIdeal.Read

/-- The row a segment's slot takes, as a word. -/
theorem index_word (n : Fin 256) (l : Fin 32) : val_main_v16 (F := Ideal) (ix3 n l (0 : Fin 1)) = BitVec.ofNat 32 ((16 * n.val + l.val) % 4096) := by
  rw [val_main_v16_apply, val_main_v15_apply, val_main_v14_apply, val_main_v12_apply, val_main_v10_apply]
  simp only [val_main_v13_apply, val_main_c_2_apply, val_main_v11_apply, val_main_c_1_apply, val_main_call0_v14_apply, val_main_call0_v13_apply,
    val_main_call0_v12_apply, val_main_call0_v11_apply, val_main_call0_v10_apply, val_main_call0_v9_apply, val_main_call0_c_3_apply,
    val_main_call0_v8_apply, val_main_call0_v7_apply, val_main_call0_c_2_apply, val_main_call0_v6_apply, val_main_call0_v5_apply,
    val_main_call0_c_1_apply, val_main_call0_v4_apply, val_main_call0_v3_apply, val_main_call0_v2_apply, val_main_call0_c_0_apply,
    val_main_call0_v1_apply, val_main_call0_c_apply, val_main_call0_v0_apply, val_main_c_0_apply, val_main_v9_apply, val_main_v8_apply,
    val_main_v7_apply, val_main_v6_apply, val_main_v5_apply, val_main_v4_apply, val_main_v3_apply, val_main_c_apply, val_main_v2_apply, val_main_v1_apply]
  revert n l
  decide +kernel

/-- How the gather reads its operand. -/
abbrev takeDims : GatherDims S2x4096x2x4x128 S256x32x1 S2x256x32x2x4x128 := gather_S2x4096x2x4x128_S256x32x1_S2x256x32x2x4x128_0345_1_n_n_1_2_2124128

/-- The gather takes that row and leaves the other coordinates as they are. -/
theorem gather_apply (x : S2x4096x2x4x128.Idx → EReal) (idx : IVec S256x32x1 32) (y : S2x256x32x2x4x128.Idx) :
    Host.gather takeDims x idx y
      = x (ix5 (y 0 : Fin 2) (⟨min (idx (ix3 (y 1) (y 2) (0 : Fin 1))).toInt.toNat (4096 - 1), by omega⟩ : Fin 4096) (y 3 : Fin 2) (y 4 : Fin 4) (y 5 : Fin 128)) := by
  have kept : ∀ a : Fin 5, (ha : a ∈ takeDims.sKept) →
      a ∉ takeDims.startIndexMap →
      takeDims.start y idx a
        + takeDims.batchCoord y a
        + takeDims.offCoord y a
      = (y (takeDims.offsetDims[takeDims.sKept.idxOf a]'(by
          rw [GatherDims.offset_length]; exact List.idxOf_lt_length_iff.2 ha))).val := fun a ha hs => by
    rw [GatherDims.batchCoord_eq_zero _ _ _ (fun h => absurd h List.not_mem_nil)]
    unfold GatherDims.start GatherDims.offCoord
    rw [dif_neg hs, dif_pos ha, Nat.zero_add]
  unfold Host.gather
  congr 1
  funext a
  refine Fin.ext ?_
  match a with
  | ⟨0, _⟩ => exact (kept 0 (by decide) (by decide)).trans rfl
  | ⟨1, _⟩ =>
    show GatherDims.start _ y idx 1 + GatherDims.batchCoord _ y 1 + GatherDims.offCoord _ y 1 = min _ _
    rw [GatherDims.batchCoord_eq_zero _ _ _ (fun h => absurd h List.not_mem_nil),
      GatherDims.offCoord_eq_zero _ _ _ (fun h => ((GatherDims.mem_sKept _ _).mp h).1 (List.mem_singleton.mpr rfl))]
    unfold GatherDims.start
    rw [dif_pos (by decide)]
    refine congrArg (fun k => min (idx k).toInt.toNat (4096 - 1)) (funext fun b => Fin.ext ?_)
    match b with
    | ⟨0, _⟩ => rfl
    | ⟨1, _⟩ => rfl
    | ⟨2, _⟩ => rfl
  | ⟨2, _⟩ => exact (kept 2 (by decide) (by decide)).trans rfl
  | ⟨3, _⟩ => exact (kept 3 (by decide) (by decide)).trans rfl
  | ⟨4, _⟩ => exact (kept 4 (by decide) (by decide)).trans rfl

variable (x0 : Vec Ideal S8192x1024 .f32) (x1 : Vec Ideal S2x32x128 .f32) (x2 : Vec Ideal S2x32x128x128 .f32) (x3 : Vec Ideal S2x128x128 .f32)

/-- An entry of what the reference sums over: a row of the segment, with its positions. -/
theorem piece_apply (s b : Fin 2) (g : Fin 4) (n : Fin 256) (l : Fin 32) (d : Fin 128) :
    val_main_v21 (F := Ideal) x0 x1 (ix6 s b g n l d)
      = (x0 (ix2 (⟨4096 * b.val + (16 * n.val + l.val) % 4096, by omega⟩ : Fin 8192) (⟨128 * (4 * s.val + g.val) + d.val, by omega⟩ : Fin 1024)) : EReal)
        + x1 (ix3 s l d) := by
  rw [val_main_v21_apply, val_main_v18_apply, val_main_v20_apply, val_main_v19_apply]
  refine congrArg₂ (fun u v : EReal => u + v) ?_ (congrArg x1 (eq_ix3 _))
  unfold val_main_v17
  refine (gather_apply _ _ _).trans ?_
  rw [val_main_v0_apply]
  have hw : min (val_main_v16 (F := Ideal) (ix3 n l (0 : Fin 1))).toInt.toNat (4096 - 1) = (16 * n.val + l.val) % 4096 := by
    rw [index_word]
    have h : (16 * n.val + l.val) % 4096 < 4096 := Nat.mod_lt _ (by decide)
    generalize (16 * n.val + l.val) % 4096 = k at h ⊢
    have hk : (BitVec.ofNat 32 k).toInt = (k : ℤ) := by
      rw [BitVec.toInt_eq_toNat_of_lt (by rw [BitVec.toNat_ofNat]; omega), BitVec.toNat_ofNat]; omega
    rw [hk]; omega
  refine congrArg x0 (funext fun a => Fin.ext ?_)
  match a with
  | ⟨0, _⟩ =>
    show ((((b.val * 4096 + min (val_main_v16 (F := Ideal) (ix3 n l (0 : Fin 1))).toInt.toNat (4096 - 1)) * 2 + s.val) * 4 + g.val) * 128 + d.val) / 1024 = 4096 * b.val + (16 * n.val + l.val) % 4096
    rw [hw]; omega
  | ⟨1, _⟩ =>
    show ((((b.val * 4096 + min (val_main_v16 (F := Ideal) (ix3 n l (0 : Fin 1))).toInt.toNat (4096 - 1)) * 2 + s.val) * 4 + g.val) * 128 + d.val) % 1024 = 128 * (4 * s.val + g.val) + d.val
    rw [hw]; omega

/-- How the reference contracts the slots and the features. -/
abbrev sumDims : DotDims S2x2x4x256x32x128 S2x32x128x128 S2x2x4x256x128 := dot_S2x2x4x256x32x128_S2x32x128x128_S2x2x4x256x128_54_21_123_3_0_0

/-- A hidden value of the reference. -/
theorem hidden_apply (s b : Fin 2) (g : Fin 4) (n : Fin 256) (e : Fin 128) :
    val_main_v22 (F := Ideal) x0 x1 x2 (ix5 s b g n e) = ∑ l : Fin 32, ∑ d : Fin 128,
      ((x0 (ix2 (⟨4096 * b.val + (16 * n.val + l.val) % 4096, by omega⟩ : Fin 8192) (⟨128 * (4 * s.val + g.val) + d.val, by omega⟩ : Fin 1024)) : EReal)
        + x1 (ix3 s l d)) * x2 (ix4 s l d e) := by
  unfold val_main_v22
  simp only [Host.dotGeneral]
  rw [Ideal.dotGeneral_apply, sum_contr2 sumDims 128 32 rfl rfl rfl, Finset.sum_comm]
  refine Finset.sum_congr rfl fun l _ => Finset.sum_congr rfl fun d _ => ?_
  have h0 := contrEquiv2_symm_val0 sumDims 128 32 rfl rfl rfl (d, l)
  have h1 := contrEquiv2_symm_val1 sumDims 128 32 rfl rfl rfl (d, l)
  have el : sumDims.lhsIdx (ix5 s b g n e) ((contrEquiv2 sumDims 128 32 rfl rfl rfl).symm (d, l)) = ix6 s b g n l d := by
    funext a; apply Fin.ext
    match a with
    | ⟨0, _⟩ => rfl
    | ⟨1, _⟩ => rfl
    | ⟨2, _⟩ => rfl
    | ⟨3, _⟩ => rfl
    | ⟨4, _⟩ => exact h1
    | ⟨5, _⟩ => exact h0
  have er : sumDims.rhsIdx (ix5 s b g n e) ((contrEquiv2 sumDims 128 32 rfl rfl rfl).symm (d, l)) = ix4 s l d e := by
    funext a; apply Fin.ext
    match a with
    | ⟨0, _⟩ => rfl
    | ⟨1, _⟩ => exact h1
    | ⟨2, _⟩ => exact h0
    | ⟨3, _⟩ => rfl
  rw [el, er, piece_apply]

end Cert.CompressRefIdeal.Rows

end
-- ==== Proof.Compress.lean ====
/-
  THE COMPRESSION OF THE KEYS AND THE VALUES. One grid point per side, batch entry and head; what the two result arrays hold
  afterwards, and that the reference's two results, the compressed rows and the same ones transposed, are these arrays.
-/
module

public import proofs.«01_k».proof.Proof.CompressBlock
public import proofs.«01_k».proof.Proof.CompressRef
public import proofs.«01_k».proof.Proof.Gen.Compress.Frame
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.CompressIdeal.Whole

open Cert.CompressIdeal Cert.CompressIdeal.Gen Cert.CompressIdeal.Value Cert.CompressIdeal.Block

/-- A hidden value: the segment's thirty-two rows with their positions, times the first weights. A segment starts every
    sixteen rows; the last one goes on at its sequence's start. -/
def hid (x : Vec Ideal S8192x1024 .f32) (p : Vec Ideal S2x32x128 .f32) (w : Vec Ideal S2x32x128x128 .f32)
    (s b : Fin 2) (g : Fin 4) (n : Fin 256) (e : Fin 128) : EReal :=
  ∑ l : Fin 32, ∑ d : Fin 128,
    ((x (ix2 (⟨4096 * b.val + (16 * n.val + l.val) % 4096, by omega⟩ : Fin 8192) (⟨128 * (4 * s.val + g.val) + d.val, by omega⟩ : Fin 1024)) : EReal)
      + p (ix3 s l d)) * w (ix4 s l d e)

/-- A compressed value: the gelu of the hidden values times the second weights. -/
def entry (x : Vec Ideal S8192x1024 .f32) (p : Vec Ideal S2x32x128 .f32) (w : Vec Ideal S2x32x128x128 .f32) (w2 : Vec Ideal S2x128x128 .f32)
    (s b : Fin 2) (g : Fin 4) (n : Fin 256) (f : Fin 128) : EReal :=
  ∑ e : Fin 128, (bell (hid x p w s b g n e) : EReal) * w2 (ix3 s e f)

/-- The compressed rows. -/
def plain (x : Vec Ideal S8192x1024 .f32) (p : Vec Ideal S2x32x128 .f32) (w : Vec Ideal S2x32x128x128 .f32) (w2 : Vec Ideal S2x128x128 .f32) :
    Vec Ideal S2x2x4x256x128 .bf16 := fun i => entry x p w w2 (i 0) (i 1) (i 2) (i 3) (i 4)

/-- The same rows as columns. -/
def turned (x : Vec Ideal S8192x1024 .f32) (p : Vec Ideal S2x32x128 .f32) (w : Vec Ideal S2x32x128x128 .f32) (w2 : Vec Ideal S2x128x128 .f32) :
    Vec Ideal S2x2x4x128x256 .bf16 := fun i => entry x p w w2 (i 0) (i 1) (i 2) (i 4) (i 3)

variable (m : (ℓ : Loc nD τ sig) → Buf (Elt Ideal) ℓ)

/-- The block indices of the windows at a grid point. -/
theorem index_facts : ∀ t : Fin cfg0.N,
    (win0_0.index t (0 : Fin 2) = t.val / 4 % 2 ∧ win0_0.index t (1 : Fin 2) = t.val / 8 * 4 + t.val % 4)
    ∧ (win0_1.index t (0 : Fin 3) = t.val / 8 ∧ win0_1.index t (1 : Fin 3) = 0 ∧ win0_1.index t (2 : Fin 3) = 0)
    ∧ (win0_2.index t (0 : Fin 4) = t.val / 8 ∧ win0_2.index t (1 : Fin 4) = 0 ∧ win0_2.index t (2 : Fin 4) = 0 ∧ win0_2.index t (3 : Fin 4) = 0)
    ∧ (win0_3.index t (0 : Fin 3) = t.val / 8 ∧ win0_3.index t (1 : Fin 3) = 0 ∧ win0_3.index t (2 : Fin 3) = 0)
    ∧ (win0_4.index t (0 : Fin 5) = t.val / 8 ∧ win0_4.index t (1 : Fin 5) = t.val / 4 % 2 ∧ win0_4.index t (2 : Fin 5) = t.val % 4
      ∧ win0_4.index t (3 : Fin 5) = 0 ∧ win0_4.index t (4 : Fin 5) = 0)
    ∧ (win0_5.index t (0 : Fin 5) = t.val / 8 ∧ win0_5.index t (1 : Fin 5) = t.val / 4 % 2 ∧ win0_5.index t (2 : Fin 5) = t.val % 4
      ∧ win0_5.index t (3 : Fin 5) = 0 ∧ win0_5.index t (4 : Fin 5) = 0) :=
  (by decide +kernel : ∀ t : Fin grid0.N, _)

theorem lt_N (t : Fin cfg0.N) : t.val < 16 := lt_of_lt_of_eq t.isLt N_0

/-- The side, the batch entry and the head of a point. -/
def side (t : Fin cfg0.N) : Fin 2 := ⟨t.val / 8, by have := lt_N t; omega⟩
def batch (t : Fin cfg0.N) : Fin 2 := ⟨t.val / 4 % 2, by omega⟩
def head (t : Fin cfg0.N) : Fin 4 := ⟨t.val % 4, by omega⟩

/-- What a point computes from its blocks is that side's, batch entry's and head's entries. -/
theorem result_eq (c : Dev nD) (t : Fin cfg0.N) (n : Fin 256) (f : Fin 128) :
    result (iblk m c 0 t) (iblk m c 1 t) (iblk m c 2 t) (iblk m c 3 t) n f
      = entry (m ((c : Thread nD τ).loc main_arg0)) (m ((c : Thread nD τ).loc main_arg1)) (m ((c : Thread nD τ).loc main_arg2)) (m ((c : Thread nD τ).loc main_arg3))
          (side t) (batch t) (head t) n f := by
  have hN := lt_N t
  obtain ⟨⟨a0, a1⟩, ⟨p0, p1, p2⟩, ⟨w0, w1, w2, w3⟩, ⟨v0, v1, v2⟩, -, -⟩ := index_facts t
  refine Finset.sum_congr rfl fun e _ => congrArg₂ (fun u v : EReal => u * v) (congrArg bell ?_) ?_
  · refine Finset.sum_congr rfl fun l _ => Finset.sum_congr rfl fun d _ => congrArg₂ (fun u v : EReal => u * v) (congrArg₂ (fun u v : EReal => u + v) ?_ ?_) ?_
    · unfold iblk
      rw [View.read_apply]
      show V m c main_arg0 _ = _
      rw [V_main_arg0]
      refine congrArg (m ((c : Thread nD τ).loc main_arg0)) (funext fun a => Fin.ext ?_)
      match a with
      | ⟨0, _⟩ => show win0_0.index t 0 * 4096 + 1 * ((16 * n.val + l.val) % 4096) = 4096 * (t.val / 4 % 2) + (16 * n.val + l.val) % 4096; rw [a0]; omega
      | ⟨1, _⟩ => show win0_0.index t 1 * 128 + 1 * d.val = 128 * (4 * (t.val / 8) + t.val % 4) + d.val; rw [a1]; omega
    · unfold iblk
      rw [View.read_apply]
      show V m c main_arg1 _ = _
      rw [V_main_arg1]
      refine congrArg (m ((c : Thread nD τ).loc main_arg1)) (funext fun a => Fin.ext ?_)
      match a with
      | ⟨0, _⟩ => show win0_1.index t 0 * 1 + 1 * 0 = t.val / 8; rw [p0]; omega
      | ⟨1, _⟩ => show win0_1.index t 1 * 32 + 1 * l.val = l.val; rw [p1]; omega
      | ⟨2, _⟩ => show win0_1.index t 2 * 128 + 1 * d.val = d.val; rw [p2]; omega
    · unfold iblk
      rw [View.read_apply]
      show V m c main_arg2 _ = _
      rw [V_main_arg2]
      refine congrArg (m ((c : Thread nD τ).loc main_arg2)) (funext fun a => Fin.ext ?_)
      match a with
      | ⟨0, _⟩ => show win0_2.index t 0 * 1 + 1 * 0 = t.val / 8; rw [w0]; omega
      | ⟨1, _⟩ => show win0_2.index t 1 * 32 + 1 * l.val = l.val; rw [w1]; omega
      | ⟨2, _⟩ => show win0_2.index t 2 * 128 + 1 * d.val = d.val; rw [w2]; omega
      | ⟨3, _⟩ => show win0_2.index t 3 * 128 + 1 * e.val = e.val; rw [w3]; omega
  · unfold iblk
    rw [View.read_apply]
    show V m c main_arg3 _ = _
    rw [V_main_arg3]
    refine congrArg (m ((c : Thread nD τ).loc main_arg3)) (funext fun a => Fin.ext ?_)
    match a with
    | ⟨0, _⟩ => show win0_3.index t 0 * 1 + 1 * 0 = t.val / 8; rw [v0]; omega
    | ⟨1, _⟩ => show win0_3.index t 1 * 128 + 1 * e.val = e.val; rw [v1]; omega
    | ⟨2, _⟩ => show win0_3.index t 2 * 128 + 1 * f.val = f.val; rw [v2]; omega

/-- Each point writes back its block of the compressed rows. -/
theorem flushed4_eq (c : Dev nD) (t : Fin cfg0.N) : (dats m 0 c).flushed 4 t = ((cfg0.win 4).blk t).view.read (Elt Ideal)
    (plain (m ((c : Thread nD τ).loc main_arg0)) (m ((c : Thread nD τ).loc main_arg1)) (m ((c : Thread nD τ).loc main_arg2)) (m ((c : Thread nD τ).loc main_arg3))) := by
  have hN := lt_N t
  rw [flushed4_A, out4_eq]
  funext y
  obtain ⟨n, f, rfl⟩ : ∃ (n : Fin 256) (f : Fin 128), y = ix5 (0 : Fin 1) (0 : Fin 1) (0 : Fin 1) n f := ⟨y 3, y 4, funext fun a => by
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => exact Fin.ext (by have h : (y 2).val < 1 := (y 2).isLt; show (y 2).val = 0; omega)
    | ⟨3, _⟩ => rfl
    | ⟨4, _⟩ => rfl⟩
  show k0_pay1 (F := Ideal) _ (ix5 (0 : Fin 1) (0 : Fin 1) (0 : Fin 1) n f) = plain _ _ _ _ (((cfg0.win 4).blk t).view.emb (ix5 (0 : Fin 1) (0 : Fin 1) (0 : Fin 1) n f))
  rw [pay1_apply, point_apply, result_eq]
  obtain ⟨-, -, -, -, ⟨f0, f1, f2, f3, f4⟩, -⟩ := index_facts t
  have hemb : ((cfg0.win 4).blk t).view.emb (ix5 (0 : Fin 1) (0 : Fin 1) (0 : Fin 1) n f) = ix5 (side t) (batch t) (head t) n f := funext fun a => Fin.ext (by
    match a with
    | ⟨0, _⟩ => show win0_4.index t 0 * 1 + 1 * 0 = t.val / 8; rw [f0]; omega
    | ⟨1, _⟩ => show win0_4.index t 1 * 1 + 1 * 0 = t.val / 4 % 2; rw [f1]; omega
    | ⟨2, _⟩ => show win0_4.index t 2 * 1 + 1 * 0 = t.val % 4; rw [f2]; omega
    | ⟨3, _⟩ => show win0_4.index t 3 * 256 + 1 * n.val = n.val; rw [f3]; omega
    | ⟨4, _⟩ => show win0_4.index t 4 * 128 + 1 * f.val = f.val; rw [f4]; omega)
  rw [hemb]
  rfl

/-- … and of the same rows as columns. -/
theorem flushed5_eq (c : Dev nD) (t : Fin cfg0.N) : (dats m 0 c).flushed 5 t = ((cfg0.win 5).blk t).view.read (Elt Ideal)
    (turned (m ((c : Thread nD τ).loc main_arg0)) (m ((c : Thread nD τ).loc main_arg1)) (m ((c : Thread nD τ).loc main_arg2)) (m ((c : Thread nD τ).loc main_arg3))) := by
  have hN := lt_N t
  rw [flushed5_A, out5_eq]
  funext y
  obtain ⟨f, n, rfl⟩ : ∃ (f : Fin 128) (n : Fin 256), y = ix5 (0 : Fin 1) (0 : Fin 1) (0 : Fin 1) f n := ⟨y 3, y 4, funext fun a => by
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => exact Fin.ext (by have h : (y 2).val < 1 := (y 2).isLt; show (y 2).val = 0; omega)
    | ⟨3, _⟩ => rfl
    | ⟨4, _⟩ => rfl⟩
  show k0_pay2 (F := Ideal) _ (ix5 (0 : Fin 1) (0 : Fin 1) (0 : Fin 1) f n) = turned _ _ _ _ (((cfg0.win 5).blk t).view.emb (ix5 (0 : Fin 1) (0 : Fin 1) (0 : Fin 1) f n))
  rw [pay2_apply, point_apply, result_eq]
  obtain ⟨-, -, -, -, -, ⟨f0, f1, f2, f3, f4⟩⟩ := index_facts t
  have hemb : ((cfg0.win 5).blk t).view.emb (ix5 (0 : Fin 1) (0 : Fin 1) (0 : Fin 1) f n) = ix5 (side t) (batch t) (head t) f n := funext fun a => Fin.ext (by
    match a with
    | ⟨0, _⟩ => show win0_5.index t 0 * 1 + 1 * 0 = t.val / 8; rw [f0]; omega
    | ⟨1, _⟩ => show win0_5.index t 1 * 1 + 1 * 0 = t.val / 4 % 2; rw [f1]; omega
    | ⟨2, _⟩ => show win0_5.index t 2 * 1 + 1 * 0 = t.val % 4; rw [f2]; omega
    | ⟨3, _⟩ => show win0_5.index t 3 * 128 + 1 * f.val = f.val; rw [f3]; omega
    | ⟨4, _⟩ => show win0_5.index t 4 * 256 + 1 * n.val = n.val; rw [f4]; omega)
  rw [hemb]
  rfl

/-- The point of a side, a batch entry and a head. -/
def point (s b : Fin 2) (g : Fin 4) : Fin cfg0.N := ⟨8 * s.val + 4 * b.val + g.val, lt_of_lt_of_eq (by omega) N_0.symm⟩

theorem final4_eq (c : Dev nD) : (dats m 0 c).arrAt 4 cfg0.N
    = plain (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed4_eq m c t) fun i => by
    have h0 : (i 0).val < 2 := (i 0).isLt
    have h1 : (i 1).val < 2 := (i 1).isLt
    have h2 : (i 2).val < 4 := (i 2).isLt
    have h3 : (i 3).val < 256 := (i 3).isLt
    have h4 : (i 4).val < 128 := (i 4).isLt
    let t : Fin cfg0.N := point (i 0) (i 1) (i 2)
    have ht : t.val = 8 * (i 0).val + 4 * (i 1).val + (i 2).val := rfl
    obtain ⟨-, -, -, -, ⟨f0, f1, f2, f3, f4⟩, -⟩ := index_facts t
    refine ⟨t, flush0_4 t, ?_⟩
    show i ∈ ((View.whole main_v0_0).slice (win0_4.rect t)).set
    rw [View.set_slice_whole, Rect.mem_set_unit]
    intro a
    match a with
    | ⟨0, _⟩ => show win0_4.index t 0 * 1 ≤ (i 0).val ∧ (i 0).val < win0_4.index t 0 * 1 + 1; rw [f0]; omega
    | ⟨1, _⟩ => show win0_4.index t 1 * 1 ≤ (i 1).val ∧ (i 1).val < win0_4.index t 1 * 1 + 1; rw [f1]; omega
    | ⟨2, _⟩ => show win0_4.index t 2 * 1 ≤ (i 2).val ∧ (i 2).val < win0_4.index t 2 * 1 + 1; rw [f2]; omega
    | ⟨3, _⟩ => show win0_4.index t 3 * 256 ≤ (i 3).val ∧ (i 3).val < win0_4.index t 3 * 256 + 256; rw [f3]; omega
    | ⟨4, _⟩ => show win0_4.index t 4 * 128 ≤ (i 4).val ∧ (i 4).val < win0_4.index t 4 * 128 + 128; rw [f4]; omega

theorem final5_eq (c : Dev nD) : (dats m 0 c).arrAt 5 cfg0.N
    = turned (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed5_eq m c t) fun i => by
    have h0 : (i 0).val < 2 := (i 0).isLt
    have h1 : (i 1).val < 2 := (i 1).isLt
    have h2 : (i 2).val < 4 := (i 2).isLt
    have h3 : (i 3).val < 128 := (i 3).isLt
    have h4 : (i 4).val < 256 := (i 4).isLt
    let t : Fin cfg0.N := point (i 0) (i 1) (i 2)
    have ht : t.val = 8 * (i 0).val + 4 * (i 1).val + (i 2).val := rfl
    obtain ⟨-, -, -, -, -, ⟨f0, f1, f2, f3, f4⟩⟩ := index_facts t
    refine ⟨t, flush0_5 t, ?_⟩
    show i ∈ ((View.whole main_v0_1).slice (win0_5.rect t)).set
    rw [View.set_slice_whole, Rect.mem_set_unit]
    intro a
    match a with
    | ⟨0, _⟩ => show win0_5.index t 0 * 1 ≤ (i 0).val ∧ (i 0).val < win0_5.index t 0 * 1 + 1; rw [f0]; omega
    | ⟨1, _⟩ => show win0_5.index t 1 * 1 ≤ (i 1).val ∧ (i 1).val < win0_5.index t 1 * 1 + 1; rw [f1]; omega
    | ⟨2, _⟩ => show win0_5.index t 2 * 1 ≤ (i 2).val ∧ (i 2).val < win0_5.index t 2 * 1 + 1; rw [f2]; omega
    | ⟨3, _⟩ => show win0_5.index t 3 * 128 ≤ (i 3).val ∧ (i 3).val < win0_5.index t 3 * 128 + 128; rw [f3]; omega
    | ⟨4, _⟩ => show win0_5.index t 4 * 256 ≤ (i 4).val ∧ (i 4).val < win0_5.index t 4 * 256 + 256; rw [f4]; omega

end Cert.CompressIdeal.Whole

namespace Cert.CompressRefIdeal.Whole

open Cert.CompressRefIdeal Cert.CompressRefIdeal.Gen Cert.CompressRefIdeal.Read Cert.CompressRefIdeal.Rows
open Cert.CompressIdeal.Block (bell)
open Cert.CompressIdeal.Whole (entry plain turned)

variable (x0 : Vec Ideal S8192x1024 .f32) (x1 : Vec Ideal S2x32x128 .f32) (x2 : Vec Ideal S2x32x128x128 .f32) (x3 : Vec Ideal S2x128x128 .f32)

/-- The reference's gelu is the kernel's. -/
theorem gelu_apply (i : S2x2x4x256x128.Idx) : val_main_v35 (F := Ideal) x0 x1 x2 i = bell (val_main_v22 (F := Ideal) x0 x1 x2 i) := by
  rw [val_main_v35_apply, val_main_v34_apply, val_main_v33_apply, val_main_cst_5_apply, val_main_v32_apply, val_main_v31_apply, val_main_cst_4_apply,
    val_main_v30_apply, val_main_v29_apply, val_main_v28_apply, val_main_cst_3_apply, val_main_v27_apply, val_main_v26_apply, val_main_v25_apply,
    val_main_cst_apply, val_main_v24_apply, val_main_v23_apply]
  rfl

theorem entry_eq (s b : Fin 2) (g : Fin 4) (n : Fin 256) (f : Fin 128) :
    val_main_v36 (F := Ideal) x0 x1 x2 x3 (ix5 s b g n f) = entry x0 x1 x2 x3 s b g n f := by
  rw [val_main_v36_apply]
  refine Finset.sum_congr rfl fun e _ => congrArg₂ (fun u v : EReal => u * v) ?_ (congrArg x3 (eq_ix3 _))
  rw [gelu_apply]
  refine congrArg bell (Eq.trans (congrArg (val_main_v22 (F := Ideal) x0 x1 x2) (eq_ix5 _)) (hidden_apply x0 x1 x2 s b g n e))

theorem plain_eq : val_main_v37 (F := Ideal) x0 x1 x2 x3 = plain x0 x1 x2 x3 := by
  funext i
  rw [val_main_v37_apply, Ideal.truncf_def]
  exact (congrArg (val_main_v36 (F := Ideal) x0 x1 x2 x3) (eq_ix5 i)).trans (entry_eq x0 x1 x2 x3 (i 0) (i 1) (i 2) (i 3) (i 4))

theorem turned_eq : val_main_v39 (F := Ideal) x0 x1 x2 x3 = turned x0 x1 x2 x3 := by
  funext i
  rw [val_main_v39_apply, Ideal.truncf_def, val_main_v38_apply]
  exact (congrArg (val_main_v36 (F := Ideal) x0 x1 x2 x3) (eq_ix5 _)).trans (entry_eq x0 x1 x2 x3 (i 0) (i 1) (i 2) (i 4) (i 3))

end Cert.CompressRefIdeal.Whole

namespace Cert.Proof.CompressClaims

theorem frame_p : Cert.quiescent_Compress := fun m ρ _ => Cert.Compress.Gen.frame m ρ
theorem frame_pi : Cert.quiescent_CompressIdeal := fun m ρ _ => Cert.CompressIdeal.Gen.frame m ρ
theorem frame_ri : Cert.quiescent_CompressRefIdeal := fun m ρ _ =>
  (θ_run Cert.CompressRefIdeal.defs _ _).mono (fun r h => ⟨fun c => (h c).2.2,
      Idealize.ShloMosaic.sem_eq_zero_of_no_sems (by decide) r.2⟩)
    (Cert.CompressRefIdeal.Value.run (F := Ideal) m ρ)

theorem preserves : Cert.preserves_Compress_CompressIdeal := trivial

theorem algebraic : Cert.algebraic_CompressIdeal_CompressRefIdeal := by
  intro m ρ m' ρ' _ hagree
  refine ⟨_, _, (θ_run Cert.CompressIdeal.defs _ _).mono (fun r h c => ⟨(h c).1.trans (Cert.CompressIdeal.Whole.final4_eq m c),
      (h c).2.1.trans (Cert.CompressIdeal.Whole.final5_eq m c), (h c).2.2⟩)
    (Cert.CompressIdeal.Value.run_blocks (F := Ideal) m ρ), ?_⟩
  refine (θ_run Cert.CompressRefIdeal.defs _ _).mono (fun _ h c => ⟨(h c).1.trans ?_, (h c).2.1.trans ?_, (h c).2.2⟩)
    (Cert.CompressRefIdeal.Value.run (F := Ideal) m' ρ')
  · rw [Cert.CompressRefIdeal.Read.val_main_v37_eq, (hagree c).1, (hagree c).2.1, (hagree c).2.2.1, (hagree c).2.2.2]
    exact Cert.CompressRefIdeal.Whole.plain_eq _ _ _ _
  · rw [Cert.CompressRefIdeal.Read.val_main_v39_eq, (hagree c).1, (hagree c).2.1, (hagree c).2.2.1, (hagree c).2.2.2]
    exact Cert.CompressRefIdeal.Whole.turned_eq _ _ _ _

end Cert.Proof.CompressClaims

end
-- ==== Proof.AdaBlock.lean ====
/-
  ONE POINT OF THE MODULATION'S PRODUCT. A grid point takes 1024 columns of a layer's weights and walks their 4096 rows eight at
  a time: each row's entries are multiplied by the activation of that row and added to eight running rows, once per batch
  entry. After 512 steps the eight running rows are added up and the bias joins. What the steps have added after each of them,
  and what the point's block therefore holds: two rows of products with the bias, and six rows of zeros.
-/
module

public import proofs.«01_k».proof.Defs
public import proofs.«01_k».proof.Proof.Gen.AdaIdeal.Value
public import Idealize.ShloMosaic.Lib.ValueLayout
public import Idealize.ShloMosaic.Lib.KernelVsHost
public import Idealize.ShloMosaic.Lib.WholeRead
public import Idealize.ShloMosaic.Lib.Pipeline.Value
public import Idealize.ShloMosaic.Lib.ValueIdx
public import Idealize.ShloMosaic.Lib.IdealHost
public import Idealize.ShloMosaic.Lib.Tactic
public import Idealize.ShloMosaic.PureOps.Ideal.Laws

@[expose] public section

set_option maxRecDepth 16384

noncomputable section

open Idealize.ShloMosaic Idealize.ShloMosaic.TcCoe Idealize.SL.Sem
open Idealize.ShloMosaic.ValueIdx

namespace Cert.AdaIdeal.Block

open Cert.AdaIdeal Cert.AdaIdeal.Gen Cert.AdaIdeal.Value

theorem off3 : (![0, 0, 0] : Fin 3 → Nat) = fun _ => 0 := funext fun a => by fin_cases a <;> rfl

/-- A buffer whose whole extent has just been stored holds what was stored. -/
theorem read_stored {S : Shape} {κ : Kind} {sp : Space} (v : View sig κ sp S .f32) (f : v.ty.Contents (Elt Ideal)) {off : Fin S.rank → ℕ}
    (h : off = fun _ => 0) (inb : ∀ a, off a + S.size a ≤ S.size a) (w : S.Idx → Elt Ideal .f32) :
    v.read (Elt Ideal) (v.writes (Elt Ideal) f [⟨Rect.unit off S.size inb, w⟩]) = w :=
  (View.read_writes_eq_canon v f [⟨Rect.unit off S.size inb, w⟩] fun y => ⟨_, List.mem_singleton_self _, View.mem_set_unit_zero h inb y⟩).trans
    (View.canon_unit_zero (Val := Elt Ideal) (e := .f32) h inb w)

variable (c : Dev nD) (i : grid0.Coords) (a2 : Memref sig .tc .vmem S2x4096x128 .f32) (h2 : a2.IsWhole)
  (a3 : Memref sig .tc .vmem S1x4096x1024 .f32) (h3 : a3.IsWhole) (a4 : Memref sig .tc .vmem S1x1x1024 .f32) (h4 : a4.IsWhole)
  (a5 : Memref sig .tc .vmem S1x8x1024 .f32) (h5 : a5.IsWhole) (a6 : Memref sig .tc .vmem S2x4096x128 .f32) (h6 : a6.IsWhole)
  (x0 : Vec Ideal S2x4096x128 .f32) (x1 : Vec Ideal S1x4096x1024 .f32) (x2 : Vec Ideal S1x1x1024 .f32) (xs : Vec Ideal S2x4096x128 .f32)

/-- One product: the weight of row `a` and column `q`, and the activation of row `a` for batch entry `b`, read from the
    copy that has it in 128 lanes. -/
def term (w : Vec Ideal S1x4096x1024 .f32) (s : Vec Ideal S2x4096x128 .f32) (b : Fin 2) (q : Fin 1024) (a : Fin 4096) : EReal :=
  w (ix3 (0 : Fin 1) a q) * s (ix3 b a (⟨q.val % 128, Nat.mod_lt _ (by decide)⟩ : Fin 128))

/-- The same by a number, nothing past the last row. -/
def termAt (w : Vec Ideal S1x4096x1024 .f32) (s : Vec Ideal S2x4096x128 .f32) (b : Fin 2) (q : Fin 1024) (a : ℕ) : EReal :=
  if h : a < 4096 then term w s b q ⟨a, h⟩ else 0

/-- Eight copies of eight rows of 128 lanes side by side. -/
theorem copies_apply (v : FVec Ideal S8x128 .f32) (r : Fin 8) (q : Fin 1024) :
    concatenate S8x1024 1 [⟨S8x128, v⟩, ⟨S8x128, v⟩, ⟨S8x128, v⟩, ⟨S8x128, v⟩, ⟨S8x128, v⟩, ⟨S8x128, v⟩, ⟨S8x128, v⟩, ⟨S8x128, v⟩]
        concatenates_S8x128_S8x128_S8x128_S8x128_S8x128_S8x128_S8x128_S8x128_S8x1024_d1 (ix2 r q)
      = v (ix2 r (⟨q.val % 128, Nat.mod_lt _ (by decide)⟩ : Fin 128)) :=
  concatenate_replicate_apply (t := S8x1024) 1 8 v concatenates_S8x128_S8x128_S8x128_S8x128_S8x128_S8x128_S8x128_S8x128_S8x1024_d1 rfl (ix2 r q)
    (ix2 r (⟨q.val % 128, Nat.mod_lt _ (by decide)⟩ : Fin 128)) rfl (fun b hb => by
      match b with
      | ⟨0, _⟩ => rfl
      | ⟨1, _⟩ => exact absurd rfl hb)

/-- What a step adds, from the eight rows of weights and the eight rows of activations it loads. -/
theorem step_apply (v : FVec Ideal S1x8x1024 .f32) (s : FVec Ideal S1x8x128 .f32) (r : Fin 8) (q : Fin 1024) :
    mulf (k0_pay4 v) (concatenate S8x1024 1 [⟨S8x128, shapeCast S8x128 s shapeCasts_S1x8x128_S8x128⟩, ⟨S8x128, shapeCast S8x128 s shapeCasts_S1x8x128_S8x128⟩,
        ⟨S8x128, shapeCast S8x128 s shapeCasts_S1x8x128_S8x128⟩, ⟨S8x128, shapeCast S8x128 s shapeCasts_S1x8x128_S8x128⟩,
        ⟨S8x128, shapeCast S8x128 s shapeCasts_S1x8x128_S8x128⟩, ⟨S8x128, shapeCast S8x128 s shapeCasts_S1x8x128_S8x128⟩,
        ⟨S8x128, shapeCast S8x128 s shapeCasts_S1x8x128_S8x128⟩, ⟨S8x128, shapeCast S8x128 s shapeCasts_S1x8x128_S8x128⟩]
        concatenates_S8x128_S8x128_S8x128_S8x128_S8x128_S8x128_S8x128_S8x128_S8x1024_d1) (ix2 r q)
      = (v (ix3 (0 : Fin 1) r q) * s (ix3 (0 : Fin 1) r (⟨q.val % 128, Nat.mod_lt _ (by decide)⟩ : Fin 128)) : EReal) := by
  refine congrArg₂ (fun a b : EReal => a * b) ?_ ((copies_apply _ r q).trans ?_)
  · exact shapeCast_apply v shapeCasts_S1x8x1024_S8x1024 (ix2 r q) (ix3 (0 : Fin 1) r q) (by
      rw [Shape.rowMajor_val_two, Shape.rowMajor_val_three]; show (0 * 8 + r.val) * 1024 + q.val = r.val * 1024 + q.val; omega)
  · exact shapeCast_apply s shapeCasts_S1x8x128_S8x128 (ix2 r (⟨q.val % 128, Nat.mod_lt _ (by decide)⟩ : Fin 128)) (ix3 (0 : Fin 1) r (⟨q.val % 128, Nat.mod_lt _ (by decide)⟩ : Fin 128)) (by
      rw [Shape.rowMajor_val_two, Shape.rowMajor_val_three]; show (0 * 8 + r.val) * 128 + q.val % 128 = r.val * 128 + q.val % 128; omega)

/-- A step: what it leaves of the two groups of running rows. -/
theorem trip_eq (k : Fin k0_t1_loop.trips) (u : FVec Ideal S8x1024 .f32 × FVec Ideal S8x1024 .f32) (X3 : BufTy.Contents (Elt Ideal) a3.view.ty)
    (X6 : BufTy.Contents (Elt Ideal) a6.view.ty) :
    tripR_k0_t1 (F := Ideal) Variants.none c none i a2 h2 a3 h3 a4 h4 a5 h5 a6 h6 X3 X6 k u
      = (k0_pay5 u.1 (View.readAt (Elt Ideal) a3.view (Rect.unit (s := S1x4096x1024) (k0_off1 k) S1x8x1024.size (k0_off1_inb k)).toLoadRect X3)
          (View.readAt (Elt Ideal) a6.view (Rect.unit (s := S2x4096x128) (k0_off2 k) S1x8x128.size (k0_off2_inb k)).toLoadRect X6),
         k0_pay6 u.2 (View.readAt (Elt Ideal) a3.view (Rect.unit (s := S1x4096x1024) (k0_off1 k) S1x8x1024.size (k0_off1_inb k)).toLoadRect X3)
          (View.readAt (Elt Ideal) a6.view (Rect.unit (s := S2x4096x128) (k0_off3 k) S1x8x128.size (k0_off3_inb k)).toLoadRect X6)) := by
  unfold tripR_k0_t1 trip_k0_t1
  rfl

/-- The product a step adds to a running row, in terms of the whole block of weights and the whole array of activations. -/
theorem loaded_eq (k : Fin k0_t1_loop.trips) (b : Fin 2) (off : Fin 3 → ℕ) (inb : ∀ a, off a + S1x8x128.size a ≤ S2x4096x128.size a)
    (hoff : off = ![b.val, 8 * k.val, 0]) (woff : Fin 3 → ℕ) (winb : ∀ a, woff a + S1x8x1024.size a ≤ S1x4096x1024.size a)
    (hwoff : woff = ![0, 8 * k.val, 0]) (r : Fin 8) (q : Fin 1024) :
    (View.ld x1 (Rect.unit (s := S1x4096x1024) woff S1x8x1024.size winb) (ix3 (0 : Fin 1) r q)
        * View.ld xs (Rect.unit (s := S2x4096x128) off S1x8x128.size inb) (ix3 (0 : Fin 1) r (⟨q.val % 128, Nat.mod_lt _ (by decide)⟩ : Fin 128)) : EReal)
      = termAt x1 xs b q (8 * k.val + r.val) := by
  have hk : k.val < 512 := k.isLt
  have hlt : 8 * k.val + r.val < 4096 := by omega
  subst hoff hwoff
  unfold termAt
  rw [dif_pos hlt]
  unfold term
  refine congrArg₂ (fun a b : EReal => a * b) (congrArg x1 (funext fun a => Fin.ext ?_)) (congrArg xs (funext fun a => Fin.ext ?_))
  · match a with
    | ⟨0, _⟩ => rfl
    | ⟨1, _⟩ => show 8 * k.val + 1 * r.val = 8 * k.val + r.val; omega
    | ⟨2, _⟩ => show 0 + 1 * q.val = q.val; omega
  · match a with
    | ⟨0, _⟩ => show b.val + 1 * 0 = b.val; omega
    | ⟨1, _⟩ => show 8 * k.val + 1 * r.val = 8 * k.val + r.val; omega
    | ⟨2, _⟩ => show 0 + 1 * (q.val % 128) = q.val % 128; omega

/-- The running rows before step `n`. -/
theorem steps_eq (X6 : BufTy.Contents (Elt Ideal) a6.view.ty) (hX6 : a6.view.read (Elt Ideal) X6 = xs) (r : Fin 8) (q : Fin 1024) : ∀ n : ℕ, n ≤ 512 →
    (st_k0_t1 (F := Ideal) Variants.none c none i a2 h2 a3 h3 a4 h4 a5 h5 a6 h6 (h3.unread x1) X6 (k0_pay2, k0_pay3) n).1 (ix2 r q)
        = ∑ k ∈ Finset.range n, termAt x1 xs 0 q (8 * k + r.val)
    ∧ (st_k0_t1 (F := Ideal) Variants.none c none i a2 h2 a3 h3 a4 h4 a5 h5 a6 h6 (h3.unread x1) X6 (k0_pay2, k0_pay3) n).2 (ix2 r q)
        = ∑ k ∈ Finset.range n, termAt x1 xs 1 q (8 * k + r.val)
  | 0, _ => by
    rw [st_k0_t1_zero, Finset.sum_range_zero, Finset.sum_range_zero]
    exact ⟨Ideal.ofBits_zero_f32, Ideal.ofBits_zero_f32⟩
  | n + 1, hn => by
    obtain ⟨e0, e1⟩ := steps_eq X6 hX6 r q n (by omega)
    have hs := st_k0_t1_succ (F := Ideal) Variants.none c none i a2 h2 a3 h3 a4 h4 a5 h5 a6 h6 (h3.unread x1) X6 (k0_pay2, k0_pay3) (⟨n, hn⟩ : Fin k0_t1_loop.trips)
    rw [trip_eq] at hs
    simp only [View.readAt_eq_ld, h3.read_unread, hX6] at hs
    rw [hs, Finset.sum_range_succ, Finset.sum_range_succ, ← e0, ← e1]
    exact ⟨congrArg (_ + ·) ((step_apply _ _ r q).trans (loaded_eq x1 xs ⟨n, hn⟩ 0 _ _ (k0_off2_eq _) _ _ (k0_off1_eq _) r q)),
      congrArg (_ + ·) ((step_apply _ _ r q).trans (loaded_eq x1 xs ⟨n, hn⟩ 1 _ _ (k0_off3_eq _) _ _ (k0_off1_eq _) r q))⟩

/-- The eight running rows, all steps done, add up to the sum over all 4096 rows. -/
theorem rows_sum (b : Fin 2) (q : Fin 1024) : ∑ r : Fin 8, ∑ k ∈ Finset.range 512, termAt x1 xs b q (8 * k + r.val) = ∑ a : Fin 4096, term x1 xs b q a := by
  rw [Finset.sum_comm, Finset.sum_range, ← Equiv.sum_comp (finProdFinEquiv (m := 512) (n := 8)) (fun a : Fin 4096 => term x1 xs b q a), Fintype.sum_prod_type]
  refine Finset.sum_congr rfl fun k _ => Finset.sum_congr rfl fun r _ => ?_
  have hlt : 8 * k.val + r.val < 4096 := by have := k.isLt; have := r.isLt; omega
  unfold termAt
  rw [dif_pos hlt]
  exact congrArg (term x1 xs b q) (Fin.ext (by show 8 * k.val + r.val = r.val + 8 * k.val; omega))

/-- The eight running rows added up. -/
theorem added_apply (v : FVec Ideal S8x1024 .f32) (q : Fin 1024) :
    shapeCast S1x1024 (multiReduction .add [0] S1024 v 0x00000000#32 reduces_S8x1024_S1024 (.inl rfl) rfl) shapeCasts_S1024_S1x1024 (ix2 (0 : Fin 1) q)
      = ∑ r : Fin 8, v (ix2 r q) := by
  refine (shapeCast_apply _ shapeCasts_S1024_S1x1024 (ix2 (0 : Fin 1) q) (ix1 q) (by
    rw [Shape.rowMajor_val_two, Shape.rowMajor_val_one]; show q.val = 0 * 1024 + q.val; omega)).trans ?_
  refine (Ideal.multiReduction_add_single (φ := .f32) v 0x00000000#32 reduces_S8x1024_S1024 (.inl rfl) rfl (ix1 q)).trans ?_
  refine Finset.sum_congr rfl fun k _ => congrArg v (funext fun a => Fin.ext ?_)
  match a with
  | ⟨0, _⟩ => rfl
  | ⟨1, _⟩ => rfl

/-- The bias block read as a row. -/
theorem bias_apply (v : FVec Ideal S1x1x1024 .f32) (q : Fin 1024) :
    shapeCast S1x1024 v shapeCasts_S1x1x1024_S1x1024 (ix2 (0 : Fin 1) q) = v (ix3 (0 : Fin 1) (0 : Fin 1) q) :=
  shapeCast_apply v shapeCasts_S1x1x1024_S1x1024 (ix2 (0 : Fin 1) q) (ix3 (0 : Fin 1) (0 : Fin 1) q) (by
    rw [Shape.rowMajor_val_two, Shape.rowMajor_val_three]; rfl)

/-- What a point's block holds: a row of products with the bias per batch entry, and zeros below. -/
def block (w : Vec Ideal S1x4096x1024 .f32) (bias : Vec Ideal S1x1x1024 .f32) (s : Vec Ideal S2x4096x128 .f32) (r : Fin 8) (q : Fin 1024) : EReal :=
  if h : r.val < 2 then (∑ a : Fin 4096, term w s ⟨r.val, h⟩ q a) + bias (ix3 (0 : Fin 1) (0 : Fin 1) q) else 0

/-- The rows put under each other. -/
theorem pay7_apply (v0 v1 : FVec Ideal S8x1024 .f32) (h0 : ∀ r q, v0 (ix2 r q) = ∑ k ∈ Finset.range 512, termAt x1 xs 0 q (8 * k + r.val))
    (h1 : ∀ r q, v1 (ix2 r q) = ∑ k ∈ Finset.range 512, termAt x1 xs 1 q (8 * k + r.val)) (r : Fin 8) (q : Fin 1024) :
    k0_pay7 (F := Ideal) v0 v1 x2 x2 (ix3 (0 : Fin 1) r q) = block x1 x2 xs r q := by
  unfold k0_pay7
  refine (shapeCast_apply _ shapeCasts_S8x1024_S1x8x1024 (ix3 (0 : Fin 1) r q) (ix2 r q) (by
    rw [Shape.rowMajor_val_two, Shape.rowMajor_val_three]; show r.val * 1024 + q.val = (0 * 8 + r.val) * 1024 + q.val; omega)).trans ?_
  have hr := r.isLt
  have row : ∀ (b : Fin 2) (v : FVec Ideal S8x1024 .f32), (∀ r q, v (ix2 r q) = ∑ k ∈ Finset.range 512, termAt x1 xs b q (8 * k + r.val)) →
      addf (shapeCast S1x1024 (multiReduction .add [0] S1024 v 0x00000000#32 reduces_S8x1024_S1024 (.inl rfl) rfl) shapeCasts_S1024_S1x1024)
        (shapeCast S1x1024 x2 shapeCasts_S1x1x1024_S1x1024) (ix2 (0 : Fin 1) q) = (∑ a : Fin 4096, term x1 xs b q a) + x2 (ix3 (0 : Fin 1) (0 : Fin 1) q) := fun b v hv =>
    congrArg₂ (fun a b : EReal => a + b) ((added_apply v q).trans ((Finset.sum_congr rfl fun r _ => hv r q).trans (rows_sum x1 xs b q))) (bias_apply x2 q)
  unfold block
  by_cases hr2 : r.val < 2
  · rw [dif_pos hr2]
    by_cases hr1 : r.val < 1
    · obtain rfl : r = 0 := Fin.ext (by show r.val = 0; omega)
      refine Eq.trans (concatenate_apply_piece (t := S8x1024) 0 _ _ _ 0 (by show 0 < 3; decide) S1x1024 _ rfl rfl 0 rfl (ix2 (0 : Fin 1) q) (fun b hb => ?_) rfl) (row 0 v0 h0)
      match b with
      | ⟨0, _⟩ => exact absurd rfl hb
      | ⟨1, _⟩ => rfl
    · obtain rfl : r = 1 := Fin.ext (by show r.val = 1; omega)
      refine Eq.trans (concatenate_apply_piece (t := S8x1024) 0 _ _ _ 1 (by show 1 < 3; decide) S1x1024 _ rfl rfl 1 rfl (ix2 (0 : Fin 1) q) (fun b hb => ?_) rfl) (row 1 v1 h1)
      match b with
      | ⟨0, _⟩ => exact absurd rfl hb
      | ⟨1, _⟩ => rfl
  · rw [dif_neg hr2]
    refine Eq.trans (concatenate_apply_piece (t := S8x1024) 0 _ _ _ 2 (by show 2 < 3; decide) S6x1024 _ rfl rfl 2 rfl
      (ix2 (⟨r.val - 2, by omega⟩ : Fin 6) q) (fun b hb => ?_) (by show 2 + (r.val - 2) = r.val; omega)) Ideal.ofBits_zero_f32
    match b with
    | ⟨0, _⟩ => exact absurd rfl hb
    | ⟨1, _⟩ => rfl

/-- What a later point stores, from the activations it finds. -/
theorem out_later (hc0 : ¬cond0_0 i) (r : Fin 8) (q : Fin 1024) :
    out0_B_3 c i a2 h2 a3 h3 a4 h4 a5 h5 a6 h6 hc0 x0 x1 x2 xs (ix3 (0 : Fin 1) r q) = block x1 x2 xs r q := by
  unfold out0_B_3
  rw [View.read_writes_eq_canon _ _ _ (cover0_B_3 c i a2 h2 a3 h3 a4 h4 a5 h5 a6 h6 hc0 x0 x1 x2 xs)]
  unfold kernelRun0_B
  dsimp only
  sl_unfold_words
  rw [View.canon_unit_zero off3]
  simp only [View.readAt_eq_ld, h4.read_unread, View.ld_unit_zero (S := S1x1x1024) off3]
  exact pay7_apply x1 x2 xs _ _ (fun r q => (steps_eq c i a2 h2 a3 h3 a4 h4 a5 h5 a6 h6 x1 xs _ (h6.read_unread xs) r q 512 le_rfl).1)
    (fun r q => (steps_eq c i a2 h2 a3 h3 a4 h4 a5 h5 a6 h6 x1 xs _ (h6.read_unread xs) r q 512 le_rfl).2) r q

/-- What the first point stores: the activations are those it has just computed. -/
theorem out_first (hc0 : cond0_0 i) (r : Fin 8) (q : Fin 1024) :
    out0_A_3 c i a2 h2 a3 h3 a4 h4 a5 h5 a6 h6 hc0 x0 x1 x2 (ix3 (0 : Fin 1) r q) = block x1 x2 (k0_pay1 x0) r q := by
  unfold out0_A_3
  rw [View.read_writes_eq_canon _ _ _ (cover0_A_3 c i a2 h2 a3 h3 a4 h4 a5 h5 a6 h6 hc0 x0 x1 x2)]
  unfold kernelRun0_A
  dsimp only
  sl_unfold_words
  rw [View.canon_unit_zero off3]
  simp only [View.readAt_eq_ld, h2.read_unread, h4.read_unread, View.ld_unit_zero (S := S1x1x1024) off3, View.ld_unit_zero (S := S2x4096x128) off3]
  have hX6 : a6.view.read (Elt Ideal) (a6.view.writes (Elt Ideal) a6.view.junk
      [⟨Rect.unit ![0, 0, 0] ![2, 4096, 128] inb_S2x4096x128_S2x4096x128_0_0_0, k0_pay1 x0⟩]) = k0_pay1 x0 :=
    read_stored (S := S2x4096x128) a6.view _ off3 _ _
  have hs := fun r q => steps_eq c i a2 h2 a3 h3 a4 h4 a5 h5 a6 h6 x1 (k0_pay1 x0) _ hX6 r q 512 le_rfl
  exact pay7_apply x1 x2 (k0_pay1 x0) _ _ (fun r q => (hs r q).1) (fun r q => (hs r q).2) r q

/-- The activations the first point leaves for the later ones. -/
theorem scratch_first (hc0 : cond0_0 i) :
    sout0_A_0 c i a2 h2 a3 h3 a4 h4 a5 h5 a6 h6 hc0 x0 x1 x2 = k0_pay1 x0 := by
  unfold sout0_A_0
  rw [View.read_writes_eq_canon _ _ _ (scover0_A_0 c i a2 h2 a3 h3 a4 h4 a5 h5 a6 h6 hc0 x0 x1 x2)]
  unfold kernelRun0_A
  dsimp only
  sl_unfold_words
  rw [View.canon_unit_zero off3]
  simp only [View.readAt_eq_ld, h2.read_unread, View.ld_unit_zero (S := S2x4096x128) off3]

end Cert.AdaIdeal.Block

end
-- ==== Proof.Ada.lean ====
/-
  THE MODULATION. Per layer and batch entry, the 24576 numbers its blocks are scaled, shifted and gated by: the conditioning
  vector's activations times the layer's weights, plus a bias. A grid point writes 1024 of them for both batch entries, with six
  rows of zeros below; the first point also leaves the activations for all the others. What the array of all points therefore
  holds, and that the reference's result is the same array.
-/
module

public import proofs.«01_k».proof.Defs
public import proofs.«01_k».proof.Proof.AdaBlock
public import proofs.«01_k».proof.Proof.Gen.Ada.Frame
public import proofs.«01_k».proof.Proof.Gen.AdaIdeal.Value
public import proofs.«01_k».proof.Proof.Gen.AdaRefIdeal.Read
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.AdaIdeal.Whole

open Cert.AdaIdeal Cert.AdaIdeal.Gen Cert.AdaIdeal.Value Cert.AdaIdeal.Block

/-- The activation of an entry of the conditioning vectors: the entry times its logistic. -/
def act (x : Vec Ideal S2x4096 .f32) (b : Fin 2) (a : Fin 4096) : EReal := x (ix2 b a) * Ideal.logistic (x (ix2 b a))

/-- Number `q` of layer `l` for batch entry `b`; zero past the two batch entries. -/
def entry (x : Vec Ideal S2x4096 .f32) (w : Vec Ideal S2x4096x24576 .f32) (bias : Vec Ideal S2x24576 .f32) (l : Fin 2) (b : Fin 8) (q : Fin 24576) : EReal :=
  if h : b.val < 2 then (∑ a : Fin 4096, w (ix3 l a q) * act x ⟨b.val, h⟩ a) + bias (ix2 l q) else 0

/-- The modulation of both layers. -/
def modulation (x : Vec Ideal S2x4096 .f32) (w : Vec Ideal S2x4096x24576 .f32) (bias : Vec Ideal S2x24576 .f32) : Vec Ideal S2x8x24576 .f32 := fun i =>
  entry x w bias (i 0) (i 1) (i 2)

variable (m : (ℓ : Loc nD τ sig) → Buf (Elt Ideal) ℓ)

/-- The call finds the conditioning vectors with every entry in 128 lanes. -/
theorem copies_eq (c : Dev nD) : V m c main_v1 = broadcastInDim S2x4096x128 ![0, 1, 2] bcast_S2x4096x1_S2x4096x128_0_1_2
    (broadcastInDim S2x4096x1 ![0, 1] bcast_S2x4096_S2x4096x1_0_1 (m ((c : Thread nD τ).loc main_arg0) : S2x4096.Idx → EReal)) := by
  unfold V
  after_results <;> rfl

theorem lanes_apply (c : Dev nD) (b : Fin 2) (a : Fin 4096) (l : Fin 128) :
    (V m c main_v1 : S2x4096x128.Idx → EReal) (ix3 b a l) = m ((c : Thread nD τ).loc main_arg0) (ix2 b a) := by
  rw [copies_eq]
  refine (broadcastInDim_apply _ bcast_S2x4096x1_S2x4096x128_0_1_2 _ (ix3 b a l) (ix3 b a (0 : Fin 1)) (fun k => match k with
    | ⟨0, _⟩ => by show b.val = if (2 : Nat) = 1 then 0 else b.val; rw [if_neg (by decide)]
    | ⟨1, _⟩ => by show a.val = if (4096 : Nat) = 1 then 0 else a.val; rw [if_neg (by decide)]
    | ⟨2, _⟩ => by show 0 = if (1 : Nat) = 1 then 0 else l.val; rw [if_pos rfl])).trans ?_
  exact broadcastInDim_apply _ bcast_S2x4096_S2x4096x1_0_1 _ (ix3 b a (0 : Fin 1)) (ix2 b a) (fun k => match k with
    | ⟨0, _⟩ => by show b.val = if (2 : Nat) = 1 then 0 else b.val; rw [if_neg (by decide)]
    | ⟨1, _⟩ => by show a.val = if (4096 : Nat) = 1 then 0 else a.val; rw [if_neg (by decide)])

/-- The call finds the bias as one row per layer. -/
theorem bias_eq (c : Dev nD) : V m c main_v2 = shapeCast S2x1x24576 (m ((c : Thread nD τ).loc main_arg2)) shapeCasts_S2x24576_S2x1x24576 := by
  unfold V
  after_results <;> rfl

theorem biasRow_apply (c : Dev nD) (l : Fin 2) (q : Fin 24576) :
    (V m c main_v2 : S2x1x24576.Idx → EReal) (ix3 l (0 : Fin 1) q) = m ((c : Thread nD τ).loc main_arg2) (ix2 l q) := by
  rw [bias_eq]
  exact shapeCast_apply _ shapeCasts_S2x24576_S2x1x24576 (ix3 l (0 : Fin 1) q) (ix2 l q) (by
    rw [Shape.rowMajor_val_two, Shape.rowMajor_val_three]; show l.val * 24576 + q.val = (l.val * 1 + 0) * 24576 + q.val; omega)

/-- The block indices of the windows at a grid point. -/
theorem index_facts : ∀ t : Fin cfg0.N,
    (win0_0.index t (0 : Fin 3) = 0 ∧ win0_0.index t (1 : Fin 3) = 0 ∧ win0_0.index t (2 : Fin 3) = 0)
    ∧ (win0_1.index t (0 : Fin 3) = t.val / 24 ∧ win0_1.index t (1 : Fin 3) = 0 ∧ win0_1.index t (2 : Fin 3) = t.val % 24)
    ∧ (win0_2.index t (0 : Fin 3) = t.val / 24 ∧ win0_2.index t (1 : Fin 3) = 0 ∧ win0_2.index t (2 : Fin 3) = t.val % 24)
    ∧ (win0_3.index t (0 : Fin 3) = t.val / 24 ∧ win0_3.index t (1 : Fin 3) = 0 ∧ win0_3.index t (2 : Fin 3) = t.val % 24) :=
  (by decide +kernel : ∀ t : Fin grid0.N, _)

theorem lt_N (t : Fin cfg0.N) : t.val < 48 := lt_of_lt_of_eq t.isLt N_0

/-- The activations the first point computes. -/
theorem pay1_apply (c : Dev nD) (t : Fin cfg0.N) (b : Fin 2) (a : Fin 4096) (l : Fin 128) :
    k0_pay1 (F := Ideal) (iblk m c 0 t) (ix3 b a l) = act (m ((c : Thread nD τ).loc main_arg0)) b a := by
  have hx : iblk m c 0 t (ix3 b a l) = m ((c : Thread nD τ).loc main_arg0) (ix2 b a) := by
    obtain ⟨⟨a0, a1, a2⟩, -⟩ := index_facts t
    refine Eq.trans ?_ (lanes_apply m c b a l)
    unfold iblk
    rw [View.read_apply]
    refine congrArg (V m c main_v1) (funext fun k => Fin.ext ?_)
    match k with
    | ⟨0, _⟩ => show win0_0.index t 0 * 2 + 1 * b.val = b.val; rw [a0]; omega
    | ⟨1, _⟩ => show win0_0.index t 1 * 4096 + 1 * a.val = a.val; rw [a1]; omega
    | ⟨2, _⟩ => show win0_0.index t 2 * 128 + 1 * l.val = l.val; rw [a2]; omega
  unfold k0_pay1
  rw [shapeCast_self, shapeCast_self]
  exact congrArg (fun e : EReal => e * Ideal.logistic e) hx

/-- Every point leaves the activations in place. -/
theorem kept_eq (c : Dev nD) (n : ℕ) (hn : n < cfg0.N) (b : Fin 2) (a : Fin 4096) (l : Fin 128) :
    (outsAt0 m c n hn).2 (ix3 b a l) = act (m ((c : Thread nD τ).loc main_arg0)) b a := by
  induction n with
  | zero =>
    rw [outsAt0_A m c ⟨0, hn⟩ (Nat.zero_mod _)]
    dsimp only
    rw [scratch_first]
    exact pay1_apply m c ⟨0, hn⟩ b a l
  | succ n ih =>
    have hN : n + 1 < 48 := lt_N ⟨n + 1, hn⟩
    rw [outsAt0_B m c ⟨n + 1, hn⟩ (by show ¬(n + 1) % 48 = 0; omega)]
    dsimp only
    unfold sout0_B_0
    exact ih _

/-- What a point's block of the result holds, from the activations its later steps read. -/
theorem block_eq (c : Dev nD) (t : Fin cfg0.N) (s : Vec Ideal S2x4096x128 .f32)
    (hs : ∀ b a l, s (ix3 b a l) = act (m ((c : Thread nD τ).loc main_arg0)) b a) (r : Fin 8) (q : Fin 1024) :
    block (iblk m c 1 t) (iblk m c 2 t) s r q
      = entry (m ((c : Thread nD τ).loc main_arg0)) (m ((c : Thread nD τ).loc main_arg1)) (m ((c : Thread nD τ).loc main_arg2))
          (⟨t.val / 24, by have := lt_N t; omega⟩ : Fin 2) r (⟨1024 * (t.val % 24) + q.val, by omega⟩ : Fin 24576) := by
  have hN := lt_N t
  obtain ⟨-, ⟨b0, b1, b2⟩, ⟨d0, d1, d2⟩, -⟩ := index_facts t
  have hw : ∀ a : Fin 4096, iblk m c 1 t (ix3 (0 : Fin 1) a q)
      = m ((c : Thread nD τ).loc main_arg1) (ix3 (⟨t.val / 24, by omega⟩ : Fin 2) a (⟨1024 * (t.val % 24) + q.val, by omega⟩ : Fin 24576)) := fun a => by
    unfold iblk
    rw [View.read_apply]
    refine congrArg (m ((c : Thread nD τ).loc main_arg1)) (funext fun k => Fin.ext ?_)
    match k with
    | ⟨0, _⟩ => show win0_1.index t 0 * 1 + 1 * 0 = t.val / 24; rw [b0]; omega
    | ⟨1, _⟩ => show win0_1.index t 1 * 4096 + 1 * a.val = a.val; rw [b1]; omega
    | ⟨2, _⟩ => show win0_1.index t 2 * 1024 + 1 * q.val = 1024 * (t.val % 24) + q.val; rw [b2]; omega
  have hb : iblk m c 2 t (ix3 (0 : Fin 1) (0 : Fin 1) q)
      = m ((c : Thread nD τ).loc main_arg2) (ix2 (⟨t.val / 24, by omega⟩ : Fin 2) (⟨1024 * (t.val % 24) + q.val, by omega⟩ : Fin 24576)) := by
    refine Eq.trans ?_ (biasRow_apply m c _ _)
    unfold iblk
    rw [View.read_apply]
    refine congrArg (V m c main_v2) (funext fun k => Fin.ext ?_)
    match k with
    | ⟨0, _⟩ => show win0_2.index t 0 * 1 + 1 * 0 = t.val / 24; rw [d0]; omega
    | ⟨1, _⟩ => show win0_2.index t 1 * 1 + 1 * 0 = 0; rw [d1]
    | ⟨2, _⟩ => show win0_2.index t 2 * 1024 + 1 * q.val = 1024 * (t.val % 24) + q.val; rw [d2]; omega
  unfold block entry
  refine dite_congr rfl (fun h => ?_) (fun _ => rfl)
  exact congrArg₂ (fun a b : EReal => a + b) (Finset.sum_congr rfl fun a _ => congrArg₂ (fun a b : EReal => a * b) (hw a) (hs _ _ _)) hb

/-- Each point writes back its block of the modulation. -/
theorem flushed3_eq (c : Dev nD) (t : Fin cfg0.N) : (dats m 0 c).flushed 3 t = ((cfg0.win 3).blk t).view.read (Elt Ideal)
    (modulation (m ((c : Thread nD τ).loc main_arg0)) (m ((c : Thread nD τ).loc main_arg1)) (m ((c : Thread nD τ).loc main_arg2))) := by
  have hN := lt_N t
  obtain ⟨-, -, -, e0, e1, e2⟩ := index_facts t
  have hemb : ∀ (r : Fin 8) (q : Fin 1024), ((cfg0.win 3).blk t).view.emb (ix3 (0 : Fin 1) r q)
      = ix3 (⟨t.val / 24, by omega⟩ : Fin 2) r (⟨1024 * (t.val % 24) + q.val, by omega⟩ : Fin 24576) := fun r q => funext fun a => Fin.ext (by
    match a with
    | ⟨0, _⟩ => show win0_3.index t 0 * 1 + 1 * 0 = t.val / 24; rw [e0]; omega
    | ⟨1, _⟩ => show win0_3.index t 1 * 8 + 1 * r.val = r.val; rw [e1]; omega
    | ⟨2, _⟩ => show win0_3.index t 2 * 1024 + 1 * q.val = 1024 * (t.val % 24) + q.val; rw [e2]; omega)
  by_cases h0 : t.val % 48 = 0
  · rw [flushed3_A m c t h0]
    funext y
    obtain ⟨u, r, q, rfl⟩ : ∃ (u : Fin 1) (r : Fin 8) (q : Fin 1024), y = ix3 u r q := ⟨y 0, y 1, y 2, eq_ix3 y⟩
    obtain rfl : u = 0 := Subsingleton.elim _ _
    refine (out_first c _ _ _ _ _ _ _ _ _ _ _ (iblk m c 0 t) (iblk m c 1 t) (iblk m c 2 t) _ r q).trans ?_
    refine (block_eq m c t _ (pay1_apply m c t) r q).trans ?_
    rw [View.read_apply, hemb]
    rfl
  · rw [flushed3_B m c t h0]
    funext y
    obtain ⟨u, r, q, rfl⟩ : ∃ (u : Fin 1) (r : Fin 8) (q : Fin 1024), y = ix3 u r q := ⟨y 0, y 1, y 2, eq_ix3 y⟩
    obtain rfl : u = 0 := Subsingleton.elim _ _
    refine (out_later c _ _ _ _ _ _ _ _ _ _ _ (iblk m c 0 t) (iblk m c 1 t) (iblk m c 2 t) _ _ r q).trans ?_
    refine (block_eq m c t _ (kept_eq m c _ _) r q).trans ?_
    rw [View.read_apply, hemb]
    rfl

/-- The result array. -/
theorem final3_eq (c : Dev nD) : (dats m 0 c).arrAt 3 cfg0.N
    = modulation (m ((c : Thread nD τ).loc main_arg0)) (m ((c : Thread nD τ).loc main_arg1)) (m ((c : Thread nD τ).loc main_arg2)) :=
  (dats m 0 c).arrAt_eq_of_cover 3 _ (fun t _ => flushed3_eq m c t) fun i => by
    have h0 : (i 0).val < 2 := (i 0).isLt
    have h1 : (i 1).val < 8 := (i 1).isLt
    have h2 : (i 2).val < 24576 := (i 2).isLt
    let t : Fin cfg0.N := ⟨24 * (i 0).val + (i 2).val / 1024, lt_of_lt_of_eq (by omega) N_0.symm⟩
    have ht : t.val = 24 * (i 0).val + (i 2).val / 1024 := rfl
    obtain ⟨-, -, -, e0, e1, e2⟩ := index_facts t
    refine ⟨t, flush0_3 t, ?_⟩
    show i ∈ ((View.whole main_v3).slice (win0_3.rect t)).set
    rw [View.set_slice_whole, Rect.mem_set_unit]
    intro a
    match a with
    | ⟨0, _⟩ => show win0_3.index t 0 * 1 ≤ (i 0).val ∧ (i 0).val < win0_3.index t 0 * 1 + 1; rw [e0]; omega
    | ⟨1, _⟩ => show win0_3.index t 1 * 8 ≤ (i 1).val ∧ (i 1).val < win0_3.index t 1 * 8 + 8; rw [e1]; omega
    | ⟨2, _⟩ => show win0_3.index t 2 * 1024 ≤ (i 2).val ∧ (i 2).val < win0_3.index t 2 * 1024 + 1024; rw [e2]; omega

end Cert.AdaIdeal.Whole

namespace Cert.AdaRefIdeal.Whole

open Cert.AdaRefIdeal Cert.AdaRefIdeal.Gen Cert.AdaRefIdeal.Read

/-- The reference's activation: its logistic is written with the exponential, which is what the logistic is. -/
theorem act_eq (x : Vec Ideal S2x4096 .f32) (b : Fin 2) (a : Fin 4096) : val_main_v0 (F := Ideal) x (ix2 b a) = Cert.AdaIdeal.Whole.act x b a := by
  rw [val_main_v0_apply, val_main_call0_v5_apply, val_main_call0_v4_apply, val_main_call0_v3_apply, val_main_call0_v2_apply, val_main_call0_v1_apply,
    val_main_call0_v0_apply, val_main_call0_cst_apply, val_main_call0_cst_0_apply]
  simp only [Ideal.mulf_def, Ideal.addf_def, Ideal.hostDivf_def, Ideal.ofBits_def, Ideal.ofBits_one_f32]
  rfl

/-- The reference's result is the modulation. -/
theorem modulation_eq (x : Vec Ideal S2x4096 .f32) (w : Vec Ideal S2x4096x24576 .f32) (bias : Vec Ideal S2x24576 .f32) :
    val_main_v6 (F := Ideal) x w bias = Cert.AdaIdeal.Whole.modulation x w bias := by
  funext i
  obtain ⟨l, b, q, rfl⟩ : ∃ (l : Fin 2) (b : Fin 8) (q : Fin 24576), i = ix3 l b q := ⟨i 0, i 1, i 2, eq_ix3 i⟩
  show _ = Cert.AdaIdeal.Whole.entry x w bias l b q
  unfold val_main_v6 Cert.AdaIdeal.Whole.entry
  by_cases hb : b.val < 2
  · rw [dif_pos hb]
    refine (pad_apply_of_inside _ _ _ _ _ _ _ (ix3 l b q) (ix3 l (⟨b.val, hb⟩ : Fin 2) q) fun a => ?_).trans ?_
    · match a with
      | ⟨0, _⟩ => show l.val = 0 + l.val * (0 + 1); omega
      | ⟨1, _⟩ => show b.val = 0 + b.val * (0 + 1); omega
      | ⟨2, _⟩ => show q.val = 0 + q.val * (0 + 1); omega
    rw [val_main_v5_apply, val_main_v2_apply, val_main_v1_apply, val_main_v4_apply, val_main_v3_apply]
    have el : ∀ k : Fin 4096, lidx_main_v1 (idx_main_v2 (ix3 l (⟨b.val, hb⟩ : Fin 2) q)) k = ix3 l k q := fun k => funext fun a => Fin.ext (by
      match a with
      | ⟨0, _⟩ => rfl
      | ⟨1, _⟩ => rfl
      | ⟨2, _⟩ => rfl)
    have er : ∀ k : Fin 4096, ridx_main_v1 (idx_main_v2 (ix3 l (⟨b.val, hb⟩ : Fin 2) q)) k = ix2 (⟨b.val, hb⟩ : Fin 2) k := fun k => funext fun a => Fin.ext (by
      match a with
      | ⟨0, _⟩ => rfl
      | ⟨1, _⟩ => rfl)
    have eb : idx_main_v3 (idx_main_v4 (ix3 l (⟨b.val, hb⟩ : Fin 2) q)) = ix2 l q := funext fun a => Fin.ext (by
      match a with
      | ⟨0, _⟩ => rfl
      | ⟨1, _⟩ => rfl)
    simp only [el, er, eb, act_eq]
    rfl
  · rw [dif_neg hb]
    refine (pad_apply_of_not_inside _ _ _ _ _ _ _ (ix3 l b q) (1 : Fin 3) fun h => hb ?_).trans ?_
    · have h2 : (b.val - 0) / (0 + 1) < 2 := h.2.2
      omega
    · rw [val_main_call1_v0_apply, val_main_c_apply]
      show ((((0#32 : BitVec 32).toInt : ℤ) : ℝ) : EReal) = 0
      simp

end Cert.AdaRefIdeal.Whole

namespace Cert.Proof.AdaClaims

theorem frame_p : Cert.quiescent_Ada := fun m ρ _ => Cert.Ada.Gen.frame m ρ
theorem frame_pi : Cert.quiescent_AdaIdeal := fun m ρ _ => Cert.AdaIdeal.Gen.frame m ρ
theorem frame_ri : Cert.quiescent_AdaRefIdeal := fun m ρ _ =>
  (θ_run Cert.AdaRefIdeal.defs _ _).mono (fun r h => ⟨fun c => (h c).2,
      Idealize.ShloMosaic.sem_eq_zero_of_no_sems (by decide) r.2⟩)
    (Cert.AdaRefIdeal.Value.run (F := Ideal) m ρ)

theorem preserves : Cert.preserves_Ada_AdaIdeal := trivial

theorem algebraic : Cert.algebraic_AdaIdeal_AdaRefIdeal := by
  intro m ρ m' ρ' _ hagree
  refine ⟨_, (θ_run Cert.AdaIdeal.defs _ _).mono (fun r h c => ⟨(h c).1.trans (Cert.AdaIdeal.Whole.final3_eq m c), (h c).2⟩)
    (Cert.AdaIdeal.Value.run_blocks (F := Ideal) m ρ), ?_⟩
  refine (θ_run Cert.AdaRefIdeal.defs _ _).mono (fun _ h c => ⟨(h c).1.trans ?_, (h c).2⟩)
    (Cert.AdaRefIdeal.Value.run (F := Ideal) m' ρ')
  rw [(hagree c).1, (hagree c).2.1, (hagree c).2.2]
  exact Cert.AdaRefIdeal.Whole.modulation_eq _ _ _

end Cert.Proof.AdaClaims

end
-- ==== Proof.lean ====
module

public import proofs.«01_k».proof.Defs
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinRefIdeal
public import proofs.«01_k».proof.Proof.Gen.Pre_finite
public import Idealize.ShloMosaic.Adequacy
public import Idealize.ShloMosaic.Init
public import proofs.«01_k».proof.Proof.Gen.MlpUp
public import proofs.«01_k».proof.Proof.Gen.MlpUp.Frame
public import proofs.«01_k».proof.Proof.Gen.MlpUpIdeal.Value
public import proofs.«01_k».proof.Proof.Gen.MlpUpRefIdeal.Run
public import proofs.«01_k».proof.Proof.Gen.MlpUpRefIdeal.Read
public import proofs.«01_k».proof.Proof.Gen.MlpDown
public import proofs.«01_k».proof.Proof.Gen.MlpDown.Frame
public import proofs.«01_k».proof.Proof.Gen.MlpDownIdeal.Value
public import proofs.«01_k».proof.Proof.Gen.MlpDownRefIdeal.Run
public import proofs.«01_k».proof.Proof.Gen.MlpDownRefIdeal.Read
public import proofs.«01_k».proof.Proof.Gen.ProjAttn
public import proofs.«01_k».proof.Proof.Gen.ProjAttn.Frame
public import proofs.«01_k».proof.Proof.Gen.ProjAttnIdeal.Value
public import proofs.«01_k».proof.Proof.Gen.ProjAttnRefIdeal.Run
public import proofs.«01_k».proof.Proof.Gen.ProjAttnRefIdeal.Read
public import proofs.«01_k».proof.Proof.Gen.ProjCmp
public import proofs.«01_k».proof.Proof.Gen.ProjCmp.Frame
public import proofs.«01_k».proof.Proof.Gen.ProjCmpIdeal.Value
public import proofs.«01_k».proof.Proof.Gen.ProjCmpRefIdeal.Run
public import proofs.«01_k».proof.Proof.Gen.ProjCmpRefIdeal.Read
public import proofs.«01_k».proof.Proof.Gen.WOut
public import proofs.«01_k».proof.Proof.Gen.WOut.Frame
public import proofs.«01_k».proof.Proof.Gen.WOutIdeal.Value
public import proofs.«01_k».proof.Proof.Gen.WOutRefIdeal.Run
public import proofs.«01_k».proof.Proof.Gen.WOutRefIdeal.Read
public import proofs.«01_k».proof.Proof.Gen.Merge
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.LastNorm
public import proofs.«01_k».proof.Proof.Gen.LastNorm.Frame
public import proofs.«01_k».proof.Proof.Gen.LastNormIdeal.Value
public import proofs.«01_k».proof.Proof.Gen.LastNormRefIdeal.Run
public import proofs.«01_k».proof.Proof.Gen.LastNormRefIdeal.Read
public import proofs.«01_k».proof.Proof.Gen.NormMod
public import proofs.«01_k».proof.Proof.Gen.NormMod.Frame
public import proofs.«01_k».proof.Proof.Gen.NormModIdeal.Value
public import proofs.«01_k».proof.Proof.Gen.NormModRefIdeal.Run
public import proofs.«01_k».proof.Proof.Gen.NormModRefIdeal.Read
public import proofs.«01_k».proof.Proof.Gen.ProjRest
public import proofs.«01_k».proof.Proof.Gen.ProjRestIdeal.Skeleton
public import proofs.«01_k».proof.Proof.Gen.ProjRestIdeal.Frame
public import proofs.«01_k».proof.Proof.Gen.ProjRestRefIdeal.Run
public import proofs.«01_k».proof.Proof.Gen.ProjRestRefIdeal.Read
public import proofs.«01_k».proof.Proof.Gen.Rope
public import proofs.«01_k».proof.Proof.Gen.Rope.Frame
public import proofs.«01_k».proof.Proof.Gen.RopeIdeal.Value
public import proofs.«01_k».proof.Proof.Gen.RopeRefIdeal.Run
public import proofs.«01_k».proof.Proof.Gen.RopeRefIdeal.Read
public import proofs.«01_k».proof.Proof.Gen.Compress
public import proofs.«01_k».proof.Proof.Gen.Compress.Frame
public import proofs.«01_k».proof.Proof.Gen.CompressIdeal.Value
public import proofs.«01_k».proof.Proof.Gen.CompressRefIdeal.Run
public import proofs.«01_k».proof.Proof.Gen.CompressRefIdeal.Read
public import proofs.«01_k».proof.Proof.Gen.Ada
public import proofs.«01_k».proof.Proof.Gen.Ada.Frame
public import proofs.«01_k».proof.Proof.Gen.AdaIdeal.Value
public import proofs.«01_k».proof.Proof.Gen.AdaRefIdeal.Run
public import proofs.«01_k».proof.Proof.Gen.AdaRefIdeal.Read
public import proofs.«01_k».proof.Proof.Gen.WinIdeal.Value
public import proofs.«01_k».proof.Proof.Gen.WinRefIdeal.Run
public import proofs.«01_k».proof.Proof.Gen.WinRefIdeal.Read
public import proofs.«01_k».proof.Proof.Win
public import proofs.«01_k».proof.Proof.MlpUp
public import proofs.«01_k».proof.Proof.MlpDown
public import proofs.«01_k».proof.Proof.ProjAttn
public import proofs.«01_k».proof.Proof.ProjCmp
public import proofs.«01_k».proof.Proof.WOut
public import proofs.«01_k».proof.Proof.Merge
public import proofs.«01_k».proof.Proof.LastNorm
public import proofs.«01_k».proof.Proof.NormMod
public import proofs.«01_k».proof.Proof.ProjRest
public import proofs.«01_k».proof.Proof.Rope
public import proofs.«01_k».proof.Proof.Compress
public import proofs.«01_k».proof.Proof.Ada

@[expose] public section

noncomputable section

/-! The claims, put together from the modules that prove them: the window attention (`Win`), then the matrix products, then the norms, then the widest of the projections, then the rotary embedding, then the compression of the keys and values, then the modulation. -/

namespace Cert.Proof

open Idealize.ShloMosaic Idealize.SL.Sem

theorem claim : Cert.Claim :=
  ⟨Cert.Win.Gen.facts, Cert.WinIdeal.Gen.facts, Cert.WinRefIdeal.Gen.facts,
    Cert.MlpUp.Gen.facts, Cert.MlpUpIdeal.Gen.facts, Cert.MlpUpRefIdeal.Gen.facts,
    Cert.MlpDown.Gen.facts, Cert.MlpDownIdeal.Gen.facts, Cert.MlpDownRefIdeal.Gen.facts,
    Cert.ProjAttn.Gen.facts, Cert.ProjAttnIdeal.Gen.facts, Cert.ProjAttnRefIdeal.Gen.facts,
    Cert.ProjCmp.Gen.facts, Cert.ProjCmpIdeal.Gen.facts, Cert.ProjCmpRefIdeal.Gen.facts,
    Cert.WOut.Gen.facts, Cert.WOutIdeal.Gen.facts, Cert.WOutRefIdeal.Gen.facts,
    Cert.Merge.Gen.facts, Cert.MergeIdeal.Gen.facts, Cert.MergeRefIdeal.Gen.facts,
    Cert.LastNorm.Gen.facts, Cert.LastNormIdeal.Gen.facts, Cert.LastNormRefIdeal.Gen.facts,
    Cert.NormMod.Gen.facts, Cert.NormModIdeal.Gen.facts, Cert.NormModRefIdeal.Gen.facts,
    Cert.ProjRest.Gen.facts, Cert.ProjRestIdeal.Gen.facts, Cert.ProjRestRefIdeal.Gen.facts,
    Cert.Rope.Gen.facts, Cert.RopeIdeal.Gen.facts, Cert.RopeRefIdeal.Gen.facts,
    Cert.Compress.Gen.facts, Cert.CompressIdeal.Gen.facts, Cert.CompressRefIdeal.Gen.facts,
    Cert.Ada.Gen.facts, Cert.AdaIdeal.Gen.facts, Cert.AdaRefIdeal.Gen.facts,
    Cert.Pre_finite.Gen.facts,
    WinClaims.frame_p, WinClaims.frame_pi, WinClaims.frame_pi_pre, WinClaims.frame_ri, WinClaims.frame_ri_pre,
    MlpUpClaims.frame_p, MlpUpClaims.frame_pi, MlpUpClaims.frame_ri,
    MlpDownClaims.frame_p, MlpDownClaims.frame_pi, MlpDownClaims.frame_ri,
    ProjAttnClaims.frame_p, ProjAttnClaims.frame_pi, ProjAttnClaims.frame_ri,
    ProjCmpClaims.frame_p, ProjCmpClaims.frame_pi, ProjCmpClaims.frame_ri,
    WOutClaims.frame_p, WOutClaims.frame_pi, WOutClaims.frame_ri,
    MergeClaims.frame_p, MergeClaims.frame_pi, MergeClaims.frame_ri,
    LastNormClaims.frame_p, LastNormClaims.frame_pi, LastNormClaims.frame_ri,
    NormModClaims.frame_p, NormModClaims.frame_pi, NormModClaims.frame_ri,
    ProjRestClaims.frame_p, ProjRestClaims.frame_pi, ProjRestClaims.frame_ri,
    RopeClaims.frame_p, RopeClaims.frame_pi, RopeClaims.frame_ri,
    CompressClaims.frame_p, CompressClaims.frame_pi, CompressClaims.frame_ri,
    AdaClaims.frame_p, AdaClaims.frame_pi, AdaClaims.frame_ri,
    WinClaims.preserves, WinClaims.algebraic,
    MlpUpClaims.preserves, MlpUpClaims.algebraic,
    MlpDownClaims.preserves, MlpDownClaims.algebraic,
    ProjAttnClaims.preserves, ProjAttnClaims.algebraic,
    ProjCmpClaims.preserves, ProjCmpClaims.algebraic,
    WOutClaims.preserves, WOutClaims.algebraic,
    MergeClaims.preserves, MergeClaims.algebraic,
    LastNormClaims.preserves, LastNormClaims.algebraic,
    NormModClaims.preserves, NormModClaims.algebraic,
    ProjRestClaims.preserves, ProjRestClaims.algebraic,
    RopeClaims.preserves, RopeClaims.algebraic,
    CompressClaims.preserves, CompressClaims.algebraic,
    AdaClaims.preserves, AdaClaims.algebraic⟩

end Cert.Proof

end
